-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 8192]⟩ ⟨2, ![4096, 8192]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x8192 : Shape := ⟨2, ![128, 8192]⟩
abbrev S32 : Shape := ⟨1, ![32]⟩
abbrev S_ : Shape := ⟨0, ![]⟩
abbrev S1 : Shape := ⟨1, ![1]⟩
abbrev S3 : Shape := ⟨1, ![3]⟩
abbrev S4096x8192 : Shape := ⟨2, ![4096, 8192]⟩
abbrev S128x4096 : Shape := ⟨2, ![128, 4096]⟩
abbrev S2 : Shape := ⟨1, ![2]⟩
abbrev S128x128 : Shape := ⟨2, ![128, 128]⟩
abbrev S128x2048 : Shape := ⟨2, ![128, 2048]⟩
abbrev S1x128x4096 : Shape := ⟨3, ![1, 128, 4096]⟩
abbrev S1x1x1 : Shape := ⟨3, ![1, 1, 1]⟩
abbrev S1x128x2048 : Shape := ⟨3, ![1, 128, 2048]⟩

abbrev nBuf : Space → Nat
  | .hbm => 63
  | .vmem => 8
  | .smem => 2
  | _ => 0

abbrev bufTy : (tb : Table) → Fin (tcTables nBuf tb) → BufTy
  | .hbm, ⟨0, _⟩ => ⟨S4096x128, .f32⟩
  | .hbm, ⟨1, _⟩ => ⟨S128x8192, .f32⟩
  | .hbm, ⟨2, _⟩ => ⟨S32, .i32⟩
  | .hbm, ⟨3, _⟩ => ⟨S32, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S1, .i32⟩
  | .hbm, ⟨40, _⟩ => ⟨S_, .i32⟩
  | .hbm, ⟨41, _⟩ => ⟨S1, .i32⟩
  | .hbm, ⟨42, _⟩ => ⟨S1, .i32⟩
  | .hbm, ⟨43, _⟩ => ⟨S1, .i32⟩
  | .hbm, ⟨44, _⟩ => ⟨S3, .i32⟩
  | .hbm, ⟨45, _⟩ => ⟨S4096x8192, .f32⟩
  | .hbm, ⟨46, _⟩ => ⟨S1, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S4096x8192, .f32⟩
  | .hbm, ⟨51, _⟩ => ⟨S4096x8192, .f32⟩
  | .hbm, ⟨52, _⟩ => ⟨S4096x8192, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S4096x8192, .f32⟩
  | .hbm, ⟨57, _⟩ => ⟨S4096x8192, .f32⟩
  | .hbm, ⟨58, _⟩ => ⟨S_, .f32⟩
  | .hbm, ⟨59, _⟩ => ⟨S4096x8192, .f32⟩
  | .hbm, ⟨60, _⟩ => ⟨S4096x8192, .f32⟩
  | .hbm, ⟨61, _⟩ => ⟨S4096x8192, .f32⟩
  | .hbm, ⟨62, _⟩ => ⟨S4096x8192, .f32⟩
  | .local _ .vmem, ⟨0, _⟩ => ⟨S4096x128, .f32⟩
  | .local _ .vmem, ⟨1, _⟩ => ⟨S128x8192, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .smem, ⟨0, _⟩ => ⟨S3, .i32⟩
  | .local _ .smem, ⟨1, _⟩ => ⟨S1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 5 16 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_3 : Ref sig .tc := ⟨.hbm, 10, rfl⟩
abbrev main_v5 : Ref sig .tc := ⟨.hbm, 11, rfl⟩
abbrev main_c_4 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_5 : Ref sig .tc := ⟨.hbm, 17, rfl⟩
abbrev main_v10 : Ref sig .tc := ⟨.hbm, 18, rfl⟩
abbrev main_c_6 : Ref sig .tc := ⟨.hbm, 19, rfl⟩
abbrev main_v11 : Ref sig .tc := ⟨.hbm, 20, rfl⟩
abbrev main_c_7 : Ref sig .tc := ⟨.hbm, 21, rfl⟩
abbrev main_v12 : Ref sig .tc := ⟨.hbm, 22, rfl⟩
abbrev main_c_8 : Ref sig .tc := ⟨.hbm, 23, rfl⟩
abbrev main_v13 : Ref sig .tc := ⟨.hbm, 24, rfl⟩
abbrev main_c_9 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_10 : Ref sig .tc := ⟨.hbm, 30, rfl⟩
abbrev main_v18 : Ref sig .tc := ⟨.hbm, 31, rfl⟩
abbrev main_c_11 : Ref sig .tc := ⟨.hbm, 32, rfl⟩
abbrev main_v19 : Ref sig .tc := ⟨.hbm, 33, rfl⟩
abbrev main_c_12 : Ref sig .tc := ⟨.hbm, 34, rfl⟩
abbrev main_v20 : Ref sig .tc := ⟨.hbm, 35, rfl⟩
abbrev main_c_13 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29_0 : Ref sig .tc := ⟨.hbm, 45, rfl⟩
abbrev main_v29_1 : Ref sig .tc := ⟨.hbm, 46, rfl⟩
abbrev main_v30 : Ref sig .tc := ⟨.hbm, 47, rfl⟩
abbrev main_cst : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_14 : Ref sig .tc := ⟨.hbm, 53, rfl⟩
abbrev main_cst_15 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_stg0_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 4

abbrev nD : Nat := 32
abbrev τ : Topo := Topo.v7x

variable {F : FTy → Type} [FloatOps F]

abbrev grid0 : Pipeline.Grid := .none

def k0_dev1 (v1 : BitVec 32) : Nat :=
  let c0_i32 : BitVec 32 := 0#32
  let c1_i32_0 : BitVec 32 := 1#32
  let v4 : BitVec 32 := Scalar.muli v1 c1_i32_0
  let v5 : BitVec 32 := Scalar.addi c0_i32 v4
  v5.toNat

def k0_dev2 (v2 : BitVec 32) : Nat :=
  let c0_i32_3 : BitVec 32 := 0#32
  let c1_i32_2 : BitVec 32 := 1#32
  let v6 : BitVec 32 := Scalar.muli v2 c1_i32_2
  let v7 : BitVec 32 := Scalar.addi c0_i32_3 v6
  v7.toNat

def k0_off1 (v0 : BitVec 32) : Fin 2 → Nat :=
  let c128_i32 : BitVec 32 := 128#32
  let v8 : BitVec 32 := Scalar.muli v0 c128_i32
  let v9 : Index := Scalar.indexCast v8
  let c0_4 : Index := 0#32
  ![v9.toNat, 0]

def k0_dev3 (v2 : BitVec 32) : Nat :=
  let c0_i32_18 : BitVec 32 := 0#32
  let c1_i32_17 : BitVec 32 := 1#32
  let v28 : BitVec 32 := Scalar.muli v2 c1_i32_17
  let v29 : BitVec 32 := Scalar.addi c0_i32_18 v28
  v29.toNat
def k0_dev4 (v1 : BitVec 32) : Nat :=
  let c0_i32_26 : BitVec 32 := 0#32
  let c1_i32_25 : BitVec 32 := 1#32
  let v36 : BitVec 32 := Scalar.muli v1 c1_i32_25
  let v37 : BitVec 32 := Scalar.addi c0_i32_26 v36
  v37.toNat
def k0_dev5 (v2 : BitVec 32) : Nat :=
  let c0_i32_34 : BitVec 32 := 0#32
  let c1_i32_33 : BitVec 32 := 1#32
  let v44 : BitVec 32 := Scalar.muli v2 c1_i32_33
  let v45 : BitVec 32 := Scalar.addi c0_i32_34 v44
  v45.toNat
def k0_dev6 (v1 : BitVec 32) : Nat :=
  let c0_i32_41 : BitVec 32 := 0#32
  let c1_i32_40 : BitVec 32 := 1#32
  let v52 : BitVec 32 := Scalar.muli v1 c1_i32_40
  let v53 : BitVec 32 := Scalar.addi c0_i32_41 v52
  v53.toNat
@[reducible] def k0_t1_loop : Scf.Loop 32 :=
  let c0_i32_46 : BitVec 32 := 0#32
  let c31_i32 : BitVec 32 := 31#32
  let v60 : BitVec 32 := Scalar.addi c0_i32_46 c31_i32
  let c1_i32_47 : BitVec 32 := 1#32
  ⟨c0_i32_46, v60, c1_i32_47⟩
def k0_off2 (v0 : BitVec 32) (k0_t1 : Fin k0_t1_loop.trips) (c1_i32_114 : BitVec 32) : Fin 2 → Nat :=
  let c0_i32_46 : BitVec 32 := 0#32
  let c1_i32_47 : BitVec 32 := 1#32
  let arg21 : BitVec 32 := Scf.iv c0_i32_46 c1_i32_47 k0_t1
  let c1_i32_113 : BitVec 32 := 1#32
  let v128 : BitVec 32 := Scalar.addi arg21 c1_i32_113
  let v129 : BitVec 32 := Scalar.muli c1_i32_114 v128
  let v130 : BitVec 32 := Scalar.subi v0 v129
  let c64_i32 : BitVec 32 := 64#32
  let v131 : BitVec 32 := Scalar.addi v130 c64_i32
  let c32_i32_115 : BitVec 32 := 32#32
  let v132 : BitVec 32 := Scalar.remsi v131 c32_i32_115
  let c128_i32_116 : BitVec 32 := 128#32
  let v133 : BitVec 32 := Scalar.muli v132 c128_i32_116
  let v134 : Index := Scalar.indexCast v133
  let c0_117 : Index := 0#32
  ![v134.toNat, 0]
def k0_dev7 (v1 : BitVec 32) : Nat :=
  let c0_i32_178 : BitVec 32 := 0#32
  let c1_i32_177 : BitVec 32 := 1#32
  let v190 : BitVec 32 := Scalar.muli v1 c1_i32_177
  let v191 : BitVec 32 := Scalar.addi c0_i32_178 v190
  v191.toNat
def k0_dev8 (v2 : BitVec 32) : Nat :=
  let c0_i32_181 : BitVec 32 := 0#32
  let c1_i32_180 : BitVec 32 := 1#32
  let v192 : BitVec 32 := Scalar.muli v2 c1_i32_180
  let v193 : BitVec 32 := Scalar.addi c0_i32_181 v192
  v193.toNat
def k0_cond1 (k0_t1 : Fin k0_t1_loop.trips) : BitVec 1 :=
  let c0_i32_46 : BitVec 32 := 0#32
  let c1_i32_47 : BitVec 32 := 1#32
  let arg21 : BitVec 32 := Scf.iv c0_i32_46 c1_i32_47 k0_t1
  let c30_i32 : BitVec 32 := 30#32
  let v194 : BitVec 1 := Scalar.cmpi .slt arg21 c30_i32
  let v195 : BitVec 32 := Scalar.extui v194
  let c0_i32_182 : BitVec 32 := 0#32
  let v196 : BitVec 1 := Scalar.cmpi .ne v195 c0_i32_182
  v196

def k0_dev9 (v2 : BitVec 32) : Nat :=
  let c0_i32_237 : BitVec 32 := 0#32
  let c1_i32_236 : BitVec 32 := 1#32
  let v236 : BitVec 32 := Scalar.muli v2 c1_i32_236
  let v237 : BitVec 32 := Scalar.addi c0_i32_237 v236
  v237.toNat
def k0_dev10 (v1 : BitVec 32) : Nat :=
  let c0_i32_247 : BitVec 32 := 0#32
  let c1_i32_246 : BitVec 32 := 1#32
  let v244 : BitVec 32 := Scalar.muli v1 c1_i32_246
  let v245 : BitVec 32 := Scalar.addi c0_i32_247 v244
  v245.toNat
def k0_dev11 (v1 : BitVec 32) : Nat :=
  let c0_i32_226 : BitVec 32 := 0#32
  let c1_i32_225 : BitVec 32 := 1#32
  let v229 : BitVec 32 := Scalar.muli v1 c1_i32_225
  let v230 : BitVec 32 := Scalar.addi c0_i32_226 v229
  v230.toNat
def k0_dev12 (v2 : BitVec 32) : Nat :=
  let c0_i32_229 : BitVec 32 := 0#32
  let c1_i32_228 : BitVec 32 := 1#32
  let v231 : BitVec 32 := Scalar.muli v2 c1_i32_228
  let v232 : BitVec 32 := Scalar.addi c0_i32_229 v231
  v232.toNat
def k0_cond2 (k0_t1 : Fin k0_t1_loop.trips) : BitVec 1 :=
  let c0_i32_46 : BitVec 32 := 0#32
  let c1_i32_47 : BitVec 32 := 1#32
  let arg21 : BitVec 32 := Scf.iv c0_i32_46 c1_i32_47 k0_t1
  let c30_i32_230 : BitVec 32 := 30#32
  let v233 : BitVec 1 := Scalar.cmpi .slt arg21 c30_i32_230
  let v234 : BitVec 32 := Scalar.extui v233
  let c0_i32_231 : BitVec 32 := 0#32
  let v235 : BitVec 1 := Scalar.cmpi .ne v234 c0_i32_231
  v235

def k0_dev13 (v2 : BitVec 32) : Nat :=
  let c0_i32_237 : BitVec 32 := 0#32
  let c1_i32_236 : BitVec 32 := 1#32
  let v236 : BitVec 32 := Scalar.muli v2 c1_i32_236
  let v237 : BitVec 32 := Scalar.addi c0_i32_237 v236
  v237.toNat
def k0_dev14 (v1 : BitVec 32) : Nat :=
  let c0_i32_247 : BitVec 32 := 0#32
  let c1_i32_246 : BitVec 32 := 1#32
  let v244 : BitVec 32 := Scalar.muli v1 c1_i32_246
  let v245 : BitVec 32 := Scalar.addi c0_i32_247 v244
  v245.toNat
def k0_dev15 (v2 : BitVec 32) : Nat :=
  let c0_i32_54 : BitVec 32 := 0#32
  let c1_i32_53 : BitVec 32 := 1#32
  let v61 : BitVec 32 := Scalar.muli v2 c1_i32_53
  let v62 : BitVec 32 := Scalar.addi c0_i32_54 v61
  v62.toNat
def k0_dev16 (v1 : BitVec 32) : Nat :=
  let c0_i32_64 : BitVec 32 := 0#32
  let c1_i32_63 : BitVec 32 := 1#32
  let v69 : BitVec 32 := Scalar.muli v1 c1_i32_63
  let v70 : BitVec 32 := Scalar.addi c0_i32_64 v69
  v70.toNat
def k0_dev17 (v2 : BitVec 32) : Nat :=
  let c0_i32_74 : BitVec 32 := 0#32
  let c1_i32_73 : BitVec 32 := 1#32
  let v77 : BitVec 32 := Scalar.muli v2 c1_i32_73
  let v78 : BitVec 32 := Scalar.addi c0_i32_74 v77
  v78.toNat
def k0_dev18 (v1 : BitVec 32) : Nat :=
  let c0_i32_84 : BitVec 32 := 0#32
  let c1_i32_83 : BitVec 32 := 1#32
  let v85 : BitVec 32 := Scalar.muli v1 c1_i32_83
  let v86 : BitVec 32 := Scalar.addi c0_i32_84 v85
  v86.toNat
def k0_off3 (v0 : BitVec 32) : Fin 2 → Nat :=
  let c1_i32_96 : BitVec 32 := 1#32
  let v107 : BitVec 32 := Scalar.addi v0 c1_i32_96
  let c32_i32 : BitVec 32 := 32#32
  let v108 : BitVec 32 := Scalar.addi v107 c32_i32
  let c32_i32_97 : BitVec 32 := 32#32
  let v109 : BitVec 32 := Scalar.remsi v108 c32_i32_97
  let c128_i32_98 : BitVec 32 := 128#32
  let v110 : BitVec 32 := Scalar.muli v109 c128_i32_98
  let c0_i32_100 : BitVec 32 := 0#32
  ![v110.toNat, 0]
def k0_off4 (v0 : BitVec 32) : Fin 2 → Nat :=
  let c_m1_i32 : BitVec 32 := 4294967295#32
  let v114 : BitVec 32 := Scalar.addi v0 c_m1_i32
  let c32_i32_101 : BitVec 32 := 32#32
  let v115 : BitVec 32 := Scalar.addi v114 c32_i32_101
  let c32_i32_102 : BitVec 32 := 32#32
  let v116 : BitVec 32 := Scalar.remsi v115 c32_i32_102
  let c128_i32_103 : BitVec 32 := 128#32
  let v117 : BitVec 32 := Scalar.muli v116 c128_i32_103
  let c4096_i32 : BitVec 32 := 4096#32
  ![v117.toNat, 4096]
@[reducible] def k0_t2_loop : Scf.Loop 32 :=
  let c0_i32_109 : BitVec 32 := 0#32
  let c31_i32_110 : BitVec 32 := 31#32
  let v127 : BitVec 32 := Scalar.addi c0_i32_109 c31_i32_110
  let c1_i32_111 : BitVec 32 := 1#32
  ⟨c0_i32_109, v127, c1_i32_111⟩
def k0_off5 (v0 : BitVec 32) (k0_t2 : Fin k0_t2_loop.trips) : Fin 2 → Nat :=
  let c1_i32_143 : BitVec 32 := 1#32
  let c0_i32_109 : BitVec 32 := 0#32
  let c1_i32_111 : BitVec 32 := 1#32
  let arg21 : BitVec 32 := Scf.iv c0_i32_109 c1_i32_111 k0_t2
  let v148 : BitVec 32 := Scalar.muli c1_i32_143 arg21
  let v149 : BitVec 32 := Scalar.subi v0 v148
  let c64_i32 : BitVec 32 := 64#32
  let v150 : BitVec 32 := Scalar.addi v149 c64_i32
  let c32_i32_144 : BitVec 32 := 32#32
  let v151 : BitVec 32 := Scalar.remsi v150 c32_i32_144
  let c128_i32_145 : BitVec 32 := 128#32
  let v152 : BitVec 32 := Scalar.muli v151 c128_i32_145
  let c0_i32_147 : BitVec 32 := 0#32
  ![v152.toNat, 0]
def k0_off6 (v0 : BitVec 32) (k0_t2 : Fin k0_t2_loop.trips) : Fin 2 → Nat :=
  let c_m1_i32_150 : BitVec 32 := 4294967295#32
  let c0_i32_109 : BitVec 32 := 0#32
  let c1_i32_111 : BitVec 32 := 1#32
  let arg21 : BitVec 32 := Scf.iv c0_i32_109 c1_i32_111 k0_t2
  let v157 : BitVec 32 := Scalar.muli c_m1_i32_150 arg21
  let v158 : BitVec 32 := Scalar.subi v0 v157
  let c64_i32_151 : BitVec 32 := 64#32
  let v159 : BitVec 32 := Scalar.addi v158 c64_i32_151
  let c32_i32_152 : BitVec 32 := 32#32
  let v160 : BitVec 32 := Scalar.remsi v159 c32_i32_152
  let c128_i32_153 : BitVec 32 := 128#32
  let v161 : BitVec 32 := Scalar.muli v160 c128_i32_153
  let c4096_i32_155 : BitVec 32 := 4096#32
  ![v161.toNat, 4096]
def k0_cond3 (k0_t2 : Fin k0_t2_loop.trips) : BitVec 1 :=
  let c0_i32_109 : BitVec 32 := 0#32
  let c1_i32_111 : BitVec 32 := 1#32
  let arg21 : BitVec 32 := Scf.iv c0_i32_109 c1_i32_111 k0_t2
  let c30_i32 : BitVec 32 := 30#32
  let v200 : BitVec 1 := Scalar.cmpi .slt arg21 c30_i32
  let v201 : BitVec 32 := Scalar.extui v200
  let c0_i32_184 : BitVec 32 := 0#32
  let v202 : BitVec 1 := Scalar.cmpi .ne v201 c0_i32_184
  v202

def k0_dev19 (v1 : BitVec 32) : Nat :=
  let c0_i32_259 : BitVec 32 := 0#32
  let c1_i32_258 : BitVec 32 := 1#32
  let v278 : BitVec 32 := Scalar.muli v1 c1_i32_258
  let v279 : BitVec 32 := Scalar.addi c0_i32_259 v278
  v279.toNat
def k0_dev20 (v2 : BitVec 32) : Nat :=
  let c0_i32_262 : BitVec 32 := 0#32
  let c1_i32_261 : BitVec 32 := 1#32
  let v280 : BitVec 32 := Scalar.muli v2 c1_i32_261
  let v281 : BitVec 32 := Scalar.addi c0_i32_262 v280
  v281.toNat
def k0_dev21 (v2 : BitVec 32) : Nat :=
  let c0_i32_268 : BitVec 32 := 0#32
  let c1_i32_267 : BitVec 32 := 1#32
  let v282 : BitVec 32 := Scalar.muli v2 c1_i32_267
  let v283 : BitVec 32 := Scalar.addi c0_i32_268 v282
  v283.toNat
def k0_dev22 (v1 : BitVec 32) : Nat :=
  let c0_i32_278 : BitVec 32 := 0#32
  let c1_i32_277 : BitVec 32 := 1#32
  let v290 : BitVec 32 := Scalar.muli v1 c1_i32_277
  let v291 : BitVec 32 := Scalar.addi c0_i32_278 v290
  v291.toNat
def k0_off7 (v0 : BitVec 32) (k0_t2 : Fin k0_t2_loop.trips) : Fin 2 → Nat :=
  let c1_i32_215 : BitVec 32 := 1#32
  let c0_i32_109 : BitVec 32 := 0#32
  let c1_i32_111 : BitVec 32 := 1#32
  let arg21 : BitVec 32 := Scf.iv c0_i32_109 c1_i32_111 k0_t2
  let v223 : BitVec 32 := Scalar.muli c1_i32_215 arg21
  let v224 : BitVec 32 := Scalar.subi v0 v223
  let c64_i32_216 : BitVec 32 := 64#32
  let v225 : BitVec 32 := Scalar.addi v224 c64_i32_216
  let c32_i32_217 : BitVec 32 := 32#32
  let v226 : BitVec 32 := Scalar.remsi v225 c32_i32_217
  let c128_i32_218 : BitVec 32 := 128#32
  let v227 : BitVec 32 := Scalar.muli v226 c128_i32_218
  let c2048_i32_220 : BitVec 32 := 2048#32
  ![v227.toNat, 2048]
def k0_off8 (v0 : BitVec 32) (k0_t2 : Fin k0_t2_loop.trips) : Fin 2 → Nat :=
  let c_m1_i32_223 : BitVec 32 := 4294967295#32
  let c0_i32_109 : BitVec 32 := 0#32
  let c1_i32_111 : BitVec 32 := 1#32
  let arg21 : BitVec 32 := Scf.iv c0_i32_109 c1_i32_111 k0_t2
  let v232 : BitVec 32 := Scalar.muli c_m1_i32_223 arg21
  let v233 : BitVec 32 := Scalar.subi v0 v232
  let c64_i32_224 : BitVec 32 := 64#32
  let v234 : BitVec 32 := Scalar.addi v233 c64_i32_224
  let c32_i32_225 : BitVec 32 := 32#32
  let v235 : BitVec 32 := Scalar.remsi v234 c32_i32_225
  let c128_i32_226 : BitVec 32 := 128#32
  let v236 : BitVec 32 := Scalar.muli v235 c128_i32_226
  let c6144_i32 : BitVec 32 := 6144#32
  ![v236.toNat, 6144]

def k0_chk3 (v0 : BitVec 32) : Prop :=
  (∀ a, (k0_off1 v0) a + S128x128.size a ≤ S4096x128.size a) ∧
  (∀ k0_t1 : Fin k0_t1_loop.trips, ∀ (r : Fin 2), ∀ a, (k0_off2 v0 k0_t1 (BitVec.ofNat 32 (1 + 4294967294 * r.val))) a + S128x128.size a ≤ S4096x128.size a) ∧
  (∀ a, (k0_off3 v0) a + S128x4096.size a ≤ S4096x8192.size a) ∧
  (∀ a, (k0_off4 v0) a + S128x4096.size a ≤ S4096x8192.size a) ∧
  (∀ k0_t2 : Fin k0_t2_loop.trips, ∀ a, (k0_off5 v0 k0_t2) a + S128x2048.size a ≤ S4096x8192.size a) ∧
  (∀ k0_t2 : Fin k0_t2_loop.trips, ∀ a, (k0_off6 v0 k0_t2) a + S128x2048.size a ≤ S4096x8192.size a) ∧
  (∀ k0_t2 : Fin k0_t2_loop.trips, ∀ a, (k0_off7 v0 k0_t2) a + S128x2048.size a ≤ S4096x8192.size a) ∧
  (∀ k0_t2 : Fin k0_t2_loop.trips, ∀ a, (k0_off8 v0 k0_t2) a + S128x2048.size a ≤ S4096x8192.size a)
theorem k0_off1_inb : ∀ (v0 : BitVec 32) (k0_hw3 : k0_chk3 v0), ∀ a, (k0_off1 v0) a + S128x128.size a ≤ S4096x128.size a := fun v0 k0_hw3 => k0_hw3.1
theorem k0_off2_inb : ∀ (v0 : BitVec 32) (k0_hw3 : k0_chk3 v0) (k0_t1 : Fin k0_t1_loop.trips), ∀ (r : Fin 2), ∀ a, (k0_off2 v0 k0_t1 (BitVec.ofNat 32 (1 + 4294967294 * r.val))) a + S128x128.size a ≤ S4096x128.size a := fun v0 k0_hw3 k0_t1 r => k0_hw3.2.1 k0_t1 r
theorem k0_off3_inb : ∀ (v0 : BitVec 32) (k0_hw3 : k0_chk3 v0), ∀ a, (k0_off3 v0) a + S128x4096.size a ≤ S4096x8192.size a := fun v0 k0_hw3 => k0_hw3.2.2.1
theorem k0_off4_inb : ∀ (v0 : BitVec 32) (k0_hw3 : k0_chk3 v0), ∀ a, (k0_off4 v0) a + S128x4096.size a ≤ S4096x8192.size a := fun v0 k0_hw3 => k0_hw3.2.2.2.1
theorem k0_off5_inb : ∀ (v0 : BitVec 32) (k0_hw3 : k0_chk3 v0) (k0_t2 : Fin k0_t2_loop.trips), ∀ a, (k0_off5 v0 k0_t2) a + S128x2048.size a ≤ S4096x8192.size a := fun v0 k0_hw3 k0_t2 => k0_hw3.2.2.2.2.1 k0_t2
theorem k0_off6_inb : ∀ (v0 : BitVec 32) (k0_hw3 : k0_chk3 v0) (k0_t2 : Fin k0_t2_loop.trips), ∀ a, (k0_off6 v0 k0_t2) a + S128x2048.size a ≤ S4096x8192.size a := fun v0 k0_hw3 k0_t2 => k0_hw3.2.2.2.2.2.1 k0_t2
theorem k0_off7_inb : ∀ (v0 : BitVec 32) (k0_hw3 : k0_chk3 v0) (k0_t2 : Fin k0_t2_loop.trips), ∀ a, (k0_off7 v0 k0_t2) a + S128x2048.size a ≤ S4096x8192.size a := fun v0 k0_hw3 k0_t2 => k0_hw3.2.2.2.2.2.2.1 k0_t2
theorem k0_off8_inb : ∀ (v0 : BitVec 32) (k0_hw3 : k0_chk3 v0) (k0_t2 : Fin k0_t2_loop.trips), ∀ a, (k0_off8 v0 k0_t2) a + S128x2048.size a ≤ S4096x8192.size a := fun v0 k0_hw3 k0_t2 => k0_hw3.2.2.2.2.2.2.2 k0_t2

def k0_cond4 (k0_t2 : Fin k0_t2_loop.trips) : BitVec 1 :=
  let c0_i32_109 : BitVec 32 := 0#32
  let c1_i32_111 : BitVec 32 := 1#32
  let arg21 : BitVec 32 := Scf.iv c0_i32_109 c1_i32_111 k0_t2
  let c30_i32_255 : BitVec 32 := 30#32
  let v275 : BitVec 1 := Scalar.cmpi .slt arg21 c30_i32_255
  let v276 : BitVec 32 := Scalar.extui v275
  let c0_i32_256 : BitVec 32 := 0#32
  let v277 : BitVec 1 := Scalar.cmpi .ne v276 c0_i32_256
  v277

def k0_dev23 (v1 : BitVec 32) : Nat :=
  let c0_i32_259 : BitVec 32 := 0#32
  let c1_i32_258 : BitVec 32 := 1#32
  let v278 : BitVec 32 := Scalar.muli v1 c1_i32_258
  let v279 : BitVec 32 := Scalar.addi c0_i32_259 v278
  v279.toNat
def k0_dev24 (v2 : BitVec 32) : Nat :=
  let c0_i32_262 : BitVec 32 := 0#32
  let c1_i32_261 : BitVec 32 := 1#32
  let v280 : BitVec 32 := Scalar.muli v2 c1_i32_261
  let v281 : BitVec 32 := Scalar.addi c0_i32_262 v280
  v281.toNat
def k0_dev25 (v2 : BitVec 32) : Nat :=
  let c0_i32_268 : BitVec 32 := 0#32
  let c1_i32_267 : BitVec 32 := 1#32
  let v282 : BitVec 32 := Scalar.muli v2 c1_i32_267
  let v283 : BitVec 32 := Scalar.addi c0_i32_268 v282
  v283.toNat

def k0_chk2 (v2 : BitVec 32) : Prop :=
  ((k0_dev2 v2) < nD) ∧
  ((k0_dev3 v2) < nD) ∧
  ((k0_dev5 v2) < nD) ∧
  ((k0_dev8 v2) < nD) ∧
  (∀ k0_t1 : Fin k0_t1_loop.trips, ∀ (k0_h1 : k0_cond1 k0_t1 = 1#1), (k0_dev9 v2) < nD) ∧
  ((k0_dev12 v2) < nD) ∧
  (∀ k0_t1 : Fin k0_t1_loop.trips, ∀ (k0_h2 : k0_cond2 k0_t1 = 1#1), (k0_dev13 v2) < nD) ∧
  ((k0_dev15 v2) < nD) ∧
  ((k0_dev17 v2) < nD) ∧
  (∀ k0_t2 : Fin k0_t2_loop.trips, ∀ (k0_h3 : k0_cond3 k0_t2 = 1#1), (k0_dev20 v2) < nD) ∧
  (∀ k0_t2 : Fin k0_t2_loop.trips, ∀ (k0_h3 : k0_cond3 k0_t2 = 1#1), (k0_dev21 v2) < nD) ∧
  (∀ k0_t2 : Fin k0_t2_loop.trips, ∀ (k0_h4 : k0_cond4 k0_t2 = 1#1), (k0_dev24 v2) < nD) ∧
  (∀ k0_t2 : Fin k0_t2_loop.trips, ∀ (k0_h4 : k0_cond4 k0_t2 = 1#1), (k0_dev25 v2) < nD)
theorem k0_dev2_lt : ∀ (v2 : BitVec 32) (k0_hw2 : k0_chk2 v2), (k0_dev2 v2) < nD := fun v2 k0_hw2 => k0_hw2.1
theorem k0_dev3_lt : ∀ (v2 : BitVec 32) (k0_hw2 : k0_chk2 v2), (k0_dev3 v2) < nD := fun v2 k0_hw2 => k0_hw2.2.1
theorem k0_dev5_lt : ∀ (v2 : BitVec 32) (k0_hw2 : k0_chk2 v2), (k0_dev5 v2) < nD := fun v2 k0_hw2 => k0_hw2.2.2.1
theorem k0_dev8_lt : ∀ (v2 : BitVec 32) (k0_hw2 : k0_chk2 v2), (k0_dev8 v2) < nD := fun v2 k0_hw2 => k0_hw2.2.2.2.1
theorem k0_dev9_lt : ∀ (v2 : BitVec 32) (k0_hw2 : k0_chk2 v2) (k0_t1 : Fin k0_t1_loop.trips), ∀ (k0_h1 : k0_cond1 k0_t1 = 1#1), (k0_dev9 v2) < nD := fun v2 k0_hw2 k0_t1 k0_h1 => k0_hw2.2.2.2.2.1 k0_t1 k0_h1
theorem k0_dev12_lt : ∀ (v2 : BitVec 32) (k0_hw2 : k0_chk2 v2), (k0_dev12 v2) < nD := fun v2 k0_hw2 => k0_hw2.2.2.2.2.2.1
theorem k0_dev13_lt : ∀ (v2 : BitVec 32) (k0_hw2 : k0_chk2 v2) (k0_t1 : Fin k0_t1_loop.trips), ∀ (k0_h2 : k0_cond2 k0_t1 = 1#1), (k0_dev13 v2) < nD := fun v2 k0_hw2 k0_t1 k0_h2 => k0_hw2.2.2.2.2.2.2.1 k0_t1 k0_h2
theorem k0_dev15_lt : ∀ (v2 : BitVec 32) (k0_hw2 : k0_chk2 v2), (k0_dev15 v2) < nD := fun v2 k0_hw2 => k0_hw2.2.2.2.2.2.2.2.1
theorem k0_dev17_lt : ∀ (v2 : BitVec 32) (k0_hw2 : k0_chk2 v2), (k0_dev17 v2) < nD := fun v2 k0_hw2 => k0_hw2.2.2.2.2.2.2.2.2.1
theorem k0_dev20_lt : ∀ (v2 : BitVec 32) (k0_hw2 : k0_chk2 v2) (k0_t2 : Fin k0_t2_loop.trips), ∀ (k0_h3 : k0_cond3 k0_t2 = 1#1), (k0_dev20 v2) < nD := fun v2 k0_hw2 k0_t2 k0_h3 => k0_hw2.2.2.2.2.2.2.2.2.2.1 k0_t2 k0_h3
theorem k0_dev21_lt : ∀ (v2 : BitVec 32) (k0_hw2 : k0_chk2 v2) (k0_t2 : Fin k0_t2_loop.trips), ∀ (k0_h3 : k0_cond3 k0_t2 = 1#1), (k0_dev21 v2) < nD := fun v2 k0_hw2 k0_t2 k0_h3 => k0_hw2.2.2.2.2.2.2.2.2.2.2.1 k0_t2 k0_h3
theorem k0_dev24_lt : ∀ (v2 : BitVec 32) (k0_hw2 : k0_chk2 v2) (k0_t2 : Fin k0_t2_loop.trips), ∀ (k0_h4 : k0_cond4 k0_t2 = 1#1), (k0_dev24 v2) < nD := fun v2 k0_hw2 k0_t2 k0_h4 => k0_hw2.2.2.2.2.2.2.2.2.2.2.2.1 k0_t2 k0_h4
theorem k0_dev25_lt : ∀ (v2 : BitVec 32) (k0_hw2 : k0_chk2 v2) (k0_t2 : Fin k0_t2_loop.trips), ∀ (k0_h4 : k0_cond4 k0_t2 = 1#1), (k0_dev25 v2) < nD := fun v2 k0_hw2 k0_t2 k0_h4 => k0_hw2.2.2.2.2.2.2.2.2.2.2.2.2 k0_t2 k0_h4

def k0_dev26 (v1 : BitVec 32) : Nat :=
  let c0_i32_278 : BitVec 32 := 0#32
  let c1_i32_277 : BitVec 32 := 1#32
  let v290 : BitVec 32 := Scalar.muli v1 c1_i32_277
  let v291 : BitVec 32 := Scalar.addi c0_i32_278 v290
  v291.toNat

def k0_chk1 (v1 : BitVec 32) : Prop :=
  ((k0_dev1 v1) < nD) ∧
  ((k0_dev4 v1) < nD) ∧
  ((k0_dev6 v1) < nD) ∧
  ((k0_dev7 v1) < nD) ∧
  (∀ k0_t1 : Fin k0_t1_loop.trips, ∀ (k0_h1 : k0_cond1 k0_t1 = 1#1), (k0_dev10 v1) < nD) ∧
  ((k0_dev11 v1) < nD) ∧
  (∀ k0_t1 : Fin k0_t1_loop.trips, ∀ (k0_h2 : k0_cond2 k0_t1 = 1#1), (k0_dev14 v1) < nD) ∧
  ((k0_dev16 v1) < nD) ∧
  ((k0_dev18 v1) < nD) ∧
  (∀ k0_t2 : Fin k0_t2_loop.trips, ∀ (k0_h3 : k0_cond3 k0_t2 = 1#1), (k0_dev19 v1) < nD) ∧
  (∀ k0_t2 : Fin k0_t2_loop.trips, ∀ (k0_h3 : k0_cond3 k0_t2 = 1#1), (k0_dev22 v1) < nD) ∧
  (∀ k0_t2 : Fin k0_t2_loop.trips, ∀ (k0_h4 : k0_cond4 k0_t2 = 1#1), (k0_dev23 v1) < nD) ∧
  (∀ k0_t2 : Fin k0_t2_loop.trips, ∀ (k0_h4 : k0_cond4 k0_t2 = 1#1), (k0_dev26 v1) < nD)
theorem k0_dev1_lt : ∀ (v1 : BitVec 32) (k0_hw1 : k0_chk1 v1), (k0_dev1 v1) < nD := fun v1 k0_hw1 => k0_hw1.1
theorem k0_dev4_lt : ∀ (v1 : BitVec 32) (k0_hw1 : k0_chk1 v1), (k0_dev4 v1) < nD := fun v1 k0_hw1 => k0_hw1.2.1
theorem k0_dev6_lt : ∀ (v1 : BitVec 32) (k0_hw1 : k0_chk1 v1), (k0_dev6 v1) < nD := fun v1 k0_hw1 => k0_hw1.2.2.1
theorem k0_dev7_lt : ∀ (v1 : BitVec 32) (k0_hw1 : k0_chk1 v1), (k0_dev7 v1) < nD := fun v1 k0_hw1 => k0_hw1.2.2.2.1
theorem k0_dev10_lt : ∀ (v1 : BitVec 32) (k0_hw1 : k0_chk1 v1) (k0_t1 : Fin k0_t1_loop.trips), ∀ (k0_h1 : k0_cond1 k0_t1 = 1#1), (k0_dev10 v1) < nD := fun v1 k0_hw1 k0_t1 k0_h1 => k0_hw1.2.2.2.2.1 k0_t1 k0_h1
theorem k0_dev11_lt : ∀ (v1 : BitVec 32) (k0_hw1 : k0_chk1 v1), (k0_dev11 v1) < nD := fun v1 k0_hw1 => k0_hw1.2.2.2.2.2.1
theorem k0_dev14_lt : ∀ (v1 : BitVec 32) (k0_hw1 : k0_chk1 v1) (k0_t1 : Fin k0_t1_loop.trips), ∀ (k0_h2 : k0_cond2 k0_t1 = 1#1), (k0_dev14 v1) < nD := fun v1 k0_hw1 k0_t1 k0_h2 => k0_hw1.2.2.2.2.2.2.1 k0_t1 k0_h2
theorem k0_dev16_lt : ∀ (v1 : BitVec 32) (k0_hw1 : k0_chk1 v1), (k0_dev16 v1) < nD := fun v1 k0_hw1 => k0_hw1.2.2.2.2.2.2.2.1
theorem k0_dev18_lt : ∀ (v1 : BitVec 32) (k0_hw1 : k0_chk1 v1), (k0_dev18 v1) < nD := fun v1 k0_hw1 => k0_hw1.2.2.2.2.2.2.2.2.1
theorem k0_dev19_lt : ∀ (v1 : BitVec 32) (k0_hw1 : k0_chk1 v1) (k0_t2 : Fin k0_t2_loop.trips), ∀ (k0_h3 : k0_cond3 k0_t2 = 1#1), (k0_dev19 v1) < nD := fun v1 k0_hw1 k0_t2 k0_h3 => k0_hw1.2.2.2.2.2.2.2.2.2.1 k0_t2 k0_h3
theorem k0_dev22_lt : ∀ (v1 : BitVec 32) (k0_hw1 : k0_chk1 v1) (k0_t2 : Fin k0_t2_loop.trips), ∀ (k0_h3 : k0_cond3 k0_t2 = 1#1), (k0_dev22 v1) < nD := fun v1 k0_hw1 k0_t2 k0_h3 => k0_hw1.2.2.2.2.2.2.2.2.2.2.1 k0_t2 k0_h3
theorem k0_dev23_lt : ∀ (v1 : BitVec 32) (k0_hw1 : k0_chk1 v1) (k0_t2 : Fin k0_t2_loop.trips), ∀ (k0_h4 : k0_cond4 k0_t2 = 1#1), (k0_dev23 v1) < nD := fun v1 k0_hw1 k0_t2 k0_h4 => k0_hw1.2.2.2.2.2.2.2.2.2.2.2.1 k0_t2 k0_h4
theorem k0_dev26_lt : ∀ (v1 : BitVec 32) (k0_hw1 : k0_chk1 v1) (k0_t2 : Fin k0_t2_loop.trips), ∀ (k0_h4 : k0_cond4 k0_t2 = 1#1), (k0_dev26 v1) < nD := fun v1 k0_hw1 k0_t2 k0_h4 => k0_hw1.2.2.2.2.2.2.2.2.2.2.2.2 k0_t2 k0_h4

abbrev stage0_0 : Fin 1 → Memref sig .tc .smem S3 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.KernelIdealSched.lean ====
/- The protocol of the two-direction ring: the devices' order on the ring, the buffers' quarters, what each quarter
   holds when it is sent, and the schedule of every semaphore cell. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.RegionTalk
public import Idealize.ShloMosaic.Lib.Pipeline.TalkSites
public import Idealize.ShloMosaic.Lib.Tactic

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources: the staging pipeline's, and the rounds' with two duty names, and counters for the local transfers. -/
abbrev UB : Type := URounds (GSem nD τ sig) Bool
abbrev UU : Type := UR sig nD τ × (UB × Counters)

local notation "𝕄" => MT nD τ sig ℕ (Elt F) ℕ UU ℕ

abbrev EP : Emb (UR sig nD τ) (MT nD τ sig ℕ (Elt F) ℕ UU ℕ) := embL
def ER : Emb UB (MT nD τ sig ℕ (Elt F) ℕ UU ℕ) :=
  ((Emb.inl : Emb UB (UB × Counters)).trans (Emb.inr : Emb (UB × Counters) UU)).trans
    (uEmb (nD := nD) (sig := sig) (Ix := ℕ) (Val := Elt F) (Name := ℕ) (U := UU) (Lvl := ℕ)).toEmb
instance ER_landsIn : (ER : Emb UB (MT nD τ sig ℕ (Elt F) ℕ UU ℕ)).LandsIn (upEmb : UEmb _ (MT nD τ sig ℕ (Elt F) ℕ UU ℕ)) := by unfold ER; infer_instance

/-! ## The ring -/

/-- The device at each place of the ring. -/
def perm : Fin 32 → Fin 32 := ![0,3,4,7,15,12,11,8,16,19,20,23,31,28,27,24,25,26,29,30,22,21,18,17,9,10,13,14,6,5,2,1]
/-- The place of each device. -/
def rank : Fin 32 → Fin 32 := ![0,31,30,1,2,29,28,3,7,24,25,6,5,26,27,4,8,23,22,9,10,21,20,11,15,16,17,14,13,18,19,12]
theorem perm_rank : ∀ c : Fin 32, perm (rank c) = c := by decide
theorem rank_perm : ∀ i : Fin 32, rank (perm i) = i := by decide

/-- The device before `c` on the ring, and the device after it. -/
def lft (c : Dev nD) : Dev nD := perm (rank c - 1)
def rgt (c : Dev nD) : Dev nD := perm (rank c + 1)
theorem lft_rgt (c : Dev nD) : lft (rgt c) = c := by revert c; decide
theorem rgt_lft (c : Dev nD) : rgt (lft c) = c := by revert c; decide
/-- A step round the ring, as a bijection. -/
def ring : Dev nD ≃ Dev nD := ⟨rgt, lft, lft_rgt, rgt_lft⟩

/-- The neighbour that sends in direction `d`: the one before in direction 0, the one after in direction 1. -/
def src (d : Fin 2) (c : Dev nD) : Dev nD := if d = 0 then lft c else rgt c
/-- The neighbour sent to in direction `d`. -/
def dst (d : Fin 2) (c : Dev nD) : Dev nD := if d = 0 then rgt c else lft c

/-! ## The buffers' quarters -/
abbrev aM0 : Memref sig .tc .vmem S128x4096 .f32 := Memref.whole cc0_scratch0
abbrev rM0 : Memref sig .tc .vmem S128x4096 .f32 := Memref.whole cc0_scratch1
abbrev lM0 : Memref sig .tc .vmem S128x4096 .f32 := Memref.whole cc0_scratch2
abbrev aM1 : Memref sig .tc .vmem S128x4096 .f32 := Memref.whole cc0_scratch3
abbrev rM1 : Memref sig .tc .vmem S128x4096 .f32 := Memref.whole cc0_scratch4
abbrev lM1 : Memref sig .tc .vmem S128x4096 .f32 := Memref.whole cc0_scratch5
abbrev aq00 : Memref sig .tc .vmem S128x2048 .f32 := aM0.slice (Rect.unit (s := S128x4096) ![0, 0] S128x2048.size inb_S128x4096_S128x2048_0_0) (fun _ => rfl)
abbrev rq00 : Memref sig .tc .vmem S128x2048 .f32 := rM0.slice (Rect.unit (s := S128x4096) ![0, 0] S128x2048.size inb_S128x4096_S128x2048_0_0) (fun _ => rfl)
abbrev aq01 : Memref sig .tc .vmem S128x2048 .f32 := aM0.slice (Rect.unit (s := S128x4096) ![0, 2048] S128x2048.size inb_S128x4096_S128x2048_0_2048) (fun _ => rfl)
abbrev rq01 : Memref sig .tc .vmem S128x2048 .f32 := rM0.slice (Rect.unit (s := S128x4096) ![0, 2048] S128x2048.size inb_S128x4096_S128x2048_0_2048) (fun _ => rfl)
abbrev aq10 : Memref sig .tc .vmem S128x2048 .f32 := aM1.slice (Rect.unit (s := S128x4096) ![0, 0] S128x2048.size inb_S128x4096_S128x2048_0_0) (fun _ => rfl)
abbrev rq10 : Memref sig .tc .vmem S128x2048 .f32 := rM1.slice (Rect.unit (s := S128x4096) ![0, 0] S128x2048.size inb_S128x4096_S128x2048_0_0) (fun _ => rfl)
abbrev aq11 : Memref sig .tc .vmem S128x2048 .f32 := aM1.slice (Rect.unit (s := S128x4096) ![0, 2048] S128x2048.size inb_S128x4096_S128x2048_0_2048) (fun _ => rfl)
abbrev rq11 : Memref sig .tc .vmem S128x2048 .f32 := rM1.slice (Rect.unit (s := S128x4096) ![0, 2048] S128x2048.size inb_S128x4096_S128x2048_0_2048) (fun _ => rfl)
/-! ## The semaphores -/
abbrev sendS00 : DmaSem sig := ((cc0_scratch6.slice (Rect.unit (s := S2) ![0] S1.size inb_S2_S1_0)).squeeze S_ squeezes_S1_S_).sem
abbrev recvS00 : DmaSem sig := ((cc0_scratch8.slice (Rect.unit (s := S2) ![0] S1.size inb_S2_S1_0)).squeeze S_ squeezes_S1_S_).sem
abbrev credS00 : Sem sig := cc0_scratch12.sem
abbrev sendS01 : DmaSem sig := ((cc0_scratch6.slice (Rect.unit (s := S2) ![1] S1.size inb_S2_S1_1)).squeeze S_ squeezes_S1_S_).sem
abbrev recvS01 : DmaSem sig := ((cc0_scratch8.slice (Rect.unit (s := S2) ![1] S1.size inb_S2_S1_1)).squeeze S_ squeezes_S1_S_).sem
abbrev credS01 : Sem sig := cc0_scratch13.sem
abbrev sendS10 : DmaSem sig := ((cc0_scratch7.slice (Rect.unit (s := S2) ![0] S1.size inb_S2_S1_0)).squeeze S_ squeezes_S1_S_).sem
abbrev recvS10 : DmaSem sig := ((cc0_scratch9.slice (Rect.unit (s := S2) ![0] S1.size inb_S2_S1_0)).squeeze S_ squeezes_S1_S_).sem
abbrev credS10 : Sem sig := cc0_scratch14.sem
abbrev sendS11 : DmaSem sig := ((cc0_scratch7.slice (Rect.unit (s := S2) ![1] S1.size inb_S2_S1_1)).squeeze S_ squeezes_S1_S_).sem
abbrev recvS11 : DmaSem sig := ((cc0_scratch9.slice (Rect.unit (s := S2) ![1] S1.size inb_S2_S1_1)).squeeze S_ squeezes_S1_S_).sem
abbrev credS11 : Sem sig := cc0_scratch15.sem
abbrev barS : Sem sig := (SemArray.scalar (sig.barrier 0 rfl) : Sems sig S_).sem
abbrev sendC00 (c : Dev nD) : GSem nD τ sig := ((c : Thread nD τ), .dma sendS00)
abbrev recvC00 (c : Dev nD) : GSem nD τ sig := ((c : Thread nD τ), .dma recvS00)
abbrev credC00 (c : Dev nD) : GSem nD τ sig := ((c : Thread nD τ), .reg credS00)
abbrev sendC01 (c : Dev nD) : GSem nD τ sig := ((c : Thread nD τ), .dma sendS01)
abbrev recvC01 (c : Dev nD) : GSem nD τ sig := ((c : Thread nD τ), .dma recvS01)
abbrev credC01 (c : Dev nD) : GSem nD τ sig := ((c : Thread nD τ), .reg credS01)
abbrev sendC10 (c : Dev nD) : GSem nD τ sig := ((c : Thread nD τ), .dma sendS10)
abbrev recvC10 (c : Dev nD) : GSem nD τ sig := ((c : Thread nD τ), .dma recvS10)
abbrev credC10 (c : Dev nD) : GSem nD τ sig := ((c : Thread nD τ), .reg credS10)
abbrev sendC11 (c : Dev nD) : GSem nD τ sig := ((c : Thread nD τ), .dma sendS11)
abbrev recvC11 (c : Dev nD) : GSem nD τ sig := ((c : Thread nD τ), .dma recvS11)
abbrev credC11 (c : Dev nD) : GSem nD τ sig := ((c : Thread nD τ), .reg credS11)
abbrev barC (c : Dev nD) : GSem nD τ sig := ((c : Thread nD τ), .reg barS)

/-- What one quarter's transfer credits. -/
def N : ℕ := (rq00 : Memref sig .tc .vmem S128x2048 .f32).view.dmaCredit
theorem N_pos : 0 < N := View.dmaCredit_pos (rq00 : Memref sig .tc .vmem S128x2048 .f32).view (by decide)
theorem credit00 : (rq00 : Memref sig .tc .vmem S128x2048 .f32).view.dmaCredit = N := rfl
theorem credit01 : (rq01 : Memref sig .tc .vmem S128x2048 .f32).view.dmaCredit = N := rfl
theorem credit10 : (rq10 : Memref sig .tc .vmem S128x2048 .f32).view.dmaCredit = N := rfl
theorem credit11 : (rq11 : Memref sig .tc .vmem S128x2048 .f32).view.dmaCredit = N := rfl

/-! ## What the quarters hold -/

/-- The devices' shards of the two arguments. -/
structure Shards (F : FTy → Type) where
  /-- The shard of `x`. -/
  x : Dev nD → Vec F S4096x128 .f32
  /-- The shard of `w`. -/
  w : Dev nD → Vec F S128x8192 .f32

theorem chunk_inb (i : Fin 32) : ∀ a, (![128 * i.val, 0] : Fin 2 → ℕ) a + S128x128.size a ≤ S4096x128.size a := by
  revert i; decide
theorem half_inb (d : Fin 2) : ∀ a, (![0, 4096 * d.val] : Fin 2 → ℕ) a + S128x4096.size a ≤ S128x8192.size a := by
  revert d; decide

/-- The rows of chunk `i` of a shard of `x`. -/
def chunkX (x : Vec F S4096x128 .f32) (i : Fin 32) : Vec F S128x128 .f32 :=
  fun j => x ((Rect.unit (s := S4096x128) ![128 * i.val, 0] S128x128.size (chunk_inb i)).idx j)
/-- The columns of half `d` of a shard of `w`. -/
def halfW (w : Vec F S128x8192 .f32) (d : Fin 2) : Vec F S128x4096 .f32 :=
  fun j => w ((Rect.unit (s := S128x8192) ![0, 4096 * d.val] S128x4096.size (half_inb d)).idx j)

/-- Device `c`'s partial product of chunk `i`, half `d`. -/
def part (X : Shards F) (d : Fin 2) (c : Dev nD) (i : Fin 32) : Vec F S128x4096 .f32 :=
  k0_pay1 (chunkX (X.x c) i) (halfW (X.w c) d)

/-- The chunk `k` places back along direction `d` from place `r`. -/
def back (d : Fin 2) (r : Fin 32) (k : ℕ) : Fin 32 := if d = 0 then r - Fin.ofNat 32 k else r + Fin.ofNat 32 k

/-- What device `c` sends in round `t` of direction `d`: for `t ≤ 31` the sum so far of the chunk on its way round
    (at 31 the full sum), after that the full sum passed on. -/
def A (X : Shards F) (d : Fin 2) : ℕ → Dev nD → Vec F S128x4096 .f32
  | 0, c => part X d c (rank c)
  | t + 1, c => if t < 31 then addf (A X d t (src d c)) (part X d c (back d (rank c) (t + 1))) else A X d t (src d c)

variable (X : Shards F)
/-- Direction 0, quarter 0: the sender's quarter and the receiver's, at a share and contents. -/
def aPts00 (q : PosShare TreeShare) (c : Dev nD) (f : Vec F S128x4096 .f32) : sProp 𝕄 :=
  aq00.view.loc (c : Thread nD τ) ↦[aq00.view.set]{q} (f : Buf (Elt F) (aq00.view.loc (c : Thread nD τ)))
def rPts00 (c : Dev nD) (f : Vec F S128x4096 .f32) : sProp 𝕄 :=
  rq00.view.loc (c : Thread nD τ) ↦[rq00.view.set]{fullShare} (f : Buf (Elt F) (rq00.view.loc (c : Thread nD τ)))
omit [FloatOps F] in
instance aPts00_storable (q) (c : Dev nD) (f) : BI.Storable (upEmb : UEmb _ 𝕄) (aPts00 (F := F) q c f) := by unfold aPts00; infer_instance
omit [FloatOps F] in
instance rPts00_storable (c : Dev nD) (f) : BI.Storable (upEmb : UEmb _ 𝕄) (rPts00 (F := F) c f) := by unfold rPts00; infer_instance
/-- Direction 0, quarter 1: the sender's quarter and the receiver's, at a share and contents. -/
def aPts01 (q : PosShare TreeShare) (c : Dev nD) (f : Vec F S128x4096 .f32) : sProp 𝕄 :=
  aq01.view.loc (c : Thread nD τ) ↦[aq01.view.set]{q} (f : Buf (Elt F) (aq01.view.loc (c : Thread nD τ)))
def rPts01 (c : Dev nD) (f : Vec F S128x4096 .f32) : sProp 𝕄 :=
  rq01.view.loc (c : Thread nD τ) ↦[rq01.view.set]{fullShare} (f : Buf (Elt F) (rq01.view.loc (c : Thread nD τ)))
omit [FloatOps F] in
instance aPts01_storable (q) (c : Dev nD) (f) : BI.Storable (upEmb : UEmb _ 𝕄) (aPts01 (F := F) q c f) := by unfold aPts01; infer_instance
omit [FloatOps F] in
instance rPts01_storable (c : Dev nD) (f) : BI.Storable (upEmb : UEmb _ 𝕄) (rPts01 (F := F) c f) := by unfold rPts01; infer_instance
/-- Direction 1, quarter 0: the sender's quarter and the receiver's, at a share and contents. -/
def aPts10 (q : PosShare TreeShare) (c : Dev nD) (f : Vec F S128x4096 .f32) : sProp 𝕄 :=
  aq10.view.loc (c : Thread nD τ) ↦[aq10.view.set]{q} (f : Buf (Elt F) (aq10.view.loc (c : Thread nD τ)))
def rPts10 (c : Dev nD) (f : Vec F S128x4096 .f32) : sProp 𝕄 :=
  rq10.view.loc (c : Thread nD τ) ↦[rq10.view.set]{fullShare} (f : Buf (Elt F) (rq10.view.loc (c : Thread nD τ)))
omit [FloatOps F] in
instance aPts10_storable (q) (c : Dev nD) (f) : BI.Storable (upEmb : UEmb _ 𝕄) (aPts10 (F := F) q c f) := by unfold aPts10; infer_instance
omit [FloatOps F] in
instance rPts10_storable (c : Dev nD) (f) : BI.Storable (upEmb : UEmb _ 𝕄) (rPts10 (F := F) c f) := by unfold rPts10; infer_instance
/-- Direction 1, quarter 1: the sender's quarter and the receiver's, at a share and contents. -/
def aPts11 (q : PosShare TreeShare) (c : Dev nD) (f : Vec F S128x4096 .f32) : sProp 𝕄 :=
  aq11.view.loc (c : Thread nD τ) ↦[aq11.view.set]{q} (f : Buf (Elt F) (aq11.view.loc (c : Thread nD τ)))
def rPts11 (c : Dev nD) (f : Vec F S128x4096 .f32) : sProp 𝕄 :=
  rq11.view.loc (c : Thread nD τ) ↦[rq11.view.set]{fullShare} (f : Buf (Elt F) (rq11.view.loc (c : Thread nD τ)))
omit [FloatOps F] in
instance aPts11_storable (q) (c : Dev nD) (f) : BI.Storable (upEmb : UEmb _ 𝕄) (aPts11 (F := F) q c f) := by unfold aPts11; infer_instance
omit [FloatOps F] in
instance rPts11_storable (c : Dev nD) (f) : BI.Storable (upEmb : UEmb _ 𝕄) (rPts11 (F := F) c f) := by unfold rPts11; infer_instance

/-- The share a send takes of its quarter: all while the chunk is summed, half while it is passed on. -/
def shr (t : ℕ) : PosShare TreeShare := if t < 31 then fullShare else fullShare.left

/-! ## The schedule -/
/-- The payloads of direction 0, quarter 0: the send cell gives its quarter back; the receive cell hands what
    landed and that the sender's credit cell reached the round; the credit cell hands the target's quarter. -/
def sPay00 (c : Dev nD) (t : ℕ) : sProp 𝕄 := aPts00 (shr t) c (A X 0 t c)
def vPay00 (c : Dev nD) (t : ℕ) : sProp 𝕄 := iprop(rPts00 c (A X 0 t (lft c)) ∗ reached ER (credC00 (lft c)) t)
def cPay00 (c : Dev nD) (t : ℕ) : sProp 𝕄 := iprop((∃ f, rPts00 (F := F) (rgt c) f) ∗ reached ER (recvC00 (rgt c)) (t + 1))
/-- The payloads of direction 0, quarter 1: the send cell gives its quarter back; the receive cell hands what
    landed and that the sender's credit cell reached the round; the credit cell hands the target's quarter. -/
def sPay01 (c : Dev nD) (t : ℕ) : sProp 𝕄 := aPts01 (shr t) c (A X 0 t c)
def vPay01 (c : Dev nD) (t : ℕ) : sProp 𝕄 := iprop(rPts01 c (A X 0 t (lft c)) ∗ reached ER (credC01 (lft c)) t)
def cPay01 (c : Dev nD) (t : ℕ) : sProp 𝕄 := iprop((∃ f, rPts01 (F := F) (rgt c) f) ∗ reached ER (recvC01 (rgt c)) (t + 1))
/-- The payloads of direction 1, quarter 0: the send cell gives its quarter back; the receive cell hands what
    landed and that the sender's credit cell reached the round; the credit cell hands the target's quarter. -/
def sPay10 (c : Dev nD) (t : ℕ) : sProp 𝕄 := aPts10 (shr t) c (A X 1 t c)
def vPay10 (c : Dev nD) (t : ℕ) : sProp 𝕄 := iprop(rPts10 c (A X 1 t (rgt c)) ∗ reached ER (credC10 (rgt c)) t)
def cPay10 (c : Dev nD) (t : ℕ) : sProp 𝕄 := iprop((∃ f, rPts10 (F := F) (lft c) f) ∗ reached ER (recvC10 (lft c)) (t + 1))
/-- The payloads of direction 1, quarter 1: the send cell gives its quarter back; the receive cell hands what
    landed and that the sender's credit cell reached the round; the credit cell hands the target's quarter. -/
def sPay11 (c : Dev nD) (t : ℕ) : sProp 𝕄 := aPts11 (shr t) c (A X 1 t c)
def vPay11 (c : Dev nD) (t : ℕ) : sProp 𝕄 := iprop(rPts11 c (A X 1 t (rgt c)) ∗ reached ER (credC11 (rgt c)) t)
def cPay11 (c : Dev nD) (t : ℕ) : sProp 𝕄 := iprop((∃ f, rPts11 (F := F) (lft c) f) ∗ reached ER (recvC11 (lft c)) (t + 1))
/-- The barrier's payloads: the device after hands its landing quarters of direction 0, the device before its of
    direction 1, each with the fact that its receive cell is at round 0. -/
def bPayT (c : Dev nD) : sProp 𝕄 := iprop(((∃ f, rPts00 (F := F) (rgt c) f) ∗ reached ER (recvC00 (rgt c)) 0) ∗ ((∃ f, rPts01 (F := F) (rgt c) f) ∗ reached ER (recvC01 (rgt c)) 0))
def bPayF (c : Dev nD) : sProp 𝕄 := iprop(((∃ f, rPts10 (F := F) (lft c) f) ∗ reached ER (recvC10 (lft c)) 0) ∗ ((∃ f, rPts11 (F := F) (lft c) f) ∗ reached ER (recvC11 (lft c)) 0))

/-- A semaphore's number: DMA semaphores as they are, regular ones from 100 on. -/
def code : SemLoc sig → ℕ
  | .dma s => s.val
  | .reg s => 100 + s.val

/-- How many rounds the cells of a number have. -/
def nRounds (k : ℕ) : ℕ := if 4 ≤ k ∧ k < 12 then 62 else if 100 ≤ k ∧ k < 104 then 61 else if k = 104 then 1 else 0

/-- The schedule of every cell. -/
def Rd : Rounds.Schedule (GSem nD τ sig) Bool 𝕄 where
  duties g r := if r < nRounds (code g.2) then (if code g.2 = 104 then Finset.univ else {false}) else ∅
  unitless _ := False
  amount g _ _ := if code g.2 < 100 then N else 1
  payload g t d := match code g.2 with
    | 4 => sPay00 X g.1.1 t
    | 8 => vPay00 X g.1.1 t
    | 100 => cPay00 g.1.1 t
    | 5 => sPay01 X g.1.1 t
    | 9 => vPay01 X g.1.1 t
    | 101 => cPay01 g.1.1 t
    | 6 => sPay10 X g.1.1 t
    | 10 => vPay10 X g.1.1 t
    | 102 => cPay10 g.1.1 t
    | 7 => sPay11 X g.1.1 t
    | 11 => vPay11 X g.1.1 t
    | 103 => cPay11 g.1.1 t
    | 104 => if d then bPayT g.1.1 else bPayF g.1.1
    | _ => iprop(emp)
  amount_pos g _ _ _ := by
    by_cases h : code g.2 < 100
    · rw [if_pos h]; exact N_pos
    · rw [if_neg h]; exact Nat.one_pos

instance Rd_storable (g : GSem nD τ sig) (r : ℕ) (d : Bool) :
    BI.Storable (upEmb : UEmb _ 𝕄) ((Rd X).payload g r d) := by
  dsimp only [Rd]
  unfold sPay00 sPay01 sPay10 sPay11 vPay00 vPay01 vPay10 vPay11 cPay00 cPay01 cPay10 cPay11 bPayT bPayF
  (repeat' split) <;> infer_instance

section Tables
variable (c : Dev nD) (t : ℕ) (b : Bool)

@[sl_rounds] theorem duties_send00 (h : t < 62) : (Rd X).duties (sendC00 c) t = {false} := if_pos h
@[sl_rounds] theorem amount_send00 : (Rd X).amount (sendC00 c) t b = N := rfl
@[sl_rounds] theorem payload_send00 : (Rd X).payload (sendC00 c) t b = sPay00 X c t := rfl
@[sl_rounds] theorem expect_send00 (h : t < 62) : (Rd X).expect (sendC00 c) t = N := by
  unfold Schedule.expect Schedule.amountOf; rw [duties_send00 X c t h, Finset.sum_singleton, amount_send00]
theorem later_send00 : ∀ r, 62 ≤ r → (Rd X).duties (sendC00 c) r = ∅ := fun r hr => if_neg (Nat.not_lt.2 hr)
@[sl_rounds] theorem duties_recv00 (h : t < 62) : (Rd X).duties (recvC00 c) t = {false} := if_pos h
@[sl_rounds] theorem amount_recv00 : (Rd X).amount (recvC00 c) t b = N := rfl
@[sl_rounds] theorem payload_recv00 : (Rd X).payload (recvC00 c) t b = vPay00 X c t := rfl
@[sl_rounds] theorem expect_recv00 (h : t < 62) : (Rd X).expect (recvC00 c) t = N := by
  unfold Schedule.expect Schedule.amountOf; rw [duties_recv00 X c t h, Finset.sum_singleton, amount_recv00]
theorem later_recv00 : ∀ r, 62 ≤ r → (Rd X).duties (recvC00 c) r = ∅ := fun r hr => if_neg (Nat.not_lt.2 hr)
@[sl_rounds] theorem duties_cred00 (h : t < 61) : (Rd X).duties (credC00 c) t = {false} := if_pos h
@[sl_rounds] theorem amount_cred00 : (Rd X).amount (credC00 c) t b = 1 := rfl
@[sl_rounds] theorem payload_cred00 : (Rd X).payload (credC00 c) t b = cPay00 (F := F) c t := rfl
@[sl_rounds] theorem expect_cred00 (h : t < 61) : (Rd X).expect (credC00 c) t = 1 := by
  unfold Schedule.expect Schedule.amountOf; rw [duties_cred00 X c t h, Finset.sum_singleton, amount_cred00]
theorem later_cred00 : ∀ r, 61 ≤ r → (Rd X).duties (credC00 c) r = ∅ := fun r hr => if_neg (Nat.not_lt.2 hr)
@[sl_rounds] theorem duties_send01 (h : t < 62) : (Rd X).duties (sendC01 c) t = {false} := if_pos h
@[sl_rounds] theorem amount_send01 : (Rd X).amount (sendC01 c) t b = N := rfl
@[sl_rounds] theorem payload_send01 : (Rd X).payload (sendC01 c) t b = sPay01 X c t := rfl
@[sl_rounds] theorem expect_send01 (h : t < 62) : (Rd X).expect (sendC01 c) t = N := by
  unfold Schedule.expect Schedule.amountOf; rw [duties_send01 X c t h, Finset.sum_singleton, amount_send01]
theorem later_send01 : ∀ r, 62 ≤ r → (Rd X).duties (sendC01 c) r = ∅ := fun r hr => if_neg (Nat.not_lt.2 hr)
@[sl_rounds] theorem duties_recv01 (h : t < 62) : (Rd X).duties (recvC01 c) t = {false} := if_pos h
@[sl_rounds] theorem amount_recv01 : (Rd X).amount (recvC01 c) t b = N := rfl
@[sl_rounds] theorem payload_recv01 : (Rd X).payload (recvC01 c) t b = vPay01 X c t := rfl
@[sl_rounds] theorem expect_recv01 (h : t < 62) : (Rd X).expect (recvC01 c) t = N := by
  unfold Schedule.expect Schedule.amountOf; rw [duties_recv01 X c t h, Finset.sum_singleton, amount_recv01]
theorem later_recv01 : ∀ r, 62 ≤ r → (Rd X).duties (recvC01 c) r = ∅ := fun r hr => if_neg (Nat.not_lt.2 hr)
@[sl_rounds] theorem duties_cred01 (h : t < 61) : (Rd X).duties (credC01 c) t = {false} := if_pos h
@[sl_rounds] theorem amount_cred01 : (Rd X).amount (credC01 c) t b = 1 := rfl
@[sl_rounds] theorem payload_cred01 : (Rd X).payload (credC01 c) t b = cPay01 (F := F) c t := rfl
@[sl_rounds] theorem expect_cred01 (h : t < 61) : (Rd X).expect (credC01 c) t = 1 := by
  unfold Schedule.expect Schedule.amountOf; rw [duties_cred01 X c t h, Finset.sum_singleton, amount_cred01]
theorem later_cred01 : ∀ r, 61 ≤ r → (Rd X).duties (credC01 c) r = ∅ := fun r hr => if_neg (Nat.not_lt.2 hr)
@[sl_rounds] theorem duties_send10 (h : t < 62) : (Rd X).duties (sendC10 c) t = {false} := if_pos h
@[sl_rounds] theorem amount_send10 : (Rd X).amount (sendC10 c) t b = N := rfl
@[sl_rounds] theorem payload_send10 : (Rd X).payload (sendC10 c) t b = sPay10 X c t := rfl
@[sl_rounds] theorem expect_send10 (h : t < 62) : (Rd X).expect (sendC10 c) t = N := by
  unfold Schedule.expect Schedule.amountOf; rw [duties_send10 X c t h, Finset.sum_singleton, amount_send10]
theorem later_send10 : ∀ r, 62 ≤ r → (Rd X).duties (sendC10 c) r = ∅ := fun r hr => if_neg (Nat.not_lt.2 hr)
@[sl_rounds] theorem duties_recv10 (h : t < 62) : (Rd X).duties (recvC10 c) t = {false} := if_pos h
@[sl_rounds] theorem amount_recv10 : (Rd X).amount (recvC10 c) t b = N := rfl
@[sl_rounds] theorem payload_recv10 : (Rd X).payload (recvC10 c) t b = vPay10 X c t := rfl
@[sl_rounds] theorem expect_recv10 (h : t < 62) : (Rd X).expect (recvC10 c) t = N := by
  unfold Schedule.expect Schedule.amountOf; rw [duties_recv10 X c t h, Finset.sum_singleton, amount_recv10]
theorem later_recv10 : ∀ r, 62 ≤ r → (Rd X).duties (recvC10 c) r = ∅ := fun r hr => if_neg (Nat.not_lt.2 hr)
@[sl_rounds] theorem duties_cred10 (h : t < 61) : (Rd X).duties (credC10 c) t = {false} := if_pos h
@[sl_rounds] theorem amount_cred10 : (Rd X).amount (credC10 c) t b = 1 := rfl
@[sl_rounds] theorem payload_cred10 : (Rd X).payload (credC10 c) t b = cPay10 (F := F) c t := rfl
@[sl_rounds] theorem expect_cred10 (h : t < 61) : (Rd X).expect (credC10 c) t = 1 := by
  unfold Schedule.expect Schedule.amountOf; rw [duties_cred10 X c t h, Finset.sum_singleton, amount_cred10]
theorem later_cred10 : ∀ r, 61 ≤ r → (Rd X).duties (credC10 c) r = ∅ := fun r hr => if_neg (Nat.not_lt.2 hr)
@[sl_rounds] theorem duties_send11 (h : t < 62) : (Rd X).duties (sendC11 c) t = {false} := if_pos h
@[sl_rounds] theorem amount_send11 : (Rd X).amount (sendC11 c) t b = N := rfl
@[sl_rounds] theorem payload_send11 : (Rd X).payload (sendC11 c) t b = sPay11 X c t := rfl
@[sl_rounds] theorem expect_send11 (h : t < 62) : (Rd X).expect (sendC11 c) t = N := by
  unfold Schedule.expect Schedule.amountOf; rw [duties_send11 X c t h, Finset.sum_singleton, amount_send11]
theorem later_send11 : ∀ r, 62 ≤ r → (Rd X).duties (sendC11 c) r = ∅ := fun r hr => if_neg (Nat.not_lt.2 hr)
@[sl_rounds] theorem duties_recv11 (h : t < 62) : (Rd X).duties (recvC11 c) t = {false} := if_pos h
@[sl_rounds] theorem amount_recv11 : (Rd X).amount (recvC11 c) t b = N := rfl
@[sl_rounds] theorem payload_recv11 : (Rd X).payload (recvC11 c) t b = vPay11 X c t := rfl
@[sl_rounds] theorem expect_recv11 (h : t < 62) : (Rd X).expect (recvC11 c) t = N := by
  unfold Schedule.expect Schedule.amountOf; rw [duties_recv11 X c t h, Finset.sum_singleton, amount_recv11]
theorem later_recv11 : ∀ r, 62 ≤ r → (Rd X).duties (recvC11 c) r = ∅ := fun r hr => if_neg (Nat.not_lt.2 hr)
@[sl_rounds] theorem duties_cred11 (h : t < 61) : (Rd X).duties (credC11 c) t = {false} := if_pos h
@[sl_rounds] theorem amount_cred11 : (Rd X).amount (credC11 c) t b = 1 := rfl
@[sl_rounds] theorem payload_cred11 : (Rd X).payload (credC11 c) t b = cPay11 (F := F) c t := rfl
@[sl_rounds] theorem expect_cred11 (h : t < 61) : (Rd X).expect (credC11 c) t = 1 := by
  unfold Schedule.expect Schedule.amountOf; rw [duties_cred11 X c t h, Finset.sum_singleton, amount_cred11]
theorem later_cred11 : ∀ r, 61 ≤ r → (Rd X).duties (credC11 c) r = ∅ := fun r hr => if_neg (Nat.not_lt.2 hr)
@[sl_rounds] theorem duties_bar : (Rd X).duties (barC c) 0 = Finset.univ := rfl
@[sl_rounds] theorem amount_bar : (Rd X).amount (barC c) t b = 1 := rfl
@[sl_rounds] theorem payload_barT : (Rd X).payload (barC c) t true = bPayT c := rfl
@[sl_rounds] theorem payload_barF : (Rd X).payload (barC c) t false = bPayF c := rfl
@[sl_rounds] theorem expect_bar : (Rd X).expect (barC c) 0 = 2 := rfl
theorem later_bar : ∀ r, 1 ≤ r → (Rd X).duties (barC c) r = ∅ := fun r hr => if_neg (Nat.not_lt.2 hr)

end Tables

end Cert.Proof.KernelIdeal

end
-- ==== Proof.KernelIdealKit.lean ====
/- The rules of the ring's operations: each send, wait and signal of the kernel as one step on the protocol's resources. -/
module

public import proofs.«01_k».proof.Proof.KernelIdealSched

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)

variable {F : FTy → Type} [FloatOps F]

local notation "𝕄" => MT nD τ sig ℕ (Elt F) ℕ UU ℕ

/-! ## The family of cells -/

/-- The semaphores of the ring other than the barrier. -/
def ringSems : Fin 12 → SemLoc sig
  | 0 => .dma sendS00 | 1 => .dma sendS01 | 2 => .dma sendS10 | 3 => .dma sendS11
  | 4 => .dma recvS00 | 5 => .dma recvS01 | 6 => .dma recvS10 | 7 => .dma recvS11
  | 8 => .reg credS00 | 9 => .reg credS01 | 10 => .reg credS10 | 11 => .reg credS11
theorem ringSems_inj : Function.Injective ringSems := by
  intro i j h; have h' := congrArg code h; revert h'; clear h; revert i j; decide
theorem ringSems_bar (i : Fin 12) : ringSems i ≠ .reg barS := by
  intro h; have h' := congrArg code h; revert h'; clear h; revert i; decide

/-- The device that raises each of device `c`'s semaphores: itself, its neighbour in the direction, the neighbour it sends to. -/
def payee (c : Dev nD) : Fin 12 → Dev nD
  | 0 => c | 1 => c | 2 => c | 3 => c
  | 4 => rgt c | 5 => rgt c | 6 => lft c | 7 => lft c
  | 8 => lft c | 9 => lft c | 10 => rgt c | 11 => rgt c

/-- Who holds a token: read off the cell's device and semaphore. -/
def holder (x : GSem nD τ sig × ℕ × Bool) : Dev nD :=
  let k := code x.1.2
  if k < 8 then x.1.1.1 else if k < 10 then lft x.1.1.1 else if k < 12 then rgt x.1.1.1
  else if k < 102 then rgt x.1.1.1 else if k < 104 then lft x.1.1.1 else if x.2.2 then rgt x.1.1.1 else lft x.1.1.1

/-- Device `c`'s token of number `p.1` in round `p.2`. -/
def tokEmb (c : Dev nD) : Fin 12 × ℕ ↪ GSem nD τ sig × ℕ × Bool :=
  ⟨fun p => (((payee c p.1 : Thread nD τ), ringSems p.1), p.2, false), fun p p' h =>
    Prod.ext (ringSems_inj (congrArg (fun x : GSem nD τ sig × ℕ × Bool => x.1.2) h)) (congrArg (fun x : GSem nD τ sig × ℕ × Bool => x.2.1) h)⟩
/-- The numbers of the semaphores raised in round `t`. -/
def ringNums (t : ℕ) : Finset (Fin 12) := if t < 61 then Finset.univ else {0, 1, 2, 3, 4, 5, 6, 7}
/-- Device `c`'s tokens on the ring, and its two of the barrier. -/
def ringToks (c : Dev nD) : Finset (GSem nD τ sig × ℕ × Bool) :=
  ((Finset.range 62).biUnion fun t => (ringNums t ×ˢ {t})).map (tokEmb c)
def barToks (c : Dev nD) : Finset (GSem nD τ sig × ℕ × Bool) := {(barC (lft c), 0, true), (barC (rgt c), 0, false)}

/-- The cells and tokens of the kernel's one launch. -/
def fam : TalkSites.Fam nD τ sig Bool 1 where
  bar := .reg barS
  dorm _ := Finset.univ.map ⟨ringSems, ringSems_inj⟩
  toks c _ := ringToks c ∪ barToks c
  semKey _ := 0
  hsem j sm _ := Subsingleton.elim _ _
  hbar _ h := by obtain ⟨i, -, e⟩ := Finset.mem_map.mp h; exact ringSems_bar i e
  tokKey x := (holder x, 0)
  htok c j x hx := by
    refine Prod.ext ?_ (Subsingleton.elim _ _)
    rcases Finset.mem_union.mp hx with h | h
    · obtain ⟨p, -, rfl⟩ := Finset.mem_map.mp h
      obtain ⟨i, t⟩ := p
      show holder (((payee c i : Thread nD τ), ringSems i), t, false) = c
      clear h hx
      fin_cases i
      · rfl
      · rfl
      · rfl
      · rfl
      · exact lft_rgt c
      · exact lft_rgt c
      · exact rgt_lft c
      · exact rgt_lft c
      · exact rgt_lft c
      · exact rgt_lft c
      · exact lft_rgt c
      · exact lft_rgt c
    · rcases Finset.mem_insert.mp h with rfl | h
      · exact rgt_lft c
      · rw [Finset.mem_singleton.mp h]; exact lft_rgt c

/-- The program has no loops but counted ones. -/
abbrev 𝒱₀ : Variants := Variants.none

/-- The number of indices. -/
abbrev NN : ℕ := 256

variable (X : Shards F) (κ : GSem nD τ sig → ℕ)

/-- What every device knows throughout: the cells' invariants and the levels of the indices. -/
def env : sProp 𝕄 := iprop(fam.cellInvs ER (Rd X) κ ∗ levAts (L NN) lv)
instance env_persistent : BI.Persistent (env X κ) := by unfold env; infer_instance

theorem env_cell (c : Dev nD) (i : Fin 12) : env X κ ⊢ cellInv ER (Rd X) (κ ((c : Thread nD τ), ringSems i)) ((c : Thread nD τ), ringSems i) := by
  unfold env
  iintro ⟨HI, -⟩
  iapply (fam.cellInvs_dorm ER (Rd X) κ c (j := 0) (sm := ringSems i) (Finset.mem_map.mpr ⟨i, Finset.mem_univ _, rfl⟩))
  iexact HI
theorem env_bar (c : Dev nD) : env X κ ⊢ cellInv ER (Rd X) (κ (barC c)) (barC c) := by
  unfold env
  iintro ⟨HI, -⟩
  iapply (fam.cellInvs_bar ER (Rd X) κ c)
  iexact HI

theorem env_send00 (c : Dev nD) : env X κ ⊢ cellInv ER (Rd X) (κ (sendC00 c)) (sendC00 c) := env_cell X κ c 0
theorem env_send01 (c : Dev nD) : env X κ ⊢ cellInv ER (Rd X) (κ (sendC01 c)) (sendC01 c) := env_cell X κ c 1
theorem env_send10 (c : Dev nD) : env X κ ⊢ cellInv ER (Rd X) (κ (sendC10 c)) (sendC10 c) := env_cell X κ c 2
theorem env_send11 (c : Dev nD) : env X κ ⊢ cellInv ER (Rd X) (κ (sendC11 c)) (sendC11 c) := env_cell X κ c 3
theorem env_recv00 (c : Dev nD) : env X κ ⊢ cellInv ER (Rd X) (κ (recvC00 c)) (recvC00 c) := env_cell X κ c 4
theorem env_recv01 (c : Dev nD) : env X κ ⊢ cellInv ER (Rd X) (κ (recvC01 c)) (recvC01 c) := env_cell X κ c 5
theorem env_recv10 (c : Dev nD) : env X κ ⊢ cellInv ER (Rd X) (κ (recvC10 c)) (recvC10 c) := env_cell X κ c 6
theorem env_recv11 (c : Dev nD) : env X κ ⊢ cellInv ER (Rd X) (κ (recvC11 c)) (recvC11 c) := env_cell X κ c 7
theorem env_cred00 (c : Dev nD) : env X κ ⊢ cellInv ER (Rd X) (κ (credC00 c)) (credC00 c) := env_cell X κ c 8
theorem env_cred01 (c : Dev nD) : env X κ ⊢ cellInv ER (Rd X) (κ (credC01 c)) (credC01 c) := env_cell X κ c 9
theorem env_cred10 (c : Dev nD) : env X κ ⊢ cellInv ER (Rd X) (κ (credC10 c)) (credC10 c) := env_cell X κ c 10
theorem env_cred11 (c : Dev nD) : env X κ ⊢ cellInv ER (Rd X) (κ (credC11 c)) (credC11 c) := env_cell X κ c 11

/-- All of `O` lies at indices with a level, above `i`. -/
def Ab (i : ℕ) (O : CellTallies nD τ sig ℕ) : Prop := ∀ (g : GSem nD τ sig) (k : ℕ), 0 < O g k → k ∈ L NN g ∧ i < k

theorem ab_zero (i : ℕ) : Ab i 0 := fun _ _ h => absurd h (Nat.lt_irrefl 0)
theorem ab_add {i : ℕ} {O O' : CellTallies nD τ sig ℕ} (h : Ab i O) (h' : Ab i O') : Ab i (O + O') := fun g k hk =>
  (Pipeline.add_pos_cases hk).elim (h g k) (h' g k)
theorem ab_tally {i : ℕ} (c : Dev nD) (sm : SemLoc sig) (j n : ℕ) (h : i < j) (hN : j < 256) :
    Ab i (tallyAt (((c : Thread nD τ), sm) : GSem nD τ sig) j n) := fun g k hk => by
  obtain ⟨rfl, rfl⟩ := Pipeline.tallyAt_pos hk
  exact ⟨SiteBlocks.mem_L c sm hN, h⟩

theorem env_mayWait (c : Dev nD) (s : SemLoc sig) {i : ℕ} (hi : i < NN) {O : CellTallies nD τ sig ℕ} (hO : Ab i O) :
    env X κ ⊢ MayWait (c : Thread nD τ) s i O := by
  unfold env
  iintro ⟨-, Hl⟩
  iapply (SiteBlocks.mayWait_of hi c s O hO)
  iexact Hl

/-- Device `c` owes `O`, whatever waits it has recorded. -/
def owesE (c : Dev nD) (O : CellTallies nD τ sig ℕ) : sProp 𝕄 := iprop(∃ W : Waits sig ℕ, owes (c : Thread nD τ) O W)

/-- One of the ring's cells' payload, out of the rest of its round. -/
theorem rest_one {g : GSem nD τ sig} {r : ℕ} (h : (Rd X).duties g r = {false}) :
    (bigSep ((Rd X).duties g r \ ∅) fun d => (Rd X).payload g r d) = (Rd X).payload g r false := by
  rw [Finset.sdiff_empty, h, bigSep_singleton]

/-! ## The dues -/

/-- What device `c` pays in trip `t` in the first quarters, and in the second: the credits of round `t` and the
    transfers of round `t + 1`, the first paid written last. -/
abbrev blk1 (c : Dev nD) (t : ℕ) (O : CellTallies nD τ sig ℕ) : CellTallies nD τ sig ℕ :=
  O + tallyAt (recvC11 (lft c)) (4 * (t + 1) + 4) N + tallyAt (recvC01 (rgt c)) (4 * (t + 1) + 4) N + tallyAt (credC11 (rgt c)) (4 * (t) + 7) 1 + tallyAt (credC01 (lft c)) (4 * (t) + 7) 1
abbrev blk0 (c : Dev nD) (t : ℕ) (O : CellTallies nD τ sig ℕ) : CellTallies nD τ sig ℕ :=
  O + tallyAt (recvC10 (lft c)) (4 * (t + 1) + 2) N + tallyAt (recvC00 (rgt c)) (4 * (t + 1) + 2) N + tallyAt (credC10 (rgt c)) (4 * (t) + 5) 1 + tallyAt (credC00 (lft c)) (4 * (t) + 5) 1
/-- What device `c` owes with `n` of the 61 paying trips left. -/
def due (c : Dev nD) : ℕ → CellTallies nD τ sig ℕ
  | 0 => 0
  | n + 1 => blk0 c (60 - n) (blk1 c (60 - n) (due c n))
theorem due_succ (c : Dev nD) (n : ℕ) : due c (n + 1) = blk0 c (60 - n) (blk1 c (60 - n) (due c n)) := rfl

theorem ab_due (c : Dev nD) : ∀ (n i : ℕ), n ≤ 61 → i < 4 * (61 - n) + 5 → Ab i (due c n)
  | 0, i, _, _ => ab_zero i
  | n + 1, i, hn, hi => by
    have h := ab_due c n i (by omega) (by omega)
    rw [due_succ]
    repeat' first | exact h | apply ab_add | (apply ab_tally <;> omega)

end Cert.Proof.KernelIdeal
-- ==== Proof.KernelIdealFacts.lean ====
/- Closed forms of the kernel's device numbers, offsets and conditions at the words of a place and its neighbours. -/
module

public import proofs.«01_k».proof.Proof.KernelIdealSched

@[expose] public section

noncomputable section

namespace Cert.Proof.KernelIdeal

open Cert.KernelIdeal Cert.KernelIdeal.Gen
open Idealize.ShloMosaic

/-- The word of a number below 32. -/
def wd (i : Fin 32) : BitVec 32 := BitVec.ofNat 32 i.val

theorem trips1 : k0_t1_loop.trips = 31 := by decide
theorem trips2 : k0_t2_loop.trips = 31 := by decide

theorem dev_word (i : Fin 32) : k0_dev1 (wd i) = i.val := by revert i; decide +kernel
theorem dev_wd (i : Fin 32) (h : k0_dev1 (wd i) < nD) : (⟨k0_dev1 (wd i), h⟩ : Dev nD) = i := Fin.ext (dev_word i)

theorem dev2_wd (i : Fin 32) (h : k0_dev2 (wd i) < nD) : (⟨k0_dev2 (wd i), h⟩ : Dev nD) = i := dev_wd i h
theorem dev3_wd (i : Fin 32) (h : k0_dev3 (wd i) < nD) : (⟨k0_dev3 (wd i), h⟩ : Dev nD) = i := dev_wd i h
theorem dev4_wd (i : Fin 32) (h : k0_dev4 (wd i) < nD) : (⟨k0_dev4 (wd i), h⟩ : Dev nD) = i := dev_wd i h
theorem dev5_wd (i : Fin 32) (h : k0_dev5 (wd i) < nD) : (⟨k0_dev5 (wd i), h⟩ : Dev nD) = i := dev_wd i h
theorem dev6_wd (i : Fin 32) (h : k0_dev6 (wd i) < nD) : (⟨k0_dev6 (wd i), h⟩ : Dev nD) = i := dev_wd i h
theorem dev7_wd (i : Fin 32) (h : k0_dev7 (wd i) < nD) : (⟨k0_dev7 (wd i), h⟩ : Dev nD) = i := dev_wd i h
theorem dev8_wd (i : Fin 32) (h : k0_dev8 (wd i) < nD) : (⟨k0_dev8 (wd i), h⟩ : Dev nD) = i := dev_wd i h
theorem dev9_wd (i : Fin 32) (h : k0_dev9 (wd i) < nD) : (⟨k0_dev9 (wd i), h⟩ : Dev nD) = i := dev_wd i h
theorem dev10_wd (i : Fin 32) (h : k0_dev10 (wd i) < nD) : (⟨k0_dev10 (wd i), h⟩ : Dev nD) = i := dev_wd i h
theorem dev11_wd (i : Fin 32) (h : k0_dev11 (wd i) < nD) : (⟨k0_dev11 (wd i), h⟩ : Dev nD) = i := dev_wd i h
theorem dev12_wd (i : Fin 32) (h : k0_dev12 (wd i) < nD) : (⟨k0_dev12 (wd i), h⟩ : Dev nD) = i := dev_wd i h
theorem dev13_wd (i : Fin 32) (h : k0_dev13 (wd i) < nD) : (⟨k0_dev13 (wd i), h⟩ : Dev nD) = i := dev_wd i h
theorem dev14_wd (i : Fin 32) (h : k0_dev14 (wd i) < nD) : (⟨k0_dev14 (wd i), h⟩ : Dev nD) = i := dev_wd i h
theorem dev15_wd (i : Fin 32) (h : k0_dev15 (wd i) < nD) : (⟨k0_dev15 (wd i), h⟩ : Dev nD) = i := dev_wd i h
theorem dev16_wd (i : Fin 32) (h : k0_dev16 (wd i) < nD) : (⟨k0_dev16 (wd i), h⟩ : Dev nD) = i := dev_wd i h
theorem dev17_wd (i : Fin 32) (h : k0_dev17 (wd i) < nD) : (⟨k0_dev17 (wd i), h⟩ : Dev nD) = i := dev_wd i h
theorem dev18_wd (i : Fin 32) (h : k0_dev18 (wd i) < nD) : (⟨k0_dev18 (wd i), h⟩ : Dev nD) = i := dev_wd i h
theorem dev19_wd (i : Fin 32) (h : k0_dev19 (wd i) < nD) : (⟨k0_dev19 (wd i), h⟩ : Dev nD) = i := dev_wd i h
theorem dev20_wd (i : Fin 32) (h : k0_dev20 (wd i) < nD) : (⟨k0_dev20 (wd i), h⟩ : Dev nD) = i := dev_wd i h
theorem dev21_wd (i : Fin 32) (h : k0_dev21 (wd i) < nD) : (⟨k0_dev21 (wd i), h⟩ : Dev nD) = i := dev_wd i h
theorem dev22_wd (i : Fin 32) (h : k0_dev22 (wd i) < nD) : (⟨k0_dev22 (wd i), h⟩ : Dev nD) = i := dev_wd i h
theorem dev23_wd (i : Fin 32) (h : k0_dev23 (wd i) < nD) : (⟨k0_dev23 (wd i), h⟩ : Dev nD) = i := dev_wd i h
theorem dev24_wd (i : Fin 32) (h : k0_dev24 (wd i) < nD) : (⟨k0_dev24 (wd i), h⟩ : Dev nD) = i := dev_wd i h
theorem dev25_wd (i : Fin 32) (h : k0_dev25 (wd i) < nD) : (⟨k0_dev25 (wd i), h⟩ : Dev nD) = i := dev_wd i h
theorem dev26_wd (i : Fin 32) (h : k0_dev26 (wd i) < nD) : (⟨k0_dev26 (wd i), h⟩ : Dev nD) = i := dev_wd i h

theorem vec2_ext {f : Fin 2 → ℕ} {a b : ℕ} (h0 : f 0 = a) (h1 : f 1 = b) : f = ![a, b] := by
  funext i; match i with
  | 0 => exact h0
  | 1 => exact h1

theorem off1_wd (r : Fin 32) : k0_off1 (wd r) = ![128 * r.val, 0] := vec2_ext (by revert r; decide +kernel) rfl
theorem off2_wd0 (r : Fin 32) (t : Fin k0_t1_loop.trips) : k0_off2 (wd r) t 1#32 = ![128 * (back 0 r (t.val + 1)).val, 0] :=
  vec2_ext (by revert r t; decide +kernel) rfl
theorem off2_wd1 (r : Fin 32) (t : Fin k0_t1_loop.trips) : k0_off2 (wd r) t 4294967295#32 = ![128 * (back 1 r (t.val + 1)).val, 0] :=
  vec2_ext (by revert r t; decide +kernel) rfl
theorem off3_wd (r : Fin 32) : k0_off3 (wd r) = ![128 * (back 0 r 31).val, 0] := vec2_ext (by revert r; decide +kernel) rfl
theorem off4_wd (r : Fin 32) : k0_off4 (wd r) = ![128 * (back 1 r 31).val, 4096] := vec2_ext (by revert r; decide +kernel) rfl
theorem off5_wd (r : Fin 32) (t : Fin k0_t2_loop.trips) : k0_off5 (wd r) t = ![128 * (back 0 r t.val).val, 0] :=
  vec2_ext (by revert r t; decide +kernel) rfl
theorem off6_wd (r : Fin 32) (t : Fin k0_t2_loop.trips) : k0_off6 (wd r) t = ![128 * (back 1 r t.val).val, 4096] :=
  vec2_ext (by revert r t; decide +kernel) rfl
theorem off7_wd (r : Fin 32) (t : Fin k0_t2_loop.trips) : k0_off7 (wd r) t = ![128 * (back 0 r t.val).val, 2048] :=
  vec2_ext (by revert r t; decide +kernel) rfl
theorem off8_wd (r : Fin 32) (t : Fin k0_t2_loop.trips) : k0_off8 (wd r) t = ![128 * (back 1 r t.val).val, 6144] :=
  vec2_ext (by revert r t; decide +kernel) rfl
theorem cond1_iff (t : Fin k0_t1_loop.trips) : k0_cond1 t = 1#1 ↔ t.val < 30 := by revert t; decide +kernel
theorem cond2_iff (t : Fin k0_t1_loop.trips) : k0_cond2 t = 1#1 ↔ t.val < 30 := by revert t; decide +kernel
theorem cond3_iff (t : Fin k0_t2_loop.trips) : k0_cond3 t = 1#1 ↔ t.val < 30 := by revert t; decide +kernel
theorem cond4_iff (t : Fin k0_t2_loop.trips) : k0_cond4 t = 1#1 ↔ t.val < 30 := by revert t; decide +kernel

theorem chk1_wd (i : Fin 32) : k0_chk1 (wd i) := by
  have h : k0_dev1 (wd i) < nD := by rw [dev_word]; exact i.isLt
  exact ⟨h, h, h, h, fun _ _ => h, h, fun _ _ => h, h, h, fun _ _ => h, fun _ _ => h, fun _ _ => h, fun _ _ => h⟩
theorem chk2_wd (i : Fin 32) : k0_chk2 (wd i) := by
  have h : k0_dev1 (wd i) < nD := by rw [dev_word]; exact i.isLt
  exact ⟨h, h, h, h, fun _ _ => h, h, fun _ _ => h, h, h, fun _ _ => h, fun _ _ => h, fun _ _ => h, fun _ _ => h⟩
theorem rows_inb (i : Fin 32) (o n : ℕ) (h : o + n ≤ 8192) : ∀ a, (![128 * i.val, o] : Fin 2 → ℕ) a + (![128, n] : Fin 2 → ℕ) a ≤ S4096x8192.size a := by
  intro a
  match a with
  | 0 => show 128 * i.val + 128 ≤ 4096; omega
  | 1 => exact h
theorem chk3_wd (r : Fin 32) : k0_chk3 (wd r) := by
  refine ⟨?_, ?_, ?_, ?_, ?_, ?_, ?_, ?_⟩
  · rw [off1_wd]; exact chunk_inb r
  · intro t i
    match i with
    | 0 => exact (off2_wd0 r t) ▸ chunk_inb _
    | 1 => exact (off2_wd1 r t) ▸ chunk_inb _
  · rw [off3_wd]; exact rows_inb _ 0 4096 (by decide)
  · rw [off4_wd]; exact rows_inb _ 4096 4096 (by decide)
  · intro t; rw [off5_wd]; exact rows_inb _ 0 2048 (by decide)
  · intro t; rw [off6_wd]; exact rows_inb _ 4096 2048 (by decide)
  · intro t; rw [off7_wd]; exact rows_inb _ 2048 2048 (by decide)
  · intro t; rw [off8_wd]; exact rows_inb _ 6144 2048 (by decide)

end Cert.Proof.KernelIdeal
-- ==== Proof.KernelIdealRules.lean ====
/- The steps of the kernel's body on its own buffers: loads and stores of quarters and halves. -/
module

public import proofs.«01_k».proof.Proof.KernelIdealKit
public import proofs.«01_k».proof.Proof.KernelIdealFacts

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)

variable {F : FTy → Type} [FloatOps F]

local notation "𝕄" => MT nD τ sig ℕ (Elt F) ℕ UU ℕ

abbrev xM : Memref sig .tc .vmem S4096x128 .f32 := Memref.whole cc0_stg1_0
abbrev wM : Memref sig .tc .vmem S128x8192 .f32 := Memref.whole cc0_stg2_0
abbrev mM : Memref sig .tc .smem S3 .i32 := Memref.whole cc0_stg0_0
abbrev oM : Memref sig .tc .hbm S4096x8192 .f32 := Memref.whole main_v29_0
abbrev zM : Memref sig .tc .smem S1 .f32 := Memref.whole cc0_stg3_0

/-- The shard of `x`, the shard of `w`, the cell of the largest magnitude, at contents. -/
def xPts (c : Dev nD) (f : Vec F S4096x128 .f32) : sProp 𝕄 := xM.view.loc (c : Thread nD τ) ↦{fullShare} (f : Buf (Elt F) (xM.view.loc (c : Thread nD τ)))
def wPts (c : Dev nD) (f : Vec F S128x8192 .f32) : sProp 𝕄 := wM.view.loc (c : Thread nD τ) ↦{fullShare} (f : Buf (Elt F) (wM.view.loc (c : Thread nD τ)))
def zPts (c : Dev nD) (f : Vec F S1 .f32) : sProp 𝕄 := zM.view.loc (c : Thread nD τ) ↦{fullShare} (f : Buf (Elt F) (zM.view.loc (c : Thread nD τ)))

/-- Direction 0's partial product, running sum and landing buffer as wholes. -/
def lPts0 (c : Dev nD) (f : Vec F S128x4096 .f32) : sProp 𝕄 := lM0.view.loc (c : Thread nD τ) ↦{fullShare} (f : Buf (Elt F) (lM0.view.loc (c : Thread nD τ)))
def aW0 (q : PosShare TreeShare) (c : Dev nD) (f : Vec F S128x4096 .f32) : sProp 𝕄 := aM0.view.loc (c : Thread nD τ) ↦{q} (f : Buf (Elt F) (aM0.view.loc (c : Thread nD τ)))
def rW0 (c : Dev nD) (f : Vec F S128x4096 .f32) : sProp 𝕄 := rM0.view.loc (c : Thread nD τ) ↦{fullShare} (f : Buf (Elt F) (rM0.view.loc (c : Thread nD τ)))

/-- Direction 1's partial product, running sum and landing buffer as wholes. -/
def lPts1 (c : Dev nD) (f : Vec F S128x4096 .f32) : sProp 𝕄 := lM1.view.loc (c : Thread nD τ) ↦{fullShare} (f : Buf (Elt F) (lM1.view.loc (c : Thread nD τ)))
def aW1 (q : PosShare TreeShare) (c : Dev nD) (f : Vec F S128x4096 .f32) : sProp 𝕄 := aM1.view.loc (c : Thread nD τ) ↦{q} (f : Buf (Elt F) (aM1.view.loc (c : Thread nD τ)))
def rW1 (c : Dev nD) (f : Vec F S128x4096 .f32) : sProp 𝕄 := rM1.view.loc (c : Thread nD τ) ↦{fullShare} (f : Buf (Elt F) (rM1.view.loc (c : Thread nD τ)))

theorem quarter_inb (u : Fin 2) : ∀ a, (![0, 2048 * u.val] : Fin 2 → ℕ) a + S128x2048.size a ≤ S128x4096.size a := by
  revert u; decide
/-- Quarter `u` of half a row block. -/
def qv (u : Fin 2) (f : Vec F S128x4096 .f32) : Vec F S128x2048 .f32 :=
  fun j => f ((Rect.unit (s := S128x4096) ![0, 2048 * u.val] S128x2048.size (quarter_inb u)).idx j)

section
variable (c : Dev nD)

/-- A load through a rectangle whose reading is `v`. -/
theorem load_any {α : Type} {Q : α → sProp 𝕄} {sp : CoreSpace} {s : Shape} {e : EltTy} (m : Memref sig .tc sp s e) (r : Rect s) {hl : m.view.LoadsAt r}
    {k : (r.shape.Idx → Elt F e) → Prog (TpuEff nD τ sig (Elt F) Λ₀ .tc) α}
    {S : Finset (Idx ((m.access r).loc (c : Thread nD τ)))} {q : PosShare TreeShare} {f : Buf (Elt F) ((m.access r).loc (c : Thread nD τ))}
    (v : r.shape.Idx → Elt F e) (hv : (m.access r).read (Elt F) f = v) (hS : (m.access r).set ⊆ S) :
    ((m.access r).loc (c : Thread nD τ) ↦[S]{q} f)
      ⊢ iprop((((m.access r).loc (c : Thread nD τ) ↦[S]{q} f) -∗ wp frame (wpE (defs₀ (F := F)) 𝒱₀ (c : Thread nD τ) none) Set.univ (k v) Q)
        -∗ wp frame (wpE (defs₀ (F := F)) 𝒱₀ (c : Thread nD τ) none) Set.univ (.op (.load m r hl) k) Q) := by
  subst hv
  exact wp_load_rect 𝒱₀ (c : Thread nD τ) none Set.univ hS

/-- A store through a rectangle that covers what is held, after which the contents are `g`. -/
theorem store_any {α : Type} {Q : α → sProp 𝕄} {sp : CoreSpace} {s : Shape} {e : EltTy} (m : Memref sig .tc sp s e) (r : Rect s) {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α}
    {S : Finset (Idx ((m.access r).loc (c : Thread nD τ)))} {f g : Buf (Elt F) ((m.access r).loc (c : Thread nD τ))}
    (hv : (m.access r).read (Elt F) g = w) (hS : (m.access r).set = S) :
    ((m.access r).loc (c : Thread nD τ) ↦[S]{fullShare} f)
      ⊢ iprop((((m.access r).loc (c : Thread nD τ) ↦[S]{fullShare} g) -∗ wp frame (wpE (defs₀ (F := F)) 𝒱₀ (c : Thread nD τ) none) Set.univ (k ⟨⟩) Q)
        -∗ wp frame (wpE (defs₀ (F := F)) 𝒱₀ (c : Thread nD τ) none) Set.univ (.op (.store m r w Finset.univ hx hm) k) Q) := by
  have e : ((m.access r).loc (c : Thread nD τ) ↦[S]{fullShare} ((m.access r).write (Elt F) f w Finset.univ)) = (((m.access r).loc (c : Thread nD τ) ↦[S]{fullShare} g) : sProp 𝕄) := by
    refine pointsTo_congr ?_
    intro i hi
    rw [← hS] at hi
    obtain ⟨x, -, rfl⟩ := Finset.mem_map.mp hi
    rw [← hv]
    exact (View.write_emb_of_mem _ _ (Finset.mem_univ x)).trans (by unfold View.read; rw [cast_cast]; rfl)
  rw [← e]
  exact wp_store 𝒱₀ (c : Thread nD τ) none Set.univ (by rw [View.setOn_univ, hS])

theorem idx_half (hb : ∀ a, (![0, 0] : Fin 2 → ℕ) a + S128x4096.size a ≤ S128x4096.size a) (i : S128x4096.Idx) :
    (Rect.unit (s := S128x4096) ![0, 0] S128x4096.size hb).idx i = i := by
  funext a; apply Fin.ext; fin_cases a
  · show 0 + 1 * (i 0).val = (i 0).val; omega
  · show 0 + 1 * (i 1).val = (i 1).val; omega

theorem load_x {α : Type} {Q : α → sProp 𝕄} (i : Fin 32) (f : Vec F S4096x128 .f32) {off : Fin 2 → ℕ} (ho : off = ![128 * i.val, 0]) {hb : ∀ a, (off : Fin 2 → ℕ) a + S128x128.size a ≤ S4096x128.size a}
    {hl : (xM : Memref sig .tc .vmem S4096x128 .f32).view.LoadsAt (Rect.unit (s := S4096x128) off S128x128.size hb).toLoadRect} {k : Vec F S128x128 .f32 → Prog (TpuEff nD τ sig (Elt F) Λ₀ .tc) α} :
    xPts c f ⊢ iprop((xPts c f -∗ wp frame (wpE (defs₀ (F := F)) 𝒱₀ (c : Thread nD τ) none) Set.univ (k (chunkX f i)) Q)
      -∗ wp frame (wpE (defs₀ (F := F)) 𝒱₀ (c : Thread nD τ) none) Set.univ (.op (.load xM (Rect.unit (s := S4096x128) off S128x128.size hb).toLoadRect hl) k) Q) := by
  subst ho
  exact load_any c xM (Rect.unit (s := S4096x128) _ S128x128.size hb) (chunkX f i) (rfl) (Finset.subset_univ _)

theorem load_w0 {α : Type} {Q : α → sProp 𝕄} (f : Vec F S128x8192 .f32) {hb : ∀ a, (![0, 0] : Fin 2 → ℕ) a + S128x4096.size a ≤ S128x8192.size a}
    {hl : (wM : Memref sig .tc .vmem S128x8192 .f32).view.LoadsAt (Rect.unit (s := S128x8192) ![0, 0] S128x4096.size hb).toLoadRect} {k : Vec F S128x4096 .f32 → Prog (TpuEff nD τ sig (Elt F) Λ₀ .tc) α} :
    wPts c f ⊢ iprop((wPts c f -∗ wp frame (wpE (defs₀ (F := F)) 𝒱₀ (c : Thread nD τ) none) Set.univ (k (halfW f 0)) Q)
      -∗ wp frame (wpE (defs₀ (F := F)) 𝒱₀ (c : Thread nD τ) none) Set.univ (.op (.load wM (Rect.unit (s := S128x8192) ![0, 0] S128x4096.size hb).toLoadRect hl) k) Q) := by
  exact load_any c wM (Rect.unit (s := S128x8192) ![0, 0] S128x4096.size hb) (halfW f 0) (rfl) (Finset.subset_univ _)

theorem load_lw0 {α : Type} {Q : α → sProp 𝕄} (f : Vec F S128x4096 .f32) {hb : ∀ a, (![0, 0] : Fin 2 → ℕ) a + S128x4096.size a ≤ S128x4096.size a}
    {hl : (lM0 : Memref sig .tc .vmem S128x4096 .f32).view.LoadsAt (Rect.unit (s := S128x4096) ![0, 0] S128x4096.size hb).toLoadRect} {k : Vec F S128x4096 .f32 → Prog (TpuEff nD τ sig (Elt F) Λ₀ .tc) α} :
    lPts0 c f ⊢ iprop((lPts0 c f -∗ wp frame (wpE (defs₀ (F := F)) 𝒱₀ (c : Thread nD τ) none) Set.univ (k (f)) Q)
      -∗ wp frame (wpE (defs₀ (F := F)) 𝒱₀ (c : Thread nD τ) none) Set.univ (.op (.load lM0 (Rect.unit (s := S128x4096) ![0, 0] S128x4096.size hb).toLoadRect hl) k) Q) := by
  exact load_any c lM0 (Rect.unit (s := S128x4096) ![0, 0] S128x4096.size hb) (f) (funext fun i => congrArg f (idx_half hb i)) (Finset.subset_univ _)

theorem load_aw0 {α : Type} {Q : α → sProp 𝕄} (q : PosShare TreeShare) (f : Vec F S128x4096 .f32) {hb : ∀ a, (![0, 0] : Fin 2 → ℕ) a + S128x4096.size a ≤ S128x4096.size a}
    {hl : (aM0 : Memref sig .tc .vmem S128x4096 .f32).view.LoadsAt (Rect.unit (s := S128x4096) ![0, 0] S128x4096.size hb).toLoadRect} {k : Vec F S128x4096 .f32 → Prog (TpuEff nD τ sig (Elt F) Λ₀ .tc) α} :
    aW0 q c f ⊢ iprop((aW0 q c f -∗ wp frame (wpE (defs₀ (F := F)) 𝒱₀ (c : Thread nD τ) none) Set.univ (k (f)) Q)
      -∗ wp frame (wpE (defs₀ (F := F)) 𝒱₀ (c : Thread nD τ) none) Set.univ (.op (.load aM0 (Rect.unit (s := S128x4096) ![0, 0] S128x4096.size hb).toLoadRect hl) k) Q) := by
  exact load_any c aM0 (Rect.unit (s := S128x4096) ![0, 0] S128x4096.size hb) (f) (funext fun i => congrArg f (idx_half hb i)) (Finset.subset_univ _)

theorem store_lw0 {α : Type} {Q : α → sProp 𝕄} (f : Vec F S128x4096 .f32) {w : Vec F S128x4096 .f32} {hb : ∀ a, (![0, 0] : Fin 2 → ℕ) a + S128x4096.size a ≤ S128x4096.size a}
    {hx : ((lM0 : Memref sig .tc .vmem S128x4096 .f32).access (Rect.unit (s := S128x4096) ![0, 0] S128x4096.size hb)).Stores Finset.univ}
    {hm : (Finset.univ : Finset (Rect.unit (s := S128x4096) ![0, 0] S128x4096.size hb).shape.Idx) = Finset.univ ∨ ∀ a, (Rect.unit (s := S128x4096) ![0, 0] S128x4096.size hb).stride a = 1}
    {k : PUnit → Prog (TpuEff nD τ sig (Elt F) Λ₀ .tc) α} :
    lPts0 c f ⊢ iprop((lPts0 c w -∗ wp frame (wpE (defs₀ (F := F)) 𝒱₀ (c : Thread nD τ) none) Set.univ (k ⟨⟩) Q)
      -∗ wp frame (wpE (defs₀ (F := F)) 𝒱₀ (c : Thread nD τ) none) Set.univ (.op (.store lM0 (Rect.unit (s := S128x4096) ![0, 0] S128x4096.size hb) w Finset.univ hx hm) k) Q) :=
  store_any c lM0 (Rect.unit (s := S128x4096) ![0, 0] S128x4096.size hb) (f := f) (g := w) (funext fun i => congrArg w (idx_half hb i)) (by
      apply Finset.eq_univ_of_forall
      intro i
      exact Finset.mem_map.mpr ⟨i, Finset.mem_univ _, idx_half hb i⟩)

theorem store_aw0 {α : Type} {Q : α → sProp 𝕄} (f : Vec F S128x4096 .f32) {w : Vec F S128x4096 .f32} {hb : ∀ a, (![0, 0] : Fin 2 → ℕ) a + S128x4096.size a ≤ S128x4096.size a}
    {hx : ((aM0 : Memref sig .tc .vmem S128x4096 .f32).access (Rect.unit (s := S128x4096) ![0, 0] S128x4096.size hb)).Stores Finset.univ}
    {hm : (Finset.univ : Finset (Rect.unit (s := S128x4096) ![0, 0] S128x4096.size hb).shape.Idx) = Finset.univ ∨ ∀ a, (Rect.unit (s := S128x4096) ![0, 0] S128x4096.size hb).stride a = 1}
    {k : PUnit → Prog (TpuEff nD τ sig (Elt F) Λ₀ .tc) α} :
    aW0 fullShare c f ⊢ iprop((aW0 fullShare c w -∗ wp frame (wpE (defs₀ (F := F)) 𝒱₀ (c : Thread nD τ) none) Set.univ (k ⟨⟩) Q)
      -∗ wp frame (wpE (defs₀ (F := F)) 𝒱₀ (c : Thread nD τ) none) Set.univ (.op (.store aM0 (Rect.unit (s := S128x4096) ![0, 0] S128x4096.size hb) w Finset.univ hx hm) k) Q) :=
  store_any c aM0 (Rect.unit (s := S128x4096) ![0, 0] S128x4096.size hb) (f := f) (g := w) (funext fun i => congrArg w (idx_half hb i)) (by
      apply Finset.eq_univ_of_forall
      intro i
      exact Finset.mem_map.mpr ⟨i, Finset.mem_univ _, idx_half hb i⟩)

theorem load_l00 {α : Type} {Q : α → sProp 𝕄} (f : Vec F S128x4096 .f32) {hb : ∀ a, (![0, 0] : Fin 2 → ℕ) a + S128x2048.size a ≤ S128x4096.size a}
    {hl : (lM0 : Memref sig .tc .vmem S128x4096 .f32).view.LoadsAt (Rect.unit (s := S128x4096) ![0, 0] S128x2048.size hb).toLoadRect} {k : Vec F S128x2048 .f32 → Prog (TpuEff nD τ sig (Elt F) Λ₀ .tc) α} :
    lPts0 c f ⊢ iprop((lPts0 c f -∗ wp frame (wpE (defs₀ (F := F)) 𝒱₀ (c : Thread nD τ) none) Set.univ (k (qv 0 f)) Q)
      -∗ wp frame (wpE (defs₀ (F := F)) 𝒱₀ (c : Thread nD τ) none) Set.univ (.op (.load lM0 (Rect.unit (s := S128x4096) ![0, 0] S128x2048.size hb).toLoadRect hl) k) Q) := by
  exact load_any c lM0 (Rect.unit (s := S128x4096) ![0, 0] S128x2048.size hb) (qv 0 f) (rfl) (Finset.subset_univ _)

theorem load_r00 {α : Type} {Q : α → sProp 𝕄} (f : Vec F S128x4096 .f32) {hb : ∀ a, (![0, 0] : Fin 2 → ℕ) a + S128x2048.size a ≤ S128x4096.size a}
    {hl : (rM0 : Memref sig .tc .vmem S128x4096 .f32).view.LoadsAt (Rect.unit (s := S128x4096) ![0, 0] S128x2048.size hb).toLoadRect} {k : Vec F S128x2048 .f32 → Prog (TpuEff nD τ sig (Elt F) Λ₀ .tc) α} :
    rPts00 c f ⊢ iprop((rPts00 c f -∗ wp frame (wpE (defs₀ (F := F)) 𝒱₀ (c : Thread nD τ) none) Set.univ (k (qv 0 f)) Q)
      -∗ wp frame (wpE (defs₀ (F := F)) 𝒱₀ (c : Thread nD τ) none) Set.univ (.op (.load rM0 (Rect.unit (s := S128x4096) ![0, 0] S128x2048.size hb).toLoadRect hl) k) Q) := by
  exact load_any c rM0 (Rect.unit (s := S128x4096) ![0, 0] S128x2048.size hb) (qv 0 f) (rfl) (le_of_eq rfl)

theorem load_a00 {α : Type} {Q : α → sProp 𝕄} (q : PosShare TreeShare) (f : Vec F S128x4096 .f32) {hb : ∀ a, (![0, 0] : Fin 2 → ℕ) a + S128x2048.size a ≤ S128x4096.size a}
    {hl : (aM0 : Memref sig .tc .vmem S128x4096 .f32).view.LoadsAt (Rect.unit (s := S128x4096) ![0, 0] S128x2048.size hb).toLoadRect} {k : Vec F S128x2048 .f32 → Prog (TpuEff nD τ sig (Elt F) Λ₀ .tc) α} :
    aPts00 q c f ⊢ iprop((aPts00 q c f -∗ wp frame (wpE (defs₀ (F := F)) 𝒱₀ (c : Thread nD τ) none) Set.univ (k (qv 0 f)) Q)
      -∗ wp frame (wpE (defs₀ (F := F)) 𝒱₀ (c : Thread nD τ) none) Set.univ (.op (.load aM0 (Rect.unit (s := S128x4096) ![0, 0] S128x2048.size hb).toLoadRect hl) k) Q) := by
  exact load_any c aM0 (Rect.unit (s := S128x4096) ![0, 0] S128x2048.size hb) (qv 0 f) (rfl) (le_of_eq rfl)

theorem store_a00 {α : Type} {Q : α → sProp 𝕄} (f g : Vec F S128x4096 .f32) {w : Vec F S128x2048 .f32} (hg : qv 0 g = w) {hb : ∀ a, (![0, 0] : Fin 2 → ℕ) a + S128x2048.size a ≤ S128x4096.size a}
    {hx : ((aM0 : Memref sig .tc .vmem S128x4096 .f32).access (Rect.unit (s := S128x4096) ![0, 0] S128x2048.size hb)).Stores Finset.univ}
    {hm : (Finset.univ : Finset (Rect.unit (s := S128x4096) ![0, 0] S128x2048.size hb).shape.Idx) = Finset.univ ∨ ∀ a, (Rect.unit (s := S128x4096) ![0, 0] S128x2048.size hb).stride a = 1}
    {k : PUnit → Prog (TpuEff nD τ sig (Elt F) Λ₀ .tc) α} :
    aPts00 fullShare c f ⊢ iprop((aPts00 fullShare c g -∗ wp frame (wpE (defs₀ (F := F)) 𝒱₀ (c : Thread nD τ) none) Set.univ (k ⟨⟩) Q)
      -∗ wp frame (wpE (defs₀ (F := F)) 𝒱₀ (c : Thread nD τ) none) Set.univ (.op (.store aM0 (Rect.unit (s := S128x4096) ![0, 0] S128x2048.size hb) w Finset.univ hx hm) k) Q) :=
  store_any c aM0 (Rect.unit (s := S128x4096) ![0, 0] S128x2048.size hb) (f := f) (g := g) (hg) (rfl)

theorem load_l01 {α : Type} {Q : α → sProp 𝕄} (f : Vec F S128x4096 .f32) {hb : ∀ a, (![0, 2048] : Fin 2 → ℕ) a + S128x2048.size a ≤ S128x4096.size a}
    {hl : (lM0 : Memref sig .tc .vmem S128x4096 .f32).view.LoadsAt (Rect.unit (s := S128x4096) ![0, 2048] S128x2048.size hb).toLoadRect} {k : Vec F S128x2048 .f32 → Prog (TpuEff nD τ sig (Elt F) Λ₀ .tc) α} :
    lPts0 c f ⊢ iprop((lPts0 c f -∗ wp frame (wpE (defs₀ (F := F)) 𝒱₀ (c : Thread nD τ) none) Set.univ (k (qv 1 f)) Q)
      -∗ wp frame (wpE (defs₀ (F := F)) 𝒱₀ (c : Thread nD τ) none) Set.univ (.op (.load lM0 (Rect.unit (s := S128x4096) ![0, 2048] S128x2048.size hb).toLoadRect hl) k) Q) := by
  exact load_any c lM0 (Rect.unit (s := S128x4096) ![0, 2048] S128x2048.size hb) (qv 1 f) (rfl) (Finset.subset_univ _)

theorem load_r01 {α : Type} {Q : α → sProp 𝕄} (f : Vec F S128x4096 .f32) {hb : ∀ a, (![0, 2048] : Fin 2 → ℕ) a + S128x2048.size a ≤ S128x4096.size a}
    {hl : (rM0 : Memref sig .tc .vmem S128x4096 .f32).view.LoadsAt (Rect.unit (s := S128x4096) ![0, 2048] S128x2048.size hb).toLoadRect} {k : Vec F S128x2048 .f32 → Prog (TpuEff nD τ sig (Elt F) Λ₀ .tc) α} :
    rPts01 c f ⊢ iprop((rPts01 c f -∗ wp frame (wpE (defs₀ (F := F)) 𝒱₀ (c : Thread nD τ) none) Set.univ (k (qv 1 f)) Q)
      -∗ wp frame (wpE (defs₀ (F := F)) 𝒱₀ (c : Thread nD τ) none) Set.univ (.op (.load rM0 (Rect.unit (s := S128x4096) ![0, 2048] S128x2048.size hb).toLoadRect hl) k) Q) := by
  exact load_any c rM0 (Rect.unit (s := S128x4096) ![0, 2048] S128x2048.size hb) (qv 1 f) (rfl) (le_of_eq rfl)

theorem load_a01 {α : Type} {Q : α → sProp 𝕄} (q : PosShare TreeShare) (f : Vec F S128x4096 .f32) {hb : ∀ a, (![0, 2048] : Fin 2 → ℕ) a + S128x2048.size a ≤ S128x4096.size a}
    {hl : (aM0 : Memref sig .tc .vmem S128x4096 .f32).view.LoadsAt (Rect.unit (s := S128x4096) ![0, 2048] S128x2048.size hb).toLoadRect} {k : Vec F S128x2048 .f32 → Prog (TpuEff nD τ sig (Elt F) Λ₀ .tc) α} :
    aPts01 q c f ⊢ iprop((aPts01 q c f -∗ wp frame (wpE (defs₀ (F := F)) 𝒱₀ (c : Thread nD τ) none) Set.univ (k (qv 1 f)) Q)
      -∗ wp frame (wpE (defs₀ (F := F)) 𝒱₀ (c : Thread nD τ) none) Set.univ (.op (.load aM0 (Rect.unit (s := S128x4096) ![0, 2048] S128x2048.size hb).toLoadRect hl) k) Q) := by
  exact load_any c aM0 (Rect.unit (s := S128x4096) ![0, 2048] S128x2048.size hb) (qv 1 f) (rfl) (le_of_eq rfl)

theorem store_a01 {α : Type} {Q : α → sProp 𝕄} (f g : Vec F S128x4096 .f32) {w : Vec F S128x2048 .f32} (hg : qv 1 g = w) {hb : ∀ a, (![0, 2048] : Fin 2 → ℕ) a + S128x2048.size a ≤ S128x4096.size a}
    {hx : ((aM0 : Memref sig .tc .vmem S128x4096 .f32).access (Rect.unit (s := S128x4096) ![0, 2048] S128x2048.size hb)).Stores Finset.univ}
    {hm : (Finset.univ : Finset (Rect.unit (s := S128x4096) ![0, 2048] S128x2048.size hb).shape.Idx) = Finset.univ ∨ ∀ a, (Rect.unit (s := S128x4096) ![0, 2048] S128x2048.size hb).stride a = 1}
    {k : PUnit → Prog (TpuEff nD τ sig (Elt F) Λ₀ .tc) α} :
    aPts01 fullShare c f ⊢ iprop((aPts01 fullShare c g -∗ wp frame (wpE (defs₀ (F := F)) 𝒱₀ (c : Thread nD τ) none) Set.univ (k ⟨⟩) Q)
      -∗ wp frame (wpE (defs₀ (F := F)) 𝒱₀ (c : Thread nD τ) none) Set.univ (.op (.store aM0 (Rect.unit (s := S128x4096) ![0, 2048] S128x2048.size hb) w Finset.univ hx hm) k) Q) :=
  store_any c aM0 (Rect.unit (s := S128x4096) ![0, 2048] S128x2048.size hb) (f := f) (g := g) (hg) (rfl)

theorem load_w1 {α : Type} {Q : α → sProp 𝕄} (f : Vec F S128x8192 .f32) {hb : ∀ a, (![0, 4096] : Fin 2 → ℕ) a + S128x4096.size a ≤ S128x8192.size a}
    {hl : (wM : Memref sig .tc .vmem S128x8192 .f32).view.LoadsAt (Rect.unit (s := S128x8192) ![0, 4096] S128x4096.size hb).toLoadRect} {k : Vec F S128x4096 .f32 → Prog (TpuEff nD τ sig (Elt F) Λ₀ .tc) α} :
    wPts c f ⊢ iprop((wPts c f -∗ wp frame (wpE (defs₀ (F := F)) 𝒱₀ (c : Thread nD τ) none) Set.univ (k (halfW f 1)) Q)
      -∗ wp frame (wpE (defs₀ (F := F)) 𝒱₀ (c : Thread nD τ) none) Set.univ (.op (.load wM (Rect.unit (s := S128x8192) ![0, 4096] S128x4096.size hb).toLoadRect hl) k) Q) := by
  exact load_any c wM (Rect.unit (s := S128x8192) ![0, 4096] S128x4096.size hb) (halfW f 1) (rfl) (Finset.subset_univ _)

theorem load_lw1 {α : Type} {Q : α → sProp 𝕄} (f : Vec F S128x4096 .f32) {hb : ∀ a, (![0, 0] : Fin 2 → ℕ) a + S128x4096.size a ≤ S128x4096.size a}
    {hl : (lM1 : Memref sig .tc .vmem S128x4096 .f32).view.LoadsAt (Rect.unit (s := S128x4096) ![0, 0] S128x4096.size hb).toLoadRect} {k : Vec F S128x4096 .f32 → Prog (TpuEff nD τ sig (Elt F) Λ₀ .tc) α} :
    lPts1 c f ⊢ iprop((lPts1 c f -∗ wp frame (wpE (defs₀ (F := F)) 𝒱₀ (c : Thread nD τ) none) Set.univ (k (f)) Q)
      -∗ wp frame (wpE (defs₀ (F := F)) 𝒱₀ (c : Thread nD τ) none) Set.univ (.op (.load lM1 (Rect.unit (s := S128x4096) ![0, 0] S128x4096.size hb).toLoadRect hl) k) Q) := by
  exact load_any c lM1 (Rect.unit (s := S128x4096) ![0, 0] S128x4096.size hb) (f) (funext fun i => congrArg f (idx_half hb i)) (Finset.subset_univ _)

theorem load_aw1 {α : Type} {Q : α → sProp 𝕄} (q : PosShare TreeShare) (f : Vec F S128x4096 .f32) {hb : ∀ a, (![0, 0] : Fin 2 → ℕ) a + S128x4096.size a ≤ S128x4096.size a}
    {hl : (aM1 : Memref sig .tc .vmem S128x4096 .f32).view.LoadsAt (Rect.unit (s := S128x4096) ![0, 0] S128x4096.size hb).toLoadRect} {k : Vec F S128x4096 .f32 → Prog (TpuEff nD τ sig (Elt F) Λ₀ .tc) α} :
    aW1 q c f ⊢ iprop((aW1 q c f -∗ wp frame (wpE (defs₀ (F := F)) 𝒱₀ (c : Thread nD τ) none) Set.univ (k (f)) Q)
      -∗ wp frame (wpE (defs₀ (F := F)) 𝒱₀ (c : Thread nD τ) none) Set.univ (.op (.load aM1 (Rect.unit (s := S128x4096) ![0, 0] S128x4096.size hb).toLoadRect hl) k) Q) := by
  exact load_any c aM1 (Rect.unit (s := S128x4096) ![0, 0] S128x4096.size hb) (f) (funext fun i => congrArg f (idx_half hb i)) (Finset.subset_univ _)

theorem store_lw1 {α : Type} {Q : α → sProp 𝕄} (f : Vec F S128x4096 .f32) {w : Vec F S128x4096 .f32} {hb : ∀ a, (![0, 0] : Fin 2 → ℕ) a + S128x4096.size a ≤ S128x4096.size a}
    {hx : ((lM1 : Memref sig .tc .vmem S128x4096 .f32).access (Rect.unit (s := S128x4096) ![0, 0] S128x4096.size hb)).Stores Finset.univ}
    {hm : (Finset.univ : Finset (Rect.unit (s := S128x4096) ![0, 0] S128x4096.size hb).shape.Idx) = Finset.univ ∨ ∀ a, (Rect.unit (s := S128x4096) ![0, 0] S128x4096.size hb).stride a = 1}
    {k : PUnit → Prog (TpuEff nD τ sig (Elt F) Λ₀ .tc) α} :
    lPts1 c f ⊢ iprop((lPts1 c w -∗ wp frame (wpE (defs₀ (F := F)) 𝒱₀ (c : Thread nD τ) none) Set.univ (k ⟨⟩) Q)
      -∗ wp frame (wpE (defs₀ (F := F)) 𝒱₀ (c : Thread nD τ) none) Set.univ (.op (.store lM1 (Rect.unit (s := S128x4096) ![0, 0] S128x4096.size hb) w Finset.univ hx hm) k) Q) :=
  store_any c lM1 (Rect.unit (s := S128x4096) ![0, 0] S128x4096.size hb) (f := f) (g := w) (funext fun i => congrArg w (idx_half hb i)) (by
      apply Finset.eq_univ_of_forall
      intro i
      exact Finset.mem_map.mpr ⟨i, Finset.mem_univ _, idx_half hb i⟩)

theorem store_aw1 {α : Type} {Q : α → sProp 𝕄} (f : Vec F S128x4096 .f32) {w : Vec F S128x4096 .f32} {hb : ∀ a, (![0, 0] : Fin 2 → ℕ) a + S128x4096.size a ≤ S128x4096.size a}
    {hx : ((aM1 : Memref sig .tc .vmem S128x4096 .f32).access (Rect.unit (s := S128x4096) ![0, 0] S128x4096.size hb)).Stores Finset.univ}
    {hm : (Finset.univ : Finset (Rect.unit (s := S128x4096) ![0, 0] S128x4096.size hb).shape.Idx) = Finset.univ ∨ ∀ a, (Rect.unit (s := S128x4096) ![0, 0] S128x4096.size hb).stride a = 1}
    {k : PUnit → Prog (TpuEff nD τ sig (Elt F) Λ₀ .tc) α} :
    aW1 fullShare c f ⊢ iprop((aW1 fullShare c w -∗ wp frame (wpE (defs₀ (F := F)) 𝒱₀ (c : Thread nD τ) none) Set.univ (k ⟨⟩) Q)
      -∗ wp frame (wpE (defs₀ (F := F)) 𝒱₀ (c : Thread nD τ) none) Set.univ (.op (.store aM1 (Rect.unit (s := S128x4096) ![0, 0] S128x4096.size hb) w Finset.univ hx hm) k) Q) :=
  store_any c aM1 (Rect.unit (s := S128x4096) ![0, 0] S128x4096.size hb) (f := f) (g := w) (funext fun i => congrArg w (idx_half hb i)) (by
      apply Finset.eq_univ_of_forall
      intro i
      exact Finset.mem_map.mpr ⟨i, Finset.mem_univ _, idx_half hb i⟩)

theorem load_l10 {α : Type} {Q : α → sProp 𝕄} (f : Vec F S128x4096 .f32) {hb : ∀ a, (![0, 0] : Fin 2 → ℕ) a + S128x2048.size a ≤ S128x4096.size a}
    {hl : (lM1 : Memref sig .tc .vmem S128x4096 .f32).view.LoadsAt (Rect.unit (s := S128x4096) ![0, 0] S128x2048.size hb).toLoadRect} {k : Vec F S128x2048 .f32 → Prog (TpuEff nD τ sig (Elt F) Λ₀ .tc) α} :
    lPts1 c f ⊢ iprop((lPts1 c f -∗ wp frame (wpE (defs₀ (F := F)) 𝒱₀ (c : Thread nD τ) none) Set.univ (k (qv 0 f)) Q)
      -∗ wp frame (wpE (defs₀ (F := F)) 𝒱₀ (c : Thread nD τ) none) Set.univ (.op (.load lM1 (Rect.unit (s := S128x4096) ![0, 0] S128x2048.size hb).toLoadRect hl) k) Q) := by
  exact load_any c lM1 (Rect.unit (s := S128x4096) ![0, 0] S128x2048.size hb) (qv 0 f) (rfl) (Finset.subset_univ _)

theorem load_r10 {α : Type} {Q : α → sProp 𝕄} (f : Vec F S128x4096 .f32) {hb : ∀ a, (![0, 0] : Fin 2 → ℕ) a + S128x2048.size a ≤ S128x4096.size a}
    {hl : (rM1 : Memref sig .tc .vmem S128x4096 .f32).view.LoadsAt (Rect.unit (s := S128x4096) ![0, 0] S128x2048.size hb).toLoadRect} {k : Vec F S128x2048 .f32 → Prog (TpuEff nD τ sig (Elt F) Λ₀ .tc) α} :
    rPts10 c f ⊢ iprop((rPts10 c f -∗ wp frame (wpE (defs₀ (F := F)) 𝒱₀ (c : Thread nD τ) none) Set.univ (k (qv 0 f)) Q)
      -∗ wp frame (wpE (defs₀ (F := F)) 𝒱₀ (c : Thread nD τ) none) Set.univ (.op (.load rM1 (Rect.unit (s := S128x4096) ![0, 0] S128x2048.size hb).toLoadRect hl) k) Q) := by
  exact load_any c rM1 (Rect.unit (s := S128x4096) ![0, 0] S128x2048.size hb) (qv 0 f) (rfl) (le_of_eq rfl)

theorem load_a10 {α : Type} {Q : α → sProp 𝕄} (q : PosShare TreeShare) (f : Vec F S128x4096 .f32) {hb : ∀ a, (![0, 0] : Fin 2 → ℕ) a + S128x2048.size a ≤ S128x4096.size a}
    {hl : (aM1 : Memref sig .tc .vmem S128x4096 .f32).view.LoadsAt (Rect.unit (s := S128x4096) ![0, 0] S128x2048.size hb).toLoadRect} {k : Vec F S128x2048 .f32 → Prog (TpuEff nD τ sig (Elt F) Λ₀ .tc) α} :
    aPts10 q c f ⊢ iprop((aPts10 q c f -∗ wp frame (wpE (defs₀ (F := F)) 𝒱₀ (c : Thread nD τ) none) Set.univ (k (qv 0 f)) Q)
      -∗ wp frame (wpE (defs₀ (F := F)) 𝒱₀ (c : Thread nD τ) none) Set.univ (.op (.load aM1 (Rect.unit (s := S128x4096) ![0, 0] S128x2048.size hb).toLoadRect hl) k) Q) := by
  exact load_any c aM1 (Rect.unit (s := S128x4096) ![0, 0] S128x2048.size hb) (qv 0 f) (rfl) (le_of_eq rfl)

theorem store_a10 {α : Type} {Q : α → sProp 𝕄} (f g : Vec F S128x4096 .f32) {w : Vec F S128x2048 .f32} (hg : qv 0 g = w) {hb : ∀ a, (![0, 0] : Fin 2 → ℕ) a + S128x2048.size a ≤ S128x4096.size a}
    {hx : ((aM1 : Memref sig .tc .vmem S128x4096 .f32).access (Rect.unit (s := S128x4096) ![0, 0] S128x2048.size hb)).Stores Finset.univ}
    {hm : (Finset.univ : Finset (Rect.unit (s := S128x4096) ![0, 0] S128x2048.size hb).shape.Idx) = Finset.univ ∨ ∀ a, (Rect.unit (s := S128x4096) ![0, 0] S128x2048.size hb).stride a = 1}
    {k : PUnit → Prog (TpuEff nD τ sig (Elt F) Λ₀ .tc) α} :
    aPts10 fullShare c f ⊢ iprop((aPts10 fullShare c g -∗ wp frame (wpE (defs₀ (F := F)) 𝒱₀ (c : Thread nD τ) none) Set.univ (k ⟨⟩) Q)
      -∗ wp frame (wpE (defs₀ (F := F)) 𝒱₀ (c : Thread nD τ) none) Set.univ (.op (.store aM1 (Rect.unit (s := S128x4096) ![0, 0] S128x2048.size hb) w Finset.univ hx hm) k) Q) :=
  store_any c aM1 (Rect.unit (s := S128x4096) ![0, 0] S128x2048.size hb) (f := f) (g := g) (hg) (rfl)

theorem load_l11 {α : Type} {Q : α → sProp 𝕄} (f : Vec F S128x4096 .f32) {hb : ∀ a, (![0, 2048] : Fin 2 → ℕ) a + S128x2048.size a ≤ S128x4096.size a}
    {hl : (lM1 : Memref sig .tc .vmem S128x4096 .f32).view.LoadsAt (Rect.unit (s := S128x4096) ![0, 2048] S128x2048.size hb).toLoadRect} {k : Vec F S128x2048 .f32 → Prog (TpuEff nD τ sig (Elt F) Λ₀ .tc) α} :
    lPts1 c f ⊢ iprop((lPts1 c f -∗ wp frame (wpE (defs₀ (F := F)) 𝒱₀ (c : Thread nD τ) none) Set.univ (k (qv 1 f)) Q)
      -∗ wp frame (wpE (defs₀ (F := F)) 𝒱₀ (c : Thread nD τ) none) Set.univ (.op (.load lM1 (Rect.unit (s := S128x4096) ![0, 2048] S128x2048.size hb).toLoadRect hl) k) Q) := by
  exact load_any c lM1 (Rect.unit (s := S128x4096) ![0, 2048] S128x2048.size hb) (qv 1 f) (rfl) (Finset.subset_univ _)

theorem load_r11 {α : Type} {Q : α → sProp 𝕄} (f : Vec F S128x4096 .f32) {hb : ∀ a, (![0, 2048] : Fin 2 → ℕ) a + S128x2048.size a ≤ S128x4096.size a}
    {hl : (rM1 : Memref sig .tc .vmem S128x4096 .f32).view.LoadsAt (Rect.unit (s := S128x4096) ![0, 2048] S128x2048.size hb).toLoadRect} {k : Vec F S128x2048 .f32 → Prog (TpuEff nD τ sig (Elt F) Λ₀ .tc) α} :
    rPts11 c f ⊢ iprop((rPts11 c f -∗ wp frame (wpE (defs₀ (F := F)) 𝒱₀ (c : Thread nD τ) none) Set.univ (k (qv 1 f)) Q)
      -∗ wp frame (wpE (defs₀ (F := F)) 𝒱₀ (c : Thread nD τ) none) Set.univ (.op (.load rM1 (Rect.unit (s := S128x4096) ![0, 2048] S128x2048.size hb).toLoadRect hl) k) Q) := by
  exact load_any c rM1 (Rect.unit (s := S128x4096) ![0, 2048] S128x2048.size hb) (qv 1 f) (rfl) (le_of_eq rfl)

theorem load_a11 {α : Type} {Q : α → sProp 𝕄} (q : PosShare TreeShare) (f : Vec F S128x4096 .f32) {hb : ∀ a, (![0, 2048] : Fin 2 → ℕ) a + S128x2048.size a ≤ S128x4096.size a}
    {hl : (aM1 : Memref sig .tc .vmem S128x4096 .f32).view.LoadsAt (Rect.unit (s := S128x4096) ![0, 2048] S128x2048.size hb).toLoadRect} {k : Vec F S128x2048 .f32 → Prog (TpuEff nD τ sig (Elt F) Λ₀ .tc) α} :
    aPts11 q c f ⊢ iprop((aPts11 q c f -∗ wp frame (wpE (defs₀ (F := F)) 𝒱₀ (c : Thread nD τ) none) Set.univ (k (qv 1 f)) Q)
      -∗ wp frame (wpE (defs₀ (F := F)) 𝒱₀ (c : Thread nD τ) none) Set.univ (.op (.load aM1 (Rect.unit (s := S128x4096) ![0, 2048] S128x2048.size hb).toLoadRect hl) k) Q) := by
  exact load_any c aM1 (Rect.unit (s := S128x4096) ![0, 2048] S128x2048.size hb) (qv 1 f) (rfl) (le_of_eq rfl)

theorem store_a11 {α : Type} {Q : α → sProp 𝕄} (f g : Vec F S128x4096 .f32) {w : Vec F S128x2048 .f32} (hg : qv 1 g = w) {hb : ∀ a, (![0, 2048] : Fin 2 → ℕ) a + S128x2048.size a ≤ S128x4096.size a}
    {hx : ((aM1 : Memref sig .tc .vmem S128x4096 .f32).access (Rect.unit (s := S128x4096) ![0, 2048] S128x2048.size hb)).Stores Finset.univ}
    {hm : (Finset.univ : Finset (Rect.unit (s := S128x4096) ![0, 2048] S128x2048.size hb).shape.Idx) = Finset.univ ∨ ∀ a, (Rect.unit (s := S128x4096) ![0, 2048] S128x2048.size hb).stride a = 1}
    {k : PUnit → Prog (TpuEff nD τ sig (Elt F) Λ₀ .tc) α} :
    aPts11 fullShare c f ⊢ iprop((aPts11 fullShare c g -∗ wp frame (wpE (defs₀ (F := F)) 𝒱₀ (c : Thread nD τ) none) Set.univ (k ⟨⟩) Q)
      -∗ wp frame (wpE (defs₀ (F := F)) 𝒱₀ (c : Thread nD τ) none) Set.univ (.op (.store aM1 (Rect.unit (s := S128x4096) ![0, 2048] S128x2048.size hb) w Finset.univ hx hm) k) Q) :=
  store_any c aM1 (Rect.unit (s := S128x4096) ![0, 2048] S128x2048.size hb) (f := f) (g := g) (hg) (rfl)

end

end Cert.Proof.KernelIdeal
-- ==== Proof.KernelIdealStep00.lean ====
/- The rules of direction 0, quarter 0, of the ring's operations: each send, wait and signal of the kernel as one step on the protocol's resources. -/
module

public import proofs.«01_k».proof.Proof.KernelIdealKit

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)

variable {F : FTy → Type} [FloatOps F]

local notation "𝕄" => MT nD τ sig ℕ (Elt F) ℕ UU ℕ

variable (X : Shards F) (κ : GSem nD τ sig → ℕ)

section Steps
variable (c : Dev nD) (t : ℕ)

/-- Direction 0, quarter 0: what the transfer leaves in the target's quarter is the sender's quarter. -/
theorem landed00 (f g : Vec F S128x4096 .f32) :
    ∀ i ∈ (rq00 : Memref sig .tc .vmem S128x2048 .f32).view.set,
      (rq00 : Memref sig .tc .vmem S128x2048 .f32).view.write (Elt F) f ((aq00 : Memref sig .tc .vmem S128x2048 .f32).view.read (Elt F) g) Finset.univ i = g i := by
  intro i hi
  obtain ⟨x, -, rfl⟩ := Finset.mem_map.mp hi
  exact View.write_emb_of_mem _ _ (Finset.mem_univ x)

/-- The send of round `t`: the quarter and the target's quarter go out with the two tokens; a departure credit comes back. -/
theorem send00 (n : Dev nD) (hn : n = rgt c) (ht : t < 62) (O : CellTallies nD τ sig ℕ)
    {α : Type} {Q : α → sProp 𝕄} {k : PUnit → Prog (TpuEff nD τ sig (Elt F) Λ₀ .tc) α}
    {hsc : (rq00 : Memref sig (Dev.tc n : Thread nD τ).2.kind .vmem S128x2048 .f32).view.ref.isScScratch = false}
    {hsrc : (aq00 : Memref sig .tc .vmem S128x2048 .f32).view.WordExact} {hdst : (rq00 : Memref sig .tc .vmem S128x2048 .f32).view.WordExact}
    {hsem : DmaTarget.Typed .vmem (.dma recvS00) (.remote (Dev.tc n : Thread nD τ) (rq00 : Memref sig .tc .vmem S128x2048 .f32) (.dma sendS00) hsc)} :
    iprop(env X κ ∗ aPts00 (shr t) c (A X 0 t c) ∗ (∃ f, rPts00 (F := F) (rgt c) f) ∗ reached ER (recvC00 (rgt c)) t
        ∗ reached ER (sendC00 c) t ∗ reached ER (credC00 c) t ∗ dutyTok ER (sendC00 c) t false ∗ dutyTok ER (recvC00 (rgt c)) t false
        ∗ owesE c (O + tallyAt (recvC00 (rgt c)) (4 * t + 2) N))
      ⊢ iprop(((cred (tallyAt (sendC00 c) 0 N) ∗ owesE c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aq00 (.remote (Dev.tc n : Thread nD τ) rq00 (.dma sendS00) hsc) (.dma recvS00) hsrc hdst hsem) k) Q) := by
  subst hn
  unfold owesE aPts00 rPts00
  iintro ⟨#HE, Ha, ⟨%f, Hr⟩, Hvr, Hsr, Hkr, Hst, Hvt, ⟨%W, HO⟩⟩ Hk
  iapply (Rounds.wp_send_pointsTo_with 𝒱₀ ER (Rd X) (c : Thread nD τ) none (κ₁ := κ (sendC00 c)) (κ₂ := κ (recvC00 (rgt c)))
    (r₁ := t) (r₂ := t) (d₁ := false) (d₂ := false) (fd := f) (F := reached ER (credC00 c) t)
    (by rw [duties_send00 X c t ht]; exact Finset.mem_singleton_self _) (by rw [duties_recv00 X (rgt c) t ht]; exact Finset.mem_singleton_self _)
    (4 * t + 2) 0 N (by exact credit00) (amount_send00 X c t false) (amount_recv00 X (rgt c) t false) O rfl (W := W)
    (by rw [payload_send00]; exact BI.Entails.refl _)
    (by
      rw [payload_recv00]; unfold vPay00 rPts00; rw [lft_rgt]
      rw [pointsTo_congr (landed00 _ _)]) (hr := Topo.routes_tc _ _)) $$ [Ha Hr Hvr Hsr Hkr Hst Hvt HO]
  · isplitr; · iapply (env_send00 X κ c); iexact HE
    isplitr; · iapply (env_recv00 X κ (rgt c)); iexact HE
    isplitl [Ha]; · iexact Ha
    isplitl [Hr Hkr]
    · isplitl [Hr]; · iexact Hr
      iexact Hkr
    isplitl [HO]; · iexact HO
    isplitl [Hst]; · iexact Hst
    isplitl [Hsr]; · iexact Hsr
    isplitl [Hvt]; · iexact Hvt
    iexact Hvr
  iintro ⟨Hc, HO⟩
  iapply Hk
  isplitl [Hc]; · iexact Hc
  iexists W; iexact HO

/-- The wait on the send cell in round `t`. -/
theorem wait_send00 (ht : t < 62) (O : CellTallies nD τ sig ℕ)
    {α : Type} {Q : α → sProp 𝕄} {k : PUnit → Prog (TpuEff nD τ sig (Elt F) Λ₀ .tc) α} (hA : Ab 0 O)
    {sp sp' : Space} {s s' : Shape} {e e' : EltTy} {a : Memref sig .tc sp' s' e'} {b : Memref sig .tc sp s e}
    (hN : b.view.dmaCredit = N) {hsrc : a.view.WordExact} {hdst : b.view.WordExact} :
    iprop(env X κ ∗ cred (tallyAt (sendC00 c) 0 N) ∗ owesE c O ∗ atPos ER (sendC00 c) t ∅ 0)
      ⊢ iprop(((owesE c O ∗ atPos ER (sendC00 c) (t + 1) ∅ 0 ∗ reached ER (sendC00 c) (t + 1) ∗ aPts00 (shr t) c (A X 0 t c)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sendS00 a b hsrc hdst) k) Q) := by
  unfold owesE
  iintro ⟨#HE, Hc, ⟨%W, HO⟩, Hat⟩ Hk
  iapply (Rounds.wp_wait_rest_token 𝒱₀ ER (Rd X) (c : Thread nD τ) none (κ := κ (sendC00 c))
      (wpE_waitDma2_eq 𝒱₀ (c : Thread nD τ) none Set.univ) (Set.mem_univ _) 0 (O := O) (W := W) (R := t) (m := 0) (T := ∅)
      (by rw [Nat.zero_add, hN, expect_send00 X c t ht])) $$ [Hc HO Hat]
  · isplitr; · iapply (env_send00 X κ c); iexact HE
    isplitl [Hc]; · rw [hN]; iexact Hc
    isplitl [HO]; · iexact HO
    isplitr; · iapply (env_mayWait X κ c (.dma sendS00) (i := 0) (show _ < 256 by omega) hA); iexact HE
    iexact Hat
  iintro ⟨HO, Hat, Hre, Hpay⟩
  iapply Hk
  isplitl [HO]; · iexists _; iexact HO
  isplitl [Hat]; · iexact Hat
  isplitl [Hre]; · iexact Hre
  iapply (Entails.of_eq ((rest_one X (duties_send00 X c t ht)).trans ((payload_send00 X c t false).trans (show sPay00 X c t = aPts00 (shr t) c (A X 0 t c) from rfl))))
  iexact Hpay

/-- The wait on the recv cell in round `t`. -/
theorem wait_recv00 (ht : t < 62) (O : CellTallies nD τ sig ℕ)
    {α : Type} {Q : α → sProp 𝕄} {k : PUnit → Prog (TpuEff nD τ sig (Elt F) Λ₀ .tc) α} (hA : Ab (4 * t + 2) O)
    {sp sp' : Space} {s s' : Shape} {e e' : EltTy} {a : Memref sig .tc sp' s' e'} {b : Memref sig .tc sp s e}
    (hN : b.view.dmaCredit = N) {hsrc : a.view.WordExact} {hdst : b.view.WordExact} :
    iprop(env X κ ∗ cred (tallyAt (recvC00 c) (4 * t + 2) N) ∗ owesE c O ∗ atPos ER (recvC00 c) t ∅ 0)
      ⊢ iprop(((owesE c O ∗ atPos ER (recvC00 c) (t + 1) ∅ 0 ∗ reached ER (recvC00 c) (t + 1) ∗ iprop(rPts00 c (A X 0 t (lft c)) ∗ reached ER (credC00 (lft c)) t)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 recvS00 a b hsrc hdst) k) Q) := by
  unfold owesE
  iintro ⟨#HE, Hc, ⟨%W, HO⟩, Hat⟩ Hk
  iapply (Rounds.wp_wait_rest_token 𝒱₀ ER (Rd X) (c : Thread nD τ) none (κ := κ (recvC00 c))
      (wpE_waitDma2_eq 𝒱₀ (c : Thread nD τ) none Set.univ) (Set.mem_univ _) (4 * t + 2) (O := O) (W := W) (R := t) (m := 0) (T := ∅)
      (by rw [Nat.zero_add, hN, expect_recv00 X c t ht])) $$ [Hc HO Hat]
  · isplitr; · iapply (env_recv00 X κ c); iexact HE
    isplitl [Hc]; · rw [hN]; iexact Hc
    isplitl [HO]; · iexact HO
    isplitr; · iapply (env_mayWait X κ c (.dma recvS00) (i := (4 * t + 2)) (show _ < 256 by omega) hA); iexact HE
    iexact Hat
  iintro ⟨HO, Hat, Hre, Hpay⟩
  iapply Hk
  isplitl [HO]; · iexists _; iexact HO
  isplitl [Hat]; · iexact Hat
  isplitl [Hre]; · iexact Hre
  iapply (Entails.of_eq ((rest_one X (duties_recv00 X c t ht)).trans ((payload_recv00 X c t false).trans (show vPay00 X c t = iprop(rPts00 c (A X 0 t (lft c)) ∗ reached ER (credC00 (lft c)) t) from rfl))))
  iexact Hpay

/-- The wait on the credit cell in round `t`: the target's quarter may be written again. -/
theorem wait_cred00 (ht : t < 61) (O : CellTallies nD τ sig ℕ)
    {α : Type} {Q : α → sProp 𝕄} {k : PUnit → Prog (TpuEff nD τ sig (Elt F) Λ₀ .tc) α} (hA : Ab (4 * t + 5) O) (m : Int) (hm : m = ((1 : ℕ) : Int)) :
    iprop(env X κ ∗ cred (tallyAt (credC00 c) (4 * t + 5) 1) ∗ owesE c O ∗ atPos ER (credC00 c) t ∅ 0)
      ⊢ iprop(((owesE c O ∗ atPos ER (credC00 c) (t + 1) ∅ 0 ∗ reached ER (credC00 c) (t + 1)
            ∗ (∃ f, rPts00 (F := F) (rgt c) f) ∗ reached ER (recvC00 (rgt c)) (t + 1)) -∗ wp frame (wpE (defs₀ (F := F)) 𝒱₀ (c : Thread nD τ) none) Set.univ (k ⟨⟩) Q)
          -∗ wp frame (wpE (defs₀ (F := F)) 𝒱₀ (c : Thread nD τ) none) Set.univ (.op (.semWait credS00 m) k) Q) := by
  subst hm
  unfold owesE
  iintro ⟨#HE, Hc, ⟨%W, HO⟩, Hat⟩ Hk
  iapply (Rounds.wp_wait_rest_token 𝒱₀ ER (Rd X) (c : Thread nD τ) none (κ := κ (credC00 c))
      (wpE_semWait_eq 𝒱₀ (c : Thread nD τ) none Set.univ) (Set.mem_univ _) (4 * t + 5) (O := O) (W := W) (R := t) (m := 0) (T := ∅)
      (by rw [Nat.zero_add, expect_cred00 X c t ht])) $$ [Hc HO Hat]
  · isplitr; · iapply (env_cred00 X κ c); iexact HE
    isplitl [Hc]; · iexact Hc
    isplitl [HO]; · iexact HO
    isplitr; · iapply (env_mayWait X κ c (.reg credS00) (i := 4 * t + 5) (show _ < 256 by omega) hA); iexact HE
    iexact Hat
  iintro ⟨HO, Hat, Hre, Hpay⟩
  iapply Hk
  isplitl [HO]; · iexists _; iexact HO
  isplitl [Hat]; · iexact Hat
  isplitl [Hre]; · iexact Hre
  iapply (Entails.of_eq ((rest_one X (duties_cred00 X c t ht)).trans ((payload_cred00 X c t false).trans (show cPay00 (F := F) c t = iprop((∃ f, rPts00 (F := F) (rgt c) f) ∗ reached ER (recvC00 (rgt c)) (t + 1)) from rfl))))
  iexact Hpay

/-- The credit's signal in round `t`: the landing quarter is given back to its sender. -/
theorem signal00 (n : Dev nD) (hn : n = lft c) (ht : t < 61) (O : CellTallies nD τ sig ℕ)
    {α : Type} {Q : α → sProp 𝕄} {k : PUnit → Prog (TpuEff nD τ sig (Elt F) Λ₀ .tc) α} (m : Int) (hm : m = ((1 : ℕ) : Int))
    (f : Vec F S128x4096 .f32) :
    iprop(env X κ ∗ rPts00 c f ∗ reached ER (recvC00 c) (t + 1) ∗ reached ER (credC00 (lft c)) t ∗ dutyTok ER (credC00 (lft c)) t false
        ∗ owesE c (O + tallyAt (credC00 (lft c)) (4 * t + 5) 1))
      ⊢ iprop((owesE c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) credS00 m) k) Q) := by
  subst hn
  subst hm
  unfold owesE
  iintro ⟨#HE, Hr, Hvr, Hkr, Ht, ⟨%W, HO⟩⟩ Hk
  iapply (Rounds.wp_signal 𝒱₀ ER (Rd X) (c : Thread nD τ) none (dst := (lft c : Thread nD τ)) (κ := κ (credC00 (lft c))) (r := t) (d := false)
      (by rw [duties_cred00 X (lft c) t ht]; exact Finset.mem_singleton_self _) (amount_cred00 X (lft c) t false) (4 * t + 5) O
      rfl (hr := Topo.routes_tc _ _)) $$ [HO Hr Hvr Hkr Ht]
  · isplitr; · iapply (env_cred00 X κ (lft c)); iexact HE
    isplitl [HO]; · iexact HO
    isplitl [Ht]; · iexact Ht
    isplitl [Hr Hvr]
    · rw [payload_cred00]; unfold cPay00; rw [rgt_lft]
      isplitl [Hr]; · iexists f; iexact Hr
      iexact Hvr
    iexact Hkr
  iintro HO
  iapply Hk
  iexists W; iexact HO

end Steps

end Cert.Proof.KernelIdeal
-- ==== Proof.KernelIdealStep01.lean ====
/- The rules of direction 0, quarter 1, of the ring's operations: each send, wait and signal of the kernel as one step on the protocol's resources. -/
module

public import proofs.«01_k».proof.Proof.KernelIdealKit

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)

variable {F : FTy → Type} [FloatOps F]

local notation "𝕄" => MT nD τ sig ℕ (Elt F) ℕ UU ℕ

variable (X : Shards F) (κ : GSem nD τ sig → ℕ)

section Steps
variable (c : Dev nD) (t : ℕ)

/-- Direction 0, quarter 1: what the transfer leaves in the target's quarter is the sender's quarter. -/
theorem landed01 (f g : Vec F S128x4096 .f32) :
    ∀ i ∈ (rq01 : Memref sig .tc .vmem S128x2048 .f32).view.set,
      (rq01 : Memref sig .tc .vmem S128x2048 .f32).view.write (Elt F) f ((aq01 : Memref sig .tc .vmem S128x2048 .f32).view.read (Elt F) g) Finset.univ i = g i := by
  intro i hi
  obtain ⟨x, -, rfl⟩ := Finset.mem_map.mp hi
  exact View.write_emb_of_mem _ _ (Finset.mem_univ x)

/-- The send of round `t`: the quarter and the target's quarter go out with the two tokens; a departure credit comes back. -/
theorem send01 (n : Dev nD) (hn : n = rgt c) (ht : t < 62) (O : CellTallies nD τ sig ℕ)
    {α : Type} {Q : α → sProp 𝕄} {k : PUnit → Prog (TpuEff nD τ sig (Elt F) Λ₀ .tc) α}
    {hsc : (rq01 : Memref sig (Dev.tc n : Thread nD τ).2.kind .vmem S128x2048 .f32).view.ref.isScScratch = false}
    {hsrc : (aq01 : Memref sig .tc .vmem S128x2048 .f32).view.WordExact} {hdst : (rq01 : Memref sig .tc .vmem S128x2048 .f32).view.WordExact}
    {hsem : DmaTarget.Typed .vmem (.dma recvS01) (.remote (Dev.tc n : Thread nD τ) (rq01 : Memref sig .tc .vmem S128x2048 .f32) (.dma sendS01) hsc)} :
    iprop(env X κ ∗ aPts01 (shr t) c (A X 0 t c) ∗ (∃ f, rPts01 (F := F) (rgt c) f) ∗ reached ER (recvC01 (rgt c)) t
        ∗ reached ER (sendC01 c) t ∗ reached ER (credC01 c) t ∗ dutyTok ER (sendC01 c) t false ∗ dutyTok ER (recvC01 (rgt c)) t false
        ∗ owesE c (O + tallyAt (recvC01 (rgt c)) (4 * t + 4) N))
      ⊢ iprop(((cred (tallyAt (sendC01 c) 0 N) ∗ owesE c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aq01 (.remote (Dev.tc n : Thread nD τ) rq01 (.dma sendS01) hsc) (.dma recvS01) hsrc hdst hsem) k) Q) := by
  subst hn
  unfold owesE aPts01 rPts01
  iintro ⟨#HE, Ha, ⟨%f, Hr⟩, Hvr, Hsr, Hkr, Hst, Hvt, ⟨%W, HO⟩⟩ Hk
  iapply (Rounds.wp_send_pointsTo_with 𝒱₀ ER (Rd X) (c : Thread nD τ) none (κ₁ := κ (sendC01 c)) (κ₂ := κ (recvC01 (rgt c)))
    (r₁ := t) (r₂ := t) (d₁ := false) (d₂ := false) (fd := f) (F := reached ER (credC01 c) t)
    (by rw [duties_send01 X c t ht]; exact Finset.mem_singleton_self _) (by rw [duties_recv01 X (rgt c) t ht]; exact Finset.mem_singleton_self _)
    (4 * t + 4) 0 N (by exact credit01) (amount_send01 X c t false) (amount_recv01 X (rgt c) t false) O rfl (W := W)
    (by rw [payload_send01]; exact BI.Entails.refl _)
    (by
      rw [payload_recv01]; unfold vPay01 rPts01; rw [lft_rgt]
      rw [pointsTo_congr (landed01 _ _)]) (hr := Topo.routes_tc _ _)) $$ [Ha Hr Hvr Hsr Hkr Hst Hvt HO]
  · isplitr; · iapply (env_send01 X κ c); iexact HE
    isplitr; · iapply (env_recv01 X κ (rgt c)); iexact HE
    isplitl [Ha]; · iexact Ha
    isplitl [Hr Hkr]
    · isplitl [Hr]; · iexact Hr
      iexact Hkr
    isplitl [HO]; · iexact HO
    isplitl [Hst]; · iexact Hst
    isplitl [Hsr]; · iexact Hsr
    isplitl [Hvt]; · iexact Hvt
    iexact Hvr
  iintro ⟨Hc, HO⟩
  iapply Hk
  isplitl [Hc]; · iexact Hc
  iexists W; iexact HO

/-- The wait on the send cell in round `t`. -/
theorem wait_send01 (ht : t < 62) (O : CellTallies nD τ sig ℕ)
    {α : Type} {Q : α → sProp 𝕄} {k : PUnit → Prog (TpuEff nD τ sig (Elt F) Λ₀ .tc) α} (hA : Ab 0 O)
    {sp sp' : Space} {s s' : Shape} {e e' : EltTy} {a : Memref sig .tc sp' s' e'} {b : Memref sig .tc sp s e}
    (hN : b.view.dmaCredit = N) {hsrc : a.view.WordExact} {hdst : b.view.WordExact} :
    iprop(env X κ ∗ cred (tallyAt (sendC01 c) 0 N) ∗ owesE c O ∗ atPos ER (sendC01 c) t ∅ 0)
      ⊢ iprop(((owesE c O ∗ atPos ER (sendC01 c) (t + 1) ∅ 0 ∗ reached ER (sendC01 c) (t + 1) ∗ aPts01 (shr t) c (A X 0 t c)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sendS01 a b hsrc hdst) k) Q) := by
  unfold owesE
  iintro ⟨#HE, Hc, ⟨%W, HO⟩, Hat⟩ Hk
  iapply (Rounds.wp_wait_rest_token 𝒱₀ ER (Rd X) (c : Thread nD τ) none (κ := κ (sendC01 c))
      (wpE_waitDma2_eq 𝒱₀ (c : Thread nD τ) none Set.univ) (Set.mem_univ _) 0 (O := O) (W := W) (R := t) (m := 0) (T := ∅)
      (by rw [Nat.zero_add, hN, expect_send01 X c t ht])) $$ [Hc HO Hat]
  · isplitr; · iapply (env_send01 X κ c); iexact HE
    isplitl [Hc]; · rw [hN]; iexact Hc
    isplitl [HO]; · iexact HO
    isplitr; · iapply (env_mayWait X κ c (.dma sendS01) (i := 0) (show _ < 256 by omega) hA); iexact HE
    iexact Hat
  iintro ⟨HO, Hat, Hre, Hpay⟩
  iapply Hk
  isplitl [HO]; · iexists _; iexact HO
  isplitl [Hat]; · iexact Hat
  isplitl [Hre]; · iexact Hre
  iapply (Entails.of_eq ((rest_one X (duties_send01 X c t ht)).trans ((payload_send01 X c t false).trans (show sPay01 X c t = aPts01 (shr t) c (A X 0 t c) from rfl))))
  iexact Hpay

/-- The wait on the recv cell in round `t`. -/
theorem wait_recv01 (ht : t < 62) (O : CellTallies nD τ sig ℕ)
    {α : Type} {Q : α → sProp 𝕄} {k : PUnit → Prog (TpuEff nD τ sig (Elt F) Λ₀ .tc) α} (hA : Ab (4 * t + 4) O)
    {sp sp' : Space} {s s' : Shape} {e e' : EltTy} {a : Memref sig .tc sp' s' e'} {b : Memref sig .tc sp s e}
    (hN : b.view.dmaCredit = N) {hsrc : a.view.WordExact} {hdst : b.view.WordExact} :
    iprop(env X κ ∗ cred (tallyAt (recvC01 c) (4 * t + 4) N) ∗ owesE c O ∗ atPos ER (recvC01 c) t ∅ 0)
      ⊢ iprop(((owesE c O ∗ atPos ER (recvC01 c) (t + 1) ∅ 0 ∗ reached ER (recvC01 c) (t + 1) ∗ iprop(rPts01 c (A X 0 t (lft c)) ∗ reached ER (credC01 (lft c)) t)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 recvS01 a b hsrc hdst) k) Q) := by
  unfold owesE
  iintro ⟨#HE, Hc, ⟨%W, HO⟩, Hat⟩ Hk
  iapply (Rounds.wp_wait_rest_token 𝒱₀ ER (Rd X) (c : Thread nD τ) none (κ := κ (recvC01 c))
      (wpE_waitDma2_eq 𝒱₀ (c : Thread nD τ) none Set.univ) (Set.mem_univ _) (4 * t + 4) (O := O) (W := W) (R := t) (m := 0) (T := ∅)
      (by rw [Nat.zero_add, hN, expect_recv01 X c t ht])) $$ [Hc HO Hat]
  · isplitr; · iapply (env_recv01 X κ c); iexact HE
    isplitl [Hc]; · rw [hN]; iexact Hc
    isplitl [HO]; · iexact HO
    isplitr; · iapply (env_mayWait X κ c (.dma recvS01) (i := (4 * t + 4)) (show _ < 256 by omega) hA); iexact HE
    iexact Hat
  iintro ⟨HO, Hat, Hre, Hpay⟩
  iapply Hk
  isplitl [HO]; · iexists _; iexact HO
  isplitl [Hat]; · iexact Hat
  isplitl [Hre]; · iexact Hre
  iapply (Entails.of_eq ((rest_one X (duties_recv01 X c t ht)).trans ((payload_recv01 X c t false).trans (show vPay01 X c t = iprop(rPts01 c (A X 0 t (lft c)) ∗ reached ER (credC01 (lft c)) t) from rfl))))
  iexact Hpay

/-- The wait on the credit cell in round `t`: the target's quarter may be written again. -/
theorem wait_cred01 (ht : t < 61) (O : CellTallies nD τ sig ℕ)
    {α : Type} {Q : α → sProp 𝕄} {k : PUnit → Prog (TpuEff nD τ sig (Elt F) Λ₀ .tc) α} (hA : Ab (4 * t + 7) O) (m : Int) (hm : m = ((1 : ℕ) : Int)) :
    iprop(env X κ ∗ cred (tallyAt (credC01 c) (4 * t + 7) 1) ∗ owesE c O ∗ atPos ER (credC01 c) t ∅ 0)
      ⊢ iprop(((owesE c O ∗ atPos ER (credC01 c) (t + 1) ∅ 0 ∗ reached ER (credC01 c) (t + 1)
            ∗ (∃ f, rPts01 (F := F) (rgt c) f) ∗ reached ER (recvC01 (rgt c)) (t + 1)) -∗ wp frame (wpE (defs₀ (F := F)) 𝒱₀ (c : Thread nD τ) none) Set.univ (k ⟨⟩) Q)
          -∗ wp frame (wpE (defs₀ (F := F)) 𝒱₀ (c : Thread nD τ) none) Set.univ (.op (.semWait credS01 m) k) Q) := by
  subst hm
  unfold owesE
  iintro ⟨#HE, Hc, ⟨%W, HO⟩, Hat⟩ Hk
  iapply (Rounds.wp_wait_rest_token 𝒱₀ ER (Rd X) (c : Thread nD τ) none (κ := κ (credC01 c))
      (wpE_semWait_eq 𝒱₀ (c : Thread nD τ) none Set.univ) (Set.mem_univ _) (4 * t + 7) (O := O) (W := W) (R := t) (m := 0) (T := ∅)
      (by rw [Nat.zero_add, expect_cred01 X c t ht])) $$ [Hc HO Hat]
  · isplitr; · iapply (env_cred01 X κ c); iexact HE
    isplitl [Hc]; · iexact Hc
    isplitl [HO]; · iexact HO
    isplitr; · iapply (env_mayWait X κ c (.reg credS01) (i := 4 * t + 7) (show _ < 256 by omega) hA); iexact HE
    iexact Hat
  iintro ⟨HO, Hat, Hre, Hpay⟩
  iapply Hk
  isplitl [HO]; · iexists _; iexact HO
  isplitl [Hat]; · iexact Hat
  isplitl [Hre]; · iexact Hre
  iapply (Entails.of_eq ((rest_one X (duties_cred01 X c t ht)).trans ((payload_cred01 X c t false).trans (show cPay01 (F := F) c t = iprop((∃ f, rPts01 (F := F) (rgt c) f) ∗ reached ER (recvC01 (rgt c)) (t + 1)) from rfl))))
  iexact Hpay

/-- The credit's signal in round `t`: the landing quarter is given back to its sender. -/
theorem signal01 (n : Dev nD) (hn : n = lft c) (ht : t < 61) (O : CellTallies nD τ sig ℕ)
    {α : Type} {Q : α → sProp 𝕄} {k : PUnit → Prog (TpuEff nD τ sig (Elt F) Λ₀ .tc) α} (m : Int) (hm : m = ((1 : ℕ) : Int))
    (f : Vec F S128x4096 .f32) :
    iprop(env X κ ∗ rPts01 c f ∗ reached ER (recvC01 c) (t + 1) ∗ reached ER (credC01 (lft c)) t ∗ dutyTok ER (credC01 (lft c)) t false
        ∗ owesE c (O + tallyAt (credC01 (lft c)) (4 * t + 7) 1))
      ⊢ iprop((owesE c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) credS01 m) k) Q) := by
  subst hn
  subst hm
  unfold owesE
  iintro ⟨#HE, Hr, Hvr, Hkr, Ht, ⟨%W, HO⟩⟩ Hk
  iapply (Rounds.wp_signal 𝒱₀ ER (Rd X) (c : Thread nD τ) none (dst := (lft c : Thread nD τ)) (κ := κ (credC01 (lft c))) (r := t) (d := false)
      (by rw [duties_cred01 X (lft c) t ht]; exact Finset.mem_singleton_self _) (amount_cred01 X (lft c) t false) (4 * t + 7) O
      rfl (hr := Topo.routes_tc _ _)) $$ [HO Hr Hvr Hkr Ht]
  · isplitr; · iapply (env_cred01 X κ (lft c)); iexact HE
    isplitl [HO]; · iexact HO
    isplitl [Ht]; · iexact Ht
    isplitl [Hr Hvr]
    · rw [payload_cred01]; unfold cPay01; rw [rgt_lft]
      isplitl [Hr]; · iexists f; iexact Hr
      iexact Hvr
    iexact Hkr
  iintro HO
  iapply Hk
  iexists W; iexact HO

end Steps

end Cert.Proof.KernelIdeal
-- ==== Proof.KernelIdealStep10.lean ====
/- The rules of direction 1, quarter 0, of the ring's operations: each send, wait and signal of the kernel as one step on the protocol's resources. -/
module

public import proofs.«01_k».proof.Proof.KernelIdealKit

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)

variable {F : FTy → Type} [FloatOps F]

local notation "𝕄" => MT nD τ sig ℕ (Elt F) ℕ UU ℕ

variable (X : Shards F) (κ : GSem nD τ sig → ℕ)

section Steps
variable (c : Dev nD) (t : ℕ)

/-- Direction 1, quarter 0: what the transfer leaves in the target's quarter is the sender's quarter. -/
theorem landed10 (f g : Vec F S128x4096 .f32) :
    ∀ i ∈ (rq10 : Memref sig .tc .vmem S128x2048 .f32).view.set,
      (rq10 : Memref sig .tc .vmem S128x2048 .f32).view.write (Elt F) f ((aq10 : Memref sig .tc .vmem S128x2048 .f32).view.read (Elt F) g) Finset.univ i = g i := by
  intro i hi
  obtain ⟨x, -, rfl⟩ := Finset.mem_map.mp hi
  exact View.write_emb_of_mem _ _ (Finset.mem_univ x)

/-- The send of round `t`: the quarter and the target's quarter go out with the two tokens; a departure credit comes back. -/
theorem send10 (n : Dev nD) (hn : n = lft c) (ht : t < 62) (O : CellTallies nD τ sig ℕ)
    {α : Type} {Q : α → sProp 𝕄} {k : PUnit → Prog (TpuEff nD τ sig (Elt F) Λ₀ .tc) α}
    {hsc : (rq10 : Memref sig (Dev.tc n : Thread nD τ).2.kind .vmem S128x2048 .f32).view.ref.isScScratch = false}
    {hsrc : (aq10 : Memref sig .tc .vmem S128x2048 .f32).view.WordExact} {hdst : (rq10 : Memref sig .tc .vmem S128x2048 .f32).view.WordExact}
    {hsem : DmaTarget.Typed .vmem (.dma recvS10) (.remote (Dev.tc n : Thread nD τ) (rq10 : Memref sig .tc .vmem S128x2048 .f32) (.dma sendS10) hsc)} :
    iprop(env X κ ∗ aPts10 (shr t) c (A X 1 t c) ∗ (∃ f, rPts10 (F := F) (lft c) f) ∗ reached ER (recvC10 (lft c)) t
        ∗ reached ER (sendC10 c) t ∗ reached ER (credC10 c) t ∗ dutyTok ER (sendC10 c) t false ∗ dutyTok ER (recvC10 (lft c)) t false
        ∗ owesE c (O + tallyAt (recvC10 (lft c)) (4 * t + 2) N))
      ⊢ iprop(((cred (tallyAt (sendC10 c) 0 N) ∗ owesE c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aq10 (.remote (Dev.tc n : Thread nD τ) rq10 (.dma sendS10) hsc) (.dma recvS10) hsrc hdst hsem) k) Q) := by
  subst hn
  unfold owesE aPts10 rPts10
  iintro ⟨#HE, Ha, ⟨%f, Hr⟩, Hvr, Hsr, Hkr, Hst, Hvt, ⟨%W, HO⟩⟩ Hk
  iapply (Rounds.wp_send_pointsTo_with 𝒱₀ ER (Rd X) (c : Thread nD τ) none (κ₁ := κ (sendC10 c)) (κ₂ := κ (recvC10 (lft c)))
    (r₁ := t) (r₂ := t) (d₁ := false) (d₂ := false) (fd := f) (F := reached ER (credC10 c) t)
    (by rw [duties_send10 X c t ht]; exact Finset.mem_singleton_self _) (by rw [duties_recv10 X (lft c) t ht]; exact Finset.mem_singleton_self _)
    (4 * t + 2) 0 N (by exact credit10) (amount_send10 X c t false) (amount_recv10 X (lft c) t false) O rfl (W := W)
    (by rw [payload_send10]; exact BI.Entails.refl _)
    (by
      rw [payload_recv10]; unfold vPay10 rPts10; rw [rgt_lft]
      rw [pointsTo_congr (landed10 _ _)]) (hr := Topo.routes_tc _ _)) $$ [Ha Hr Hvr Hsr Hkr Hst Hvt HO]
  · isplitr; · iapply (env_send10 X κ c); iexact HE
    isplitr; · iapply (env_recv10 X κ (lft c)); iexact HE
    isplitl [Ha]; · iexact Ha
    isplitl [Hr Hkr]
    · isplitl [Hr]; · iexact Hr
      iexact Hkr
    isplitl [HO]; · iexact HO
    isplitl [Hst]; · iexact Hst
    isplitl [Hsr]; · iexact Hsr
    isplitl [Hvt]; · iexact Hvt
    iexact Hvr
  iintro ⟨Hc, HO⟩
  iapply Hk
  isplitl [Hc]; · iexact Hc
  iexists W; iexact HO

/-- The wait on the send cell in round `t`. -/
theorem wait_send10 (ht : t < 62) (O : CellTallies nD τ sig ℕ)
    {α : Type} {Q : α → sProp 𝕄} {k : PUnit → Prog (TpuEff nD τ sig (Elt F) Λ₀ .tc) α} (hA : Ab 0 O)
    {sp sp' : Space} {s s' : Shape} {e e' : EltTy} {a : Memref sig .tc sp' s' e'} {b : Memref sig .tc sp s e}
    (hN : b.view.dmaCredit = N) {hsrc : a.view.WordExact} {hdst : b.view.WordExact} :
    iprop(env X κ ∗ cred (tallyAt (sendC10 c) 0 N) ∗ owesE c O ∗ atPos ER (sendC10 c) t ∅ 0)
      ⊢ iprop(((owesE c O ∗ atPos ER (sendC10 c) (t + 1) ∅ 0 ∗ reached ER (sendC10 c) (t + 1) ∗ aPts10 (shr t) c (A X 1 t c)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sendS10 a b hsrc hdst) k) Q) := by
  unfold owesE
  iintro ⟨#HE, Hc, ⟨%W, HO⟩, Hat⟩ Hk
  iapply (Rounds.wp_wait_rest_token 𝒱₀ ER (Rd X) (c : Thread nD τ) none (κ := κ (sendC10 c))
      (wpE_waitDma2_eq 𝒱₀ (c : Thread nD τ) none Set.univ) (Set.mem_univ _) 0 (O := O) (W := W) (R := t) (m := 0) (T := ∅)
      (by rw [Nat.zero_add, hN, expect_send10 X c t ht])) $$ [Hc HO Hat]
  · isplitr; · iapply (env_send10 X κ c); iexact HE
    isplitl [Hc]; · rw [hN]; iexact Hc
    isplitl [HO]; · iexact HO
    isplitr; · iapply (env_mayWait X κ c (.dma sendS10) (i := 0) (show _ < 256 by omega) hA); iexact HE
    iexact Hat
  iintro ⟨HO, Hat, Hre, Hpay⟩
  iapply Hk
  isplitl [HO]; · iexists _; iexact HO
  isplitl [Hat]; · iexact Hat
  isplitl [Hre]; · iexact Hre
  iapply (Entails.of_eq ((rest_one X (duties_send10 X c t ht)).trans ((payload_send10 X c t false).trans (show sPay10 X c t = aPts10 (shr t) c (A X 1 t c) from rfl))))
  iexact Hpay

/-- The wait on the recv cell in round `t`. -/
theorem wait_recv10 (ht : t < 62) (O : CellTallies nD τ sig ℕ)
    {α : Type} {Q : α → sProp 𝕄} {k : PUnit → Prog (TpuEff nD τ sig (Elt F) Λ₀ .tc) α} (hA : Ab (4 * t + 2) O)
    {sp sp' : Space} {s s' : Shape} {e e' : EltTy} {a : Memref sig .tc sp' s' e'} {b : Memref sig .tc sp s e}
    (hN : b.view.dmaCredit = N) {hsrc : a.view.WordExact} {hdst : b.view.WordExact} :
    iprop(env X κ ∗ cred (tallyAt (recvC10 c) (4 * t + 2) N) ∗ owesE c O ∗ atPos ER (recvC10 c) t ∅ 0)
      ⊢ iprop(((owesE c O ∗ atPos ER (recvC10 c) (t + 1) ∅ 0 ∗ reached ER (recvC10 c) (t + 1) ∗ iprop(rPts10 c (A X 1 t (rgt c)) ∗ reached ER (credC10 (rgt c)) t)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 recvS10 a b hsrc hdst) k) Q) := by
  unfold owesE
  iintro ⟨#HE, Hc, ⟨%W, HO⟩, Hat⟩ Hk
  iapply (Rounds.wp_wait_rest_token 𝒱₀ ER (Rd X) (c : Thread nD τ) none (κ := κ (recvC10 c))
      (wpE_waitDma2_eq 𝒱₀ (c : Thread nD τ) none Set.univ) (Set.mem_univ _) (4 * t + 2) (O := O) (W := W) (R := t) (m := 0) (T := ∅)
      (by rw [Nat.zero_add, hN, expect_recv10 X c t ht])) $$ [Hc HO Hat]
  · isplitr; · iapply (env_recv10 X κ c); iexact HE
    isplitl [Hc]; · rw [hN]; iexact Hc
    isplitl [HO]; · iexact HO
    isplitr; · iapply (env_mayWait X κ c (.dma recvS10) (i := (4 * t + 2)) (show _ < 256 by omega) hA); iexact HE
    iexact Hat
  iintro ⟨HO, Hat, Hre, Hpay⟩
  iapply Hk
  isplitl [HO]; · iexists _; iexact HO
  isplitl [Hat]; · iexact Hat
  isplitl [Hre]; · iexact Hre
  iapply (Entails.of_eq ((rest_one X (duties_recv10 X c t ht)).trans ((payload_recv10 X c t false).trans (show vPay10 X c t = iprop(rPts10 c (A X 1 t (rgt c)) ∗ reached ER (credC10 (rgt c)) t) from rfl))))
  iexact Hpay

/-- The wait on the credit cell in round `t`: the target's quarter may be written again. -/
theorem wait_cred10 (ht : t < 61) (O : CellTallies nD τ sig ℕ)
    {α : Type} {Q : α → sProp 𝕄} {k : PUnit → Prog (TpuEff nD τ sig (Elt F) Λ₀ .tc) α} (hA : Ab (4 * t + 5) O) (m : Int) (hm : m = ((1 : ℕ) : Int)) :
    iprop(env X κ ∗ cred (tallyAt (credC10 c) (4 * t + 5) 1) ∗ owesE c O ∗ atPos ER (credC10 c) t ∅ 0)
      ⊢ iprop(((owesE c O ∗ atPos ER (credC10 c) (t + 1) ∅ 0 ∗ reached ER (credC10 c) (t + 1)
            ∗ (∃ f, rPts10 (F := F) (lft c) f) ∗ reached ER (recvC10 (lft c)) (t + 1)) -∗ wp frame (wpE (defs₀ (F := F)) 𝒱₀ (c : Thread nD τ) none) Set.univ (k ⟨⟩) Q)
          -∗ wp frame (wpE (defs₀ (F := F)) 𝒱₀ (c : Thread nD τ) none) Set.univ (.op (.semWait credS10 m) k) Q) := by
  subst hm
  unfold owesE
  iintro ⟨#HE, Hc, ⟨%W, HO⟩, Hat⟩ Hk
  iapply (Rounds.wp_wait_rest_token 𝒱₀ ER (Rd X) (c : Thread nD τ) none (κ := κ (credC10 c))
      (wpE_semWait_eq 𝒱₀ (c : Thread nD τ) none Set.univ) (Set.mem_univ _) (4 * t + 5) (O := O) (W := W) (R := t) (m := 0) (T := ∅)
      (by rw [Nat.zero_add, expect_cred10 X c t ht])) $$ [Hc HO Hat]
  · isplitr; · iapply (env_cred10 X κ c); iexact HE
    isplitl [Hc]; · iexact Hc
    isplitl [HO]; · iexact HO
    isplitr; · iapply (env_mayWait X κ c (.reg credS10) (i := 4 * t + 5) (show _ < 256 by omega) hA); iexact HE
    iexact Hat
  iintro ⟨HO, Hat, Hre, Hpay⟩
  iapply Hk
  isplitl [HO]; · iexists _; iexact HO
  isplitl [Hat]; · iexact Hat
  isplitl [Hre]; · iexact Hre
  iapply (Entails.of_eq ((rest_one X (duties_cred10 X c t ht)).trans ((payload_cred10 X c t false).trans (show cPay10 (F := F) c t = iprop((∃ f, rPts10 (F := F) (lft c) f) ∗ reached ER (recvC10 (lft c)) (t + 1)) from rfl))))
  iexact Hpay

/-- The credit's signal in round `t`: the landing quarter is given back to its sender. -/
theorem signal10 (n : Dev nD) (hn : n = rgt c) (ht : t < 61) (O : CellTallies nD τ sig ℕ)
    {α : Type} {Q : α → sProp 𝕄} {k : PUnit → Prog (TpuEff nD τ sig (Elt F) Λ₀ .tc) α} (m : Int) (hm : m = ((1 : ℕ) : Int))
    (f : Vec F S128x4096 .f32) :
    iprop(env X κ ∗ rPts10 c f ∗ reached ER (recvC10 c) (t + 1) ∗ reached ER (credC10 (rgt c)) t ∗ dutyTok ER (credC10 (rgt c)) t false
        ∗ owesE c (O + tallyAt (credC10 (rgt c)) (4 * t + 5) 1))
      ⊢ iprop((owesE c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) credS10 m) k) Q) := by
  subst hn
  subst hm
  unfold owesE
  iintro ⟨#HE, Hr, Hvr, Hkr, Ht, ⟨%W, HO⟩⟩ Hk
  iapply (Rounds.wp_signal 𝒱₀ ER (Rd X) (c : Thread nD τ) none (dst := (rgt c : Thread nD τ)) (κ := κ (credC10 (rgt c))) (r := t) (d := false)
      (by rw [duties_cred10 X (rgt c) t ht]; exact Finset.mem_singleton_self _) (amount_cred10 X (rgt c) t false) (4 * t + 5) O
      rfl (hr := Topo.routes_tc _ _)) $$ [HO Hr Hvr Hkr Ht]
  · isplitr; · iapply (env_cred10 X κ (rgt c)); iexact HE
    isplitl [HO]; · iexact HO
    isplitl [Ht]; · iexact Ht
    isplitl [Hr Hvr]
    · rw [payload_cred10]; unfold cPay10; rw [lft_rgt]
      isplitl [Hr]; · iexists f; iexact Hr
      iexact Hvr
    iexact Hkr
  iintro HO
  iapply Hk
  iexists W; iexact HO

end Steps

end Cert.Proof.KernelIdeal
-- ==== Proof.KernelIdealStep11.lean ====
/- The rules of direction 1, quarter 1, of the ring's operations: each send, wait and signal of the kernel as one step on the protocol's resources. -/
module

public import proofs.«01_k».proof.Proof.KernelIdealKit

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)

variable {F : FTy → Type} [FloatOps F]

local notation "𝕄" => MT nD τ sig ℕ (Elt F) ℕ UU ℕ

variable (X : Shards F) (κ : GSem nD τ sig → ℕ)

section Steps
variable (c : Dev nD) (t : ℕ)

/-- Direction 1, quarter 1: what the transfer leaves in the target's quarter is the sender's quarter. -/
theorem landed11 (f g : Vec F S128x4096 .f32) :
    ∀ i ∈ (rq11 : Memref sig .tc .vmem S128x2048 .f32).view.set,
      (rq11 : Memref sig .tc .vmem S128x2048 .f32).view.write (Elt F) f ((aq11 : Memref sig .tc .vmem S128x2048 .f32).view.read (Elt F) g) Finset.univ i = g i := by
  intro i hi
  obtain ⟨x, -, rfl⟩ := Finset.mem_map.mp hi
  exact View.write_emb_of_mem _ _ (Finset.mem_univ x)

/-- The send of round `t`: the quarter and the target's quarter go out with the two tokens; a departure credit comes back. -/
theorem send11 (n : Dev nD) (hn : n = lft c) (ht : t < 62) (O : CellTallies nD τ sig ℕ)
    {α : Type} {Q : α → sProp 𝕄} {k : PUnit → Prog (TpuEff nD τ sig (Elt F) Λ₀ .tc) α}
    {hsc : (rq11 : Memref sig (Dev.tc n : Thread nD τ).2.kind .vmem S128x2048 .f32).view.ref.isScScratch = false}
    {hsrc : (aq11 : Memref sig .tc .vmem S128x2048 .f32).view.WordExact} {hdst : (rq11 : Memref sig .tc .vmem S128x2048 .f32).view.WordExact}
    {hsem : DmaTarget.Typed .vmem (.dma recvS11) (.remote (Dev.tc n : Thread nD τ) (rq11 : Memref sig .tc .vmem S128x2048 .f32) (.dma sendS11) hsc)} :
    iprop(env X κ ∗ aPts11 (shr t) c (A X 1 t c) ∗ (∃ f, rPts11 (F := F) (lft c) f) ∗ reached ER (recvC11 (lft c)) t
        ∗ reached ER (sendC11 c) t ∗ reached ER (credC11 c) t ∗ dutyTok ER (sendC11 c) t false ∗ dutyTok ER (recvC11 (lft c)) t false
        ∗ owesE c (O + tallyAt (recvC11 (lft c)) (4 * t + 4) N))
      ⊢ iprop(((cred (tallyAt (sendC11 c) 0 N) ∗ owesE c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aq11 (.remote (Dev.tc n : Thread nD τ) rq11 (.dma sendS11) hsc) (.dma recvS11) hsrc hdst hsem) k) Q) := by
  subst hn
  unfold owesE aPts11 rPts11
  iintro ⟨#HE, Ha, ⟨%f, Hr⟩, Hvr, Hsr, Hkr, Hst, Hvt, ⟨%W, HO⟩⟩ Hk
  iapply (Rounds.wp_send_pointsTo_with 𝒱₀ ER (Rd X) (c : Thread nD τ) none (κ₁ := κ (sendC11 c)) (κ₂ := κ (recvC11 (lft c)))
    (r₁ := t) (r₂ := t) (d₁ := false) (d₂ := false) (fd := f) (F := reached ER (credC11 c) t)
    (by rw [duties_send11 X c t ht]; exact Finset.mem_singleton_self _) (by rw [duties_recv11 X (lft c) t ht]; exact Finset.mem_singleton_self _)
    (4 * t + 4) 0 N (by exact credit11) (amount_send11 X c t false) (amount_recv11 X (lft c) t false) O rfl (W := W)
    (by rw [payload_send11]; exact BI.Entails.refl _)
    (by
      rw [payload_recv11]; unfold vPay11 rPts11; rw [rgt_lft]
      rw [pointsTo_congr (landed11 _ _)]) (hr := Topo.routes_tc _ _)) $$ [Ha Hr Hvr Hsr Hkr Hst Hvt HO]
  · isplitr; · iapply (env_send11 X κ c); iexact HE
    isplitr; · iapply (env_recv11 X κ (lft c)); iexact HE
    isplitl [Ha]; · iexact Ha
    isplitl [Hr Hkr]
    · isplitl [Hr]; · iexact Hr
      iexact Hkr
    isplitl [HO]; · iexact HO
    isplitl [Hst]; · iexact Hst
    isplitl [Hsr]; · iexact Hsr
    isplitl [Hvt]; · iexact Hvt
    iexact Hvr
  iintro ⟨Hc, HO⟩
  iapply Hk
  isplitl [Hc]; · iexact Hc
  iexists W; iexact HO

/-- The wait on the send cell in round `t`. -/
theorem wait_send11 (ht : t < 62) (O : CellTallies nD τ sig ℕ)
    {α : Type} {Q : α → sProp 𝕄} {k : PUnit → Prog (TpuEff nD τ sig (Elt F) Λ₀ .tc) α} (hA : Ab 0 O)
    {sp sp' : Space} {s s' : Shape} {e e' : EltTy} {a : Memref sig .tc sp' s' e'} {b : Memref sig .tc sp s e}
    (hN : b.view.dmaCredit = N) {hsrc : a.view.WordExact} {hdst : b.view.WordExact} :
    iprop(env X κ ∗ cred (tallyAt (sendC11 c) 0 N) ∗ owesE c O ∗ atPos ER (sendC11 c) t ∅ 0)
      ⊢ iprop(((owesE c O ∗ atPos ER (sendC11 c) (t + 1) ∅ 0 ∗ reached ER (sendC11 c) (t + 1) ∗ aPts11 (shr t) c (A X 1 t c)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sendS11 a b hsrc hdst) k) Q) := by
  unfold owesE
  iintro ⟨#HE, Hc, ⟨%W, HO⟩, Hat⟩ Hk
  iapply (Rounds.wp_wait_rest_token 𝒱₀ ER (Rd X) (c : Thread nD τ) none (κ := κ (sendC11 c))
      (wpE_waitDma2_eq 𝒱₀ (c : Thread nD τ) none Set.univ) (Set.mem_univ _) 0 (O := O) (W := W) (R := t) (m := 0) (T := ∅)
      (by rw [Nat.zero_add, hN, expect_send11 X c t ht])) $$ [Hc HO Hat]
  · isplitr; · iapply (env_send11 X κ c); iexact HE
    isplitl [Hc]; · rw [hN]; iexact Hc
    isplitl [HO]; · iexact HO
    isplitr; · iapply (env_mayWait X κ c (.dma sendS11) (i := 0) (show _ < 256 by omega) hA); iexact HE
    iexact Hat
  iintro ⟨HO, Hat, Hre, Hpay⟩
  iapply Hk
  isplitl [HO]; · iexists _; iexact HO
  isplitl [Hat]; · iexact Hat
  isplitl [Hre]; · iexact Hre
  iapply (Entails.of_eq ((rest_one X (duties_send11 X c t ht)).trans ((payload_send11 X c t false).trans (show sPay11 X c t = aPts11 (shr t) c (A X 1 t c) from rfl))))
  iexact Hpay

/-- The wait on the recv cell in round `t`. -/
theorem wait_recv11 (ht : t < 62) (O : CellTallies nD τ sig ℕ)
    {α : Type} {Q : α → sProp 𝕄} {k : PUnit → Prog (TpuEff nD τ sig (Elt F) Λ₀ .tc) α} (hA : Ab (4 * t + 4) O)
    {sp sp' : Space} {s s' : Shape} {e e' : EltTy} {a : Memref sig .tc sp' s' e'} {b : Memref sig .tc sp s e}
    (hN : b.view.dmaCredit = N) {hsrc : a.view.WordExact} {hdst : b.view.WordExact} :
    iprop(env X κ ∗ cred (tallyAt (recvC11 c) (4 * t + 4) N) ∗ owesE c O ∗ atPos ER (recvC11 c) t ∅ 0)
      ⊢ iprop(((owesE c O ∗ atPos ER (recvC11 c) (t + 1) ∅ 0 ∗ reached ER (recvC11 c) (t + 1) ∗ iprop(rPts11 c (A X 1 t (rgt c)) ∗ reached ER (credC11 (rgt c)) t)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 recvS11 a b hsrc hdst) k) Q) := by
  unfold owesE
  iintro ⟨#HE, Hc, ⟨%W, HO⟩, Hat⟩ Hk
  iapply (Rounds.wp_wait_rest_token 𝒱₀ ER (Rd X) (c : Thread nD τ) none (κ := κ (recvC11 c))
      (wpE_waitDma2_eq 𝒱₀ (c : Thread nD τ) none Set.univ) (Set.mem_univ _) (4 * t + 4) (O := O) (W := W) (R := t) (m := 0) (T := ∅)
      (by rw [Nat.zero_add, hN, expect_recv11 X c t ht])) $$ [Hc HO Hat]
  · isplitr; · iapply (env_recv11 X κ c); iexact HE
    isplitl [Hc]; · rw [hN]; iexact Hc
    isplitl [HO]; · iexact HO
    isplitr; · iapply (env_mayWait X κ c (.dma recvS11) (i := (4 * t + 4)) (show _ < 256 by omega) hA); iexact HE
    iexact Hat
  iintro ⟨HO, Hat, Hre, Hpay⟩
  iapply Hk
  isplitl [HO]; · iexists _; iexact HO
  isplitl [Hat]; · iexact Hat
  isplitl [Hre]; · iexact Hre
  iapply (Entails.of_eq ((rest_one X (duties_recv11 X c t ht)).trans ((payload_recv11 X c t false).trans (show vPay11 X c t = iprop(rPts11 c (A X 1 t (rgt c)) ∗ reached ER (credC11 (rgt c)) t) from rfl))))
  iexact Hpay

/-- The wait on the credit cell in round `t`: the target's quarter may be written again. -/
theorem wait_cred11 (ht : t < 61) (O : CellTallies nD τ sig ℕ)
    {α : Type} {Q : α → sProp 𝕄} {k : PUnit → Prog (TpuEff nD τ sig (Elt F) Λ₀ .tc) α} (hA : Ab (4 * t + 7) O) (m : Int) (hm : m = ((1 : ℕ) : Int)) :
    iprop(env X κ ∗ cred (tallyAt (credC11 c) (4 * t + 7) 1) ∗ owesE c O ∗ atPos ER (credC11 c) t ∅ 0)
      ⊢ iprop(((owesE c O ∗ atPos ER (credC11 c) (t + 1) ∅ 0 ∗ reached ER (credC11 c) (t + 1)
            ∗ (∃ f, rPts11 (F := F) (lft c) f) ∗ reached ER (recvC11 (lft c)) (t + 1)) -∗ wp frame (wpE (defs₀ (F := F)) 𝒱₀ (c : Thread nD τ) none) Set.univ (k ⟨⟩) Q)
          -∗ wp frame (wpE (defs₀ (F := F)) 𝒱₀ (c : Thread nD τ) none) Set.univ (.op (.semWait credS11 m) k) Q) := by
  subst hm
  unfold owesE
  iintro ⟨#HE, Hc, ⟨%W, HO⟩, Hat⟩ Hk
  iapply (Rounds.wp_wait_rest_token 𝒱₀ ER (Rd X) (c : Thread nD τ) none (κ := κ (credC11 c))
      (wpE_semWait_eq 𝒱₀ (c : Thread nD τ) none Set.univ) (Set.mem_univ _) (4 * t + 7) (O := O) (W := W) (R := t) (m := 0) (T := ∅)
      (by rw [Nat.zero_add, expect_cred11 X c t ht])) $$ [Hc HO Hat]
  · isplitr; · iapply (env_cred11 X κ c); iexact HE
    isplitl [Hc]; · iexact Hc
    isplitl [HO]; · iexact HO
    isplitr; · iapply (env_mayWait X κ c (.reg credS11) (i := 4 * t + 7) (show _ < 256 by omega) hA); iexact HE
    iexact Hat
  iintro ⟨HO, Hat, Hre, Hpay⟩
  iapply Hk
  isplitl [HO]; · iexists _; iexact HO
  isplitl [Hat]; · iexact Hat
  isplitl [Hre]; · iexact Hre
  iapply (Entails.of_eq ((rest_one X (duties_cred11 X c t ht)).trans ((payload_cred11 X c t false).trans (show cPay11 (F := F) c t = iprop((∃ f, rPts11 (F := F) (lft c) f) ∗ reached ER (recvC11 (lft c)) (t + 1)) from rfl))))
  iexact Hpay

/-- The credit's signal in round `t`: the landing quarter is given back to its sender. -/
theorem signal11 (n : Dev nD) (hn : n = rgt c) (ht : t < 61) (O : CellTallies nD τ sig ℕ)
    {α : Type} {Q : α → sProp 𝕄} {k : PUnit → Prog (TpuEff nD τ sig (Elt F) Λ₀ .tc) α} (m : Int) (hm : m = ((1 : ℕ) : Int))
    (f : Vec F S128x4096 .f32) :
    iprop(env X κ ∗ rPts11 c f ∗ reached ER (recvC11 c) (t + 1) ∗ reached ER (credC11 (rgt c)) t ∗ dutyTok ER (credC11 (rgt c)) t false
        ∗ owesE c (O + tallyAt (credC11 (rgt c)) (4 * t + 7) 1))
      ⊢ iprop((owesE c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) credS11 m) k) Q) := by
  subst hn
  subst hm
  unfold owesE
  iintro ⟨#HE, Hr, Hvr, Hkr, Ht, ⟨%W, HO⟩⟩ Hk
  iapply (Rounds.wp_signal 𝒱₀ ER (Rd X) (c : Thread nD τ) none (dst := (rgt c : Thread nD τ)) (κ := κ (credC11 (rgt c))) (r := t) (d := false)
      (by rw [duties_cred11 X (rgt c) t ht]; exact Finset.mem_singleton_self _) (amount_cred11 X (rgt c) t false) (4 * t + 7) O
      rfl (hr := Topo.routes_tc _ _)) $$ [HO Hr Hvr Hkr Ht]
  · isplitr; · iapply (env_cred11 X κ (rgt c)); iexact HE
    isplitl [HO]; · iexact HO
    isplitl [Ht]; · iexact Ht
    isplitl [Hr Hvr]
    · rw [payload_cred11]; unfold cPay11; rw [lft_rgt]
      isplitl [Hr]; · iexists f; iexact Hr
      iexact Hvr
    iexact Hkr
  iintro HO
  iapply Hk
  iexists W; iexact HO

end Steps

end Cert.Proof.KernelIdeal
-- ==== Proof.KernelIdealReduce.lean ====
/- One trip of the reducing loop: the four quarters arrive, the local product is added, the sums go on. -/
module

public import proofs.«01_k».proof.Proof.KernelIdealRules
public import proofs.«01_k».proof.Proof.KernelIdealStep00
public import proofs.«01_k».proof.Proof.KernelIdealStep01
public import proofs.«01_k».proof.Proof.KernelIdealStep10
public import proofs.«01_k».proof.Proof.KernelIdealStep11

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)

variable {F : FTy → Type} [FloatOps F]

local notation "𝕄" => MT nD τ sig ℕ (Elt F) ℕ UU ℕ

variable (X : Shards F) (κ : GSem nD τ sig → ℕ)

theorem ab_mono {i j : ℕ} {O : CellTallies nD τ sig ℕ} (h : Ab j O) (hij : i ≤ j) : Ab i O := fun g k hk =>
  ⟨(h g k hk).1, lt_of_le_of_lt hij (h g k hk).2⟩

theorem shr_full {t : ℕ} (h : t < 31) : shr t = fullShare := if_pos h
theorem shr_left {t : ℕ} (h : ¬ t < 31) : shr t = (fullShare : PosShare TreeShare).left := if_neg h
theorem A_sum (d : Fin 2) {t : ℕ} (h : t < 31) (c : Dev nD) :
    A X d (t + 1) c = addf (A X d t (src d c)) (part X d c (back d (rank c) (t + 1))) := if_pos h
theorem A_pass (d : Fin 2) {t : ℕ} (h : ¬ t < 31) (c : Dev nD) : A X d (t + 1) c = A X d t (src d c) := if_neg h

/-- Direction 0, quarter 0 at round `t`: the three positions and the departure on its way. -/
def st00 (c : Dev nD) (t : ℕ) : sProp 𝕄 :=
  iprop(atPos ER (sendC00 c) t ∅ 0 ∗ atPos ER (recvC00 c) t ∅ 0 ∗ atPos ER (credC00 c) t ∅ 0 ∗ cred (tallyAt (sendC00 c) 0 N))
/-- Direction 0, quarter 0: what trip `t` consumes of credits and tokens. -/
def tb00 (c : Dev nD) (t : ℕ) : sProp 𝕄 :=
  iprop(cred (tallyAt (recvC00 c) (4 * t + 2) N) ∗ cred (tallyAt (credC00 c) (4 * t + 5) 1)
    ∗ dutyTok ER (credC00 (lft c)) t false ∗ dutyTok ER (recvC00 (rgt c)) (t + 1) false ∗ dutyTok ER (sendC00 c) (t + 1) false)

/-- Direction 1, quarter 0 at round `t`: the three positions and the departure on its way. -/
def st10 (c : Dev nD) (t : ℕ) : sProp 𝕄 :=
  iprop(atPos ER (sendC10 c) t ∅ 0 ∗ atPos ER (recvC10 c) t ∅ 0 ∗ atPos ER (credC10 c) t ∅ 0 ∗ cred (tallyAt (sendC10 c) 0 N))
/-- Direction 1, quarter 0: what trip `t` consumes of credits and tokens. -/
def tb10 (c : Dev nD) (t : ℕ) : sProp 𝕄 :=
  iprop(cred (tallyAt (recvC10 c) (4 * t + 2) N) ∗ cred (tallyAt (credC10 c) (4 * t + 5) 1)
    ∗ dutyTok ER (credC10 (rgt c)) t false ∗ dutyTok ER (recvC10 (lft c)) (t + 1) false ∗ dutyTok ER (sendC10 c) (t + 1) false)

/-- Direction 0, quarter 1 at round `t`: the three positions and the departure on its way. -/
def st01 (c : Dev nD) (t : ℕ) : sProp 𝕄 :=
  iprop(atPos ER (sendC01 c) t ∅ 0 ∗ atPos ER (recvC01 c) t ∅ 0 ∗ atPos ER (credC01 c) t ∅ 0 ∗ cred (tallyAt (sendC01 c) 0 N))
/-- Direction 0, quarter 1: what trip `t` consumes of credits and tokens. -/
def tb01 (c : Dev nD) (t : ℕ) : sProp 𝕄 :=
  iprop(cred (tallyAt (recvC01 c) (4 * t + 4) N) ∗ cred (tallyAt (credC01 c) (4 * t + 7) 1)
    ∗ dutyTok ER (credC01 (lft c)) t false ∗ dutyTok ER (recvC01 (rgt c)) (t + 1) false ∗ dutyTok ER (sendC01 c) (t + 1) false)

/-- Direction 1, quarter 1 at round `t`: the three positions and the departure on its way. -/
def st11 (c : Dev nD) (t : ℕ) : sProp 𝕄 :=
  iprop(atPos ER (sendC11 c) t ∅ 0 ∗ atPos ER (recvC11 c) t ∅ 0 ∗ atPos ER (credC11 c) t ∅ 0 ∗ cred (tallyAt (sendC11 c) 0 N))
/-- Direction 1, quarter 1: what trip `t` consumes of credits and tokens. -/
def tb11 (c : Dev nD) (t : ℕ) : sProp 𝕄 :=
  iprop(cred (tallyAt (recvC11 c) (4 * t + 4) N) ∗ cred (tallyAt (credC11 c) (4 * t + 7) 1)
    ∗ dutyTok ER (credC11 (rgt c)) t false ∗ dutyTok ER (recvC11 (lft c)) (t + 1) false ∗ dutyTok ER (sendC11 c) (t + 1) false)

theorem pay_sum00 (f g : Vec F S128x4096 .f32) : qv 0 (addf f g) = k0_pay4 (k0_pay3 (qv 0 f) (qv 0 g)) := by
  funext j
  exact (congrArg (addf (qv 0 f) (qv 0 g)) (Shape.reshapeEquiv_self _ j)).symm
/-- A store over direction 0, quarter 0, the share being the whole one. -/
theorem put00 (c : Dev nD) (p p' : PosShare TreeShare) (hp : p = fullShare) (hp' : p' = fullShare) {α : Type} {Q : α → sProp 𝕄} (f g : Vec F S128x4096 .f32) {w : Vec F S128x2048 .f32} (hg : qv 0 g = w)
    {hb : ∀ a, (![0, 0] : Fin 2 → ℕ) a + S128x2048.size a ≤ S128x4096.size a}
    {hx : ((aM0 : Memref sig .tc .vmem S128x4096 .f32).access (Rect.unit (s := S128x4096) ![0, 0] S128x2048.size hb)).Stores Finset.univ}
    {hm : (Finset.univ : Finset (Rect.unit (s := S128x4096) ![0, 0] S128x2048.size hb).shape.Idx) = Finset.univ ∨ ∀ a, (Rect.unit (s := S128x4096) ![0, 0] S128x2048.size hb).stride a = 1}
    {k : PUnit → Prog (TpuEff nD τ sig (Elt F) Λ₀ .tc) α} :
    aPts00 p c f ⊢ iprop((aPts00 p' c g -∗ wp frame (wpE (defs₀ (F := F)) 𝒱₀ (c : Thread nD τ) none) Set.univ (k ⟨⟩) Q)
      -∗ wp frame (wpE (defs₀ (F := F)) 𝒱₀ (c : Thread nD τ) none) Set.univ (.op (.store aM0 (Rect.unit (s := S128x4096) ![0, 0] S128x2048.size hb) w Finset.univ hx hm) k) Q) := by
  subst hp; subst hp'
  exact store_a00 c f g hg

theorem pay_sum10 (f g : Vec F S128x4096 .f32) : qv 0 (addf f g) = k0_pay5 (qv 0 f) (qv 0 g) := by
  funext j
  exact (congrArg (addf (qv 0 f) (qv 0 g)) (Shape.reshapeEquiv_self _ j)).symm
/-- A store over direction 1, quarter 0, the share being the whole one. -/
theorem put10 (c : Dev nD) (p p' : PosShare TreeShare) (hp : p = fullShare) (hp' : p' = fullShare) {α : Type} {Q : α → sProp 𝕄} (f g : Vec F S128x4096 .f32) {w : Vec F S128x2048 .f32} (hg : qv 0 g = w)
    {hb : ∀ a, (![0, 0] : Fin 2 → ℕ) a + S128x2048.size a ≤ S128x4096.size a}
    {hx : ((aM1 : Memref sig .tc .vmem S128x4096 .f32).access (Rect.unit (s := S128x4096) ![0, 0] S128x2048.size hb)).Stores Finset.univ}
    {hm : (Finset.univ : Finset (Rect.unit (s := S128x4096) ![0, 0] S128x2048.size hb).shape.Idx) = Finset.univ ∨ ∀ a, (Rect.unit (s := S128x4096) ![0, 0] S128x2048.size hb).stride a = 1}
    {k : PUnit → Prog (TpuEff nD τ sig (Elt F) Λ₀ .tc) α} :
    aPts10 p c f ⊢ iprop((aPts10 p' c g -∗ wp frame (wpE (defs₀ (F := F)) 𝒱₀ (c : Thread nD τ) none) Set.univ (k ⟨⟩) Q)
      -∗ wp frame (wpE (defs₀ (F := F)) 𝒱₀ (c : Thread nD τ) none) Set.univ (.op (.store aM1 (Rect.unit (s := S128x4096) ![0, 0] S128x2048.size hb) w Finset.univ hx hm) k) Q) := by
  subst hp; subst hp'
  exact store_a10 c f g hg

theorem pay_sum01 (f g : Vec F S128x4096 .f32) : qv 1 (addf f g) = k0_pay6 (qv 1 f) (qv 1 g) := by
  funext j
  exact (congrArg (addf (qv 1 f) (qv 1 g)) (Shape.reshapeEquiv_self _ j)).symm
/-- A store over direction 0, quarter 1, the share being the whole one. -/
theorem put01 (c : Dev nD) (p p' : PosShare TreeShare) (hp : p = fullShare) (hp' : p' = fullShare) {α : Type} {Q : α → sProp 𝕄} (f g : Vec F S128x4096 .f32) {w : Vec F S128x2048 .f32} (hg : qv 1 g = w)
    {hb : ∀ a, (![0, 2048] : Fin 2 → ℕ) a + S128x2048.size a ≤ S128x4096.size a}
    {hx : ((aM0 : Memref sig .tc .vmem S128x4096 .f32).access (Rect.unit (s := S128x4096) ![0, 2048] S128x2048.size hb)).Stores Finset.univ}
    {hm : (Finset.univ : Finset (Rect.unit (s := S128x4096) ![0, 2048] S128x2048.size hb).shape.Idx) = Finset.univ ∨ ∀ a, (Rect.unit (s := S128x4096) ![0, 2048] S128x2048.size hb).stride a = 1}
    {k : PUnit → Prog (TpuEff nD τ sig (Elt F) Λ₀ .tc) α} :
    aPts01 p c f ⊢ iprop((aPts01 p' c g -∗ wp frame (wpE (defs₀ (F := F)) 𝒱₀ (c : Thread nD τ) none) Set.univ (k ⟨⟩) Q)
      -∗ wp frame (wpE (defs₀ (F := F)) 𝒱₀ (c : Thread nD τ) none) Set.univ (.op (.store aM0 (Rect.unit (s := S128x4096) ![0, 2048] S128x2048.size hb) w Finset.univ hx hm) k) Q) := by
  subst hp; subst hp'
  exact store_a01 c f g hg

theorem pay_sum11 (f g : Vec F S128x4096 .f32) : qv 1 (addf f g) = k0_pay7 (qv 1 f) (qv 1 g) := by
  funext j
  exact (congrArg (addf (qv 1 f) (qv 1 g)) (Shape.reshapeEquiv_self _ j)).symm
/-- A store over direction 1, quarter 1, the share being the whole one. -/
theorem put11 (c : Dev nD) (p p' : PosShare TreeShare) (hp : p = fullShare) (hp' : p' = fullShare) {α : Type} {Q : α → sProp 𝕄} (f g : Vec F S128x4096 .f32) {w : Vec F S128x2048 .f32} (hg : qv 1 g = w)
    {hb : ∀ a, (![0, 2048] : Fin 2 → ℕ) a + S128x2048.size a ≤ S128x4096.size a}
    {hx : ((aM1 : Memref sig .tc .vmem S128x4096 .f32).access (Rect.unit (s := S128x4096) ![0, 2048] S128x2048.size hb)).Stores Finset.univ}
    {hm : (Finset.univ : Finset (Rect.unit (s := S128x4096) ![0, 2048] S128x2048.size hb).shape.Idx) = Finset.univ ∨ ∀ a, (Rect.unit (s := S128x4096) ![0, 2048] S128x2048.size hb).stride a = 1}
    {k : PUnit → Prog (TpuEff nD τ sig (Elt F) Λ₀ .tc) α} :
    aPts11 p c f ⊢ iprop((aPts11 p' c g -∗ wp frame (wpE (defs₀ (F := F)) 𝒱₀ (c : Thread nD τ) none) Set.univ (k ⟨⟩) Q)
      -∗ wp frame (wpE (defs₀ (F := F)) 𝒱₀ (c : Thread nD τ) none) Set.univ (.op (.store aM1 (Rect.unit (s := S128x4096) ![0, 2048] S128x2048.size hb) w Finset.univ hx hm) k) Q) := by
  subst hp; subst hp'
  exact store_a11 c f g hg

/-- The body of a trip of the reducing loop on device `c`. -/
abbrev body1 (c : Dev nD) : Fin k0_t1_loop.trips → Unit → Prog (TpuEff nD τ sig (Elt F) Λ₀ .tc) Unit :=
  k0_t1_body mM (Memref.isWhole_whole _) xM (Memref.isWhole_whole _) wM (Memref.isWhole_whole _) oM (Memref.isWhole_whole _) zM (Memref.isWhole_whole _) aM0 (Memref.isWhole_whole _) rM0 (Memref.isWhole_whole _) lM0 (Memref.isWhole_whole _) aM1 (Memref.isWhole_whole _) rM1 (Memref.isWhole_whole _) lM1 (Memref.isWhole_whole _) cc0_scratch6 cc0_scratch7 cc0_scratch8 cc0_scratch9 cc0_scratch10 cc0_scratch11 cc0_scratch12 cc0_scratch13 cc0_scratch14 cc0_scratch15 (wd (rank c)) (chk3_wd _) (wd (lft c)) (chk1_wd _) (wd (rgt c)) (chk2_wd _)
/-- The body of a trip of the gathering loop on device `c`. -/
abbrev body2 (c : Dev nD) : Fin k0_t2_loop.trips → Unit → Prog (TpuEff nD τ sig (Elt F) Λ₀ .tc) Unit :=
  k0_t2_body mM (Memref.isWhole_whole _) xM (Memref.isWhole_whole _) wM (Memref.isWhole_whole _) oM (Memref.isWhole_whole _) zM (Memref.isWhole_whole _) aM0 (Memref.isWhole_whole _) rM0 (Memref.isWhole_whole _) lM0 (Memref.isWhole_whole _) aM1 (Memref.isWhole_whole _) rM1 (Memref.isWhole_whole _) lM1 (Memref.isWhole_whole _) cc0_scratch6 cc0_scratch7 cc0_scratch8 cc0_scratch9 cc0_scratch10 cc0_scratch11 cc0_scratch12 cc0_scratch13 cc0_scratch14 cc0_scratch15 (wd (rank c)) (chk3_wd _) (wd (lft c)) (chk1_wd _) (wd (rgt c)) (chk2_wd _)

/-- Direction 0, quarter 0 after the reducing loop: the finished sum, and what the send of round `t + 1` and the credit of round `t` need. -/
def mid00 (c : Dev nD) (t : ℕ) : sProp 𝕄 :=
  iprop(atPos ER (sendC00 c) (t + 1) ∅ 0 ∗ atPos ER (recvC00 c) (t + 1) ∅ 0 ∗ atPos ER (credC00 c) t ∅ 0 ∗ aPts00 fullShare c (A X 0 (t + 1) c) ∗ reached ER (sendC00 c) (t + 1)
    ∗ cred (tallyAt (credC00 c) (4 * t + 5) 1) ∗ dutyTok ER (recvC00 (rgt c)) (t + 1) false ∗ dutyTok ER (sendC00 c) (t + 1) false)

/-- Direction 1, quarter 0 after the reducing loop: the finished sum, and what the send of round `t + 1` and the credit of round `t` need. -/
def mid10 (c : Dev nD) (t : ℕ) : sProp 𝕄 :=
  iprop(atPos ER (sendC10 c) (t + 1) ∅ 0 ∗ atPos ER (recvC10 c) (t + 1) ∅ 0 ∗ atPos ER (credC10 c) t ∅ 0 ∗ aPts10 fullShare c (A X 1 (t + 1) c) ∗ reached ER (sendC10 c) (t + 1)
    ∗ cred (tallyAt (credC10 c) (4 * t + 5) 1) ∗ dutyTok ER (recvC10 (lft c)) (t + 1) false ∗ dutyTok ER (sendC10 c) (t + 1) false)

/-- Direction 0, quarter 1 after the reducing loop: the finished sum, and what the send of round `t + 1` and the credit of round `t` need. -/
def mid01 (c : Dev nD) (t : ℕ) : sProp 𝕄 :=
  iprop(atPos ER (sendC01 c) (t + 1) ∅ 0 ∗ atPos ER (recvC01 c) (t + 1) ∅ 0 ∗ atPos ER (credC01 c) t ∅ 0 ∗ aPts01 fullShare c (A X 0 (t + 1) c) ∗ reached ER (sendC01 c) (t + 1)
    ∗ cred (tallyAt (credC01 c) (4 * t + 7) 1) ∗ dutyTok ER (recvC01 (rgt c)) (t + 1) false ∗ dutyTok ER (sendC01 c) (t + 1) false)

/-- Direction 1, quarter 1 after the reducing loop: the finished sum, and what the send of round `t + 1` and the credit of round `t` need. -/
def mid11 (c : Dev nD) (t : ℕ) : sProp 𝕄 :=
  iprop(atPos ER (sendC11 c) (t + 1) ∅ 0 ∗ atPos ER (recvC11 c) (t + 1) ∅ 0 ∗ atPos ER (credC11 c) t ∅ 0 ∗ aPts11 fullShare c (A X 1 (t + 1) c) ∗ reached ER (sendC11 c) (t + 1)
    ∗ cred (tallyAt (credC11 c) (4 * t + 7) 1) ∗ dutyTok ER (recvC11 (lft c)) (t + 1) false ∗ dutyTok ER (sendC11 c) (t + 1) false)

set_option maxHeartbeats 4000000 in
/-- A trip of the reducing loop but the last: every quarter arrives, is summed, its credit given, and the sum sent on. -/
theorem rs_trip (c : Dev nD) (k : Fin k0_t1_loop.trips) (hk : k.val < 30) (O : CellTallies nD τ sig ℕ) (hO : Ab (4 * k.val + 8) O) {Q : Unit → sProp 𝕄} :
    iprop(env X κ ∗ xPts c (X.x c) ∗ wPts c (X.w c) ∗ (∃ f, lPts0 (F := F) c f) ∗ (∃ f, lPts1 (F := F) c f) ∗ st00 c k.val ∗ st10 c k.val ∗ st01 c k.val ∗ st11 c k.val ∗ tb00 (F := F) c k.val ∗ tb10 (F := F) c k.val ∗ tb01 (F := F) c k.val ∗ tb11 (F := F) c k.val ∗ owesE c (O + tallyAt (recvC11 (lft c)) (4 * (k.val + 1) + 4) N + tallyAt (recvC01 (rgt c)) (4 * (k.val + 1) + 4) N + tallyAt (credC11 (rgt c)) (4 * (k.val) + 7) 1 + tallyAt (credC01 (lft c)) (4 * (k.val) + 7) 1 + tallyAt (recvC10 (lft c)) (4 * (k.val + 1) + 2) N + tallyAt (recvC00 (rgt c)) (4 * (k.val + 1) + 2) N + tallyAt (credC10 (rgt c)) (4 * (k.val) + 5) 1 + tallyAt (credC00 (lft c)) (4 * (k.val) + 5) 1))
      ⊢ iprop(((xPts c (X.x c) ∗ wPts c (X.w c) ∗ (∃ f, lPts0 (F := F) c f) ∗ (∃ f, lPts1 (F := F) c f) ∗ st00 c (k.val + 1) ∗ st10 c (k.val + 1) ∗ st01 c (k.val + 1) ∗ st11 c (k.val + 1) ∗ owesE c O) -∗ Q ()) -∗ wp frame (wpE (defs₀ (F := F)) 𝒱₀ (c : Thread nD τ) none) Set.univ (body1 c k ()) Q) := by
  unfold body1 k0_t1_body
  simp only [k0_part1_eq_skeleton, k0_part2_eq_skeleton, k0_part3_eq_skeleton, k0_part4_eq_skeleton]
  unfold k0_part1_skel k0_part2_skel k0_part3_skel k0_part4_skel
  have hc1 : k0_cond1 k = 1#1 := (cond1_iff k).mpr hk
  have hc2 : k0_cond2 k = 1#1 := (cond2_iff k).mpr hk
  have hs0 : shr k.val = fullShare := shr_full (by omega)
  have hs1 : shr (k.val + 1) = fullShare := shr_full (by omega)
  unfold st00 tb00
  unfold st10 tb10
  unfold st01 tb01
  unfold st11 tb11
  iintro ⟨#HE, Hx, Hw, ⟨%l0, Hl0⟩, ⟨%l1, Hl1⟩, ⟨Ss00, Sv00, Sk00, Sc00⟩, ⟨Ss10, Sv10, Sk10, Sc10⟩, ⟨Ss01, Sv01, Sk01, Sc01⟩, ⟨Ss11, Sv11, Sk11, Sc11⟩, ⟨Bv00, Bk00, Tk00, Tv00, Ts00⟩, ⟨Bv10, Bk10, Tk10, Tv10, Ts10⟩, ⟨Bv01, Bk01, Tk01, Tv01, Ts01⟩, ⟨Bv11, Bk11, Tk11, Tv11, Ts11⟩, HO⟩ HK
  try sl_exec
  iapply (load_x c (back 0 (rank c) (k.val + 1)) _ (off2_wd0 (rank c) k)) $$ [Hx]
  · iexact Hx
  iintro Hx
  try sl_exec
  iapply (load_w0 c _) $$ [Hw]
  · iexact Hw
  iintro Hw
  try sl_exec
  iapply (load_lw0 c _) $$ [Hl0]
  · iexact Hl0
  iintro Hl0
  try sl_exec
  iapply (store_lw0 c _ (w := part X 0 c (back 0 (rank c) (k.val + 1)))) $$ [Hl0]
  · iexact Hl0
  iintro Hl0
  try sl_exec
  iapply (load_x c (back 1 (rank c) (k.val + 1)) _ (off2_wd1 (rank c) k)) $$ [Hx]
  · iexact Hx
  iintro Hx
  try sl_exec
  iapply (load_w1 c _) $$ [Hw]
  · iexact Hw
  iintro Hw
  try sl_exec
  iapply (load_lw1 c _) $$ [Hl1]
  · iexact Hl1
  iintro Hl1
  try sl_exec
  iapply (store_lw1 c _ (w := part X 1 c (back 1 (rank c) (k.val + 1)))) $$ [Hl1]
  · iexact Hl1
  iintro Hl1
  try sl_exec
  have hA1 : Ab (0) (O + tallyAt (recvC11 (lft c)) (4 * (k.val + 1) + 4) N + tallyAt (recvC01 (rgt c)) (4 * (k.val + 1) + 4) N + tallyAt (credC11 (rgt c)) (4 * (k.val) + 7) 1 + tallyAt (credC01 (lft c)) (4 * (k.val) + 7) 1 + tallyAt (recvC10 (lft c)) (4 * (k.val + 1) + 2) N + tallyAt (recvC00 (rgt c)) (4 * (k.val + 1) + 2) N + tallyAt (credC10 (rgt c)) (4 * (k.val) + 5) 1 + tallyAt (credC00 (lft c)) (4 * (k.val) + 5) 1) := by
    repeat' first | exact ab_mono hO (by omega) | apply ab_add | (apply ab_tally <;> omega)
  iapply (wait_send00 X κ c (k.val) (by omega) (O + tallyAt (recvC11 (lft c)) (4 * (k.val + 1) + 4) N + tallyAt (recvC01 (rgt c)) (4 * (k.val + 1) + 4) N + tallyAt (credC11 (rgt c)) (4 * (k.val) + 7) 1 + tallyAt (credC01 (lft c)) (4 * (k.val) + 7) 1 + tallyAt (recvC10 (lft c)) (4 * (k.val + 1) + 2) N + tallyAt (recvC00 (rgt c)) (4 * (k.val + 1) + 2) N + tallyAt (credC10 (rgt c)) (4 * (k.val) + 5) 1 + tallyAt (credC00 (lft c)) (4 * (k.val) + 5) 1) hA1 (by first | rfl | exact credit00)) $$ [Sc00 HO Ss00]
  · isplitr; · iexact HE
    isplitl [Sc00]; · iexact Sc00
    isplitl [HO]; · iexact HO
    iexact Ss00
  iintro ⟨HO, Ss00, #Rs00, Ha00⟩
  try sl_exec
  have hA2 : Ab (4 * (k.val) + 2) (O + tallyAt (recvC11 (lft c)) (4 * (k.val + 1) + 4) N + tallyAt (recvC01 (rgt c)) (4 * (k.val + 1) + 4) N + tallyAt (credC11 (rgt c)) (4 * (k.val) + 7) 1 + tallyAt (credC01 (lft c)) (4 * (k.val) + 7) 1 + tallyAt (recvC10 (lft c)) (4 * (k.val + 1) + 2) N + tallyAt (recvC00 (rgt c)) (4 * (k.val + 1) + 2) N + tallyAt (credC10 (rgt c)) (4 * (k.val) + 5) 1 + tallyAt (credC00 (lft c)) (4 * (k.val) + 5) 1) := by
    repeat' first | exact ab_mono hO (by omega) | apply ab_add | (apply ab_tally <;> omega)
  iapply (wait_recv00 X κ c (k.val) (by omega) (O + tallyAt (recvC11 (lft c)) (4 * (k.val + 1) + 4) N + tallyAt (recvC01 (rgt c)) (4 * (k.val + 1) + 4) N + tallyAt (credC11 (rgt c)) (4 * (k.val) + 7) 1 + tallyAt (credC01 (lft c)) (4 * (k.val) + 7) 1 + tallyAt (recvC10 (lft c)) (4 * (k.val + 1) + 2) N + tallyAt (recvC00 (rgt c)) (4 * (k.val + 1) + 2) N + tallyAt (credC10 (rgt c)) (4 * (k.val) + 5) 1 + tallyAt (credC00 (lft c)) (4 * (k.val) + 5) 1) hA2 (by first | rfl | exact credit00)) $$ [Bv00 HO Sv00]
  · isplitr; · iexact HE
    isplitl [Bv00]; · iexact Bv00
    isplitl [HO]; · iexact HO
    iexact Sv00
  iintro ⟨HO, Sv00, #Rv00, Hr00, #Rk00⟩
  try sl_exec
  have hA3 : Ab (0) (O + tallyAt (recvC11 (lft c)) (4 * (k.val + 1) + 4) N + tallyAt (recvC01 (rgt c)) (4 * (k.val + 1) + 4) N + tallyAt (credC11 (rgt c)) (4 * (k.val) + 7) 1 + tallyAt (credC01 (lft c)) (4 * (k.val) + 7) 1 + tallyAt (recvC10 (lft c)) (4 * (k.val + 1) + 2) N + tallyAt (recvC00 (rgt c)) (4 * (k.val + 1) + 2) N + tallyAt (credC10 (rgt c)) (4 * (k.val) + 5) 1 + tallyAt (credC00 (lft c)) (4 * (k.val) + 5) 1) := by
    repeat' first | exact ab_mono hO (by omega) | apply ab_add | (apply ab_tally <;> omega)
  iapply (wait_send10 X κ c (k.val) (by omega) (O + tallyAt (recvC11 (lft c)) (4 * (k.val + 1) + 4) N + tallyAt (recvC01 (rgt c)) (4 * (k.val + 1) + 4) N + tallyAt (credC11 (rgt c)) (4 * (k.val) + 7) 1 + tallyAt (credC01 (lft c)) (4 * (k.val) + 7) 1 + tallyAt (recvC10 (lft c)) (4 * (k.val + 1) + 2) N + tallyAt (recvC00 (rgt c)) (4 * (k.val + 1) + 2) N + tallyAt (credC10 (rgt c)) (4 * (k.val) + 5) 1 + tallyAt (credC00 (lft c)) (4 * (k.val) + 5) 1) hA3 (by first | rfl | exact credit10)) $$ [Sc10 HO Ss10]
  · isplitr; · iexact HE
    isplitl [Sc10]; · iexact Sc10
    isplitl [HO]; · iexact HO
    iexact Ss10
  iintro ⟨HO, Ss10, #Rs10, Ha10⟩
  try sl_exec
  have hA4 : Ab (4 * (k.val) + 2) (O + tallyAt (recvC11 (lft c)) (4 * (k.val + 1) + 4) N + tallyAt (recvC01 (rgt c)) (4 * (k.val + 1) + 4) N + tallyAt (credC11 (rgt c)) (4 * (k.val) + 7) 1 + tallyAt (credC01 (lft c)) (4 * (k.val) + 7) 1 + tallyAt (recvC10 (lft c)) (4 * (k.val + 1) + 2) N + tallyAt (recvC00 (rgt c)) (4 * (k.val + 1) + 2) N + tallyAt (credC10 (rgt c)) (4 * (k.val) + 5) 1 + tallyAt (credC00 (lft c)) (4 * (k.val) + 5) 1) := by
    repeat' first | exact ab_mono hO (by omega) | apply ab_add | (apply ab_tally <;> omega)
  iapply (wait_recv10 X κ c (k.val) (by omega) (O + tallyAt (recvC11 (lft c)) (4 * (k.val + 1) + 4) N + tallyAt (recvC01 (rgt c)) (4 * (k.val + 1) + 4) N + tallyAt (credC11 (rgt c)) (4 * (k.val) + 7) 1 + tallyAt (credC01 (lft c)) (4 * (k.val) + 7) 1 + tallyAt (recvC10 (lft c)) (4 * (k.val + 1) + 2) N + tallyAt (recvC00 (rgt c)) (4 * (k.val + 1) + 2) N + tallyAt (credC10 (rgt c)) (4 * (k.val) + 5) 1 + tallyAt (credC00 (lft c)) (4 * (k.val) + 5) 1) hA4 (by first | rfl | exact credit10)) $$ [Bv10 HO Sv10]
  · isplitr; · iexact HE
    isplitl [Bv10]; · iexact Bv10
    isplitl [HO]; · iexact HO
    iexact Sv10
  iintro ⟨HO, Sv10, #Rv10, Hr10, #Rk10⟩
  try sl_exec
  iapply (load_r00 c _) $$ [Hr00]
  · iexact Hr00
  iintro Hr00
  try sl_exec
  iapply (load_l00 c _) $$ [Hl0]
  · iexact Hl0
  iintro Hl0
  try sl_exec
  iapply (load_a00 c _ _) $$ [Ha00]
  · iexact Ha00
  iintro Ha00
  try sl_exec
  iapply (put00 c _ (shr (k.val + 1)) hs0 (hs1) _ (A X 0 (k.val + 1) c) ((congrArg (qv 0) (A_sum X 0 (by omega) c)).trans (pay_sum00 _ _))) $$ [Ha00]
  · iexact Ha00
  iintro Ha00
  try sl_exec
  iapply (load_r10 c _) $$ [Hr10]
  · iexact Hr10
  iintro Hr10
  try sl_exec
  iapply (load_l10 c _) $$ [Hl1]
  · iexact Hl1
  iintro Hl1
  try sl_exec
  iapply (load_a10 c _ _) $$ [Ha10]
  · iexact Ha10
  iintro Ha10
  try sl_exec
  iapply (put10 c _ (shr (k.val + 1)) hs0 (hs1) _ (A X 1 (k.val + 1) c) ((congrArg (qv 0) (A_sum X 1 (by omega) c)).trans (pay_sum10 _ _))) $$ [Ha10]
  · iexact Ha10
  iintro Ha10
  try sl_exec
  iapply (signal00 X κ c (k.val) _ (dev7_wd _ _) (by omega) (O + tallyAt (recvC11 (lft c)) (4 * (k.val + 1) + 4) N + tallyAt (recvC01 (rgt c)) (4 * (k.val + 1) + 4) N + tallyAt (credC11 (rgt c)) (4 * (k.val) + 7) 1 + tallyAt (credC01 (lft c)) (4 * (k.val) + 7) 1 + tallyAt (recvC10 (lft c)) (4 * (k.val + 1) + 2) N + tallyAt (recvC00 (rgt c)) (4 * (k.val + 1) + 2) N + tallyAt (credC10 (rgt c)) (4 * (k.val) + 5) 1) _ rfl (A X 0 k.val (lft c))) $$ [Hr00 Tk00 HO]
  · isplitr; · iexact HE
    isplitl [Hr00]; · iexact Hr00
    isplitr; · iexact Rv00
    isplitr; · iexact Rk00
    isplitl [Tk00]; · iexact Tk00
    iexact HO
  iintro HO
  try sl_exec
  iapply (signal10 X κ c (k.val) _ (dev8_wd _ _) (by omega) (O + tallyAt (recvC11 (lft c)) (4 * (k.val + 1) + 4) N + tallyAt (recvC01 (rgt c)) (4 * (k.val + 1) + 4) N + tallyAt (credC11 (rgt c)) (4 * (k.val) + 7) 1 + tallyAt (credC01 (lft c)) (4 * (k.val) + 7) 1 + tallyAt (recvC10 (lft c)) (4 * (k.val + 1) + 2) N + tallyAt (recvC00 (rgt c)) (4 * (k.val + 1) + 2) N) _ rfl (A X 1 k.val (rgt c))) $$ [Hr10 Tk10 HO]
  · isplitr; · iexact HE
    isplitl [Hr10]; · iexact Hr10
    isplitr; · iexact Rv10
    isplitr; · iexact Rk10
    isplitl [Tk10]; · iexact Tk10
    iexact HO
  iintro HO
  try sl_exec
  rw [dif_pos hc1]
  try sl_exec
  have hA5 : Ab (4 * (k.val) + 5) (O + tallyAt (recvC11 (lft c)) (4 * (k.val + 1) + 4) N + tallyAt (recvC01 (rgt c)) (4 * (k.val + 1) + 4) N + tallyAt (credC11 (rgt c)) (4 * (k.val) + 7) 1 + tallyAt (credC01 (lft c)) (4 * (k.val) + 7) 1 + tallyAt (recvC10 (lft c)) (4 * (k.val + 1) + 2) N + tallyAt (recvC00 (rgt c)) (4 * (k.val + 1) + 2) N) := by
    repeat' first | exact ab_mono hO (by omega) | apply ab_add | (apply ab_tally <;> omega)
  iapply (wait_cred00 X κ c (k.val) (by omega) (O + tallyAt (recvC11 (lft c)) (4 * (k.val + 1) + 4) N + tallyAt (recvC01 (rgt c)) (4 * (k.val + 1) + 4) N + tallyAt (credC11 (rgt c)) (4 * (k.val) + 7) 1 + tallyAt (credC01 (lft c)) (4 * (k.val) + 7) 1 + tallyAt (recvC10 (lft c)) (4 * (k.val + 1) + 2) N + tallyAt (recvC00 (rgt c)) (4 * (k.val + 1) + 2) N) hA5 _ rfl) $$ [Bk00 HO Sk00]
  · isplitr; · iexact HE
    isplitl [Bk00]; · iexact Bk00
    isplitl [HO]; · iexact HO
    iexact Sk00
  iintro ⟨HO, Sk00, #Rkk00, Hx00, #Rvx00⟩
  try sl_exec
  iapply (send00 X κ c (k.val + 1) _ (dev9_wd _ _) (by omega) (O + tallyAt (recvC11 (lft c)) (4 * (k.val + 1) + 4) N + tallyAt (recvC01 (rgt c)) (4 * (k.val + 1) + 4) N + tallyAt (credC11 (rgt c)) (4 * (k.val) + 7) 1 + tallyAt (credC01 (lft c)) (4 * (k.val) + 7) 1 + tallyAt (recvC10 (lft c)) (4 * (k.val + 1) + 2) N)) $$ [Ha00 Hx00 Ts00 Tv00 HO]
  · isplitr; · iexact HE
    isplitl [Ha00]; · iexact Ha00
    isplitl [Hx00]; · iexact Hx00
    isplitr; · iexact Rvx00
    isplitr; · iexact Rs00
    isplitr; · iexact Rkk00
    isplitl [Ts00]; · iexact Ts00
    isplitl [Tv00]; · iexact Tv00
    iexact HO
  iintro ⟨Sc00, HO⟩
  try sl_exec
  have hA6 : Ab (4 * (k.val) + 5) (O + tallyAt (recvC11 (lft c)) (4 * (k.val + 1) + 4) N + tallyAt (recvC01 (rgt c)) (4 * (k.val + 1) + 4) N + tallyAt (credC11 (rgt c)) (4 * (k.val) + 7) 1 + tallyAt (credC01 (lft c)) (4 * (k.val) + 7) 1 + tallyAt (recvC10 (lft c)) (4 * (k.val + 1) + 2) N) := by
    repeat' first | exact ab_mono hO (by omega) | apply ab_add | (apply ab_tally <;> omega)
  iapply (wait_cred10 X κ c (k.val) (by omega) (O + tallyAt (recvC11 (lft c)) (4 * (k.val + 1) + 4) N + tallyAt (recvC01 (rgt c)) (4 * (k.val + 1) + 4) N + tallyAt (credC11 (rgt c)) (4 * (k.val) + 7) 1 + tallyAt (credC01 (lft c)) (4 * (k.val) + 7) 1 + tallyAt (recvC10 (lft c)) (4 * (k.val + 1) + 2) N) hA6 _ rfl) $$ [Bk10 HO Sk10]
  · isplitr; · iexact HE
    isplitl [Bk10]; · iexact Bk10
    isplitl [HO]; · iexact HO
    iexact Sk10
  iintro ⟨HO, Sk10, #Rkk10, Hx10, #Rvx10⟩
  try sl_exec
  iapply (send10 X κ c (k.val + 1) _ (dev10_wd _ _) (by omega) (O + tallyAt (recvC11 (lft c)) (4 * (k.val + 1) + 4) N + tallyAt (recvC01 (rgt c)) (4 * (k.val + 1) + 4) N + tallyAt (credC11 (rgt c)) (4 * (k.val) + 7) 1 + tallyAt (credC01 (lft c)) (4 * (k.val) + 7) 1)) $$ [Ha10 Hx10 Ts10 Tv10 HO]
  · isplitr; · iexact HE
    isplitl [Ha10]; · iexact Ha10
    isplitl [Hx10]; · iexact Hx10
    isplitr; · iexact Rvx10
    isplitr; · iexact Rs10
    isplitr; · iexact Rkk10
    isplitl [Ts10]; · iexact Ts10
    isplitl [Tv10]; · iexact Tv10
    iexact HO
  iintro ⟨Sc10, HO⟩
  try sl_exec
  have hA7 : Ab (0) (O + tallyAt (recvC11 (lft c)) (4 * (k.val + 1) + 4) N + tallyAt (recvC01 (rgt c)) (4 * (k.val + 1) + 4) N + tallyAt (credC11 (rgt c)) (4 * (k.val) + 7) 1 + tallyAt (credC01 (lft c)) (4 * (k.val) + 7) 1) := by
    repeat' first | exact ab_mono hO (by omega) | apply ab_add | (apply ab_tally <;> omega)
  iapply (wait_send01 X κ c (k.val) (by omega) (O + tallyAt (recvC11 (lft c)) (4 * (k.val + 1) + 4) N + tallyAt (recvC01 (rgt c)) (4 * (k.val + 1) + 4) N + tallyAt (credC11 (rgt c)) (4 * (k.val) + 7) 1 + tallyAt (credC01 (lft c)) (4 * (k.val) + 7) 1) hA7 (by first | rfl | exact credit01)) $$ [Sc01 HO Ss01]
  · isplitr; · iexact HE
    isplitl [Sc01]; · iexact Sc01
    isplitl [HO]; · iexact HO
    iexact Ss01
  iintro ⟨HO, Ss01, #Rs01, Ha01⟩
  try sl_exec
  have hA8 : Ab (4 * (k.val) + 4) (O + tallyAt (recvC11 (lft c)) (4 * (k.val + 1) + 4) N + tallyAt (recvC01 (rgt c)) (4 * (k.val + 1) + 4) N + tallyAt (credC11 (rgt c)) (4 * (k.val) + 7) 1 + tallyAt (credC01 (lft c)) (4 * (k.val) + 7) 1) := by
    repeat' first | exact ab_mono hO (by omega) | apply ab_add | (apply ab_tally <;> omega)
  iapply (wait_recv01 X κ c (k.val) (by omega) (O + tallyAt (recvC11 (lft c)) (4 * (k.val + 1) + 4) N + tallyAt (recvC01 (rgt c)) (4 * (k.val + 1) + 4) N + tallyAt (credC11 (rgt c)) (4 * (k.val) + 7) 1 + tallyAt (credC01 (lft c)) (4 * (k.val) + 7) 1) hA8 (by first | rfl | exact credit01)) $$ [Bv01 HO Sv01]
  · isplitr; · iexact HE
    isplitl [Bv01]; · iexact Bv01
    isplitl [HO]; · iexact HO
    iexact Sv01
  iintro ⟨HO, Sv01, #Rv01, Hr01, #Rk01⟩
  try sl_exec
  have hA9 : Ab (0) (O + tallyAt (recvC11 (lft c)) (4 * (k.val + 1) + 4) N + tallyAt (recvC01 (rgt c)) (4 * (k.val + 1) + 4) N + tallyAt (credC11 (rgt c)) (4 * (k.val) + 7) 1 + tallyAt (credC01 (lft c)) (4 * (k.val) + 7) 1) := by
    repeat' first | exact ab_mono hO (by omega) | apply ab_add | (apply ab_tally <;> omega)
  iapply (wait_send11 X κ c (k.val) (by omega) (O + tallyAt (recvC11 (lft c)) (4 * (k.val + 1) + 4) N + tallyAt (recvC01 (rgt c)) (4 * (k.val + 1) + 4) N + tallyAt (credC11 (rgt c)) (4 * (k.val) + 7) 1 + tallyAt (credC01 (lft c)) (4 * (k.val) + 7) 1) hA9 (by first | rfl | exact credit11)) $$ [Sc11 HO Ss11]
  · isplitr; · iexact HE
    isplitl [Sc11]; · iexact Sc11
    isplitl [HO]; · iexact HO
    iexact Ss11
  iintro ⟨HO, Ss11, #Rs11, Ha11⟩
  try sl_exec
  have hA10 : Ab (4 * (k.val) + 4) (O + tallyAt (recvC11 (lft c)) (4 * (k.val + 1) + 4) N + tallyAt (recvC01 (rgt c)) (4 * (k.val + 1) + 4) N + tallyAt (credC11 (rgt c)) (4 * (k.val) + 7) 1 + tallyAt (credC01 (lft c)) (4 * (k.val) + 7) 1) := by
    repeat' first | exact ab_mono hO (by omega) | apply ab_add | (apply ab_tally <;> omega)
  iapply (wait_recv11 X κ c (k.val) (by omega) (O + tallyAt (recvC11 (lft c)) (4 * (k.val + 1) + 4) N + tallyAt (recvC01 (rgt c)) (4 * (k.val + 1) + 4) N + tallyAt (credC11 (rgt c)) (4 * (k.val) + 7) 1 + tallyAt (credC01 (lft c)) (4 * (k.val) + 7) 1) hA10 (by first | rfl | exact credit11)) $$ [Bv11 HO Sv11]
  · isplitr; · iexact HE
    isplitl [Bv11]; · iexact Bv11
    isplitl [HO]; · iexact HO
    iexact Sv11
  iintro ⟨HO, Sv11, #Rv11, Hr11, #Rk11⟩
  try sl_exec
  iapply (load_r01 c _) $$ [Hr01]
  · iexact Hr01
  iintro Hr01
  try sl_exec
  iapply (load_l01 c _) $$ [Hl0]
  · iexact Hl0
  iintro Hl0
  try sl_exec
  iapply (load_a01 c _ _) $$ [Ha01]
  · iexact Ha01
  iintro Ha01
  try sl_exec
  iapply (put01 c _ (shr (k.val + 1)) hs0 (hs1) _ (A X 0 (k.val + 1) c) ((congrArg (qv 1) (A_sum X 0 (by omega) c)).trans (pay_sum01 _ _))) $$ [Ha01]
  · iexact Ha01
  iintro Ha01
  try sl_exec
  iapply (load_r11 c _) $$ [Hr11]
  · iexact Hr11
  iintro Hr11
  try sl_exec
  iapply (load_l11 c _) $$ [Hl1]
  · iexact Hl1
  iintro Hl1
  try sl_exec
  iapply (load_a11 c _ _) $$ [Ha11]
  · iexact Ha11
  iintro Ha11
  try sl_exec
  iapply (put11 c _ (shr (k.val + 1)) hs0 (hs1) _ (A X 1 (k.val + 1) c) ((congrArg (qv 1) (A_sum X 1 (by omega) c)).trans (pay_sum11 _ _))) $$ [Ha11]
  · iexact Ha11
  iintro Ha11
  try sl_exec
  iapply (signal01 X κ c (k.val) _ (dev11_wd _ _) (by omega) (O + tallyAt (recvC11 (lft c)) (4 * (k.val + 1) + 4) N + tallyAt (recvC01 (rgt c)) (4 * (k.val + 1) + 4) N + tallyAt (credC11 (rgt c)) (4 * (k.val) + 7) 1) _ rfl (A X 0 k.val (lft c))) $$ [Hr01 Tk01 HO]
  · isplitr; · iexact HE
    isplitl [Hr01]; · iexact Hr01
    isplitr; · iexact Rv01
    isplitr; · iexact Rk01
    isplitl [Tk01]; · iexact Tk01
    iexact HO
  iintro HO
  try sl_exec
  iapply (signal11 X κ c (k.val) _ (dev12_wd _ _) (by omega) (O + tallyAt (recvC11 (lft c)) (4 * (k.val + 1) + 4) N + tallyAt (recvC01 (rgt c)) (4 * (k.val + 1) + 4) N) _ rfl (A X 1 k.val (rgt c))) $$ [Hr11 Tk11 HO]
  · isplitr; · iexact HE
    isplitl [Hr11]; · iexact Hr11
    isplitr; · iexact Rv11
    isplitr; · iexact Rk11
    isplitl [Tk11]; · iexact Tk11
    iexact HO
  iintro HO
  try sl_exec
  rw [dif_pos hc2]
  try sl_exec
  have hA11 : Ab (4 * (k.val) + 7) (O + tallyAt (recvC11 (lft c)) (4 * (k.val + 1) + 4) N + tallyAt (recvC01 (rgt c)) (4 * (k.val + 1) + 4) N) := by
    repeat' first | exact ab_mono hO (by omega) | apply ab_add | (apply ab_tally <;> omega)
  iapply (wait_cred01 X κ c (k.val) (by omega) (O + tallyAt (recvC11 (lft c)) (4 * (k.val + 1) + 4) N + tallyAt (recvC01 (rgt c)) (4 * (k.val + 1) + 4) N) hA11 _ rfl) $$ [Bk01 HO Sk01]
  · isplitr; · iexact HE
    isplitl [Bk01]; · iexact Bk01
    isplitl [HO]; · iexact HO
    iexact Sk01
  iintro ⟨HO, Sk01, #Rkk01, Hx01, #Rvx01⟩
  try sl_exec
  iapply (send01 X κ c (k.val + 1) _ (dev13_wd _ _) (by omega) (O + tallyAt (recvC11 (lft c)) (4 * (k.val + 1) + 4) N)) $$ [Ha01 Hx01 Ts01 Tv01 HO]
  · isplitr; · iexact HE
    isplitl [Ha01]; · iexact Ha01
    isplitl [Hx01]; · iexact Hx01
    isplitr; · iexact Rvx01
    isplitr; · iexact Rs01
    isplitr; · iexact Rkk01
    isplitl [Ts01]; · iexact Ts01
    isplitl [Tv01]; · iexact Tv01
    iexact HO
  iintro ⟨Sc01, HO⟩
  try sl_exec
  have hA12 : Ab (4 * (k.val) + 7) (O + tallyAt (recvC11 (lft c)) (4 * (k.val + 1) + 4) N) := by
    repeat' first | exact ab_mono hO (by omega) | apply ab_add | (apply ab_tally <;> omega)
  iapply (wait_cred11 X κ c (k.val) (by omega) (O + tallyAt (recvC11 (lft c)) (4 * (k.val + 1) + 4) N) hA12 _ rfl) $$ [Bk11 HO Sk11]
  · isplitr; · iexact HE
    isplitl [Bk11]; · iexact Bk11
    isplitl [HO]; · iexact HO
    iexact Sk11
  iintro ⟨HO, Sk11, #Rkk11, Hx11, #Rvx11⟩
  try sl_exec
  iapply (send11 X κ c (k.val + 1) _ (dev14_wd _ _) (by omega) (O)) $$ [Ha11 Hx11 Ts11 Tv11 HO]
  · isplitr; · iexact HE
    isplitl [Ha11]; · iexact Ha11
    isplitl [Hx11]; · iexact Hx11
    isplitr; · iexact Rvx11
    isplitr; · iexact Rs11
    isplitr; · iexact Rkk11
    isplitl [Ts11]; · iexact Ts11
    isplitl [Tv11]; · iexact Tv11
    iexact HO
  iintro ⟨Sc11, HO⟩
  try sl_exec
  simp only [Prog.bind, Prog.pure_eq_ret]
  rw [wp_ret]
  imodintro
  iapply HK
  isplitl [Hx]; · iexact Hx
  isplitl [Hw]; · iexact Hw
  isplitl [Hl0]; · iexists _; iexact Hl0
  isplitl [Hl1]; · iexists _; iexact Hl1
  isplitl [Ss00 Sv00 Sk00 Sc00]
  · isplitl [Ss00]; · iexact Ss00
    isplitl [Sv00]; · iexact Sv00
    isplitl [Sk00]; · iexact Sk00
    iexact Sc00
  isplitl [Ss10 Sv10 Sk10 Sc10]
  · isplitl [Ss10]; · iexact Ss10
    isplitl [Sv10]; · iexact Sv10
    isplitl [Sk10]; · iexact Sk10
    iexact Sc10
  isplitl [Ss01 Sv01 Sk01 Sc01]
  · isplitl [Ss01]; · iexact Ss01
    isplitl [Sv01]; · iexact Sv01
    isplitl [Sk01]; · iexact Sk01
    iexact Sc01
  isplitl [Ss11 Sv11 Sk11 Sc11]
  · isplitl [Ss11]; · iexact Ss11
    isplitl [Sv11]; · iexact Sv11
    isplitl [Sk11]; · iexact Sk11
    iexact Sc11
  iexact HO

set_option maxHeartbeats 4000000 in
/-- The last trip of the reducing loop: as the others, but nothing is sent on. -/
theorem rs_last (c : Dev nD) (k : Fin k0_t1_loop.trips) (hk : k.val = 30) (O : CellTallies nD τ sig ℕ) (hO : Ab (4 * k.val + 8) O) {Q : Unit → sProp 𝕄} :
    iprop(env X κ ∗ xPts c (X.x c) ∗ wPts c (X.w c) ∗ (∃ f, lPts0 (F := F) c f) ∗ (∃ f, lPts1 (F := F) c f) ∗ st00 c k.val ∗ st10 c k.val ∗ st01 c k.val ∗ st11 c k.val ∗ tb00 (F := F) c k.val ∗ tb10 (F := F) c k.val ∗ tb01 (F := F) c k.val ∗ tb11 (F := F) c k.val ∗ owesE c (O + tallyAt (recvC11 (lft c)) (4 * (30 + 1) + 4) N + tallyAt (recvC01 (rgt c)) (4 * (30 + 1) + 4) N + tallyAt (recvC10 (lft c)) (4 * (30 + 1) + 2) N + tallyAt (recvC00 (rgt c)) (4 * (30 + 1) + 2) N + tallyAt (credC11 (rgt c)) (4 * (k.val) + 7) 1 + tallyAt (credC01 (lft c)) (4 * (k.val) + 7) 1 + tallyAt (credC10 (rgt c)) (4 * (k.val) + 5) 1 + tallyAt (credC00 (lft c)) (4 * (k.val) + 5) 1))
      ⊢ iprop(((xPts c (X.x c) ∗ wPts c (X.w c) ∗ (∃ f, lPts0 (F := F) c f) ∗ (∃ f, lPts1 (F := F) c f) ∗ mid00 X c k.val ∗ mid10 X c k.val ∗ mid01 X c k.val ∗ mid11 X c k.val ∗ owesE c (O + tallyAt (recvC11 (lft c)) (4 * (30 + 1) + 4) N + tallyAt (recvC01 (rgt c)) (4 * (30 + 1) + 4) N + tallyAt (recvC10 (lft c)) (4 * (30 + 1) + 2) N + tallyAt (recvC00 (rgt c)) (4 * (30 + 1) + 2) N)) -∗ Q ()) -∗ wp frame (wpE (defs₀ (F := F)) 𝒱₀ (c : Thread nD τ) none) Set.univ (body1 c k ()) Q) := by
  unfold body1 k0_t1_body
  simp only [k0_part1_eq_skeleton, k0_part2_eq_skeleton, k0_part3_eq_skeleton, k0_part4_eq_skeleton]
  unfold k0_part1_skel k0_part2_skel k0_part3_skel k0_part4_skel
  have hc1 : ¬ k0_cond1 k = 1#1 := fun h => absurd ((cond1_iff k).mp h) (by omega)
  have hc2 : ¬ k0_cond2 k = 1#1 := fun h => absurd ((cond2_iff k).mp h) (by omega)
  have hs0 : shr k.val = fullShare := shr_full (by omega)
  unfold st00 tb00 mid00
  unfold st10 tb10 mid10
  unfold st01 tb01 mid01
  unfold st11 tb11 mid11
  iintro ⟨#HE, Hx, Hw, ⟨%l0, Hl0⟩, ⟨%l1, Hl1⟩, ⟨Ss00, Sv00, Sk00, Sc00⟩, ⟨Ss10, Sv10, Sk10, Sc10⟩, ⟨Ss01, Sv01, Sk01, Sc01⟩, ⟨Ss11, Sv11, Sk11, Sc11⟩, ⟨Bv00, Bk00, Tk00, Tv00, Ts00⟩, ⟨Bv10, Bk10, Tk10, Tv10, Ts10⟩, ⟨Bv01, Bk01, Tk01, Tv01, Ts01⟩, ⟨Bv11, Bk11, Tk11, Tv11, Ts11⟩, HO⟩ HK
  try sl_exec
  iapply (load_x c (back 0 (rank c) (k.val + 1)) _ (off2_wd0 (rank c) k)) $$ [Hx]
  · iexact Hx
  iintro Hx
  try sl_exec
  iapply (load_w0 c _) $$ [Hw]
  · iexact Hw
  iintro Hw
  try sl_exec
  iapply (load_lw0 c _) $$ [Hl0]
  · iexact Hl0
  iintro Hl0
  try sl_exec
  iapply (store_lw0 c _ (w := part X 0 c (back 0 (rank c) (k.val + 1)))) $$ [Hl0]
  · iexact Hl0
  iintro Hl0
  try sl_exec
  iapply (load_x c (back 1 (rank c) (k.val + 1)) _ (off2_wd1 (rank c) k)) $$ [Hx]
  · iexact Hx
  iintro Hx
  try sl_exec
  iapply (load_w1 c _) $$ [Hw]
  · iexact Hw
  iintro Hw
  try sl_exec
  iapply (load_lw1 c _) $$ [Hl1]
  · iexact Hl1
  iintro Hl1
  try sl_exec
  iapply (store_lw1 c _ (w := part X 1 c (back 1 (rank c) (k.val + 1)))) $$ [Hl1]
  · iexact Hl1
  iintro Hl1
  try sl_exec
  have hA1 : Ab (0) (O + tallyAt (recvC11 (lft c)) (4 * (30 + 1) + 4) N + tallyAt (recvC01 (rgt c)) (4 * (30 + 1) + 4) N + tallyAt (recvC10 (lft c)) (4 * (30 + 1) + 2) N + tallyAt (recvC00 (rgt c)) (4 * (30 + 1) + 2) N + tallyAt (credC11 (rgt c)) (4 * (k.val) + 7) 1 + tallyAt (credC01 (lft c)) (4 * (k.val) + 7) 1 + tallyAt (credC10 (rgt c)) (4 * (k.val) + 5) 1 + tallyAt (credC00 (lft c)) (4 * (k.val) + 5) 1) := by
    repeat' first | exact ab_mono hO (by omega) | apply ab_add | (apply ab_tally <;> omega)
  iapply (wait_send00 X κ c (k.val) (by omega) (O + tallyAt (recvC11 (lft c)) (4 * (30 + 1) + 4) N + tallyAt (recvC01 (rgt c)) (4 * (30 + 1) + 4) N + tallyAt (recvC10 (lft c)) (4 * (30 + 1) + 2) N + tallyAt (recvC00 (rgt c)) (4 * (30 + 1) + 2) N + tallyAt (credC11 (rgt c)) (4 * (k.val) + 7) 1 + tallyAt (credC01 (lft c)) (4 * (k.val) + 7) 1 + tallyAt (credC10 (rgt c)) (4 * (k.val) + 5) 1 + tallyAt (credC00 (lft c)) (4 * (k.val) + 5) 1) hA1 (by first | rfl | exact credit00)) $$ [Sc00 HO Ss00]
  · isplitr; · iexact HE
    isplitl [Sc00]; · iexact Sc00
    isplitl [HO]; · iexact HO
    iexact Ss00
  iintro ⟨HO, Ss00, #Rs00, Ha00⟩
  try sl_exec
  have hA2 : Ab (4 * (k.val) + 2) (O + tallyAt (recvC11 (lft c)) (4 * (30 + 1) + 4) N + tallyAt (recvC01 (rgt c)) (4 * (30 + 1) + 4) N + tallyAt (recvC10 (lft c)) (4 * (30 + 1) + 2) N + tallyAt (recvC00 (rgt c)) (4 * (30 + 1) + 2) N + tallyAt (credC11 (rgt c)) (4 * (k.val) + 7) 1 + tallyAt (credC01 (lft c)) (4 * (k.val) + 7) 1 + tallyAt (credC10 (rgt c)) (4 * (k.val) + 5) 1 + tallyAt (credC00 (lft c)) (4 * (k.val) + 5) 1) := by
    repeat' first | exact ab_mono hO (by omega) | apply ab_add | (apply ab_tally <;> omega)
  iapply (wait_recv00 X κ c (k.val) (by omega) (O + tallyAt (recvC11 (lft c)) (4 * (30 + 1) + 4) N + tallyAt (recvC01 (rgt c)) (4 * (30 + 1) + 4) N + tallyAt (recvC10 (lft c)) (4 * (30 + 1) + 2) N + tallyAt (recvC00 (rgt c)) (4 * (30 + 1) + 2) N + tallyAt (credC11 (rgt c)) (4 * (k.val) + 7) 1 + tallyAt (credC01 (lft c)) (4 * (k.val) + 7) 1 + tallyAt (credC10 (rgt c)) (4 * (k.val) + 5) 1 + tallyAt (credC00 (lft c)) (4 * (k.val) + 5) 1) hA2 (by first | rfl | exact credit00)) $$ [Bv00 HO Sv00]
  · isplitr; · iexact HE
    isplitl [Bv00]; · iexact Bv00
    isplitl [HO]; · iexact HO
    iexact Sv00
  iintro ⟨HO, Sv00, #Rv00, Hr00, #Rk00⟩
  try sl_exec
  have hA3 : Ab (0) (O + tallyAt (recvC11 (lft c)) (4 * (30 + 1) + 4) N + tallyAt (recvC01 (rgt c)) (4 * (30 + 1) + 4) N + tallyAt (recvC10 (lft c)) (4 * (30 + 1) + 2) N + tallyAt (recvC00 (rgt c)) (4 * (30 + 1) + 2) N + tallyAt (credC11 (rgt c)) (4 * (k.val) + 7) 1 + tallyAt (credC01 (lft c)) (4 * (k.val) + 7) 1 + tallyAt (credC10 (rgt c)) (4 * (k.val) + 5) 1 + tallyAt (credC00 (lft c)) (4 * (k.val) + 5) 1) := by
    repeat' first | exact ab_mono hO (by omega) | apply ab_add | (apply ab_tally <;> omega)
  iapply (wait_send10 X κ c (k.val) (by omega) (O + tallyAt (recvC11 (lft c)) (4 * (30 + 1) + 4) N + tallyAt (recvC01 (rgt c)) (4 * (30 + 1) + 4) N + tallyAt (recvC10 (lft c)) (4 * (30 + 1) + 2) N + tallyAt (recvC00 (rgt c)) (4 * (30 + 1) + 2) N + tallyAt (credC11 (rgt c)) (4 * (k.val) + 7) 1 + tallyAt (credC01 (lft c)) (4 * (k.val) + 7) 1 + tallyAt (credC10 (rgt c)) (4 * (k.val) + 5) 1 + tallyAt (credC00 (lft c)) (4 * (k.val) + 5) 1) hA3 (by first | rfl | exact credit10)) $$ [Sc10 HO Ss10]
  · isplitr; · iexact HE
    isplitl [Sc10]; · iexact Sc10
    isplitl [HO]; · iexact HO
    iexact Ss10
  iintro ⟨HO, Ss10, #Rs10, Ha10⟩
  try sl_exec
  have hA4 : Ab (4 * (k.val) + 2) (O + tallyAt (recvC11 (lft c)) (4 * (30 + 1) + 4) N + tallyAt (recvC01 (rgt c)) (4 * (30 + 1) + 4) N + tallyAt (recvC10 (lft c)) (4 * (30 + 1) + 2) N + tallyAt (recvC00 (rgt c)) (4 * (30 + 1) + 2) N + tallyAt (credC11 (rgt c)) (4 * (k.val) + 7) 1 + tallyAt (credC01 (lft c)) (4 * (k.val) + 7) 1 + tallyAt (credC10 (rgt c)) (4 * (k.val) + 5) 1 + tallyAt (credC00 (lft c)) (4 * (k.val) + 5) 1) := by
    repeat' first | exact ab_mono hO (by omega) | apply ab_add | (apply ab_tally <;> omega)
  iapply (wait_recv10 X κ c (k.val) (by omega) (O + tallyAt (recvC11 (lft c)) (4 * (30 + 1) + 4) N + tallyAt (recvC01 (rgt c)) (4 * (30 + 1) + 4) N + tallyAt (recvC10 (lft c)) (4 * (30 + 1) + 2) N + tallyAt (recvC00 (rgt c)) (4 * (30 + 1) + 2) N + tallyAt (credC11 (rgt c)) (4 * (k.val) + 7) 1 + tallyAt (credC01 (lft c)) (4 * (k.val) + 7) 1 + tallyAt (credC10 (rgt c)) (4 * (k.val) + 5) 1 + tallyAt (credC00 (lft c)) (4 * (k.val) + 5) 1) hA4 (by first | rfl | exact credit10)) $$ [Bv10 HO Sv10]
  · isplitr; · iexact HE
    isplitl [Bv10]; · iexact Bv10
    isplitl [HO]; · iexact HO
    iexact Sv10
  iintro ⟨HO, Sv10, #Rv10, Hr10, #Rk10⟩
  try sl_exec
  iapply (load_r00 c _) $$ [Hr00]
  · iexact Hr00
  iintro Hr00
  try sl_exec
  iapply (load_l00 c _) $$ [Hl0]
  · iexact Hl0
  iintro Hl0
  try sl_exec
  iapply (load_a00 c _ _) $$ [Ha00]
  · iexact Ha00
  iintro Ha00
  try sl_exec
  iapply (put00 c _ fullShare hs0 (rfl) _ (A X 0 (k.val + 1) c) ((congrArg (qv 0) (A_sum X 0 (by omega) c)).trans (pay_sum00 _ _))) $$ [Ha00]
  · iexact Ha00
  iintro Ha00
  try sl_exec
  iapply (load_r10 c _) $$ [Hr10]
  · iexact Hr10
  iintro Hr10
  try sl_exec
  iapply (load_l10 c _) $$ [Hl1]
  · iexact Hl1
  iintro Hl1
  try sl_exec
  iapply (load_a10 c _ _) $$ [Ha10]
  · iexact Ha10
  iintro Ha10
  try sl_exec
  iapply (put10 c _ fullShare hs0 (rfl) _ (A X 1 (k.val + 1) c) ((congrArg (qv 0) (A_sum X 1 (by omega) c)).trans (pay_sum10 _ _))) $$ [Ha10]
  · iexact Ha10
  iintro Ha10
  try sl_exec
  iapply (signal00 X κ c (k.val) _ (dev7_wd _ _) (by omega) (O + tallyAt (recvC11 (lft c)) (4 * (30 + 1) + 4) N + tallyAt (recvC01 (rgt c)) (4 * (30 + 1) + 4) N + tallyAt (recvC10 (lft c)) (4 * (30 + 1) + 2) N + tallyAt (recvC00 (rgt c)) (4 * (30 + 1) + 2) N + tallyAt (credC11 (rgt c)) (4 * (k.val) + 7) 1 + tallyAt (credC01 (lft c)) (4 * (k.val) + 7) 1 + tallyAt (credC10 (rgt c)) (4 * (k.val) + 5) 1) _ rfl (A X 0 k.val (lft c))) $$ [Hr00 Tk00 HO]
  · isplitr; · iexact HE
    isplitl [Hr00]; · iexact Hr00
    isplitr; · iexact Rv00
    isplitr; · iexact Rk00
    isplitl [Tk00]; · iexact Tk00
    iexact HO
  iintro HO
  try sl_exec
  iapply (signal10 X κ c (k.val) _ (dev8_wd _ _) (by omega) (O + tallyAt (recvC11 (lft c)) (4 * (30 + 1) + 4) N + tallyAt (recvC01 (rgt c)) (4 * (30 + 1) + 4) N + tallyAt (recvC10 (lft c)) (4 * (30 + 1) + 2) N + tallyAt (recvC00 (rgt c)) (4 * (30 + 1) + 2) N + tallyAt (credC11 (rgt c)) (4 * (k.val) + 7) 1 + tallyAt (credC01 (lft c)) (4 * (k.val) + 7) 1) _ rfl (A X 1 k.val (rgt c))) $$ [Hr10 Tk10 HO]
  · isplitr; · iexact HE
    isplitl [Hr10]; · iexact Hr10
    isplitr; · iexact Rv10
    isplitr; · iexact Rk10
    isplitl [Tk10]; · iexact Tk10
    iexact HO
  iintro HO
  try sl_exec
  rw [dif_neg hc1]
  try sl_exec
  have hA5 : Ab (0) (O + tallyAt (recvC11 (lft c)) (4 * (30 + 1) + 4) N + tallyAt (recvC01 (rgt c)) (4 * (30 + 1) + 4) N + tallyAt (recvC10 (lft c)) (4 * (30 + 1) + 2) N + tallyAt (recvC00 (rgt c)) (4 * (30 + 1) + 2) N + tallyAt (credC11 (rgt c)) (4 * (k.val) + 7) 1 + tallyAt (credC01 (lft c)) (4 * (k.val) + 7) 1) := by
    repeat' first | exact ab_mono hO (by omega) | apply ab_add | (apply ab_tally <;> omega)
  iapply (wait_send01 X κ c (k.val) (by omega) (O + tallyAt (recvC11 (lft c)) (4 * (30 + 1) + 4) N + tallyAt (recvC01 (rgt c)) (4 * (30 + 1) + 4) N + tallyAt (recvC10 (lft c)) (4 * (30 + 1) + 2) N + tallyAt (recvC00 (rgt c)) (4 * (30 + 1) + 2) N + tallyAt (credC11 (rgt c)) (4 * (k.val) + 7) 1 + tallyAt (credC01 (lft c)) (4 * (k.val) + 7) 1) hA5 (by first | rfl | exact credit01)) $$ [Sc01 HO Ss01]
  · isplitr; · iexact HE
    isplitl [Sc01]; · iexact Sc01
    isplitl [HO]; · iexact HO
    iexact Ss01
  iintro ⟨HO, Ss01, #Rs01, Ha01⟩
  try sl_exec
  have hA6 : Ab (4 * (k.val) + 4) (O + tallyAt (recvC11 (lft c)) (4 * (30 + 1) + 4) N + tallyAt (recvC01 (rgt c)) (4 * (30 + 1) + 4) N + tallyAt (recvC10 (lft c)) (4 * (30 + 1) + 2) N + tallyAt (recvC00 (rgt c)) (4 * (30 + 1) + 2) N + tallyAt (credC11 (rgt c)) (4 * (k.val) + 7) 1 + tallyAt (credC01 (lft c)) (4 * (k.val) + 7) 1) := by
    repeat' first | exact ab_mono hO (by omega) | apply ab_add | (apply ab_tally <;> omega)
  iapply (wait_recv01 X κ c (k.val) (by omega) (O + tallyAt (recvC11 (lft c)) (4 * (30 + 1) + 4) N + tallyAt (recvC01 (rgt c)) (4 * (30 + 1) + 4) N + tallyAt (recvC10 (lft c)) (4 * (30 + 1) + 2) N + tallyAt (recvC00 (rgt c)) (4 * (30 + 1) + 2) N + tallyAt (credC11 (rgt c)) (4 * (k.val) + 7) 1 + tallyAt (credC01 (lft c)) (4 * (k.val) + 7) 1) hA6 (by first | rfl | exact credit01)) $$ [Bv01 HO Sv01]
  · isplitr; · iexact HE
    isplitl [Bv01]; · iexact Bv01
    isplitl [HO]; · iexact HO
    iexact Sv01
  iintro ⟨HO, Sv01, #Rv01, Hr01, #Rk01⟩
  try sl_exec
  have hA7 : Ab (0) (O + tallyAt (recvC11 (lft c)) (4 * (30 + 1) + 4) N + tallyAt (recvC01 (rgt c)) (4 * (30 + 1) + 4) N + tallyAt (recvC10 (lft c)) (4 * (30 + 1) + 2) N + tallyAt (recvC00 (rgt c)) (4 * (30 + 1) + 2) N + tallyAt (credC11 (rgt c)) (4 * (k.val) + 7) 1 + tallyAt (credC01 (lft c)) (4 * (k.val) + 7) 1) := by
    repeat' first | exact ab_mono hO (by omega) | apply ab_add | (apply ab_tally <;> omega)
  iapply (wait_send11 X κ c (k.val) (by omega) (O + tallyAt (recvC11 (lft c)) (4 * (30 + 1) + 4) N + tallyAt (recvC01 (rgt c)) (4 * (30 + 1) + 4) N + tallyAt (recvC10 (lft c)) (4 * (30 + 1) + 2) N + tallyAt (recvC00 (rgt c)) (4 * (30 + 1) + 2) N + tallyAt (credC11 (rgt c)) (4 * (k.val) + 7) 1 + tallyAt (credC01 (lft c)) (4 * (k.val) + 7) 1) hA7 (by first | rfl | exact credit11)) $$ [Sc11 HO Ss11]
  · isplitr; · iexact HE
    isplitl [Sc11]; · iexact Sc11
    isplitl [HO]; · iexact HO
    iexact Ss11
  iintro ⟨HO, Ss11, #Rs11, Ha11⟩
  try sl_exec
  have hA8 : Ab (4 * (k.val) + 4) (O + tallyAt (recvC11 (lft c)) (4 * (30 + 1) + 4) N + tallyAt (recvC01 (rgt c)) (4 * (30 + 1) + 4) N + tallyAt (recvC10 (lft c)) (4 * (30 + 1) + 2) N + tallyAt (recvC00 (rgt c)) (4 * (30 + 1) + 2) N + tallyAt (credC11 (rgt c)) (4 * (k.val) + 7) 1 + tallyAt (credC01 (lft c)) (4 * (k.val) + 7) 1) := by
    repeat' first | exact ab_mono hO (by omega) | apply ab_add | (apply ab_tally <;> omega)
  iapply (wait_recv11 X κ c (k.val) (by omega) (O + tallyAt (recvC11 (lft c)) (4 * (30 + 1) + 4) N + tallyAt (recvC01 (rgt c)) (4 * (30 + 1) + 4) N + tallyAt (recvC10 (lft c)) (4 * (30 + 1) + 2) N + tallyAt (recvC00 (rgt c)) (4 * (30 + 1) + 2) N + tallyAt (credC11 (rgt c)) (4 * (k.val) + 7) 1 + tallyAt (credC01 (lft c)) (4 * (k.val) + 7) 1) hA8 (by first | rfl | exact credit11)) $$ [Bv11 HO Sv11]
  · isplitr; · iexact HE
    isplitl [Bv11]; · iexact Bv11
    isplitl [HO]; · iexact HO
    iexact Sv11
  iintro ⟨HO, Sv11, #Rv11, Hr11, #Rk11⟩
  try sl_exec
  iapply (load_r01 c _) $$ [Hr01]
  · iexact Hr01
  iintro Hr01
  try sl_exec
  iapply (load_l01 c _) $$ [Hl0]
  · iexact Hl0
  iintro Hl0
  try sl_exec
  iapply (load_a01 c _ _) $$ [Ha01]
  · iexact Ha01
  iintro Ha01
  try sl_exec
  iapply (put01 c _ fullShare hs0 (rfl) _ (A X 0 (k.val + 1) c) ((congrArg (qv 1) (A_sum X 0 (by omega) c)).trans (pay_sum01 _ _))) $$ [Ha01]
  · iexact Ha01
  iintro Ha01
  try sl_exec
  iapply (load_r11 c _) $$ [Hr11]
  · iexact Hr11
  iintro Hr11
  try sl_exec
  iapply (load_l11 c _) $$ [Hl1]
  · iexact Hl1
  iintro Hl1
  try sl_exec
  iapply (load_a11 c _ _) $$ [Ha11]
  · iexact Ha11
  iintro Ha11
  try sl_exec
  iapply (put11 c _ fullShare hs0 (rfl) _ (A X 1 (k.val + 1) c) ((congrArg (qv 1) (A_sum X 1 (by omega) c)).trans (pay_sum11 _ _))) $$ [Ha11]
  · iexact Ha11
  iintro Ha11
  try sl_exec
  iapply (signal01 X κ c (k.val) _ (dev11_wd _ _) (by omega) (O + tallyAt (recvC11 (lft c)) (4 * (30 + 1) + 4) N + tallyAt (recvC01 (rgt c)) (4 * (30 + 1) + 4) N + tallyAt (recvC10 (lft c)) (4 * (30 + 1) + 2) N + tallyAt (recvC00 (rgt c)) (4 * (30 + 1) + 2) N + tallyAt (credC11 (rgt c)) (4 * (k.val) + 7) 1) _ rfl (A X 0 k.val (lft c))) $$ [Hr01 Tk01 HO]
  · isplitr; · iexact HE
    isplitl [Hr01]; · iexact Hr01
    isplitr; · iexact Rv01
    isplitr; · iexact Rk01
    isplitl [Tk01]; · iexact Tk01
    iexact HO
  iintro HO
  try sl_exec
  iapply (signal11 X κ c (k.val) _ (dev12_wd _ _) (by omega) (O + tallyAt (recvC11 (lft c)) (4 * (30 + 1) + 4) N + tallyAt (recvC01 (rgt c)) (4 * (30 + 1) + 4) N + tallyAt (recvC10 (lft c)) (4 * (30 + 1) + 2) N + tallyAt (recvC00 (rgt c)) (4 * (30 + 1) + 2) N) _ rfl (A X 1 k.val (rgt c))) $$ [Hr11 Tk11 HO]
  · isplitr; · iexact HE
    isplitl [Hr11]; · iexact Hr11
    isplitr; · iexact Rv11
    isplitr; · iexact Rk11
    isplitl [Tk11]; · iexact Tk11
    iexact HO
  iintro HO
  try sl_exec
  rw [dif_neg hc2]
  try sl_exec
  simp only [Prog.bind, Prog.pure_eq_ret]
  rw [wp_ret]
  imodintro
  iapply HK
  isplitl [Hx]; · iexact Hx
  isplitl [Hw]; · iexact Hw
  isplitl [Hl0]; · iexists _; iexact Hl0
  isplitl [Hl1]; · iexists _; iexact Hl1
  isplitl [Ss00 Sv00 Sk00 Ha00 Bk00 Tv00 Ts00]
  · isplitl [Ss00]; · iexact Ss00
    isplitl [Sv00]; · iexact Sv00
    isplitl [Sk00]; · iexact Sk00
    isplitl [Ha00]; · iexact Ha00
    isplitr; · iexact Rs00
    isplitl [Bk00]; · iexact Bk00
    isplitl [Tv00]; · iexact Tv00
    iexact Ts00
  isplitl [Ss10 Sv10 Sk10 Ha10 Bk10 Tv10 Ts10]
  · isplitl [Ss10]; · iexact Ss10
    isplitl [Sv10]; · iexact Sv10
    isplitl [Sk10]; · iexact Sk10
    isplitl [Ha10]; · iexact Ha10
    isplitr; · iexact Rs10
    isplitl [Bk10]; · iexact Bk10
    isplitl [Tv10]; · iexact Tv10
    iexact Ts10
  isplitl [Ss01 Sv01 Sk01 Ha01 Bk01 Tv01 Ts01]
  · isplitl [Ss01]; · iexact Ss01
    isplitl [Sv01]; · iexact Sv01
    isplitl [Sk01]; · iexact Sk01
    isplitl [Ha01]; · iexact Ha01
    isplitr; · iexact Rs01
    isplitl [Bk01]; · iexact Bk01
    isplitl [Tv01]; · iexact Tv01
    iexact Ts01
  isplitl [Ss11 Sv11 Sk11 Ha11 Bk11 Tv11 Ts11]
  · isplitl [Ss11]; · iexact Ss11
    isplitl [Sv11]; · iexact Sv11
    isplitl [Sk11]; · iexact Sk11
    isplitl [Ha11]; · iexact Ha11
    isplitr; · iexact Rs11
    isplitl [Bk11]; · iexact Bk11
    isplitl [Tv11]; · iexact Tv11
    iexact Ts11
  iexact HO

end Cert.Proof.KernelIdeal
-- ==== Proof.KernelIdealCopies.lean ====
/- The kernel's own copies into the result, its cell of the largest magnitude, and how the buffers' quarters join. -/
module

public import Idealize.ShloMosaic.Lib.Transfers
public import proofs.«01_k».proof.Proof.KernelIdealRules

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)

variable {F : FTy → Type} [FloatOps F]

local notation "𝕄" => MT nD τ sig ℕ (Elt F) ℕ UU ℕ

variable (X : Shards F) (κ : GSem nD τ sig → ℕ)

def EC : UEmb Counters 𝕄 := countersEmb (U := UU)
instance EC_landsIn : ((EC (F := F)).LandsIn (upEmb : UEmb _ 𝕄)) := by unfold EC; infer_instance

theorem piece_inb (i : Fin 32) (o n : ℕ) (h : o + n ≤ 8192) : ∀ a, (![128 * i.val, o] : Fin 2 → ℕ) a + (![128, n] : Fin 2 → ℕ) a ≤ S4096x8192.size a := rows_inb i o n h

/-- A copy between two of the core's own buffers. -/
theorem copy_any (c : Dev nD) {sp sp' : Space} {s : Shape} (src : Memref sig .tc sp s .f32) (dst : Memref sig .tc sp' s .f32) {sm : DmaSem sig}
    (Sd : Finset (Idx (dst.view.loc (c : Thread nD τ)))) (hSd : dst.view.set ⊆ Sd) (h0 : 0 < dst.view.dmaCredit) (q : PosShare TreeShare)
    (fs : Buf (Elt F) (src.view.loc (c : Thread nD τ))) (fd : Buf (Elt F) (dst.view.loc (c : Thread nD τ)))
    {α : Type} {Q : α → sProp 𝕄} {k : PUnit → Prog (TpuEff nD τ sig (Elt F) Λ₀ .tc) α}
    {hsrc : src.view.WordExact} {hdst : dst.view.WordExact} {hsem : DmaTarget.Typed (nD := nD) sp (.dma sm) (DmaTarget.here (p := Proc.tc) dst)} :
    iprop((src.view.loc (c : Thread nD τ) ↦[src.view.set]{q} fs) ∗ (dst.view.loc (c : Thread nD τ) ↦[Sd]{fullShare} fd) ∗ semVal ((c : Thread nD τ), .dma sm) 0)
      ⊢ iprop((Transfers.Flight EC (c : Thread nD τ) (.dma sm) 0 dst.view.dmaCredit iprop((dst.view.loc (c : Thread nD τ) ↦[Sd]{fullShare} (dst.view.write (Elt F) fd (src.view.read (Elt F) fs) Finset.univ))
                                    ∗ (src.view.loc (c : Thread nD τ) ↦[src.view.set]{q} fs))
              -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) (.dma sm) hsrc hdst hsem) k) Q) :=
  by
    have h := Transfers.wp_dmaLocal EC 𝒱₀ (c : Thread nD τ) none (src := src) (dst := dst) (via := .same) (sm := .dma sm) (hsrc := hsrc) (hdst := hdst) (hsem := hsem) (k := k) (Q := Q) (defs := defs₀ (F := F)) (q := q) (fs := fs) (Sd := Sd) (fd := fd) 0 dst.view.dmaCredit rfl h0 hSd
    exact h

/-- Where element `x` of half a row block lies in the result: row block `i`, half `d`. -/
def opos (d : Fin 2) (i : Fin 32) (x : S128x4096.Idx) : S4096x8192.Idx := fun a =>
  match a with
  | 0 => (⟨128 * i.val + (x 0).val, by have h := i.isLt; have h' : (x 0).val < 128 := (x 0).isLt; show _ < 4096; omega⟩ : Fin 4096)
  | 1 => (⟨4096 * d.val + (x 1).val, by have h := d.isLt; have h' : (x 1).val < 4096 := (x 1).isLt; show _ < 8192; omega⟩ : Fin 8192)

/-- The columns of half `d` of the result. -/
def ocol (d : Fin 2) : Finset S4096x8192.Idx := Finset.univ.filter fun y => (y 1).val / 4096 = d.val

/-- Half `d` of the result at contents. -/
def oPts (d : Fin 2) (c : Dev nD) (g : Vec F S4096x8192 .f32) : sProp 𝕄 :=
  oM.view.loc (c : Thread nD τ) ↦[(ocol d : Finset (Idx (oM.view.loc (c : Thread nD τ))))]{fullShare} (g : Buf (Elt F) (oM.view.loc (c : Thread nD τ)))

/-- Direction 0, quarter 0: the landing quarter at a share, the semaphore of its copies, the piece of the result it goes to. -/
def rSh00 (p : PosShare TreeShare) (c : Dev nD) (f : Vec F S128x4096 .f32) : sProp 𝕄 :=
  rq00.view.loc (c : Thread nD τ) ↦[rq00.view.set]{p} (f : Buf (Elt F) (rq00.view.loc (c : Thread nD τ)))
theorem r_split00 (c : Dev nD) (f : Vec F S128x4096 .f32) : rPts00 c f ⊢ iprop(rSh00 (fullShare : PosShare TreeShare).left c f ∗ rSh00 (fullShare : PosShare TreeShare).right c f) :=
  (pointsTo_share (PosShare.mem_left_op_right fullShare)).1
theorem r_merge00 (c : Dev nD) (f : Vec F S128x4096 .f32) : iprop(rSh00 (fullShare : PosShare TreeShare).left c f ∗ rSh00 (fullShare : PosShare TreeShare).right c f) ⊢ rPts00 c f :=
  (pointsTo_share (PosShare.mem_left_op_right fullShare)).2
theorem a_split00 (c : Dev nD) (f : Vec F S128x4096 .f32) : aPts00 fullShare c f ⊢ iprop(aPts00 (fullShare : PosShare TreeShare).left c f ∗ aPts00 (fullShare : PosShare TreeShare).right c f) :=
  (pointsTo_share (PosShare.mem_left_op_right fullShare)).1
theorem a_merge00 (c : Dev nD) (f : Vec F S128x4096 .f32) : iprop(aPts00 (fullShare : PosShare TreeShare).left c f ∗ aPts00 (fullShare : PosShare TreeShare).right c f) ⊢ aPts00 fullShare c f :=
  (pointsTo_share (PosShare.mem_left_op_right fullShare)).2
abbrev stS00 : DmaSem sig := ((cc0_scratch10.slice (Rect.unit (s := S2) ![0] S1.size inb_S2_S1_0)).squeeze S_ squeezes_S1_S_).sem
abbrev ob00 (i : Fin 32) : Memref sig .tc .hbm S128x2048 .f32 := oM.slice (Rect.unit (s := S4096x8192) ![128 * i.val, 0] S128x2048.size (piece_inb i 0 2048 (by decide))) (fun _ => rfl)
/-- The result after the copy of that quarter. -/
def wr00 (i : Fin 32) (g : Vec F S4096x8192 .f32) (f : Vec F S128x4096 .f32) : Vec F S4096x8192 .f32 :=
  (ob00 i).view.write (Elt F) g ((rq00 : Memref sig .tc .vmem S128x2048 .f32).view.read (Elt F) f) Finset.univ
/-- The copy on its way. -/
def fly00 (c : Dev nD) (i : Fin 32) (g : Vec F S4096x8192 .f32) (f : Vec F S128x4096 .f32) : sProp 𝕄 :=
  Transfers.Flight EC (c : Thread nD τ) (.dma stS00) 0 (ob00 i).view.dmaCredit iprop(oPts 0 c (wr00 i g f) ∗ rSh00 (fullShare : PosShare TreeShare).left c f)

theorem ob_set00 (i : Fin 32) : (ob00 i).view.set ⊆ (ocol 0 : Finset S4096x8192.Idx) := by
  intro y hy
  obtain ⟨x, -, rfl⟩ := Finset.mem_map.mp hy
  have hx : (x 1).val < 2048 := (x 1).isLt
  refine Finset.mem_filter.mpr ⟨Finset.mem_univ _, ?_⟩
  show (0 + 1 * (x 1).val) / 4096 = 0
  omega

theorem ob_pos00 (i : Fin 32) : 0 < (ob00 i).view.dmaCredit := View.dmaCredit_pos _ (by decide)
theorem copy00 (c : Dev nD) (i : Fin 32) (g : Vec F S4096x8192 .f32) (f : Vec F S128x4096 .f32) {off : Fin 2 → ℕ} (ho : off = ![128 * i.val, 0])
    {α : Type} {Q : α → sProp 𝕄} {k : PUnit → Prog (TpuEff nD τ sig (Elt F) Λ₀ .tc) α} {hb : ∀ a, off a + S128x2048.size a ≤ S4096x8192.size a}
    {hsrc : (rq00 : Memref sig .tc .vmem S128x2048 .f32).view.WordExact}
    {hdst : (oM.slice (Rect.unit (s := S4096x8192) off S128x2048.size hb) (fun _ => rfl) : Memref sig .tc .hbm S128x2048 .f32).view.WordExact}
    {hsem : DmaTarget.Typed (nD := nD) .vmem (.dma stS00) (DmaTarget.here (p := Proc.tc) (oM.slice (Rect.unit (s := S4096x8192) off S128x2048.size hb) (fun _ => rfl) : Memref sig .tc .hbm S128x2048 .f32))} :
    iprop(rSh00 (fullShare : PosShare TreeShare).left c f ∗ oPts 0 c g ∗ semVal ((c : Thread nD τ), .dma stS00) 0)
      ⊢ iprop((fly00 c i g f -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma rq00 (.here (oM.slice (Rect.unit (s := S4096x8192) off S128x2048.size hb) (fun _ => rfl))) (.dma stS00) hsrc hdst hsem) k) Q) := by
  subst ho
  exact copy_any c rq00 (ob00 i) (ocol 0) (ob_set00 i) (ob_pos00 i) _ f g

theorem landed_copy00 (c : Dev nD) (i : Fin 32) (g : Vec F S4096x8192 .f32) (f : Vec F S128x4096 .f32) {off : Fin 2 → ℕ} (ho : off = ![128 * i.val, 0])
    (O : CellTallies nD τ sig ℕ) (hA : Ab 0 O)
    {α : Type} {Q : α → sProp 𝕄} {k : PUnit → Prog (TpuEff nD τ sig (Elt F) Λ₀ .tc) α} {hb : ∀ a, off a + S128x2048.size a ≤ S4096x8192.size a}
    {hsrc : (rq00 : Memref sig .tc .vmem S128x2048 .f32).view.WordExact}
    {hdst : (oM.slice (Rect.unit (s := S4096x8192) off S128x2048.size hb) (fun _ => rfl) : Memref sig .tc .hbm S128x2048 .f32).view.WordExact} :
    iprop(env X κ ∗ fly00 c i g f ∗ owesE c O)
      ⊢ iprop((iprop(oPts 0 c (wr00 i g f) ∗ rSh00 (fullShare : PosShare TreeShare).left c f ∗ semVal ((c : Thread nD τ), .dma stS00) 0 ∗ owesE c O) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 stS00 rq00 (oM.slice (Rect.unit (s := S4096x8192) off S128x2048.size hb) (fun _ => rfl)) hsrc hdst) k) Q) := by
  subst ho
  unfold owesE fly00
  iintro ⟨#HE, Hf, ⟨%W, HO⟩⟩ Hk
  iapply (Transfers.wp_waitLocalO EC 𝒱₀ (c : Thread nD τ) none 0 (N := (ob00 i).view.dmaCredit) rfl) $$ [Hf HO]
  · isplitl [Hf]; · iexact Hf
    isplitl [HO]; · iexact HO
    iapply (env_mayWait X κ c (.dma stS00) (by decide) hA); iexact HE
  iintro ⟨⟨Ho, Hr⟩, Hv, HO⟩
  iapply Hk
  isplitl [Ho]; · iexact Ho
  isplitl [Hr]; · iexact Hr
  isplitl [Hv]; · iexact Hv
  iexists _; iexact HO

theorem load_rSh00 (c : Dev nD) (p : PosShare TreeShare) (f : Vec F S128x4096 .f32) {α : Type} {Q : α → sProp 𝕄} {hb : ∀ a, (![0, 0] : Fin 2 → ℕ) a + S128x2048.size a ≤ S128x4096.size a}
    {hl : (rM0 : Memref sig .tc .vmem S128x4096 .f32).view.LoadsAt (Rect.unit (s := S128x4096) ![0, 0] S128x2048.size hb).toLoadRect} {k : Vec F S128x2048 .f32 → Prog (TpuEff nD τ sig (Elt F) Λ₀ .tc) α} :
    rSh00 p c f ⊢ iprop((rSh00 p c f -∗ wp frame (wpE (defs₀ (F := F)) 𝒱₀ (c : Thread nD τ) none) Set.univ (k (qv 0 f)) Q)
      -∗ wp frame (wpE (defs₀ (F := F)) 𝒱₀ (c : Thread nD τ) none) Set.univ (.op (.load rM0 (Rect.unit (s := S128x4096) ![0, 0] S128x2048.size hb).toLoadRect hl) k) Q) :=
  load_any c rM0 (Rect.unit (s := S128x4096) ![0, 0] S128x2048.size hb) (qv 0 f) rfl (le_of_eq rfl)

theorem wr_in00 (i : Fin 32) (g : Vec F S4096x8192 .f32) (f : Vec F S128x4096 .f32) (x : S128x4096.Idx) (h0 : 0 ≤ (x 1).val) (h1 : (x 1).val < 2048) :
    wr00 i g f (opos 0 i x) = f x := by
  obtain ⟨m, hm⟩ : ∃ m, (x 1).val = 0 + m := ⟨(x 1).val - 0, by omega⟩
  have hlt : m < 2048 := by omega
  let y : S128x2048.Idx := fun a => match a with | 0 => (⟨(x 0).val, (x 0).isLt⟩ : Fin 128) | 1 => (⟨m, hlt⟩ : Fin 2048)
  have e : (ob00 i).view.emb y = opos 0 i x := by
    funext a; apply Fin.ext
    match a with
    | 0 => show 128 * i.val + 1 * (x 0).val = 128 * i.val + (x 0).val; omega
    | 1 => show 0 + 1 * m = 4096 * 0 + (x 1).val; omega
  have e' : (rq00 : Memref sig .tc .vmem S128x2048 .f32).view.emb y = x := by
    funext a; apply Fin.ext
    match a with
    | 0 => show 0 + 1 * (x 0).val = (x 0).val; omega
    | 1 => show 0 + 1 * m = (x 1).val; omega
  rw [← e]
  refine (View.write_emb_of_mem _ _ (Finset.mem_univ y)).trans ?_
  exact congrArg f e'

theorem wr_out00 (i i' : Fin 32) (g : Vec F S4096x8192 .f32) (f : Vec F S128x4096 .f32) (x : S128x4096.Idx) (h : i' ≠ i ∨ ¬ (0 ≤ (x 1).val ∧ (x 1).val < 2048)) :
    wr00 i g f (opos 0 i' x) = g (opos 0 i' x) := by
  refine View.write_of_not_mem _ _ _ ?_
  rw [View.setOn_univ]
  intro hy
  obtain ⟨y, -, e⟩ := Finset.mem_map.mp hy
  have h0 : 128 * i.val + 1 * (y 0).val = 128 * i'.val + (x 0).val := congrArg (fun z : S4096x8192.Idx => (z 0).val) e
  have h1 : 0 + 1 * (y 1).val = 4096 * 0 + (x 1).val := congrArg (fun z : S4096x8192.Idx => (z 1).val) e
  have b0 : (y 0).val < 128 := (y 0).isLt
  have b1 : (y 1).val < 2048 := (y 1).isLt
  have b2 : (x 0).val < 128 := (x 0).isLt
  rcases h with h | h
  · exact h (Fin.ext (by omega))
  · exact h (by omega)

/-- Direction 0, quarter 1: the landing quarter at a share, the semaphore of its copies, the piece of the result it goes to. -/
def rSh01 (p : PosShare TreeShare) (c : Dev nD) (f : Vec F S128x4096 .f32) : sProp 𝕄 :=
  rq01.view.loc (c : Thread nD τ) ↦[rq01.view.set]{p} (f : Buf (Elt F) (rq01.view.loc (c : Thread nD τ)))
theorem r_split01 (c : Dev nD) (f : Vec F S128x4096 .f32) : rPts01 c f ⊢ iprop(rSh01 (fullShare : PosShare TreeShare).left c f ∗ rSh01 (fullShare : PosShare TreeShare).right c f) :=
  (pointsTo_share (PosShare.mem_left_op_right fullShare)).1
theorem r_merge01 (c : Dev nD) (f : Vec F S128x4096 .f32) : iprop(rSh01 (fullShare : PosShare TreeShare).left c f ∗ rSh01 (fullShare : PosShare TreeShare).right c f) ⊢ rPts01 c f :=
  (pointsTo_share (PosShare.mem_left_op_right fullShare)).2
theorem a_split01 (c : Dev nD) (f : Vec F S128x4096 .f32) : aPts01 fullShare c f ⊢ iprop(aPts01 (fullShare : PosShare TreeShare).left c f ∗ aPts01 (fullShare : PosShare TreeShare).right c f) :=
  (pointsTo_share (PosShare.mem_left_op_right fullShare)).1
theorem a_merge01 (c : Dev nD) (f : Vec F S128x4096 .f32) : iprop(aPts01 (fullShare : PosShare TreeShare).left c f ∗ aPts01 (fullShare : PosShare TreeShare).right c f) ⊢ aPts01 fullShare c f :=
  (pointsTo_share (PosShare.mem_left_op_right fullShare)).2
abbrev stS01 : DmaSem sig := ((cc0_scratch10.slice (Rect.unit (s := S2) ![1] S1.size inb_S2_S1_1)).squeeze S_ squeezes_S1_S_).sem
abbrev ob01 (i : Fin 32) : Memref sig .tc .hbm S128x2048 .f32 := oM.slice (Rect.unit (s := S4096x8192) ![128 * i.val, 2048] S128x2048.size (piece_inb i 2048 2048 (by decide))) (fun _ => rfl)
/-- The result after the copy of that quarter. -/
def wr01 (i : Fin 32) (g : Vec F S4096x8192 .f32) (f : Vec F S128x4096 .f32) : Vec F S4096x8192 .f32 :=
  (ob01 i).view.write (Elt F) g ((rq01 : Memref sig .tc .vmem S128x2048 .f32).view.read (Elt F) f) Finset.univ
/-- The copy on its way. -/
def fly01 (c : Dev nD) (i : Fin 32) (g : Vec F S4096x8192 .f32) (f : Vec F S128x4096 .f32) : sProp 𝕄 :=
  Transfers.Flight EC (c : Thread nD τ) (.dma stS01) 0 (ob01 i).view.dmaCredit iprop(oPts 0 c (wr01 i g f) ∗ rSh01 (fullShare : PosShare TreeShare).left c f)

theorem ob_set01 (i : Fin 32) : (ob01 i).view.set ⊆ (ocol 0 : Finset S4096x8192.Idx) := by
  intro y hy
  obtain ⟨x, -, rfl⟩ := Finset.mem_map.mp hy
  have hx : (x 1).val < 2048 := (x 1).isLt
  refine Finset.mem_filter.mpr ⟨Finset.mem_univ _, ?_⟩
  show (2048 + 1 * (x 1).val) / 4096 = 0
  omega

theorem ob_pos01 (i : Fin 32) : 0 < (ob01 i).view.dmaCredit := View.dmaCredit_pos _ (by decide)
theorem copy01 (c : Dev nD) (i : Fin 32) (g : Vec F S4096x8192 .f32) (f : Vec F S128x4096 .f32) {off : Fin 2 → ℕ} (ho : off = ![128 * i.val, 2048])
    {α : Type} {Q : α → sProp 𝕄} {k : PUnit → Prog (TpuEff nD τ sig (Elt F) Λ₀ .tc) α} {hb : ∀ a, off a + S128x2048.size a ≤ S4096x8192.size a}
    {hsrc : (rq01 : Memref sig .tc .vmem S128x2048 .f32).view.WordExact}
    {hdst : (oM.slice (Rect.unit (s := S4096x8192) off S128x2048.size hb) (fun _ => rfl) : Memref sig .tc .hbm S128x2048 .f32).view.WordExact}
    {hsem : DmaTarget.Typed (nD := nD) .vmem (.dma stS01) (DmaTarget.here (p := Proc.tc) (oM.slice (Rect.unit (s := S4096x8192) off S128x2048.size hb) (fun _ => rfl) : Memref sig .tc .hbm S128x2048 .f32))} :
    iprop(rSh01 (fullShare : PosShare TreeShare).left c f ∗ oPts 0 c g ∗ semVal ((c : Thread nD τ), .dma stS01) 0)
      ⊢ iprop((fly01 c i g f -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma rq01 (.here (oM.slice (Rect.unit (s := S4096x8192) off S128x2048.size hb) (fun _ => rfl))) (.dma stS01) hsrc hdst hsem) k) Q) := by
  subst ho
  exact copy_any c rq01 (ob01 i) (ocol 0) (ob_set01 i) (ob_pos01 i) _ f g

theorem landed_copy01 (c : Dev nD) (i : Fin 32) (g : Vec F S4096x8192 .f32) (f : Vec F S128x4096 .f32) {off : Fin 2 → ℕ} (ho : off = ![128 * i.val, 2048])
    (O : CellTallies nD τ sig ℕ) (hA : Ab 0 O)
    {α : Type} {Q : α → sProp 𝕄} {k : PUnit → Prog (TpuEff nD τ sig (Elt F) Λ₀ .tc) α} {hb : ∀ a, off a + S128x2048.size a ≤ S4096x8192.size a}
    {hsrc : (rq01 : Memref sig .tc .vmem S128x2048 .f32).view.WordExact}
    {hdst : (oM.slice (Rect.unit (s := S4096x8192) off S128x2048.size hb) (fun _ => rfl) : Memref sig .tc .hbm S128x2048 .f32).view.WordExact} :
    iprop(env X κ ∗ fly01 c i g f ∗ owesE c O)
      ⊢ iprop((iprop(oPts 0 c (wr01 i g f) ∗ rSh01 (fullShare : PosShare TreeShare).left c f ∗ semVal ((c : Thread nD τ), .dma stS01) 0 ∗ owesE c O) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 stS01 rq01 (oM.slice (Rect.unit (s := S4096x8192) off S128x2048.size hb) (fun _ => rfl)) hsrc hdst) k) Q) := by
  subst ho
  unfold owesE fly01
  iintro ⟨#HE, Hf, ⟨%W, HO⟩⟩ Hk
  iapply (Transfers.wp_waitLocalO EC 𝒱₀ (c : Thread nD τ) none 0 (N := (ob01 i).view.dmaCredit) rfl) $$ [Hf HO]
  · isplitl [Hf]; · iexact Hf
    isplitl [HO]; · iexact HO
    iapply (env_mayWait X κ c (.dma stS01) (by decide) hA); iexact HE
  iintro ⟨⟨Ho, Hr⟩, Hv, HO⟩
  iapply Hk
  isplitl [Ho]; · iexact Ho
  isplitl [Hr]; · iexact Hr
  isplitl [Hv]; · iexact Hv
  iexists _; iexact HO

theorem load_rSh01 (c : Dev nD) (p : PosShare TreeShare) (f : Vec F S128x4096 .f32) {α : Type} {Q : α → sProp 𝕄} {hb : ∀ a, (![0, 2048] : Fin 2 → ℕ) a + S128x2048.size a ≤ S128x4096.size a}
    {hl : (rM0 : Memref sig .tc .vmem S128x4096 .f32).view.LoadsAt (Rect.unit (s := S128x4096) ![0, 2048] S128x2048.size hb).toLoadRect} {k : Vec F S128x2048 .f32 → Prog (TpuEff nD τ sig (Elt F) Λ₀ .tc) α} :
    rSh01 p c f ⊢ iprop((rSh01 p c f -∗ wp frame (wpE (defs₀ (F := F)) 𝒱₀ (c : Thread nD τ) none) Set.univ (k (qv 1 f)) Q)
      -∗ wp frame (wpE (defs₀ (F := F)) 𝒱₀ (c : Thread nD τ) none) Set.univ (.op (.load rM0 (Rect.unit (s := S128x4096) ![0, 2048] S128x2048.size hb).toLoadRect hl) k) Q) :=
  load_any c rM0 (Rect.unit (s := S128x4096) ![0, 2048] S128x2048.size hb) (qv 1 f) rfl (le_of_eq rfl)

theorem wr_in01 (i : Fin 32) (g : Vec F S4096x8192 .f32) (f : Vec F S128x4096 .f32) (x : S128x4096.Idx) (h0 : 2048 ≤ (x 1).val) (h1 : (x 1).val < 4096) :
    wr01 i g f (opos 0 i x) = f x := by
  obtain ⟨m, hm⟩ : ∃ m, (x 1).val = 2048 + m := ⟨(x 1).val - 2048, by omega⟩
  have hlt : m < 2048 := by omega
  let y : S128x2048.Idx := fun a => match a with | 0 => (⟨(x 0).val, (x 0).isLt⟩ : Fin 128) | 1 => (⟨m, hlt⟩ : Fin 2048)
  have e : (ob01 i).view.emb y = opos 0 i x := by
    funext a; apply Fin.ext
    match a with
    | 0 => show 128 * i.val + 1 * (x 0).val = 128 * i.val + (x 0).val; omega
    | 1 => show 2048 + 1 * m = 4096 * 0 + (x 1).val; omega
  have e' : (rq01 : Memref sig .tc .vmem S128x2048 .f32).view.emb y = x := by
    funext a; apply Fin.ext
    match a with
    | 0 => show 0 + 1 * (x 0).val = (x 0).val; omega
    | 1 => show 2048 + 1 * m = (x 1).val; omega
  rw [← e]
  refine (View.write_emb_of_mem _ _ (Finset.mem_univ y)).trans ?_
  exact congrArg f e'

theorem wr_out01 (i i' : Fin 32) (g : Vec F S4096x8192 .f32) (f : Vec F S128x4096 .f32) (x : S128x4096.Idx) (h : i' ≠ i ∨ ¬ (2048 ≤ (x 1).val ∧ (x 1).val < 4096)) :
    wr01 i g f (opos 0 i' x) = g (opos 0 i' x) := by
  refine View.write_of_not_mem _ _ _ ?_
  rw [View.setOn_univ]
  intro hy
  obtain ⟨y, -, e⟩ := Finset.mem_map.mp hy
  have h0 : 128 * i.val + 1 * (y 0).val = 128 * i'.val + (x 0).val := congrArg (fun z : S4096x8192.Idx => (z 0).val) e
  have h1 : 2048 + 1 * (y 1).val = 4096 * 0 + (x 1).val := congrArg (fun z : S4096x8192.Idx => (z 1).val) e
  have b0 : (y 0).val < 128 := (y 0).isLt
  have b1 : (y 1).val < 2048 := (y 1).isLt
  have b2 : (x 0).val < 128 := (x 0).isLt
  rcases h with h | h
  · exact h (Fin.ext (by omega))
  · exact h (by omega)

/-- Direction 1, quarter 0: the landing quarter at a share, the semaphore of its copies, the piece of the result it goes to. -/
def rSh10 (p : PosShare TreeShare) (c : Dev nD) (f : Vec F S128x4096 .f32) : sProp 𝕄 :=
  rq10.view.loc (c : Thread nD τ) ↦[rq10.view.set]{p} (f : Buf (Elt F) (rq10.view.loc (c : Thread nD τ)))
theorem r_split10 (c : Dev nD) (f : Vec F S128x4096 .f32) : rPts10 c f ⊢ iprop(rSh10 (fullShare : PosShare TreeShare).left c f ∗ rSh10 (fullShare : PosShare TreeShare).right c f) :=
  (pointsTo_share (PosShare.mem_left_op_right fullShare)).1
theorem r_merge10 (c : Dev nD) (f : Vec F S128x4096 .f32) : iprop(rSh10 (fullShare : PosShare TreeShare).left c f ∗ rSh10 (fullShare : PosShare TreeShare).right c f) ⊢ rPts10 c f :=
  (pointsTo_share (PosShare.mem_left_op_right fullShare)).2
theorem a_split10 (c : Dev nD) (f : Vec F S128x4096 .f32) : aPts10 fullShare c f ⊢ iprop(aPts10 (fullShare : PosShare TreeShare).left c f ∗ aPts10 (fullShare : PosShare TreeShare).right c f) :=
  (pointsTo_share (PosShare.mem_left_op_right fullShare)).1
theorem a_merge10 (c : Dev nD) (f : Vec F S128x4096 .f32) : iprop(aPts10 (fullShare : PosShare TreeShare).left c f ∗ aPts10 (fullShare : PosShare TreeShare).right c f) ⊢ aPts10 fullShare c f :=
  (pointsTo_share (PosShare.mem_left_op_right fullShare)).2
abbrev stS10 : DmaSem sig := ((cc0_scratch11.slice (Rect.unit (s := S2) ![0] S1.size inb_S2_S1_0)).squeeze S_ squeezes_S1_S_).sem
abbrev ob10 (i : Fin 32) : Memref sig .tc .hbm S128x2048 .f32 := oM.slice (Rect.unit (s := S4096x8192) ![128 * i.val, 4096] S128x2048.size (piece_inb i 4096 2048 (by decide))) (fun _ => rfl)
/-- The result after the copy of that quarter. -/
def wr10 (i : Fin 32) (g : Vec F S4096x8192 .f32) (f : Vec F S128x4096 .f32) : Vec F S4096x8192 .f32 :=
  (ob10 i).view.write (Elt F) g ((rq10 : Memref sig .tc .vmem S128x2048 .f32).view.read (Elt F) f) Finset.univ
/-- The copy on its way. -/
def fly10 (c : Dev nD) (i : Fin 32) (g : Vec F S4096x8192 .f32) (f : Vec F S128x4096 .f32) : sProp 𝕄 :=
  Transfers.Flight EC (c : Thread nD τ) (.dma stS10) 0 (ob10 i).view.dmaCredit iprop(oPts 1 c (wr10 i g f) ∗ rSh10 (fullShare : PosShare TreeShare).left c f)

theorem ob_set10 (i : Fin 32) : (ob10 i).view.set ⊆ (ocol 1 : Finset S4096x8192.Idx) := by
  intro y hy
  obtain ⟨x, -, rfl⟩ := Finset.mem_map.mp hy
  have hx : (x 1).val < 2048 := (x 1).isLt
  refine Finset.mem_filter.mpr ⟨Finset.mem_univ _, ?_⟩
  show (4096 + 1 * (x 1).val) / 4096 = 1
  omega

theorem ob_pos10 (i : Fin 32) : 0 < (ob10 i).view.dmaCredit := View.dmaCredit_pos _ (by decide)
theorem copy10 (c : Dev nD) (i : Fin 32) (g : Vec F S4096x8192 .f32) (f : Vec F S128x4096 .f32) {off : Fin 2 → ℕ} (ho : off = ![128 * i.val, 4096])
    {α : Type} {Q : α → sProp 𝕄} {k : PUnit → Prog (TpuEff nD τ sig (Elt F) Λ₀ .tc) α} {hb : ∀ a, off a + S128x2048.size a ≤ S4096x8192.size a}
    {hsrc : (rq10 : Memref sig .tc .vmem S128x2048 .f32).view.WordExact}
    {hdst : (oM.slice (Rect.unit (s := S4096x8192) off S128x2048.size hb) (fun _ => rfl) : Memref sig .tc .hbm S128x2048 .f32).view.WordExact}
    {hsem : DmaTarget.Typed (nD := nD) .vmem (.dma stS10) (DmaTarget.here (p := Proc.tc) (oM.slice (Rect.unit (s := S4096x8192) off S128x2048.size hb) (fun _ => rfl) : Memref sig .tc .hbm S128x2048 .f32))} :
    iprop(rSh10 (fullShare : PosShare TreeShare).left c f ∗ oPts 1 c g ∗ semVal ((c : Thread nD τ), .dma stS10) 0)
      ⊢ iprop((fly10 c i g f -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma rq10 (.here (oM.slice (Rect.unit (s := S4096x8192) off S128x2048.size hb) (fun _ => rfl))) (.dma stS10) hsrc hdst hsem) k) Q) := by
  subst ho
  exact copy_any c rq10 (ob10 i) (ocol 1) (ob_set10 i) (ob_pos10 i) _ f g

theorem landed_copy10 (c : Dev nD) (i : Fin 32) (g : Vec F S4096x8192 .f32) (f : Vec F S128x4096 .f32) {off : Fin 2 → ℕ} (ho : off = ![128 * i.val, 4096])
    (O : CellTallies nD τ sig ℕ) (hA : Ab 0 O)
    {α : Type} {Q : α → sProp 𝕄} {k : PUnit → Prog (TpuEff nD τ sig (Elt F) Λ₀ .tc) α} {hb : ∀ a, off a + S128x2048.size a ≤ S4096x8192.size a}
    {hsrc : (rq10 : Memref sig .tc .vmem S128x2048 .f32).view.WordExact}
    {hdst : (oM.slice (Rect.unit (s := S4096x8192) off S128x2048.size hb) (fun _ => rfl) : Memref sig .tc .hbm S128x2048 .f32).view.WordExact} :
    iprop(env X κ ∗ fly10 c i g f ∗ owesE c O)
      ⊢ iprop((iprop(oPts 1 c (wr10 i g f) ∗ rSh10 (fullShare : PosShare TreeShare).left c f ∗ semVal ((c : Thread nD τ), .dma stS10) 0 ∗ owesE c O) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 stS10 rq10 (oM.slice (Rect.unit (s := S4096x8192) off S128x2048.size hb) (fun _ => rfl)) hsrc hdst) k) Q) := by
  subst ho
  unfold owesE fly10
  iintro ⟨#HE, Hf, ⟨%W, HO⟩⟩ Hk
  iapply (Transfers.wp_waitLocalO EC 𝒱₀ (c : Thread nD τ) none 0 (N := (ob10 i).view.dmaCredit) rfl) $$ [Hf HO]
  · isplitl [Hf]; · iexact Hf
    isplitl [HO]; · iexact HO
    iapply (env_mayWait X κ c (.dma stS10) (by decide) hA); iexact HE
  iintro ⟨⟨Ho, Hr⟩, Hv, HO⟩
  iapply Hk
  isplitl [Ho]; · iexact Ho
  isplitl [Hr]; · iexact Hr
  isplitl [Hv]; · iexact Hv
  iexists _; iexact HO

theorem load_rSh10 (c : Dev nD) (p : PosShare TreeShare) (f : Vec F S128x4096 .f32) {α : Type} {Q : α → sProp 𝕄} {hb : ∀ a, (![0, 0] : Fin 2 → ℕ) a + S128x2048.size a ≤ S128x4096.size a}
    {hl : (rM1 : Memref sig .tc .vmem S128x4096 .f32).view.LoadsAt (Rect.unit (s := S128x4096) ![0, 0] S128x2048.size hb).toLoadRect} {k : Vec F S128x2048 .f32 → Prog (TpuEff nD τ sig (Elt F) Λ₀ .tc) α} :
    rSh10 p c f ⊢ iprop((rSh10 p c f -∗ wp frame (wpE (defs₀ (F := F)) 𝒱₀ (c : Thread nD τ) none) Set.univ (k (qv 0 f)) Q)
      -∗ wp frame (wpE (defs₀ (F := F)) 𝒱₀ (c : Thread nD τ) none) Set.univ (.op (.load rM1 (Rect.unit (s := S128x4096) ![0, 0] S128x2048.size hb).toLoadRect hl) k) Q) :=
  load_any c rM1 (Rect.unit (s := S128x4096) ![0, 0] S128x2048.size hb) (qv 0 f) rfl (le_of_eq rfl)

theorem wr_in10 (i : Fin 32) (g : Vec F S4096x8192 .f32) (f : Vec F S128x4096 .f32) (x : S128x4096.Idx) (h0 : 0 ≤ (x 1).val) (h1 : (x 1).val < 2048) :
    wr10 i g f (opos 1 i x) = f x := by
  obtain ⟨m, hm⟩ : ∃ m, (x 1).val = 0 + m := ⟨(x 1).val - 0, by omega⟩
  have hlt : m < 2048 := by omega
  let y : S128x2048.Idx := fun a => match a with | 0 => (⟨(x 0).val, (x 0).isLt⟩ : Fin 128) | 1 => (⟨m, hlt⟩ : Fin 2048)
  have e : (ob10 i).view.emb y = opos 1 i x := by
    funext a; apply Fin.ext
    match a with
    | 0 => show 128 * i.val + 1 * (x 0).val = 128 * i.val + (x 0).val; omega
    | 1 => show 4096 + 1 * m = 4096 * 1 + (x 1).val; omega
  have e' : (rq10 : Memref sig .tc .vmem S128x2048 .f32).view.emb y = x := by
    funext a; apply Fin.ext
    match a with
    | 0 => show 0 + 1 * (x 0).val = (x 0).val; omega
    | 1 => show 0 + 1 * m = (x 1).val; omega
  rw [← e]
  refine (View.write_emb_of_mem _ _ (Finset.mem_univ y)).trans ?_
  exact congrArg f e'

theorem wr_out10 (i i' : Fin 32) (g : Vec F S4096x8192 .f32) (f : Vec F S128x4096 .f32) (x : S128x4096.Idx) (h : i' ≠ i ∨ ¬ (0 ≤ (x 1).val ∧ (x 1).val < 2048)) :
    wr10 i g f (opos 1 i' x) = g (opos 1 i' x) := by
  refine View.write_of_not_mem _ _ _ ?_
  rw [View.setOn_univ]
  intro hy
  obtain ⟨y, -, e⟩ := Finset.mem_map.mp hy
  have h0 : 128 * i.val + 1 * (y 0).val = 128 * i'.val + (x 0).val := congrArg (fun z : S4096x8192.Idx => (z 0).val) e
  have h1 : 4096 + 1 * (y 1).val = 4096 * 1 + (x 1).val := congrArg (fun z : S4096x8192.Idx => (z 1).val) e
  have b0 : (y 0).val < 128 := (y 0).isLt
  have b1 : (y 1).val < 2048 := (y 1).isLt
  have b2 : (x 0).val < 128 := (x 0).isLt
  rcases h with h | h
  · exact h (Fin.ext (by omega))
  · exact h (by omega)

/-- Direction 1, quarter 1: the landing quarter at a share, the semaphore of its copies, the piece of the result it goes to. -/
def rSh11 (p : PosShare TreeShare) (c : Dev nD) (f : Vec F S128x4096 .f32) : sProp 𝕄 :=
  rq11.view.loc (c : Thread nD τ) ↦[rq11.view.set]{p} (f : Buf (Elt F) (rq11.view.loc (c : Thread nD τ)))
theorem r_split11 (c : Dev nD) (f : Vec F S128x4096 .f32) : rPts11 c f ⊢ iprop(rSh11 (fullShare : PosShare TreeShare).left c f ∗ rSh11 (fullShare : PosShare TreeShare).right c f) :=
  (pointsTo_share (PosShare.mem_left_op_right fullShare)).1
theorem r_merge11 (c : Dev nD) (f : Vec F S128x4096 .f32) : iprop(rSh11 (fullShare : PosShare TreeShare).left c f ∗ rSh11 (fullShare : PosShare TreeShare).right c f) ⊢ rPts11 c f :=
  (pointsTo_share (PosShare.mem_left_op_right fullShare)).2
theorem a_split11 (c : Dev nD) (f : Vec F S128x4096 .f32) : aPts11 fullShare c f ⊢ iprop(aPts11 (fullShare : PosShare TreeShare).left c f ∗ aPts11 (fullShare : PosShare TreeShare).right c f) :=
  (pointsTo_share (PosShare.mem_left_op_right fullShare)).1
theorem a_merge11 (c : Dev nD) (f : Vec F S128x4096 .f32) : iprop(aPts11 (fullShare : PosShare TreeShare).left c f ∗ aPts11 (fullShare : PosShare TreeShare).right c f) ⊢ aPts11 fullShare c f :=
  (pointsTo_share (PosShare.mem_left_op_right fullShare)).2
abbrev stS11 : DmaSem sig := ((cc0_scratch11.slice (Rect.unit (s := S2) ![1] S1.size inb_S2_S1_1)).squeeze S_ squeezes_S1_S_).sem
abbrev ob11 (i : Fin 32) : Memref sig .tc .hbm S128x2048 .f32 := oM.slice (Rect.unit (s := S4096x8192) ![128 * i.val, 6144] S128x2048.size (piece_inb i 6144 2048 (by decide))) (fun _ => rfl)
/-- The result after the copy of that quarter. -/
def wr11 (i : Fin 32) (g : Vec F S4096x8192 .f32) (f : Vec F S128x4096 .f32) : Vec F S4096x8192 .f32 :=
  (ob11 i).view.write (Elt F) g ((rq11 : Memref sig .tc .vmem S128x2048 .f32).view.read (Elt F) f) Finset.univ
/-- The copy on its way. -/
def fly11 (c : Dev nD) (i : Fin 32) (g : Vec F S4096x8192 .f32) (f : Vec F S128x4096 .f32) : sProp 𝕄 :=
  Transfers.Flight EC (c : Thread nD τ) (.dma stS11) 0 (ob11 i).view.dmaCredit iprop(oPts 1 c (wr11 i g f) ∗ rSh11 (fullShare : PosShare TreeShare).left c f)

theorem ob_set11 (i : Fin 32) : (ob11 i).view.set ⊆ (ocol 1 : Finset S4096x8192.Idx) := by
  intro y hy
  obtain ⟨x, -, rfl⟩ := Finset.mem_map.mp hy
  have hx : (x 1).val < 2048 := (x 1).isLt
  refine Finset.mem_filter.mpr ⟨Finset.mem_univ _, ?_⟩
  show (6144 + 1 * (x 1).val) / 4096 = 1
  omega

theorem ob_pos11 (i : Fin 32) : 0 < (ob11 i).view.dmaCredit := View.dmaCredit_pos _ (by decide)
theorem copy11 (c : Dev nD) (i : Fin 32) (g : Vec F S4096x8192 .f32) (f : Vec F S128x4096 .f32) {off : Fin 2 → ℕ} (ho : off = ![128 * i.val, 6144])
    {α : Type} {Q : α → sProp 𝕄} {k : PUnit → Prog (TpuEff nD τ sig (Elt F) Λ₀ .tc) α} {hb : ∀ a, off a + S128x2048.size a ≤ S4096x8192.size a}
    {hsrc : (rq11 : Memref sig .tc .vmem S128x2048 .f32).view.WordExact}
    {hdst : (oM.slice (Rect.unit (s := S4096x8192) off S128x2048.size hb) (fun _ => rfl) : Memref sig .tc .hbm S128x2048 .f32).view.WordExact}
    {hsem : DmaTarget.Typed (nD := nD) .vmem (.dma stS11) (DmaTarget.here (p := Proc.tc) (oM.slice (Rect.unit (s := S4096x8192) off S128x2048.size hb) (fun _ => rfl) : Memref sig .tc .hbm S128x2048 .f32))} :
    iprop(rSh11 (fullShare : PosShare TreeShare).left c f ∗ oPts 1 c g ∗ semVal ((c : Thread nD τ), .dma stS11) 0)
      ⊢ iprop((fly11 c i g f -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma rq11 (.here (oM.slice (Rect.unit (s := S4096x8192) off S128x2048.size hb) (fun _ => rfl))) (.dma stS11) hsrc hdst hsem) k) Q) := by
  subst ho
  exact copy_any c rq11 (ob11 i) (ocol 1) (ob_set11 i) (ob_pos11 i) _ f g

theorem landed_copy11 (c : Dev nD) (i : Fin 32) (g : Vec F S4096x8192 .f32) (f : Vec F S128x4096 .f32) {off : Fin 2 → ℕ} (ho : off = ![128 * i.val, 6144])
    (O : CellTallies nD τ sig ℕ) (hA : Ab 0 O)
    {α : Type} {Q : α → sProp 𝕄} {k : PUnit → Prog (TpuEff nD τ sig (Elt F) Λ₀ .tc) α} {hb : ∀ a, off a + S128x2048.size a ≤ S4096x8192.size a}
    {hsrc : (rq11 : Memref sig .tc .vmem S128x2048 .f32).view.WordExact}
    {hdst : (oM.slice (Rect.unit (s := S4096x8192) off S128x2048.size hb) (fun _ => rfl) : Memref sig .tc .hbm S128x2048 .f32).view.WordExact} :
    iprop(env X κ ∗ fly11 c i g f ∗ owesE c O)
      ⊢ iprop((iprop(oPts 1 c (wr11 i g f) ∗ rSh11 (fullShare : PosShare TreeShare).left c f ∗ semVal ((c : Thread nD τ), .dma stS11) 0 ∗ owesE c O) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 stS11 rq11 (oM.slice (Rect.unit (s := S4096x8192) off S128x2048.size hb) (fun _ => rfl)) hsrc hdst) k) Q) := by
  subst ho
  unfold owesE fly11
  iintro ⟨#HE, Hf, ⟨%W, HO⟩⟩ Hk
  iapply (Transfers.wp_waitLocalO EC 𝒱₀ (c : Thread nD τ) none 0 (N := (ob11 i).view.dmaCredit) rfl) $$ [Hf HO]
  · isplitl [Hf]; · iexact Hf
    isplitl [HO]; · iexact HO
    iapply (env_mayWait X κ c (.dma stS11) (by decide) hA); iexact HE
  iintro ⟨⟨Ho, Hr⟩, Hv, HO⟩
  iapply Hk
  isplitl [Ho]; · iexact Ho
  isplitl [Hr]; · iexact Hr
  isplitl [Hv]; · iexact Hv
  iexists _; iexact HO

theorem load_rSh11 (c : Dev nD) (p : PosShare TreeShare) (f : Vec F S128x4096 .f32) {α : Type} {Q : α → sProp 𝕄} {hb : ∀ a, (![0, 2048] : Fin 2 → ℕ) a + S128x2048.size a ≤ S128x4096.size a}
    {hl : (rM1 : Memref sig .tc .vmem S128x4096 .f32).view.LoadsAt (Rect.unit (s := S128x4096) ![0, 2048] S128x2048.size hb).toLoadRect} {k : Vec F S128x2048 .f32 → Prog (TpuEff nD τ sig (Elt F) Λ₀ .tc) α} :
    rSh11 p c f ⊢ iprop((rSh11 p c f -∗ wp frame (wpE (defs₀ (F := F)) 𝒱₀ (c : Thread nD τ) none) Set.univ (k (qv 1 f)) Q)
      -∗ wp frame (wpE (defs₀ (F := F)) 𝒱₀ (c : Thread nD τ) none) Set.univ (.op (.load rM1 (Rect.unit (s := S128x4096) ![0, 2048] S128x2048.size hb).toLoadRect hl) k) Q) :=
  load_any c rM1 (Rect.unit (s := S128x4096) ![0, 2048] S128x2048.size hb) (qv 1 f) rfl (le_of_eq rfl)

theorem wr_in11 (i : Fin 32) (g : Vec F S4096x8192 .f32) (f : Vec F S128x4096 .f32) (x : S128x4096.Idx) (h0 : 2048 ≤ (x 1).val) (h1 : (x 1).val < 4096) :
    wr11 i g f (opos 1 i x) = f x := by
  obtain ⟨m, hm⟩ : ∃ m, (x 1).val = 2048 + m := ⟨(x 1).val - 2048, by omega⟩
  have hlt : m < 2048 := by omega
  let y : S128x2048.Idx := fun a => match a with | 0 => (⟨(x 0).val, (x 0).isLt⟩ : Fin 128) | 1 => (⟨m, hlt⟩ : Fin 2048)
  have e : (ob11 i).view.emb y = opos 1 i x := by
    funext a; apply Fin.ext
    match a with
    | 0 => show 128 * i.val + 1 * (x 0).val = 128 * i.val + (x 0).val; omega
    | 1 => show 6144 + 1 * m = 4096 * 1 + (x 1).val; omega
  have e' : (rq11 : Memref sig .tc .vmem S128x2048 .f32).view.emb y = x := by
    funext a; apply Fin.ext
    match a with
    | 0 => show 0 + 1 * (x 0).val = (x 0).val; omega
    | 1 => show 2048 + 1 * m = (x 1).val; omega
  rw [← e]
  refine (View.write_emb_of_mem _ _ (Finset.mem_univ y)).trans ?_
  exact congrArg f e'

theorem wr_out11 (i i' : Fin 32) (g : Vec F S4096x8192 .f32) (f : Vec F S128x4096 .f32) (x : S128x4096.Idx) (h : i' ≠ i ∨ ¬ (2048 ≤ (x 1).val ∧ (x 1).val < 4096)) :
    wr11 i g f (opos 1 i' x) = g (opos 1 i' x) := by
  refine View.write_of_not_mem _ _ _ ?_
  rw [View.setOn_univ]
  intro hy
  obtain ⟨y, -, e⟩ := Finset.mem_map.mp hy
  have h0 : 128 * i.val + 1 * (y 0).val = 128 * i'.val + (x 0).val := congrArg (fun z : S4096x8192.Idx => (z 0).val) e
  have h1 : 6144 + 1 * (y 1).val = 4096 * 1 + (x 1).val := congrArg (fun z : S4096x8192.Idx => (z 1).val) e
  have b0 : (y 0).val < 128 := (y 0).isLt
  have b1 : (y 1).val < 2048 := (y 1).isLt
  have b2 : (x 0).val < 128 := (x 0).isLt
  rcases h with h | h
  · exact h (Fin.ext (by omega))
  · exact h (by omega)

/-- Direction 0: the half row block of the result the finished sum goes to. -/
abbrev oh0 (i : Fin 32) : Memref sig .tc .hbm S128x4096 .f32 := oM.slice (Rect.unit (s := S4096x8192) ![128 * i.val, 0] S128x4096.size (piece_inb i 0 4096 (by decide))) (fun _ => rfl)
def wh0 (i : Fin 32) (g : Vec F S4096x8192 .f32) (f : Vec F S128x4096 .f32) : Vec F S4096x8192 .f32 :=
  (oh0 i).view.write (Elt F) g ((aM0 : Memref sig .tc .vmem S128x4096 .f32).view.read (Elt F) f) Finset.univ
def flyW0 (c : Dev nD) (i : Fin 32) (g : Vec F S4096x8192 .f32) (f : Vec F S128x4096 .f32) : sProp 𝕄 :=
  Transfers.Flight EC (c : Thread nD τ) (.dma stS00) 0 (oh0 i).view.dmaCredit iprop(oPts 0 c (wh0 i g f) ∗ aW0 (fullShare : PosShare TreeShare).right c f)
theorem aW_set0 (p : PosShare TreeShare) (c : Dev nD) (f : Vec F S128x4096 .f32) :
    aW0 p c f = (((aM0 : Memref sig .tc .vmem S128x4096 .f32).view.loc (c : Thread nD τ) ↦[(aM0 : Memref sig .tc .vmem S128x4096 .f32).view.set]{p} (f : Buf (Elt F) (aM0.view.loc (c : Thread nD τ)))) : sProp 𝕄) := by
  rw [(Memref.isWhole_whole cc0_scratch0).set_eq_univ]; rfl
theorem oh_set0 (i : Fin 32) : (oh0 i).view.set ⊆ (ocol 0 : Finset S4096x8192.Idx) := by
  intro y hy
  obtain ⟨x, -, rfl⟩ := Finset.mem_map.mp hy
  have hx : (x 1).val < 4096 := (x 1).isLt
  refine Finset.mem_filter.mpr ⟨Finset.mem_univ _, ?_⟩
  show (0 + 1 * (x 1).val) / 4096 = 0
  omega
theorem oh_pos0 (i : Fin 32) : 0 < (oh0 i).view.dmaCredit := View.dmaCredit_pos _ (by decide)
theorem copyW0 (c : Dev nD) (i : Fin 32) (g : Vec F S4096x8192 .f32) (f : Vec F S128x4096 .f32) {off : Fin 2 → ℕ} (ho : off = ![128 * i.val, 0])
    {α : Type} {Q : α → sProp 𝕄} {k : PUnit → Prog (TpuEff nD τ sig (Elt F) Λ₀ .tc) α} {hb : ∀ a, off a + S128x4096.size a ≤ S4096x8192.size a}
    {hsrc : (aM0 : Memref sig .tc .vmem S128x4096 .f32).view.WordExact}
    {hdst : (oM.slice (Rect.unit (s := S4096x8192) off S128x4096.size hb) (fun _ => rfl) : Memref sig .tc .hbm S128x4096 .f32).view.WordExact}
    {hsem : DmaTarget.Typed (nD := nD) .vmem (.dma stS00) (DmaTarget.here (p := Proc.tc) (oM.slice (Rect.unit (s := S4096x8192) off S128x4096.size hb) (fun _ => rfl) : Memref sig .tc .hbm S128x4096 .f32))} :
    iprop(aW0 (fullShare : PosShare TreeShare).right c f ∗ oPts 0 c g ∗ semVal ((c : Thread nD τ), .dma stS00) 0)
      ⊢ iprop((flyW0 c i g f -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma aM0 (.here (oM.slice (Rect.unit (s := S4096x8192) off S128x4096.size hb) (fun _ => rfl))) (.dma stS00) hsrc hdst hsem) k) Q) := by
  subst ho
  unfold flyW0
  rw [aW_set0]
  exact copy_any c aM0 (oh0 i) (ocol 0) (oh_set0 i) (oh_pos0 i) _ f g
theorem landed_copyW0 (c : Dev nD) (i : Fin 32) (g : Vec F S4096x8192 .f32) (f : Vec F S128x4096 .f32) {off : Fin 2 → ℕ} (ho : off = ![128 * i.val, 0])
    (O : CellTallies nD τ sig ℕ) (hA : Ab 0 O)
    {α : Type} {Q : α → sProp 𝕄} {k : PUnit → Prog (TpuEff nD τ sig (Elt F) Λ₀ .tc) α} {hb : ∀ a, off a + S128x4096.size a ≤ S4096x8192.size a}
    {hsrc : (aM0 : Memref sig .tc .vmem S128x4096 .f32).view.WordExact}
    {hdst : (oM.slice (Rect.unit (s := S4096x8192) off S128x4096.size hb) (fun _ => rfl) : Memref sig .tc .hbm S128x4096 .f32).view.WordExact} :
    iprop(env X κ ∗ flyW0 c i g f ∗ owesE c O)
      ⊢ iprop((iprop(oPts 0 c (wh0 i g f) ∗ aW0 (fullShare : PosShare TreeShare).right c f ∗ semVal ((c : Thread nD τ), .dma stS00) 0 ∗ owesE c O) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 stS00 aM0 (oM.slice (Rect.unit (s := S4096x8192) off S128x4096.size hb) (fun _ => rfl)) hsrc hdst) k) Q) := by
  subst ho
  unfold owesE flyW0
  iintro ⟨#HE, Hf, ⟨%W, HO⟩⟩ Hk
  iapply (Transfers.wp_waitLocalO EC 𝒱₀ (c : Thread nD τ) none 0 (N := (oh0 i).view.dmaCredit) rfl) $$ [Hf HO]
  · isplitl [Hf]; · iexact Hf
    isplitl [HO]; · iexact HO
    iapply (env_mayWait X κ c (.dma stS00) (by decide) hA); iexact HE
  iintro ⟨⟨Ho, Hr⟩, Hv, HO⟩
  iapply Hk
  isplitl [Ho]; · iexact Ho
  isplitl [Hr]; · iexact Hr
  isplitl [Hv]; · iexact Hv
  iexists _; iexact HO
theorem wh_in0 (i : Fin 32) (g : Vec F S4096x8192 .f32) (f : Vec F S128x4096 .f32) (x : S128x4096.Idx) :
    wh0 i g f (opos 0 i x) = f x := by
  have e : (oh0 i).view.emb x = opos 0 i x := by
    funext a; apply Fin.ext
    match a with
    | 0 => show 128 * i.val + 1 * (x 0).val = 128 * i.val + (x 0).val; omega
    | 1 => show 0 + 1 * (x 1).val = 4096 * 0 + (x 1).val; omega
  rw [← e]
  exact View.write_emb_of_mem _ _ (Finset.mem_univ x)
theorem quarters0 : (aq00 : Memref sig .tc .vmem S128x2048 .f32).view.set ∪ (aq01 : Memref sig .tc .vmem S128x2048 .f32).view.set = (Finset.univ : Finset S128x4096.Idx) := by
  apply Finset.eq_univ_of_forall
  intro x
  by_cases h : (x 1).val < 2048
  · let y : S128x2048.Idx := fun a => match a with | 0 => (⟨(x 0).val, (x 0).isLt⟩ : Fin 128) | 1 => (⟨(x 1).val, h⟩ : Fin 2048)
    refine Finset.mem_union_left _ (Finset.mem_map.mpr ⟨y, Finset.mem_univ _, ?_⟩)
    have e : (aq00 : Memref sig .tc .vmem S128x2048 .f32).view.emb y = x := by
      funext a; apply Fin.ext
      match a with
      | 0 => show 0 + 1 * (x 0).val = (x 0).val; omega
      | 1 => show 0 + 1 * (x 1).val = (x 1).val; omega
    exact e
  · have hx : (x 1).val < 4096 := (x 1).isLt
    obtain ⟨m, hm⟩ : ∃ m, (x 1).val = 2048 + m := ⟨(x 1).val - 2048, by omega⟩
    have hlt : m < 2048 := by omega
    let y : S128x2048.Idx := fun a => match a with | 0 => (⟨(x 0).val, (x 0).isLt⟩ : Fin 128) | 1 => (⟨m, hlt⟩ : Fin 2048)
    refine Finset.mem_union_right _ (Finset.mem_map.mpr ⟨y, Finset.mem_univ _, ?_⟩)
    have e : (aq01 : Memref sig .tc .vmem S128x2048 .f32).view.emb y = x := by
      funext a; apply Fin.ext
      match a with
      | 0 => show 0 + 1 * (x 0).val = (x 0).val; omega
      | 1 => show 2048 + 1 * m = (x 1).val; omega
    exact e
theorem apart0 : Disjoint (aq00 : Memref sig .tc .vmem S128x2048 .f32).view.set (aq01 : Memref sig .tc .vmem S128x2048 .f32).view.set := by
  rw [Finset.disjoint_left]
  intro x h0 h1
  obtain ⟨y, -, e⟩ := Finset.mem_map.mp h0
  obtain ⟨z, -, e'⟩ := Finset.mem_map.mp h1
  have h0 : 0 + 1 * (y 1).val = (x 1).val := congrArg (fun z : S128x4096.Idx => (z 1).val) e
  have h1 : 2048 + 1 * (z 1).val = (x 1).val := congrArg (fun z : S128x4096.Idx => (z 1).val) e'
  have b0 : (y 1).val < 2048 := (y 1).isLt
  omega
theorem a_halves0 (p : PosShare TreeShare) (c : Dev nD) (f : Vec F S128x4096 .f32) : aW0 p c f ⊣⊢ iprop(aPts00 p c f ∗ aPts01 p c f) := by
  unfold aW0
  rw [show (Finset.univ : Finset (Idx (aM0.view.loc (c : Thread nD τ)))) = _ from quarters0.symm]
  exact pointsTo_union apart0
theorem r_halves0 (c : Dev nD) (f : Vec F S128x4096 .f32) : rW0 c f ⊢ iprop(rPts00 c f ∗ rPts01 c f) := by
  unfold rW0
  rw [show (Finset.univ : Finset (Idx (rM0.view.loc (c : Thread nD τ)))) = _ from quarters0.symm]
  exact (pointsTo_union apart0).1
theorem r_whole0 (c : Dev nD) (f g : Vec F S128x4096 .f32) : iprop(rPts00 c f ∗ rPts01 c g) ⊢ iprop(∃ h, rW0 c h) := by
  refine (pointsTo_join apart0).trans ?_
  rw [show (rq00 : Memref sig .tc .vmem S128x2048 .f32).view.set ∪ (rq01 : Memref sig .tc .vmem S128x2048 .f32).view.set = (Finset.univ : Finset S128x4096.Idx) from quarters0]
  exact BIClass.exists_intro (Φ := fun h => rW0 c h) _
theorem a_whole0 (c : Dev nD) (f g : Vec F S128x4096 .f32) : iprop(aPts00 fullShare c f ∗ aPts01 fullShare c g) ⊢ iprop(∃ h, aW0 fullShare c h) := by
  refine (pointsTo_join apart0).trans ?_
  rw [quarters0]
  exact BIClass.exists_intro (Φ := fun h => aW0 fullShare c h) _

/-- Direction 1: the half row block of the result the finished sum goes to. -/
abbrev oh1 (i : Fin 32) : Memref sig .tc .hbm S128x4096 .f32 := oM.slice (Rect.unit (s := S4096x8192) ![128 * i.val, 4096] S128x4096.size (piece_inb i 4096 4096 (by decide))) (fun _ => rfl)
def wh1 (i : Fin 32) (g : Vec F S4096x8192 .f32) (f : Vec F S128x4096 .f32) : Vec F S4096x8192 .f32 :=
  (oh1 i).view.write (Elt F) g ((aM1 : Memref sig .tc .vmem S128x4096 .f32).view.read (Elt F) f) Finset.univ
def flyW1 (c : Dev nD) (i : Fin 32) (g : Vec F S4096x8192 .f32) (f : Vec F S128x4096 .f32) : sProp 𝕄 :=
  Transfers.Flight EC (c : Thread nD τ) (.dma stS10) 0 (oh1 i).view.dmaCredit iprop(oPts 1 c (wh1 i g f) ∗ aW1 (fullShare : PosShare TreeShare).right c f)
theorem aW_set1 (p : PosShare TreeShare) (c : Dev nD) (f : Vec F S128x4096 .f32) :
    aW1 p c f = (((aM1 : Memref sig .tc .vmem S128x4096 .f32).view.loc (c : Thread nD τ) ↦[(aM1 : Memref sig .tc .vmem S128x4096 .f32).view.set]{p} (f : Buf (Elt F) (aM1.view.loc (c : Thread nD τ)))) : sProp 𝕄) := by
  rw [(Memref.isWhole_whole cc0_scratch3).set_eq_univ]; rfl
theorem oh_set1 (i : Fin 32) : (oh1 i).view.set ⊆ (ocol 1 : Finset S4096x8192.Idx) := by
  intro y hy
  obtain ⟨x, -, rfl⟩ := Finset.mem_map.mp hy
  have hx : (x 1).val < 4096 := (x 1).isLt
  refine Finset.mem_filter.mpr ⟨Finset.mem_univ _, ?_⟩
  show (4096 + 1 * (x 1).val) / 4096 = 1
  omega
theorem oh_pos1 (i : Fin 32) : 0 < (oh1 i).view.dmaCredit := View.dmaCredit_pos _ (by decide)
theorem copyW1 (c : Dev nD) (i : Fin 32) (g : Vec F S4096x8192 .f32) (f : Vec F S128x4096 .f32) {off : Fin 2 → ℕ} (ho : off = ![128 * i.val, 4096])
    {α : Type} {Q : α → sProp 𝕄} {k : PUnit → Prog (TpuEff nD τ sig (Elt F) Λ₀ .tc) α} {hb : ∀ a, off a + S128x4096.size a ≤ S4096x8192.size a}
    {hsrc : (aM1 : Memref sig .tc .vmem S128x4096 .f32).view.WordExact}
    {hdst : (oM.slice (Rect.unit (s := S4096x8192) off S128x4096.size hb) (fun _ => rfl) : Memref sig .tc .hbm S128x4096 .f32).view.WordExact}
    {hsem : DmaTarget.Typed (nD := nD) .vmem (.dma stS10) (DmaTarget.here (p := Proc.tc) (oM.slice (Rect.unit (s := S4096x8192) off S128x4096.size hb) (fun _ => rfl) : Memref sig .tc .hbm S128x4096 .f32))} :
    iprop(aW1 (fullShare : PosShare TreeShare).right c f ∗ oPts 1 c g ∗ semVal ((c : Thread nD τ), .dma stS10) 0)
      ⊢ iprop((flyW1 c i g f -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma aM1 (.here (oM.slice (Rect.unit (s := S4096x8192) off S128x4096.size hb) (fun _ => rfl))) (.dma stS10) hsrc hdst hsem) k) Q) := by
  subst ho
  unfold flyW1
  rw [aW_set1]
  exact copy_any c aM1 (oh1 i) (ocol 1) (oh_set1 i) (oh_pos1 i) _ f g
theorem landed_copyW1 (c : Dev nD) (i : Fin 32) (g : Vec F S4096x8192 .f32) (f : Vec F S128x4096 .f32) {off : Fin 2 → ℕ} (ho : off = ![128 * i.val, 4096])
    (O : CellTallies nD τ sig ℕ) (hA : Ab 0 O)
    {α : Type} {Q : α → sProp 𝕄} {k : PUnit → Prog (TpuEff nD τ sig (Elt F) Λ₀ .tc) α} {hb : ∀ a, off a + S128x4096.size a ≤ S4096x8192.size a}
    {hsrc : (aM1 : Memref sig .tc .vmem S128x4096 .f32).view.WordExact}
    {hdst : (oM.slice (Rect.unit (s := S4096x8192) off S128x4096.size hb) (fun _ => rfl) : Memref sig .tc .hbm S128x4096 .f32).view.WordExact} :
    iprop(env X κ ∗ flyW1 c i g f ∗ owesE c O)
      ⊢ iprop((iprop(oPts 1 c (wh1 i g f) ∗ aW1 (fullShare : PosShare TreeShare).right c f ∗ semVal ((c : Thread nD τ), .dma stS10) 0 ∗ owesE c O) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 stS10 aM1 (oM.slice (Rect.unit (s := S4096x8192) off S128x4096.size hb) (fun _ => rfl)) hsrc hdst) k) Q) := by
  subst ho
  unfold owesE flyW1
  iintro ⟨#HE, Hf, ⟨%W, HO⟩⟩ Hk
  iapply (Transfers.wp_waitLocalO EC 𝒱₀ (c : Thread nD τ) none 0 (N := (oh1 i).view.dmaCredit) rfl) $$ [Hf HO]
  · isplitl [Hf]; · iexact Hf
    isplitl [HO]; · iexact HO
    iapply (env_mayWait X κ c (.dma stS10) (by decide) hA); iexact HE
  iintro ⟨⟨Ho, Hr⟩, Hv, HO⟩
  iapply Hk
  isplitl [Ho]; · iexact Ho
  isplitl [Hr]; · iexact Hr
  isplitl [Hv]; · iexact Hv
  iexists _; iexact HO
theorem wh_in1 (i : Fin 32) (g : Vec F S4096x8192 .f32) (f : Vec F S128x4096 .f32) (x : S128x4096.Idx) :
    wh1 i g f (opos 1 i x) = f x := by
  have e : (oh1 i).view.emb x = opos 1 i x := by
    funext a; apply Fin.ext
    match a with
    | 0 => show 128 * i.val + 1 * (x 0).val = 128 * i.val + (x 0).val; omega
    | 1 => show 4096 + 1 * (x 1).val = 4096 * 1 + (x 1).val; omega
  rw [← e]
  exact View.write_emb_of_mem _ _ (Finset.mem_univ x)
theorem quarters1 : (aq10 : Memref sig .tc .vmem S128x2048 .f32).view.set ∪ (aq11 : Memref sig .tc .vmem S128x2048 .f32).view.set = (Finset.univ : Finset S128x4096.Idx) := by
  apply Finset.eq_univ_of_forall
  intro x
  by_cases h : (x 1).val < 2048
  · let y : S128x2048.Idx := fun a => match a with | 0 => (⟨(x 0).val, (x 0).isLt⟩ : Fin 128) | 1 => (⟨(x 1).val, h⟩ : Fin 2048)
    refine Finset.mem_union_left _ (Finset.mem_map.mpr ⟨y, Finset.mem_univ _, ?_⟩)
    have e : (aq10 : Memref sig .tc .vmem S128x2048 .f32).view.emb y = x := by
      funext a; apply Fin.ext
      match a with
      | 0 => show 0 + 1 * (x 0).val = (x 0).val; omega
      | 1 => show 0 + 1 * (x 1).val = (x 1).val; omega
    exact e
  · have hx : (x 1).val < 4096 := (x 1).isLt
    obtain ⟨m, hm⟩ : ∃ m, (x 1).val = 2048 + m := ⟨(x 1).val - 2048, by omega⟩
    have hlt : m < 2048 := by omega
    let y : S128x2048.Idx := fun a => match a with | 0 => (⟨(x 0).val, (x 0).isLt⟩ : Fin 128) | 1 => (⟨m, hlt⟩ : Fin 2048)
    refine Finset.mem_union_right _ (Finset.mem_map.mpr ⟨y, Finset.mem_univ _, ?_⟩)
    have e : (aq11 : Memref sig .tc .vmem S128x2048 .f32).view.emb y = x := by
      funext a; apply Fin.ext
      match a with
      | 0 => show 0 + 1 * (x 0).val = (x 0).val; omega
      | 1 => show 2048 + 1 * m = (x 1).val; omega
    exact e
theorem apart1 : Disjoint (aq10 : Memref sig .tc .vmem S128x2048 .f32).view.set (aq11 : Memref sig .tc .vmem S128x2048 .f32).view.set := by
  rw [Finset.disjoint_left]
  intro x h0 h1
  obtain ⟨y, -, e⟩ := Finset.mem_map.mp h0
  obtain ⟨z, -, e'⟩ := Finset.mem_map.mp h1
  have h0 : 0 + 1 * (y 1).val = (x 1).val := congrArg (fun z : S128x4096.Idx => (z 1).val) e
  have h1 : 2048 + 1 * (z 1).val = (x 1).val := congrArg (fun z : S128x4096.Idx => (z 1).val) e'
  have b0 : (y 1).val < 2048 := (y 1).isLt
  omega
theorem a_halves1 (p : PosShare TreeShare) (c : Dev nD) (f : Vec F S128x4096 .f32) : aW1 p c f ⊣⊢ iprop(aPts10 p c f ∗ aPts11 p c f) := by
  unfold aW1
  rw [show (Finset.univ : Finset (Idx (aM1.view.loc (c : Thread nD τ)))) = _ from quarters1.symm]
  exact pointsTo_union apart1
theorem r_halves1 (c : Dev nD) (f : Vec F S128x4096 .f32) : rW1 c f ⊢ iprop(rPts10 c f ∗ rPts11 c f) := by
  unfold rW1
  rw [show (Finset.univ : Finset (Idx (rM1.view.loc (c : Thread nD τ)))) = _ from quarters1.symm]
  exact (pointsTo_union apart1).1
theorem r_whole1 (c : Dev nD) (f g : Vec F S128x4096 .f32) : iprop(rPts10 c f ∗ rPts11 c g) ⊢ iprop(∃ h, rW1 c h) := by
  refine (pointsTo_join apart1).trans ?_
  rw [show (rq10 : Memref sig .tc .vmem S128x2048 .f32).view.set ∪ (rq11 : Memref sig .tc .vmem S128x2048 .f32).view.set = (Finset.univ : Finset S128x4096.Idx) from quarters1]
  exact BIClass.exists_intro (Φ := fun h => rW1 c h) _
theorem a_whole1 (c : Dev nD) (f g : Vec F S128x4096 .f32) : iprop(aPts10 fullShare c f ∗ aPts11 fullShare c g) ⊢ iprop(∃ h, aW1 fullShare c h) := by
  refine (pointsTo_join apart1).trans ?_
  rw [quarters1]
  exact BIClass.exists_intro (Φ := fun h => aW1 fullShare c h) _

theorem load_z (c : Dev nD) (f : Vec F S1 .f32) {α : Type} {Q : α → sProp 𝕄} {hb : ∀ a, (![0] : Fin 1 → ℕ) a + S1.size a ≤ S1.size a}
    {hl : (zM : Memref sig .tc .smem S1 .f32).view.LoadsAt (Rect.unit (s := S1) ![0] S1.size hb).toLoadRect} {k : Vec F S1 .f32 → Prog (TpuEff nD τ sig (Elt F) Λ₀ .tc) α} :
    zPts c f ⊢ iprop((zPts c f -∗ wp frame (wpE (defs₀ (F := F)) 𝒱₀ (c : Thread nD τ) none) Set.univ (k f) Q)
      -∗ wp frame (wpE (defs₀ (F := F)) 𝒱₀ (c : Thread nD τ) none) Set.univ (.op (.load zM (Rect.unit (s := S1) ![0] S1.size hb).toLoadRect hl) k) Q) :=
  load_any c zM (Rect.unit (s := S1) ![0] S1.size hb) f (funext fun i => congrArg f (funext fun a => Fin.ext (by
    match a with
    | 0 => show 0 + 1 * (i 0).val = (i 0).val; omega))) (Finset.subset_univ _)
theorem store_z (c : Dev nD) (f : Vec F S1 .f32) {w : Vec F S1 .f32} {α : Type} {Q : α → sProp 𝕄} {hb : ∀ a, (![0] : Fin 1 → ℕ) a + S1.size a ≤ S1.size a}
    {hx : ((zM : Memref sig .tc .smem S1 .f32).access (Rect.unit (s := S1) ![0] S1.size hb)).Stores Finset.univ}
    {hm : (Finset.univ : Finset (Rect.unit (s := S1) ![0] S1.size hb).shape.Idx) = Finset.univ ∨ ∀ a, (Rect.unit (s := S1) ![0] S1.size hb).stride a = 1} {k : PUnit → Prog (TpuEff nD τ sig (Elt F) Λ₀ .tc) α} :
    zPts c f ⊢ iprop((zPts c w -∗ wp frame (wpE (defs₀ (F := F)) 𝒱₀ (c : Thread nD τ) none) Set.univ (k ⟨⟩) Q)
      -∗ wp frame (wpE (defs₀ (F := F)) 𝒱₀ (c : Thread nD τ) none) Set.univ (.op (.store zM (Rect.unit (s := S1) ![0] S1.size hb) w Finset.univ hx hm) k) Q) :=
  store_any c zM (Rect.unit (s := S1) ![0] S1.size hb) (f := f) (g := w) (funext fun i => congrArg w (funext fun a => Fin.ext (by
    match a with
    | 0 => show 0 + 1 * (i 0).val = (i 0).val; omega))) (by
      apply Finset.eq_univ_of_forall
      intro i
      exact Finset.mem_map.mpr ⟨i, Finset.mem_univ _, funext fun a => Fin.ext (by
        match a with
        | 0 => show 0 + 1 * (i 0).val = (i 0).val; omega)⟩)

end Cert.Proof.KernelIdeal
-- ==== Proof.KernelIdealGather.lean ====
/- One trip of the gathering loop: the four quarters arrive, go to the result and on, and the largest magnitude is kept. -/
module

public import proofs.«01_k».proof.Proof.KernelIdealReduce
public import proofs.«01_k».proof.Proof.KernelIdealCopies

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)

variable {F : FTy → Type} [FloatOps F]

local notation "𝕄" => MT nD τ sig ℕ (Elt F) ℕ UU ℕ

variable (X : Shards F) (κ : GSem nD τ sig → ℕ)

/-- The largest magnitude after a trip of the gathering loop in which the halves `f`, `g` arrive. -/
def stepM (M : Elt F .f32) (f g : Vec F S128x4096 .f32) : Elt F .f32 :=
  k0_pay15 (k0_pay13 (k0_pay11 (k0_pay9 M (qv 0 f)) (qv 0 g)) (qv 1 f)) (qv 1 g)

theorem pay_copy00 (f : Vec F S128x4096 .f32) : qv 0 f = k0_pay8 (qv 0 f) := by
  funext j
  exact (congrArg (qv 0 f) (Shape.reshapeEquiv_self _ j)).symm
theorem a_join00 (c : Dev nD) (t : ℕ) (ht : ¬ t < 31) (f : Vec F S128x4096 .f32) : iprop(aPts00 (shr t) c f ∗ aPts00 (fullShare : PosShare TreeShare).right c f) ⊢ aPts00 fullShare c f := by
  rw [shr_left ht]; exact a_merge00 c f
theorem a_lend00 (c : Dev nD) (t : ℕ) (ht : ¬ t < 31) (f : Vec F S128x4096 .f32) : aPts00 fullShare c f ⊢ iprop(aPts00 (shr t) c f ∗ aPts00 (fullShare : PosShare TreeShare).right c f) := by
  rw [shr_left ht]; exact a_split00 c f
/-- Direction 0, quarter 0 at a round of the gathering: the state of the round and the half share the core keeps. -/
def gt00 (c : Dev nD) (t : ℕ) : sProp 𝕄 :=
  iprop(st00 c t ∗ aPts00 (fullShare : PosShare TreeShare).right c (A X 0 t c))
/-- Direction 0, quarter 0 after the last round. -/
def en00 (c : Dev nD) (t : ℕ) : sProp 𝕄 :=
  iprop(atPos ER (sendC00 c) (t + 1) ∅ 0 ∗ atPos ER (recvC00 c) (t + 1) ∅ 0 ∗ atPos ER (credC00 c) t ∅ 0
    ∗ aPts00 fullShare c (A X 0 (t + 1) c) ∗ rPts00 c (A X 0 t (lft c)))

theorem pay_copy10 (f : Vec F S128x4096 .f32) : qv 0 f = k0_pay10 (qv 0 f) := by
  funext j
  exact (congrArg (qv 0 f) (Shape.reshapeEquiv_self _ j)).symm
theorem a_join10 (c : Dev nD) (t : ℕ) (ht : ¬ t < 31) (f : Vec F S128x4096 .f32) : iprop(aPts10 (shr t) c f ∗ aPts10 (fullShare : PosShare TreeShare).right c f) ⊢ aPts10 fullShare c f := by
  rw [shr_left ht]; exact a_merge10 c f
theorem a_lend10 (c : Dev nD) (t : ℕ) (ht : ¬ t < 31) (f : Vec F S128x4096 .f32) : aPts10 fullShare c f ⊢ iprop(aPts10 (shr t) c f ∗ aPts10 (fullShare : PosShare TreeShare).right c f) := by
  rw [shr_left ht]; exact a_split10 c f
/-- Direction 1, quarter 0 at a round of the gathering: the state of the round and the half share the core keeps. -/
def gt10 (c : Dev nD) (t : ℕ) : sProp 𝕄 :=
  iprop(st10 c t ∗ aPts10 (fullShare : PosShare TreeShare).right c (A X 1 t c))
/-- Direction 1, quarter 0 after the last round. -/
def en10 (c : Dev nD) (t : ℕ) : sProp 𝕄 :=
  iprop(atPos ER (sendC10 c) (t + 1) ∅ 0 ∗ atPos ER (recvC10 c) (t + 1) ∅ 0 ∗ atPos ER (credC10 c) t ∅ 0
    ∗ aPts10 fullShare c (A X 1 (t + 1) c) ∗ rPts10 c (A X 1 t (rgt c)))

theorem pay_copy01 (f : Vec F S128x4096 .f32) : qv 1 f = k0_pay12 (qv 1 f) := by
  funext j
  exact (congrArg (qv 1 f) (Shape.reshapeEquiv_self _ j)).symm
theorem a_join01 (c : Dev nD) (t : ℕ) (ht : ¬ t < 31) (f : Vec F S128x4096 .f32) : iprop(aPts01 (shr t) c f ∗ aPts01 (fullShare : PosShare TreeShare).right c f) ⊢ aPts01 fullShare c f := by
  rw [shr_left ht]; exact a_merge01 c f
theorem a_lend01 (c : Dev nD) (t : ℕ) (ht : ¬ t < 31) (f : Vec F S128x4096 .f32) : aPts01 fullShare c f ⊢ iprop(aPts01 (shr t) c f ∗ aPts01 (fullShare : PosShare TreeShare).right c f) := by
  rw [shr_left ht]; exact a_split01 c f
/-- Direction 0, quarter 1 at a round of the gathering: the state of the round and the half share the core keeps. -/
def gt01 (c : Dev nD) (t : ℕ) : sProp 𝕄 :=
  iprop(st01 c t ∗ aPts01 (fullShare : PosShare TreeShare).right c (A X 0 t c))
/-- Direction 0, quarter 1 after the last round. -/
def en01 (c : Dev nD) (t : ℕ) : sProp 𝕄 :=
  iprop(atPos ER (sendC01 c) (t + 1) ∅ 0 ∗ atPos ER (recvC01 c) (t + 1) ∅ 0 ∗ atPos ER (credC01 c) t ∅ 0
    ∗ aPts01 fullShare c (A X 0 (t + 1) c) ∗ rPts01 c (A X 0 t (lft c)))

theorem pay_copy11 (f : Vec F S128x4096 .f32) : qv 1 f = k0_pay14 (qv 1 f) := by
  funext j
  exact (congrArg (qv 1 f) (Shape.reshapeEquiv_self _ j)).symm
theorem a_join11 (c : Dev nD) (t : ℕ) (ht : ¬ t < 31) (f : Vec F S128x4096 .f32) : iprop(aPts11 (shr t) c f ∗ aPts11 (fullShare : PosShare TreeShare).right c f) ⊢ aPts11 fullShare c f := by
  rw [shr_left ht]; exact a_merge11 c f
theorem a_lend11 (c : Dev nD) (t : ℕ) (ht : ¬ t < 31) (f : Vec F S128x4096 .f32) : aPts11 fullShare c f ⊢ iprop(aPts11 (shr t) c f ∗ aPts11 (fullShare : PosShare TreeShare).right c f) := by
  rw [shr_left ht]; exact a_split11 c f
/-- Direction 1, quarter 1 at a round of the gathering: the state of the round and the half share the core keeps. -/
def gt11 (c : Dev nD) (t : ℕ) : sProp 𝕄 :=
  iprop(st11 c t ∗ aPts11 (fullShare : PosShare TreeShare).right c (A X 1 t c))
/-- Direction 1, quarter 1 after the last round. -/
def en11 (c : Dev nD) (t : ℕ) : sProp 𝕄 :=
  iprop(atPos ER (sendC11 c) (t + 1) ∅ 0 ∗ atPos ER (recvC11 c) (t + 1) ∅ 0 ∗ atPos ER (credC11 c) t ∅ 0
    ∗ aPts11 fullShare c (A X 1 (t + 1) c) ∗ rPts11 c (A X 1 t (rgt c)))

set_option maxHeartbeats 8000000 in
/-- A trip of the gathering loop but the last: every quarter arrives, goes to the result and to the accumulator, its credit is given, and it is sent on. -/
theorem ag_trip (c : Dev nD) (k : Fin k0_t2_loop.trips) (hk : k.val < 30) (t : ℕ) (ht : t = 31 + k.val) (M : Elt F .f32) (g0 g1 : Vec F S4096x8192 .f32) (O : CellTallies nD τ sig ℕ) (hO : Ab (4 * t + 8) O) {Q : Unit → sProp 𝕄} :
    iprop(env X κ ∗ zPts c (fun _ => M) ∗ oPts 0 c g0 ∗ oPts 1 c g1 ∗ semVal ((c : Thread nD τ), .dma stS00) 0 ∗ semVal ((c : Thread nD τ), .dma stS10) 0 ∗ semVal ((c : Thread nD τ), .dma stS01) 0 ∗ semVal ((c : Thread nD τ), .dma stS11) 0 ∗ gt00 X c t ∗ gt10 X c t ∗ gt01 X c t ∗ gt11 X c t ∗ tb00 (F := F) c t ∗ tb10 (F := F) c t ∗ tb01 (F := F) c t ∗ tb11 (F := F) c t ∗ owesE c (O + tallyAt (recvC11 (lft c)) (4 * (t + 1) + 4) N + tallyAt (recvC01 (rgt c)) (4 * (t + 1) + 4) N + tallyAt (credC11 (rgt c)) (4 * (t) + 7) 1 + tallyAt (credC01 (lft c)) (4 * (t) + 7) 1 + tallyAt (recvC10 (lft c)) (4 * (t + 1) + 2) N + tallyAt (recvC00 (rgt c)) (4 * (t + 1) + 2) N + tallyAt (credC10 (rgt c)) (4 * (t) + 5) 1 + tallyAt (credC00 (lft c)) (4 * (t) + 5) 1))
      ⊢ iprop(((zPts c (fun _ => stepM M (A X 0 t (lft c)) (A X 1 t (rgt c))) ∗ oPts 0 c (wr01 (back 0 (rank c) k.val) (wr00 (back 0 (rank c) k.val) g0 (A X 0 t (lft c))) (A X 0 t (lft c))) ∗ oPts 1 c (wr11 (back 1 (rank c) k.val) (wr10 (back 1 (rank c) k.val) g1 (A X 1 t (rgt c))) (A X 1 t (rgt c))) ∗ semVal ((c : Thread nD τ), .dma stS00) 0 ∗ semVal ((c : Thread nD τ), .dma stS10) 0 ∗ semVal ((c : Thread nD τ), .dma stS01) 0 ∗ semVal ((c : Thread nD τ), .dma stS11) 0 ∗ gt00 X c (t + 1) ∗ gt10 X c (t + 1) ∗ gt01 X c (t + 1) ∗ gt11 X c (t + 1) ∗ owesE c O) -∗ Q ()) -∗ wp frame (wpE (defs₀ (F := F)) 𝒱₀ (c : Thread nD τ) none) Set.univ (body2 c k ()) Q) := by
  unfold body2 k0_t2_body
  simp only [k0_part5_eq_skeleton, k0_part6_eq_skeleton, k0_part7_eq_skeleton, k0_part8_eq_skeleton, k0_part9_eq_skeleton]
  unfold k0_part5_skel k0_part6_skel k0_part7_skel k0_part8_skel k0_part9_skel
  have hc3 : k0_cond3 k = 1#1 := (cond3_iff k).mpr hk
  have hc4 : k0_cond4 k = 1#1 := (cond4_iff k).mpr hk
  have hs : ¬ t < 31 := by omega
  have hs1 : ¬ t + 1 < 31 := by omega
  unfold gt00 st00 tb00
  unfold gt10 st10 tb10
  unfold gt01 st01 tb01
  unfold gt11 st11 tb11
  iintro ⟨#HE, Hz, Ho0, Ho1, Hv00, Hv10, Hv01, Hv11, ⟨⟨Ss00, Sv00, Sk00, Sc00⟩, Hk00⟩, ⟨⟨Ss10, Sv10, Sk10, Sc10⟩, Hk10⟩, ⟨⟨Ss01, Sv01, Sk01, Sc01⟩, Hk01⟩, ⟨⟨Ss11, Sv11, Sk11, Sc11⟩, Hk11⟩, ⟨Bv00, Bk00, Tk00, Tv00, Ts00⟩, ⟨Bv10, Bk10, Tk10, Tv10, Ts10⟩, ⟨Bv01, Bk01, Tk01, Tv01, Ts01⟩, ⟨Bv11, Bk11, Tk11, Tv11, Ts11⟩, HO⟩ HK
  try sl_exec
  have hA1 : Ab (0) (O + tallyAt (recvC11 (lft c)) (4 * (t + 1) + 4) N + tallyAt (recvC01 (rgt c)) (4 * (t + 1) + 4) N + tallyAt (credC11 (rgt c)) (4 * (t) + 7) 1 + tallyAt (credC01 (lft c)) (4 * (t) + 7) 1 + tallyAt (recvC10 (lft c)) (4 * (t + 1) + 2) N + tallyAt (recvC00 (rgt c)) (4 * (t + 1) + 2) N + tallyAt (credC10 (rgt c)) (4 * (t) + 5) 1 + tallyAt (credC00 (lft c)) (4 * (t) + 5) 1) := by
    repeat' first | exact ab_mono hO (by omega) | apply ab_add | (apply ab_tally <;> omega)
  iapply (wait_send00 X κ c (t) (by omega) (O + tallyAt (recvC11 (lft c)) (4 * (t + 1) + 4) N + tallyAt (recvC01 (rgt c)) (4 * (t + 1) + 4) N + tallyAt (credC11 (rgt c)) (4 * (t) + 7) 1 + tallyAt (credC01 (lft c)) (4 * (t) + 7) 1 + tallyAt (recvC10 (lft c)) (4 * (t + 1) + 2) N + tallyAt (recvC00 (rgt c)) (4 * (t + 1) + 2) N + tallyAt (credC10 (rgt c)) (4 * (t) + 5) 1 + tallyAt (credC00 (lft c)) (4 * (t) + 5) 1) hA1 (by first | rfl | exact credit00)) $$ [Sc00 HO Ss00]
  · isplitr; · iexact HE
    isplitl [Sc00]; · iexact Sc00
    isplitl [HO]; · iexact HO
    iexact Ss00
  iintro ⟨HO, Ss00, #Rs00, Ha00⟩
  try sl_exec
  have hA2 : Ab (4 * (t) + 2) (O + tallyAt (recvC11 (lft c)) (4 * (t + 1) + 4) N + tallyAt (recvC01 (rgt c)) (4 * (t + 1) + 4) N + tallyAt (credC11 (rgt c)) (4 * (t) + 7) 1 + tallyAt (credC01 (lft c)) (4 * (t) + 7) 1 + tallyAt (recvC10 (lft c)) (4 * (t + 1) + 2) N + tallyAt (recvC00 (rgt c)) (4 * (t + 1) + 2) N + tallyAt (credC10 (rgt c)) (4 * (t) + 5) 1 + tallyAt (credC00 (lft c)) (4 * (t) + 5) 1) := by
    repeat' first | exact ab_mono hO (by omega) | apply ab_add | (apply ab_tally <;> omega)
  iapply (wait_recv00 X κ c (t) (by omega) (O + tallyAt (recvC11 (lft c)) (4 * (t + 1) + 4) N + tallyAt (recvC01 (rgt c)) (4 * (t + 1) + 4) N + tallyAt (credC11 (rgt c)) (4 * (t) + 7) 1 + tallyAt (credC01 (lft c)) (4 * (t) + 7) 1 + tallyAt (recvC10 (lft c)) (4 * (t + 1) + 2) N + tallyAt (recvC00 (rgt c)) (4 * (t + 1) + 2) N + tallyAt (credC10 (rgt c)) (4 * (t) + 5) 1 + tallyAt (credC00 (lft c)) (4 * (t) + 5) 1) hA2 (by first | rfl | exact credit00)) $$ [Bv00 HO Sv00]
  · isplitr; · iexact HE
    isplitl [Bv00]; · iexact Bv00
    isplitl [HO]; · iexact HO
    iexact Sv00
  iintro ⟨HO, Sv00, #Rv00, Hr00, #Rk00⟩
  try sl_exec
  have hA3 : Ab (0) (O + tallyAt (recvC11 (lft c)) (4 * (t + 1) + 4) N + tallyAt (recvC01 (rgt c)) (4 * (t + 1) + 4) N + tallyAt (credC11 (rgt c)) (4 * (t) + 7) 1 + tallyAt (credC01 (lft c)) (4 * (t) + 7) 1 + tallyAt (recvC10 (lft c)) (4 * (t + 1) + 2) N + tallyAt (recvC00 (rgt c)) (4 * (t + 1) + 2) N + tallyAt (credC10 (rgt c)) (4 * (t) + 5) 1 + tallyAt (credC00 (lft c)) (4 * (t) + 5) 1) := by
    repeat' first | exact ab_mono hO (by omega) | apply ab_add | (apply ab_tally <;> omega)
  iapply (wait_send10 X κ c (t) (by omega) (O + tallyAt (recvC11 (lft c)) (4 * (t + 1) + 4) N + tallyAt (recvC01 (rgt c)) (4 * (t + 1) + 4) N + tallyAt (credC11 (rgt c)) (4 * (t) + 7) 1 + tallyAt (credC01 (lft c)) (4 * (t) + 7) 1 + tallyAt (recvC10 (lft c)) (4 * (t + 1) + 2) N + tallyAt (recvC00 (rgt c)) (4 * (t + 1) + 2) N + tallyAt (credC10 (rgt c)) (4 * (t) + 5) 1 + tallyAt (credC00 (lft c)) (4 * (t) + 5) 1) hA3 (by first | rfl | exact credit10)) $$ [Sc10 HO Ss10]
  · isplitr; · iexact HE
    isplitl [Sc10]; · iexact Sc10
    isplitl [HO]; · iexact HO
    iexact Ss10
  iintro ⟨HO, Ss10, #Rs10, Ha10⟩
  try sl_exec
  have hA4 : Ab (4 * (t) + 2) (O + tallyAt (recvC11 (lft c)) (4 * (t + 1) + 4) N + tallyAt (recvC01 (rgt c)) (4 * (t + 1) + 4) N + tallyAt (credC11 (rgt c)) (4 * (t) + 7) 1 + tallyAt (credC01 (lft c)) (4 * (t) + 7) 1 + tallyAt (recvC10 (lft c)) (4 * (t + 1) + 2) N + tallyAt (recvC00 (rgt c)) (4 * (t + 1) + 2) N + tallyAt (credC10 (rgt c)) (4 * (t) + 5) 1 + tallyAt (credC00 (lft c)) (4 * (t) + 5) 1) := by
    repeat' first | exact ab_mono hO (by omega) | apply ab_add | (apply ab_tally <;> omega)
  iapply (wait_recv10 X κ c (t) (by omega) (O + tallyAt (recvC11 (lft c)) (4 * (t + 1) + 4) N + tallyAt (recvC01 (rgt c)) (4 * (t + 1) + 4) N + tallyAt (credC11 (rgt c)) (4 * (t) + 7) 1 + tallyAt (credC01 (lft c)) (4 * (t) + 7) 1 + tallyAt (recvC10 (lft c)) (4 * (t + 1) + 2) N + tallyAt (recvC00 (rgt c)) (4 * (t + 1) + 2) N + tallyAt (credC10 (rgt c)) (4 * (t) + 5) 1 + tallyAt (credC00 (lft c)) (4 * (t) + 5) 1) hA4 (by first | rfl | exact credit10)) $$ [Bv10 HO Sv10]
  · isplitr; · iexact HE
    isplitl [Bv10]; · iexact Bv10
    isplitl [HO]; · iexact HO
    iexact Sv10
  iintro ⟨HO, Sv10, #Rv10, Hr10, #Rk10⟩
  try sl_exec
  ihave Hrr00 := (r_split00 c (A X 0 t (lft c))) $$ [Hr00]
  · iexact Hr00
  icases Hrr00 with ⟨Hl00, Hm00⟩
  iapply (copy00 c (back 0 (rank c) k.val) g0 (A X 0 t (lft c)) (off5_wd (rank c) k)) $$ [Hl00 Ho0 Hv00]
  · isplitl [Hl00]; · iexact Hl00
    isplitl [Ho0]; · iexact Ho0
    iexact Hv00
  iintro HF00
  try sl_exec
  ihave Hrr10 := (r_split10 c (A X 1 t (rgt c))) $$ [Hr10]
  · iexact Hr10
  icases Hrr10 with ⟨Hl10, Hm10⟩
  iapply (copy10 c (back 1 (rank c) k.val) g1 (A X 1 t (rgt c)) (off6_wd (rank c) k)) $$ [Hl10 Ho1 Hv10]
  · isplitl [Hl10]; · iexact Hl10
    isplitl [Ho1]; · iexact Ho1
    iexact Hv10
  iintro HF10
  try sl_exec
  ihave Haf00 := (a_join00 c t hs (A X 0 t c)) $$ [Ha00 Hk00]
  · isplitl [Ha00]; · iexact Ha00
    iexact Hk00
  iapply (load_rSh00 c _ _) $$ [Hm00]
  · iexact Hm00
  iintro Hm00
  try sl_exec
  iapply (load_a00 c _ _) $$ [Haf00]
  · iexact Haf00
  iintro Haf00
  try sl_exec
  iapply (put00 c fullShare fullShare rfl rfl _ (A X 0 (t + 1) c) ((congrArg (qv 0) (A_pass X 0 hs c)).trans (pay_copy00 _))) $$ [Haf00]
  · iexact Haf00
  iintro Haf00
  try sl_exec
  iapply (load_z c (fun _ => M)) $$ [Hz]
  · iexact Hz
  iintro Hz
  try sl_exec
  iapply (load_rSh00 c _ _) $$ [Hm00]
  · iexact Hm00
  iintro Hm00
  try sl_exec
  iapply (load_z c (fun _ => M)) $$ [Hz]
  · iexact Hz
  iintro Hz
  try sl_exec
  iapply (store_z c _ (w := fun _ => (k0_pay9 M (qv 0 (A X 0 t (lft c)))))) $$ [Hz]
  · iexact Hz
  iintro Hz
  try sl_exec
  ihave Hal00 := (a_lend00 c (t + 1) hs1 (A X 0 (t + 1) c)) $$ [Haf00]
  · iexact Haf00
  icases Hal00 with ⟨Ha00, Hk00⟩
  ihave Haf10 := (a_join10 c t hs (A X 1 t c)) $$ [Ha10 Hk10]
  · isplitl [Ha10]; · iexact Ha10
    iexact Hk10
  iapply (load_rSh10 c _ _) $$ [Hm10]
  · iexact Hm10
  iintro Hm10
  try sl_exec
  iapply (load_a10 c _ _) $$ [Haf10]
  · iexact Haf10
  iintro Haf10
  try sl_exec
  iapply (put10 c fullShare fullShare rfl rfl _ (A X 1 (t + 1) c) ((congrArg (qv 0) (A_pass X 1 hs c)).trans (pay_copy10 _))) $$ [Haf10]
  · iexact Haf10
  iintro Haf10
  try sl_exec
  iapply (load_z c (fun _ => (k0_pay9 M (qv 0 (A X 0 t (lft c)))))) $$ [Hz]
  · iexact Hz
  iintro Hz
  try sl_exec
  iapply (load_rSh10 c _ _) $$ [Hm10]
  · iexact Hm10
  iintro Hm10
  try sl_exec
  iapply (load_z c (fun _ => (k0_pay9 M (qv 0 (A X 0 t (lft c)))))) $$ [Hz]
  · iexact Hz
  iintro Hz
  try sl_exec
  iapply (store_z c _ (w := fun _ => (k0_pay11 (k0_pay9 M (qv 0 (A X 0 t (lft c)))) (qv 0 (A X 1 t (rgt c)))))) $$ [Hz]
  · iexact Hz
  iintro Hz
  try sl_exec
  ihave Hal10 := (a_lend10 c (t + 1) hs1 (A X 1 (t + 1) c)) $$ [Haf10]
  · iexact Haf10
  icases Hal10 with ⟨Ha10, Hk10⟩
  have hA5 : Ab (0) (O + tallyAt (recvC11 (lft c)) (4 * (t + 1) + 4) N + tallyAt (recvC01 (rgt c)) (4 * (t + 1) + 4) N + tallyAt (credC11 (rgt c)) (4 * (t) + 7) 1 + tallyAt (credC01 (lft c)) (4 * (t) + 7) 1 + tallyAt (recvC10 (lft c)) (4 * (t + 1) + 2) N + tallyAt (recvC00 (rgt c)) (4 * (t + 1) + 2) N + tallyAt (credC10 (rgt c)) (4 * (t) + 5) 1 + tallyAt (credC00 (lft c)) (4 * (t) + 5) 1) := by
    repeat' first | exact ab_mono hO (by omega) | apply ab_add | (apply ab_tally <;> omega)
  iapply (landed_copy00 X κ c (back 0 (rank c) k.val) g0 (A X 0 t (lft c)) (off5_wd (rank c) k) (O + tallyAt (recvC11 (lft c)) (4 * (t + 1) + 4) N + tallyAt (recvC01 (rgt c)) (4 * (t + 1) + 4) N + tallyAt (credC11 (rgt c)) (4 * (t) + 7) 1 + tallyAt (credC01 (lft c)) (4 * (t) + 7) 1 + tallyAt (recvC10 (lft c)) (4 * (t + 1) + 2) N + tallyAt (recvC00 (rgt c)) (4 * (t + 1) + 2) N + tallyAt (credC10 (rgt c)) (4 * (t) + 5) 1 + tallyAt (credC00 (lft c)) (4 * (t) + 5) 1) hA5) $$ [HF00 HO]
  · isplitr; · iexact HE
    isplitl [HF00]; · iexact HF00
    iexact HO
  iintro ⟨Ho0, Hl00, Hv00, HO⟩
  try sl_exec
  ihave Hr00 := (r_merge00 c (A X 0 t (lft c))) $$ [Hl00 Hm00]
  · isplitl [Hl00]; · iexact Hl00
    iexact Hm00
  have hA6 : Ab (0) (O + tallyAt (recvC11 (lft c)) (4 * (t + 1) + 4) N + tallyAt (recvC01 (rgt c)) (4 * (t + 1) + 4) N + tallyAt (credC11 (rgt c)) (4 * (t) + 7) 1 + tallyAt (credC01 (lft c)) (4 * (t) + 7) 1 + tallyAt (recvC10 (lft c)) (4 * (t + 1) + 2) N + tallyAt (recvC00 (rgt c)) (4 * (t + 1) + 2) N + tallyAt (credC10 (rgt c)) (4 * (t) + 5) 1 + tallyAt (credC00 (lft c)) (4 * (t) + 5) 1) := by
    repeat' first | exact ab_mono hO (by omega) | apply ab_add | (apply ab_tally <;> omega)
  iapply (landed_copy10 X κ c (back 1 (rank c) k.val) g1 (A X 1 t (rgt c)) (off6_wd (rank c) k) (O + tallyAt (recvC11 (lft c)) (4 * (t + 1) + 4) N + tallyAt (recvC01 (rgt c)) (4 * (t + 1) + 4) N + tallyAt (credC11 (rgt c)) (4 * (t) + 7) 1 + tallyAt (credC01 (lft c)) (4 * (t) + 7) 1 + tallyAt (recvC10 (lft c)) (4 * (t + 1) + 2) N + tallyAt (recvC00 (rgt c)) (4 * (t + 1) + 2) N + tallyAt (credC10 (rgt c)) (4 * (t) + 5) 1 + tallyAt (credC00 (lft c)) (4 * (t) + 5) 1) hA6) $$ [HF10 HO]
  · isplitr; · iexact HE
    isplitl [HF10]; · iexact HF10
    iexact HO
  iintro ⟨Ho1, Hl10, Hv10, HO⟩
  try sl_exec
  ihave Hr10 := (r_merge10 c (A X 1 t (rgt c))) $$ [Hl10 Hm10]
  · isplitl [Hl10]; · iexact Hl10
    iexact Hm10
  rw [dif_pos hc3]
  try sl_exec
  iapply (signal00 X κ c (t) _ (dev19_wd _ _) (by omega) (O + tallyAt (recvC11 (lft c)) (4 * (t + 1) + 4) N + tallyAt (recvC01 (rgt c)) (4 * (t + 1) + 4) N + tallyAt (credC11 (rgt c)) (4 * (t) + 7) 1 + tallyAt (credC01 (lft c)) (4 * (t) + 7) 1 + tallyAt (recvC10 (lft c)) (4 * (t + 1) + 2) N + tallyAt (recvC00 (rgt c)) (4 * (t + 1) + 2) N + tallyAt (credC10 (rgt c)) (4 * (t) + 5) 1) _ rfl (A X 0 t (lft c))) $$ [Hr00 Tk00 HO]
  · isplitr; · iexact HE
    isplitl [Hr00]; · iexact Hr00
    isplitr; · iexact Rv00
    isplitr; · iexact Rk00
    isplitl [Tk00]; · iexact Tk00
    iexact HO
  iintro HO
  try sl_exec
  iapply (signal10 X κ c (t) _ (dev20_wd _ _) (by omega) (O + tallyAt (recvC11 (lft c)) (4 * (t + 1) + 4) N + tallyAt (recvC01 (rgt c)) (4 * (t + 1) + 4) N + tallyAt (credC11 (rgt c)) (4 * (t) + 7) 1 + tallyAt (credC01 (lft c)) (4 * (t) + 7) 1 + tallyAt (recvC10 (lft c)) (4 * (t + 1) + 2) N + tallyAt (recvC00 (rgt c)) (4 * (t + 1) + 2) N) _ rfl (A X 1 t (rgt c))) $$ [Hr10 Tk10 HO]
  · isplitr; · iexact HE
    isplitl [Hr10]; · iexact Hr10
    isplitr; · iexact Rv10
    isplitr; · iexact Rk10
    isplitl [Tk10]; · iexact Tk10
    iexact HO
  iintro HO
  try sl_exec
  have hA7 : Ab (4 * (t) + 5) (O + tallyAt (recvC11 (lft c)) (4 * (t + 1) + 4) N + tallyAt (recvC01 (rgt c)) (4 * (t + 1) + 4) N + tallyAt (credC11 (rgt c)) (4 * (t) + 7) 1 + tallyAt (credC01 (lft c)) (4 * (t) + 7) 1 + tallyAt (recvC10 (lft c)) (4 * (t + 1) + 2) N + tallyAt (recvC00 (rgt c)) (4 * (t + 1) + 2) N) := by
    repeat' first | exact ab_mono hO (by omega) | apply ab_add | (apply ab_tally <;> omega)
  iapply (wait_cred00 X κ c (t) (by omega) (O + tallyAt (recvC11 (lft c)) (4 * (t + 1) + 4) N + tallyAt (recvC01 (rgt c)) (4 * (t + 1) + 4) N + tallyAt (credC11 (rgt c)) (4 * (t) + 7) 1 + tallyAt (credC01 (lft c)) (4 * (t) + 7) 1 + tallyAt (recvC10 (lft c)) (4 * (t + 1) + 2) N + tallyAt (recvC00 (rgt c)) (4 * (t + 1) + 2) N) hA7 _ rfl) $$ [Bk00 HO Sk00]
  · isplitr; · iexact HE
    isplitl [Bk00]; · iexact Bk00
    isplitl [HO]; · iexact HO
    iexact Sk00
  iintro ⟨HO, Sk00, #Rkk00, Hx00, #Rvx00⟩
  try sl_exec
  iapply (send00 X κ c (t + 1) _ (dev21_wd _ _) (by omega) (O + tallyAt (recvC11 (lft c)) (4 * (t + 1) + 4) N + tallyAt (recvC01 (rgt c)) (4 * (t + 1) + 4) N + tallyAt (credC11 (rgt c)) (4 * (t) + 7) 1 + tallyAt (credC01 (lft c)) (4 * (t) + 7) 1 + tallyAt (recvC10 (lft c)) (4 * (t + 1) + 2) N)) $$ [Ha00 Hx00 Ts00 Tv00 HO]
  · isplitr; · iexact HE
    isplitl [Ha00]; · iexact Ha00
    isplitl [Hx00]; · iexact Hx00
    isplitr; · iexact Rvx00
    isplitr; · iexact Rs00
    isplitr; · iexact Rkk00
    isplitl [Ts00]; · iexact Ts00
    isplitl [Tv00]; · iexact Tv00
    iexact HO
  iintro ⟨Sc00, HO⟩
  try sl_exec
  have hA8 : Ab (4 * (t) + 5) (O + tallyAt (recvC11 (lft c)) (4 * (t + 1) + 4) N + tallyAt (recvC01 (rgt c)) (4 * (t + 1) + 4) N + tallyAt (credC11 (rgt c)) (4 * (t) + 7) 1 + tallyAt (credC01 (lft c)) (4 * (t) + 7) 1 + tallyAt (recvC10 (lft c)) (4 * (t + 1) + 2) N) := by
    repeat' first | exact ab_mono hO (by omega) | apply ab_add | (apply ab_tally <;> omega)
  iapply (wait_cred10 X κ c (t) (by omega) (O + tallyAt (recvC11 (lft c)) (4 * (t + 1) + 4) N + tallyAt (recvC01 (rgt c)) (4 * (t + 1) + 4) N + tallyAt (credC11 (rgt c)) (4 * (t) + 7) 1 + tallyAt (credC01 (lft c)) (4 * (t) + 7) 1 + tallyAt (recvC10 (lft c)) (4 * (t + 1) + 2) N) hA8 _ rfl) $$ [Bk10 HO Sk10]
  · isplitr; · iexact HE
    isplitl [Bk10]; · iexact Bk10
    isplitl [HO]; · iexact HO
    iexact Sk10
  iintro ⟨HO, Sk10, #Rkk10, Hx10, #Rvx10⟩
  try sl_exec
  iapply (send10 X κ c (t + 1) _ (dev22_wd _ _) (by omega) (O + tallyAt (recvC11 (lft c)) (4 * (t + 1) + 4) N + tallyAt (recvC01 (rgt c)) (4 * (t + 1) + 4) N + tallyAt (credC11 (rgt c)) (4 * (t) + 7) 1 + tallyAt (credC01 (lft c)) (4 * (t) + 7) 1)) $$ [Ha10 Hx10 Ts10 Tv10 HO]
  · isplitr; · iexact HE
    isplitl [Ha10]; · iexact Ha10
    isplitl [Hx10]; · iexact Hx10
    isplitr; · iexact Rvx10
    isplitr; · iexact Rs10
    isplitr; · iexact Rkk10
    isplitl [Ts10]; · iexact Ts10
    isplitl [Tv10]; · iexact Tv10
    iexact HO
  iintro ⟨Sc10, HO⟩
  try sl_exec
  have hA9 : Ab (0) (O + tallyAt (recvC11 (lft c)) (4 * (t + 1) + 4) N + tallyAt (recvC01 (rgt c)) (4 * (t + 1) + 4) N + tallyAt (credC11 (rgt c)) (4 * (t) + 7) 1 + tallyAt (credC01 (lft c)) (4 * (t) + 7) 1) := by
    repeat' first | exact ab_mono hO (by omega) | apply ab_add | (apply ab_tally <;> omega)
  iapply (wait_send01 X κ c (t) (by omega) (O + tallyAt (recvC11 (lft c)) (4 * (t + 1) + 4) N + tallyAt (recvC01 (rgt c)) (4 * (t + 1) + 4) N + tallyAt (credC11 (rgt c)) (4 * (t) + 7) 1 + tallyAt (credC01 (lft c)) (4 * (t) + 7) 1) hA9 (by first | rfl | exact credit01)) $$ [Sc01 HO Ss01]
  · isplitr; · iexact HE
    isplitl [Sc01]; · iexact Sc01
    isplitl [HO]; · iexact HO
    iexact Ss01
  iintro ⟨HO, Ss01, #Rs01, Ha01⟩
  try sl_exec
  have hA10 : Ab (4 * (t) + 4) (O + tallyAt (recvC11 (lft c)) (4 * (t + 1) + 4) N + tallyAt (recvC01 (rgt c)) (4 * (t + 1) + 4) N + tallyAt (credC11 (rgt c)) (4 * (t) + 7) 1 + tallyAt (credC01 (lft c)) (4 * (t) + 7) 1) := by
    repeat' first | exact ab_mono hO (by omega) | apply ab_add | (apply ab_tally <;> omega)
  iapply (wait_recv01 X κ c (t) (by omega) (O + tallyAt (recvC11 (lft c)) (4 * (t + 1) + 4) N + tallyAt (recvC01 (rgt c)) (4 * (t + 1) + 4) N + tallyAt (credC11 (rgt c)) (4 * (t) + 7) 1 + tallyAt (credC01 (lft c)) (4 * (t) + 7) 1) hA10 (by first | rfl | exact credit01)) $$ [Bv01 HO Sv01]
  · isplitr; · iexact HE
    isplitl [Bv01]; · iexact Bv01
    isplitl [HO]; · iexact HO
    iexact Sv01
  iintro ⟨HO, Sv01, #Rv01, Hr01, #Rk01⟩
  try sl_exec
  have hA11 : Ab (0) (O + tallyAt (recvC11 (lft c)) (4 * (t + 1) + 4) N + tallyAt (recvC01 (rgt c)) (4 * (t + 1) + 4) N + tallyAt (credC11 (rgt c)) (4 * (t) + 7) 1 + tallyAt (credC01 (lft c)) (4 * (t) + 7) 1) := by
    repeat' first | exact ab_mono hO (by omega) | apply ab_add | (apply ab_tally <;> omega)
  iapply (wait_send11 X κ c (t) (by omega) (O + tallyAt (recvC11 (lft c)) (4 * (t + 1) + 4) N + tallyAt (recvC01 (rgt c)) (4 * (t + 1) + 4) N + tallyAt (credC11 (rgt c)) (4 * (t) + 7) 1 + tallyAt (credC01 (lft c)) (4 * (t) + 7) 1) hA11 (by first | rfl | exact credit11)) $$ [Sc11 HO Ss11]
  · isplitr; · iexact HE
    isplitl [Sc11]; · iexact Sc11
    isplitl [HO]; · iexact HO
    iexact Ss11
  iintro ⟨HO, Ss11, #Rs11, Ha11⟩
  try sl_exec
  have hA12 : Ab (4 * (t) + 4) (O + tallyAt (recvC11 (lft c)) (4 * (t + 1) + 4) N + tallyAt (recvC01 (rgt c)) (4 * (t + 1) + 4) N + tallyAt (credC11 (rgt c)) (4 * (t) + 7) 1 + tallyAt (credC01 (lft c)) (4 * (t) + 7) 1) := by
    repeat' first | exact ab_mono hO (by omega) | apply ab_add | (apply ab_tally <;> omega)
  iapply (wait_recv11 X κ c (t) (by omega) (O + tallyAt (recvC11 (lft c)) (4 * (t + 1) + 4) N + tallyAt (recvC01 (rgt c)) (4 * (t + 1) + 4) N + tallyAt (credC11 (rgt c)) (4 * (t) + 7) 1 + tallyAt (credC01 (lft c)) (4 * (t) + 7) 1) hA12 (by first | rfl | exact credit11)) $$ [Bv11 HO Sv11]
  · isplitr; · iexact HE
    isplitl [Bv11]; · iexact Bv11
    isplitl [HO]; · iexact HO
    iexact Sv11
  iintro ⟨HO, Sv11, #Rv11, Hr11, #Rk11⟩
  try sl_exec
  ihave Hrr01 := (r_split01 c (A X 0 t (lft c))) $$ [Hr01]
  · iexact Hr01
  icases Hrr01 with ⟨Hl01, Hm01⟩
  iapply (copy01 c (back 0 (rank c) k.val) (wr00 (back 0 (rank c) k.val) g0 (A X 0 t (lft c))) (A X 0 t (lft c)) (off7_wd (rank c) k)) $$ [Hl01 Ho0 Hv01]
  · isplitl [Hl01]; · iexact Hl01
    isplitl [Ho0]; · iexact Ho0
    iexact Hv01
  iintro HF01
  try sl_exec
  ihave Hrr11 := (r_split11 c (A X 1 t (rgt c))) $$ [Hr11]
  · iexact Hr11
  icases Hrr11 with ⟨Hl11, Hm11⟩
  iapply (copy11 c (back 1 (rank c) k.val) (wr10 (back 1 (rank c) k.val) g1 (A X 1 t (rgt c))) (A X 1 t (rgt c)) (off8_wd (rank c) k)) $$ [Hl11 Ho1 Hv11]
  · isplitl [Hl11]; · iexact Hl11
    isplitl [Ho1]; · iexact Ho1
    iexact Hv11
  iintro HF11
  try sl_exec
  ihave Haf01 := (a_join01 c t hs (A X 0 t c)) $$ [Ha01 Hk01]
  · isplitl [Ha01]; · iexact Ha01
    iexact Hk01
  iapply (load_rSh01 c _ _) $$ [Hm01]
  · iexact Hm01
  iintro Hm01
  try sl_exec
  iapply (load_a01 c _ _) $$ [Haf01]
  · iexact Haf01
  iintro Haf01
  try sl_exec
  iapply (put01 c fullShare fullShare rfl rfl _ (A X 0 (t + 1) c) ((congrArg (qv 1) (A_pass X 0 hs c)).trans (pay_copy01 _))) $$ [Haf01]
  · iexact Haf01
  iintro Haf01
  try sl_exec
  iapply (load_z c (fun _ => (k0_pay11 (k0_pay9 M (qv 0 (A X 0 t (lft c)))) (qv 0 (A X 1 t (rgt c)))))) $$ [Hz]
  · iexact Hz
  iintro Hz
  try sl_exec
  iapply (load_rSh01 c _ _) $$ [Hm01]
  · iexact Hm01
  iintro Hm01
  try sl_exec
  iapply (load_z c (fun _ => (k0_pay11 (k0_pay9 M (qv 0 (A X 0 t (lft c)))) (qv 0 (A X 1 t (rgt c)))))) $$ [Hz]
  · iexact Hz
  iintro Hz
  try sl_exec
  iapply (store_z c _ (w := fun _ => (k0_pay13 (k0_pay11 (k0_pay9 M (qv 0 (A X 0 t (lft c)))) (qv 0 (A X 1 t (rgt c)))) (qv 1 (A X 0 t (lft c)))))) $$ [Hz]
  · iexact Hz
  iintro Hz
  try sl_exec
  ihave Hal01 := (a_lend01 c (t + 1) hs1 (A X 0 (t + 1) c)) $$ [Haf01]
  · iexact Haf01
  icases Hal01 with ⟨Ha01, Hk01⟩
  ihave Haf11 := (a_join11 c t hs (A X 1 t c)) $$ [Ha11 Hk11]
  · isplitl [Ha11]; · iexact Ha11
    iexact Hk11
  iapply (load_rSh11 c _ _) $$ [Hm11]
  · iexact Hm11
  iintro Hm11
  try sl_exec
  iapply (load_a11 c _ _) $$ [Haf11]
  · iexact Haf11
  iintro Haf11
  try sl_exec
  iapply (put11 c fullShare fullShare rfl rfl _ (A X 1 (t + 1) c) ((congrArg (qv 1) (A_pass X 1 hs c)).trans (pay_copy11 _))) $$ [Haf11]
  · iexact Haf11
  iintro Haf11
  try sl_exec
  iapply (load_z c (fun _ => (k0_pay13 (k0_pay11 (k0_pay9 M (qv 0 (A X 0 t (lft c)))) (qv 0 (A X 1 t (rgt c)))) (qv 1 (A X 0 t (lft c)))))) $$ [Hz]
  · iexact Hz
  iintro Hz
  try sl_exec
  iapply (load_rSh11 c _ _) $$ [Hm11]
  · iexact Hm11
  iintro Hm11
  try sl_exec
  iapply (load_z c (fun _ => (k0_pay13 (k0_pay11 (k0_pay9 M (qv 0 (A X 0 t (lft c)))) (qv 0 (A X 1 t (rgt c)))) (qv 1 (A X 0 t (lft c)))))) $$ [Hz]
  · iexact Hz
  iintro Hz
  try sl_exec
  iapply (store_z c _ (w := fun _ => (k0_pay15 (k0_pay13 (k0_pay11 (k0_pay9 M (qv 0 (A X 0 t (lft c)))) (qv 0 (A X 1 t (rgt c)))) (qv 1 (A X 0 t (lft c)))) (qv 1 (A X 1 t (rgt c)))))) $$ [Hz]
  · iexact Hz
  iintro Hz
  try sl_exec
  ihave Hal11 := (a_lend11 c (t + 1) hs1 (A X 1 (t + 1) c)) $$ [Haf11]
  · iexact Haf11
  icases Hal11 with ⟨Ha11, Hk11⟩
  have hA13 : Ab (0) (O + tallyAt (recvC11 (lft c)) (4 * (t + 1) + 4) N + tallyAt (recvC01 (rgt c)) (4 * (t + 1) + 4) N + tallyAt (credC11 (rgt c)) (4 * (t) + 7) 1 + tallyAt (credC01 (lft c)) (4 * (t) + 7) 1) := by
    repeat' first | exact ab_mono hO (by omega) | apply ab_add | (apply ab_tally <;> omega)
  iapply (landed_copy01 X κ c (back 0 (rank c) k.val) (wr00 (back 0 (rank c) k.val) g0 (A X 0 t (lft c))) (A X 0 t (lft c)) (off7_wd (rank c) k) (O + tallyAt (recvC11 (lft c)) (4 * (t + 1) + 4) N + tallyAt (recvC01 (rgt c)) (4 * (t + 1) + 4) N + tallyAt (credC11 (rgt c)) (4 * (t) + 7) 1 + tallyAt (credC01 (lft c)) (4 * (t) + 7) 1) hA13) $$ [HF01 HO]
  · isplitr; · iexact HE
    isplitl [HF01]; · iexact HF01
    iexact HO
  iintro ⟨Ho0, Hl01, Hv01, HO⟩
  try sl_exec
  ihave Hr01 := (r_merge01 c (A X 0 t (lft c))) $$ [Hl01 Hm01]
  · isplitl [Hl01]; · iexact Hl01
    iexact Hm01
  have hA14 : Ab (0) (O + tallyAt (recvC11 (lft c)) (4 * (t + 1) + 4) N + tallyAt (recvC01 (rgt c)) (4 * (t + 1) + 4) N + tallyAt (credC11 (rgt c)) (4 * (t) + 7) 1 + tallyAt (credC01 (lft c)) (4 * (t) + 7) 1) := by
    repeat' first | exact ab_mono hO (by omega) | apply ab_add | (apply ab_tally <;> omega)
  iapply (landed_copy11 X κ c (back 1 (rank c) k.val) (wr10 (back 1 (rank c) k.val) g1 (A X 1 t (rgt c))) (A X 1 t (rgt c)) (off8_wd (rank c) k) (O + tallyAt (recvC11 (lft c)) (4 * (t + 1) + 4) N + tallyAt (recvC01 (rgt c)) (4 * (t + 1) + 4) N + tallyAt (credC11 (rgt c)) (4 * (t) + 7) 1 + tallyAt (credC01 (lft c)) (4 * (t) + 7) 1) hA14) $$ [HF11 HO]
  · isplitr; · iexact HE
    isplitl [HF11]; · iexact HF11
    iexact HO
  iintro ⟨Ho1, Hl11, Hv11, HO⟩
  try sl_exec
  ihave Hr11 := (r_merge11 c (A X 1 t (rgt c))) $$ [Hl11 Hm11]
  · isplitl [Hl11]; · iexact Hl11
    iexact Hm11
  rw [dif_pos hc4]
  try sl_exec
  iapply (signal01 X κ c (t) _ (dev23_wd _ _) (by omega) (O + tallyAt (recvC11 (lft c)) (4 * (t + 1) + 4) N + tallyAt (recvC01 (rgt c)) (4 * (t + 1) + 4) N + tallyAt (credC11 (rgt c)) (4 * (t) + 7) 1) _ rfl (A X 0 t (lft c))) $$ [Hr01 Tk01 HO]
  · isplitr; · iexact HE
    isplitl [Hr01]; · iexact Hr01
    isplitr; · iexact Rv01
    isplitr; · iexact Rk01
    isplitl [Tk01]; · iexact Tk01
    iexact HO
  iintro HO
  try sl_exec
  iapply (signal11 X κ c (t) _ (dev24_wd _ _) (by omega) (O + tallyAt (recvC11 (lft c)) (4 * (t + 1) + 4) N + tallyAt (recvC01 (rgt c)) (4 * (t + 1) + 4) N) _ rfl (A X 1 t (rgt c))) $$ [Hr11 Tk11 HO]
  · isplitr; · iexact HE
    isplitl [Hr11]; · iexact Hr11
    isplitr; · iexact Rv11
    isplitr; · iexact Rk11
    isplitl [Tk11]; · iexact Tk11
    iexact HO
  iintro HO
  try sl_exec
  have hA15 : Ab (4 * (t) + 7) (O + tallyAt (recvC11 (lft c)) (4 * (t + 1) + 4) N + tallyAt (recvC01 (rgt c)) (4 * (t + 1) + 4) N) := by
    repeat' first | exact ab_mono hO (by omega) | apply ab_add | (apply ab_tally <;> omega)
  iapply (wait_cred01 X κ c (t) (by omega) (O + tallyAt (recvC11 (lft c)) (4 * (t + 1) + 4) N + tallyAt (recvC01 (rgt c)) (4 * (t + 1) + 4) N) hA15 _ rfl) $$ [Bk01 HO Sk01]
  · isplitr; · iexact HE
    isplitl [Bk01]; · iexact Bk01
    isplitl [HO]; · iexact HO
    iexact Sk01
  iintro ⟨HO, Sk01, #Rkk01, Hx01, #Rvx01⟩
  try sl_exec
  iapply (send01 X κ c (t + 1) _ (dev25_wd _ _) (by omega) (O + tallyAt (recvC11 (lft c)) (4 * (t + 1) + 4) N)) $$ [Ha01 Hx01 Ts01 Tv01 HO]
  · isplitr; · iexact HE
    isplitl [Ha01]; · iexact Ha01
    isplitl [Hx01]; · iexact Hx01
    isplitr; · iexact Rvx01
    isplitr; · iexact Rs01
    isplitr; · iexact Rkk01
    isplitl [Ts01]; · iexact Ts01
    isplitl [Tv01]; · iexact Tv01
    iexact HO
  iintro ⟨Sc01, HO⟩
  try sl_exec
  have hA16 : Ab (4 * (t) + 7) (O + tallyAt (recvC11 (lft c)) (4 * (t + 1) + 4) N) := by
    repeat' first | exact ab_mono hO (by omega) | apply ab_add | (apply ab_tally <;> omega)
  iapply (wait_cred11 X κ c (t) (by omega) (O + tallyAt (recvC11 (lft c)) (4 * (t + 1) + 4) N) hA16 _ rfl) $$ [Bk11 HO Sk11]
  · isplitr; · iexact HE
    isplitl [Bk11]; · iexact Bk11
    isplitl [HO]; · iexact HO
    iexact Sk11
  iintro ⟨HO, Sk11, #Rkk11, Hx11, #Rvx11⟩
  try sl_exec
  iapply (send11 X κ c (t + 1) _ (dev26_wd _ _) (by omega) (O)) $$ [Ha11 Hx11 Ts11 Tv11 HO]
  · isplitr; · iexact HE
    isplitl [Ha11]; · iexact Ha11
    isplitl [Hx11]; · iexact Hx11
    isplitr; · iexact Rvx11
    isplitr; · iexact Rs11
    isplitr; · iexact Rkk11
    isplitl [Ts11]; · iexact Ts11
    isplitl [Tv11]; · iexact Tv11
    iexact HO
  iintro ⟨Sc11, HO⟩
  try sl_exec
  simp only [Prog.bind, Prog.pure_eq_ret]
  rw [wp_ret]
  imodintro
  iapply HK
  isplitl [Hz]; · iexact Hz
  isplitl [Ho0]; · iexact Ho0
  isplitl [Ho1]; · iexact Ho1
  isplitl [Hv00]; · iexact Hv00
  isplitl [Hv10]; · iexact Hv10
  isplitl [Hv01]; · iexact Hv01
  isplitl [Hv11]; · iexact Hv11
  isplitl [Ss00 Sv00 Sk00 Sc00 Hk00]
  · isplitl [Ss00 Sv00 Sk00 Sc00]
    · isplitl [Ss00]; · iexact Ss00
      isplitl [Sv00]; · iexact Sv00
      isplitl [Sk00]; · iexact Sk00
      iexact Sc00
    iexact Hk00
  isplitl [Ss10 Sv10 Sk10 Sc10 Hk10]
  · isplitl [Ss10 Sv10 Sk10 Sc10]
    · isplitl [Ss10]; · iexact Ss10
      isplitl [Sv10]; · iexact Sv10
      isplitl [Sk10]; · iexact Sk10
      iexact Sc10
    iexact Hk10
  isplitl [Ss01 Sv01 Sk01 Sc01 Hk01]
  · isplitl [Ss01 Sv01 Sk01 Sc01]
    · isplitl [Ss01]; · iexact Ss01
      isplitl [Sv01]; · iexact Sv01
      isplitl [Sk01]; · iexact Sk01
      iexact Sc01
    iexact Hk01
  isplitl [Ss11 Sv11 Sk11 Sc11 Hk11]
  · isplitl [Ss11 Sv11 Sk11 Sc11]
    · isplitl [Ss11]; · iexact Ss11
      isplitl [Sv11]; · iexact Sv11
      isplitl [Sk11]; · iexact Sk11
      iexact Sc11
    iexact Hk11
  iexact HO

set_option maxHeartbeats 8000000 in
/-- The last trip of the gathering loop: as the others, but nothing is sent on. -/
theorem ag_last (c : Dev nD) (k : Fin k0_t2_loop.trips) (hk : k.val = 30) (t : ℕ) (ht : t = 31 + k.val) (M : Elt F .f32) (g0 g1 : Vec F S4096x8192 .f32) (O : CellTallies nD τ sig ℕ) (hO : Ab (4 * t + 4) O) {Q : Unit → sProp 𝕄} :
    iprop(env X κ ∗ zPts c (fun _ => M) ∗ oPts 0 c g0 ∗ oPts 1 c g1 ∗ semVal ((c : Thread nD τ), .dma stS00) 0 ∗ semVal ((c : Thread nD τ), .dma stS10) 0 ∗ semVal ((c : Thread nD τ), .dma stS01) 0 ∗ semVal ((c : Thread nD τ), .dma stS11) 0 ∗ gt00 X c t ∗ gt10 X c t ∗ gt01 X c t ∗ gt11 X c t ∗ cred (tallyAt (recvC00 c) (4 * t + 2) N) ∗ cred (tallyAt (recvC10 c) (4 * t + 2) N) ∗ cred (tallyAt (recvC01 c) (4 * t + 4) N) ∗ cred (tallyAt (recvC11 c) (4 * t + 4) N) ∗ owesE c (O))
      ⊢ iprop(((zPts c (fun _ => stepM M (A X 0 t (lft c)) (A X 1 t (rgt c))) ∗ oPts 0 c (wr01 (back 0 (rank c) k.val) (wr00 (back 0 (rank c) k.val) g0 (A X 0 t (lft c))) (A X 0 t (lft c))) ∗ oPts 1 c (wr11 (back 1 (rank c) k.val) (wr10 (back 1 (rank c) k.val) g1 (A X 1 t (rgt c))) (A X 1 t (rgt c))) ∗ semVal ((c : Thread nD τ), .dma stS00) 0 ∗ semVal ((c : Thread nD τ), .dma stS10) 0 ∗ semVal ((c : Thread nD τ), .dma stS01) 0 ∗ semVal ((c : Thread nD τ), .dma stS11) 0 ∗ en00 X c t ∗ en10 X c t ∗ en01 X c t ∗ en11 X c t ∗ owesE c O) -∗ Q ()) -∗ wp frame (wpE (defs₀ (F := F)) 𝒱₀ (c : Thread nD τ) none) Set.univ (body2 c k ()) Q) := by
  unfold body2 k0_t2_body
  simp only [k0_part5_eq_skeleton, k0_part6_eq_skeleton, k0_part7_eq_skeleton, k0_part8_eq_skeleton, k0_part9_eq_skeleton]
  unfold k0_part5_skel k0_part6_skel k0_part7_skel k0_part8_skel k0_part9_skel
  have hc3 : ¬ k0_cond3 k = 1#1 := fun h => absurd ((cond3_iff k).mp h) (by omega)
  have hc4 : ¬ k0_cond4 k = 1#1 := fun h => absurd ((cond4_iff k).mp h) (by omega)
  have hs : ¬ t < 31 := by omega
  have hs1 : ¬ t + 1 < 31 := by omega
  unfold gt00 st00 en00
  unfold gt10 st10 en10
  unfold gt01 st01 en01
  unfold gt11 st11 en11
  iintro ⟨#HE, Hz, Ho0, Ho1, Hv00, Hv10, Hv01, Hv11, ⟨⟨Ss00, Sv00, Sk00, Sc00⟩, Hk00⟩, ⟨⟨Ss10, Sv10, Sk10, Sc10⟩, Hk10⟩, ⟨⟨Ss01, Sv01, Sk01, Sc01⟩, Hk01⟩, ⟨⟨Ss11, Sv11, Sk11, Sc11⟩, Hk11⟩, Bv00, Bv10, Bv01, Bv11, HO⟩ HK
  try sl_exec
  have hA1 : Ab (0) (O) := by
    repeat' first | exact ab_mono hO (by omega) | apply ab_add | (apply ab_tally <;> omega)
  iapply (wait_send00 X κ c (t) (by omega) (O) hA1 (by first | rfl | exact credit00)) $$ [Sc00 HO Ss00]
  · isplitr; · iexact HE
    isplitl [Sc00]; · iexact Sc00
    isplitl [HO]; · iexact HO
    iexact Ss00
  iintro ⟨HO, Ss00, #Rs00, Ha00⟩
  try sl_exec
  have hA2 : Ab (4 * (t) + 2) (O) := by
    repeat' first | exact ab_mono hO (by omega) | apply ab_add | (apply ab_tally <;> omega)
  iapply (wait_recv00 X κ c (t) (by omega) (O) hA2 (by first | rfl | exact credit00)) $$ [Bv00 HO Sv00]
  · isplitr; · iexact HE
    isplitl [Bv00]; · iexact Bv00
    isplitl [HO]; · iexact HO
    iexact Sv00
  iintro ⟨HO, Sv00, #Rv00, Hr00, #Rk00⟩
  try sl_exec
  have hA3 : Ab (0) (O) := by
    repeat' first | exact ab_mono hO (by omega) | apply ab_add | (apply ab_tally <;> omega)
  iapply (wait_send10 X κ c (t) (by omega) (O) hA3 (by first | rfl | exact credit10)) $$ [Sc10 HO Ss10]
  · isplitr; · iexact HE
    isplitl [Sc10]; · iexact Sc10
    isplitl [HO]; · iexact HO
    iexact Ss10
  iintro ⟨HO, Ss10, #Rs10, Ha10⟩
  try sl_exec
  have hA4 : Ab (4 * (t) + 2) (O) := by
    repeat' first | exact ab_mono hO (by omega) | apply ab_add | (apply ab_tally <;> omega)
  iapply (wait_recv10 X κ c (t) (by omega) (O) hA4 (by first | rfl | exact credit10)) $$ [Bv10 HO Sv10]
  · isplitr; · iexact HE
    isplitl [Bv10]; · iexact Bv10
    isplitl [HO]; · iexact HO
    iexact Sv10
  iintro ⟨HO, Sv10, #Rv10, Hr10, #Rk10⟩
  try sl_exec
  ihave Hrr00 := (r_split00 c (A X 0 t (lft c))) $$ [Hr00]
  · iexact Hr00
  icases Hrr00 with ⟨Hl00, Hm00⟩
  iapply (copy00 c (back 0 (rank c) k.val) g0 (A X 0 t (lft c)) (off5_wd (rank c) k)) $$ [Hl00 Ho0 Hv00]
  · isplitl [Hl00]; · iexact Hl00
    isplitl [Ho0]; · iexact Ho0
    iexact Hv00
  iintro HF00
  try sl_exec
  ihave Hrr10 := (r_split10 c (A X 1 t (rgt c))) $$ [Hr10]
  · iexact Hr10
  icases Hrr10 with ⟨Hl10, Hm10⟩
  iapply (copy10 c (back 1 (rank c) k.val) g1 (A X 1 t (rgt c)) (off6_wd (rank c) k)) $$ [Hl10 Ho1 Hv10]
  · isplitl [Hl10]; · iexact Hl10
    isplitl [Ho1]; · iexact Ho1
    iexact Hv10
  iintro HF10
  try sl_exec
  ihave Haf00 := (a_join00 c t hs (A X 0 t c)) $$ [Ha00 Hk00]
  · isplitl [Ha00]; · iexact Ha00
    iexact Hk00
  iapply (load_rSh00 c _ _) $$ [Hm00]
  · iexact Hm00
  iintro Hm00
  try sl_exec
  iapply (load_a00 c _ _) $$ [Haf00]
  · iexact Haf00
  iintro Haf00
  try sl_exec
  iapply (put00 c fullShare fullShare rfl rfl _ (A X 0 (t + 1) c) ((congrArg (qv 0) (A_pass X 0 hs c)).trans (pay_copy00 _))) $$ [Haf00]
  · iexact Haf00
  iintro Haf00
  try sl_exec
  iapply (load_z c (fun _ => M)) $$ [Hz]
  · iexact Hz
  iintro Hz
  try sl_exec
  iapply (load_rSh00 c _ _) $$ [Hm00]
  · iexact Hm00
  iintro Hm00
  try sl_exec
  iapply (load_z c (fun _ => M)) $$ [Hz]
  · iexact Hz
  iintro Hz
  try sl_exec
  iapply (store_z c _ (w := fun _ => (k0_pay9 M (qv 0 (A X 0 t (lft c)))))) $$ [Hz]
  · iexact Hz
  iintro Hz
  try sl_exec
  ihave Haf10 := (a_join10 c t hs (A X 1 t c)) $$ [Ha10 Hk10]
  · isplitl [Ha10]; · iexact Ha10
    iexact Hk10
  iapply (load_rSh10 c _ _) $$ [Hm10]
  · iexact Hm10
  iintro Hm10
  try sl_exec
  iapply (load_a10 c _ _) $$ [Haf10]
  · iexact Haf10
  iintro Haf10
  try sl_exec
  iapply (put10 c fullShare fullShare rfl rfl _ (A X 1 (t + 1) c) ((congrArg (qv 0) (A_pass X 1 hs c)).trans (pay_copy10 _))) $$ [Haf10]
  · iexact Haf10
  iintro Haf10
  try sl_exec
  iapply (load_z c (fun _ => (k0_pay9 M (qv 0 (A X 0 t (lft c)))))) $$ [Hz]
  · iexact Hz
  iintro Hz
  try sl_exec
  iapply (load_rSh10 c _ _) $$ [Hm10]
  · iexact Hm10
  iintro Hm10
  try sl_exec
  iapply (load_z c (fun _ => (k0_pay9 M (qv 0 (A X 0 t (lft c)))))) $$ [Hz]
  · iexact Hz
  iintro Hz
  try sl_exec
  iapply (store_z c _ (w := fun _ => (k0_pay11 (k0_pay9 M (qv 0 (A X 0 t (lft c)))) (qv 0 (A X 1 t (rgt c)))))) $$ [Hz]
  · iexact Hz
  iintro Hz
  try sl_exec
  have hA5 : Ab (0) (O) := by
    repeat' first | exact ab_mono hO (by omega) | apply ab_add | (apply ab_tally <;> omega)
  iapply (landed_copy00 X κ c (back 0 (rank c) k.val) g0 (A X 0 t (lft c)) (off5_wd (rank c) k) (O) hA5) $$ [HF00 HO]
  · isplitr; · iexact HE
    isplitl [HF00]; · iexact HF00
    iexact HO
  iintro ⟨Ho0, Hl00, Hv00, HO⟩
  try sl_exec
  ihave Hr00 := (r_merge00 c (A X 0 t (lft c))) $$ [Hl00 Hm00]
  · isplitl [Hl00]; · iexact Hl00
    iexact Hm00
  have hA6 : Ab (0) (O) := by
    repeat' first | exact ab_mono hO (by omega) | apply ab_add | (apply ab_tally <;> omega)
  iapply (landed_copy10 X κ c (back 1 (rank c) k.val) g1 (A X 1 t (rgt c)) (off6_wd (rank c) k) (O) hA6) $$ [HF10 HO]
  · isplitr; · iexact HE
    isplitl [HF10]; · iexact HF10
    iexact HO
  iintro ⟨Ho1, Hl10, Hv10, HO⟩
  try sl_exec
  ihave Hr10 := (r_merge10 c (A X 1 t (rgt c))) $$ [Hl10 Hm10]
  · isplitl [Hl10]; · iexact Hl10
    iexact Hm10
  rw [dif_neg hc3]
  try sl_exec
  have hA7 : Ab (0) (O) := by
    repeat' first | exact ab_mono hO (by omega) | apply ab_add | (apply ab_tally <;> omega)
  iapply (wait_send01 X κ c (t) (by omega) (O) hA7 (by first | rfl | exact credit01)) $$ [Sc01 HO Ss01]
  · isplitr; · iexact HE
    isplitl [Sc01]; · iexact Sc01
    isplitl [HO]; · iexact HO
    iexact Ss01
  iintro ⟨HO, Ss01, #Rs01, Ha01⟩
  try sl_exec
  have hA8 : Ab (4 * (t) + 4) (O) := by
    repeat' first | exact ab_mono hO (by omega) | apply ab_add | (apply ab_tally <;> omega)
  iapply (wait_recv01 X κ c (t) (by omega) (O) hA8 (by first | rfl | exact credit01)) $$ [Bv01 HO Sv01]
  · isplitr; · iexact HE
    isplitl [Bv01]; · iexact Bv01
    isplitl [HO]; · iexact HO
    iexact Sv01
  iintro ⟨HO, Sv01, #Rv01, Hr01, #Rk01⟩
  try sl_exec
  have hA9 : Ab (0) (O) := by
    repeat' first | exact ab_mono hO (by omega) | apply ab_add | (apply ab_tally <;> omega)
  iapply (wait_send11 X κ c (t) (by omega) (O) hA9 (by first | rfl | exact credit11)) $$ [Sc11 HO Ss11]
  · isplitr; · iexact HE
    isplitl [Sc11]; · iexact Sc11
    isplitl [HO]; · iexact HO
    iexact Ss11
  iintro ⟨HO, Ss11, #Rs11, Ha11⟩
  try sl_exec
  have hA10 : Ab (4 * (t) + 4) (O) := by
    repeat' first | exact ab_mono hO (by omega) | apply ab_add | (apply ab_tally <;> omega)
  iapply (wait_recv11 X κ c (t) (by omega) (O) hA10 (by first | rfl | exact credit11)) $$ [Bv11 HO Sv11]
  · isplitr; · iexact HE
    isplitl [Bv11]; · iexact Bv11
    isplitl [HO]; · iexact HO
    iexact Sv11
  iintro ⟨HO, Sv11, #Rv11, Hr11, #Rk11⟩
  try sl_exec
  ihave Hrr01 := (r_split01 c (A X 0 t (lft c))) $$ [Hr01]
  · iexact Hr01
  icases Hrr01 with ⟨Hl01, Hm01⟩
  iapply (copy01 c (back 0 (rank c) k.val) (wr00 (back 0 (rank c) k.val) g0 (A X 0 t (lft c))) (A X 0 t (lft c)) (off7_wd (rank c) k)) $$ [Hl01 Ho0 Hv01]
  · isplitl [Hl01]; · iexact Hl01
    isplitl [Ho0]; · iexact Ho0
    iexact Hv01
  iintro HF01
  try sl_exec
  ihave Hrr11 := (r_split11 c (A X 1 t (rgt c))) $$ [Hr11]
  · iexact Hr11
  icases Hrr11 with ⟨Hl11, Hm11⟩
  iapply (copy11 c (back 1 (rank c) k.val) (wr10 (back 1 (rank c) k.val) g1 (A X 1 t (rgt c))) (A X 1 t (rgt c)) (off8_wd (rank c) k)) $$ [Hl11 Ho1 Hv11]
  · isplitl [Hl11]; · iexact Hl11
    isplitl [Ho1]; · iexact Ho1
    iexact Hv11
  iintro HF11
  try sl_exec
  ihave Haf01 := (a_join01 c t hs (A X 0 t c)) $$ [Ha01 Hk01]
  · isplitl [Ha01]; · iexact Ha01
    iexact Hk01
  iapply (load_rSh01 c _ _) $$ [Hm01]
  · iexact Hm01
  iintro Hm01
  try sl_exec
  iapply (load_a01 c _ _) $$ [Haf01]
  · iexact Haf01
  iintro Haf01
  try sl_exec
  iapply (put01 c fullShare fullShare rfl rfl _ (A X 0 (t + 1) c) ((congrArg (qv 1) (A_pass X 0 hs c)).trans (pay_copy01 _))) $$ [Haf01]
  · iexact Haf01
  iintro Haf01
  try sl_exec
  iapply (load_z c (fun _ => (k0_pay11 (k0_pay9 M (qv 0 (A X 0 t (lft c)))) (qv 0 (A X 1 t (rgt c)))))) $$ [Hz]
  · iexact Hz
  iintro Hz
  try sl_exec
  iapply (load_rSh01 c _ _) $$ [Hm01]
  · iexact Hm01
  iintro Hm01
  try sl_exec
  iapply (load_z c (fun _ => (k0_pay11 (k0_pay9 M (qv 0 (A X 0 t (lft c)))) (qv 0 (A X 1 t (rgt c)))))) $$ [Hz]
  · iexact Hz
  iintro Hz
  try sl_exec
  iapply (store_z c _ (w := fun _ => (k0_pay13 (k0_pay11 (k0_pay9 M (qv 0 (A X 0 t (lft c)))) (qv 0 (A X 1 t (rgt c)))) (qv 1 (A X 0 t (lft c)))))) $$ [Hz]
  · iexact Hz
  iintro Hz
  try sl_exec
  ihave Haf11 := (a_join11 c t hs (A X 1 t c)) $$ [Ha11 Hk11]
  · isplitl [Ha11]; · iexact Ha11
    iexact Hk11
  iapply (load_rSh11 c _ _) $$ [Hm11]
  · iexact Hm11
  iintro Hm11
  try sl_exec
  iapply (load_a11 c _ _) $$ [Haf11]
  · iexact Haf11
  iintro Haf11
  try sl_exec
  iapply (put11 c fullShare fullShare rfl rfl _ (A X 1 (t + 1) c) ((congrArg (qv 1) (A_pass X 1 hs c)).trans (pay_copy11 _))) $$ [Haf11]
  · iexact Haf11
  iintro Haf11
  try sl_exec
  iapply (load_z c (fun _ => (k0_pay13 (k0_pay11 (k0_pay9 M (qv 0 (A X 0 t (lft c)))) (qv 0 (A X 1 t (rgt c)))) (qv 1 (A X 0 t (lft c)))))) $$ [Hz]
  · iexact Hz
  iintro Hz
  try sl_exec
  iapply (load_rSh11 c _ _) $$ [Hm11]
  · iexact Hm11
  iintro Hm11
  try sl_exec
  iapply (load_z c (fun _ => (k0_pay13 (k0_pay11 (k0_pay9 M (qv 0 (A X 0 t (lft c)))) (qv 0 (A X 1 t (rgt c)))) (qv 1 (A X 0 t (lft c)))))) $$ [Hz]
  · iexact Hz
  iintro Hz
  try sl_exec
  iapply (store_z c _ (w := fun _ => (k0_pay15 (k0_pay13 (k0_pay11 (k0_pay9 M (qv 0 (A X 0 t (lft c)))) (qv 0 (A X 1 t (rgt c)))) (qv 1 (A X 0 t (lft c)))) (qv 1 (A X 1 t (rgt c)))))) $$ [Hz]
  · iexact Hz
  iintro Hz
  try sl_exec
  have hA11 : Ab (0) (O) := by
    repeat' first | exact ab_mono hO (by omega) | apply ab_add | (apply ab_tally <;> omega)
  iapply (landed_copy01 X κ c (back 0 (rank c) k.val) (wr00 (back 0 (rank c) k.val) g0 (A X 0 t (lft c))) (A X 0 t (lft c)) (off7_wd (rank c) k) (O) hA11) $$ [HF01 HO]
  · isplitr; · iexact HE
    isplitl [HF01]; · iexact HF01
    iexact HO
  iintro ⟨Ho0, Hl01, Hv01, HO⟩
  try sl_exec
  ihave Hr01 := (r_merge01 c (A X 0 t (lft c))) $$ [Hl01 Hm01]
  · isplitl [Hl01]; · iexact Hl01
    iexact Hm01
  have hA12 : Ab (0) (O) := by
    repeat' first | exact ab_mono hO (by omega) | apply ab_add | (apply ab_tally <;> omega)
  iapply (landed_copy11 X κ c (back 1 (rank c) k.val) (wr10 (back 1 (rank c) k.val) g1 (A X 1 t (rgt c))) (A X 1 t (rgt c)) (off8_wd (rank c) k) (O) hA12) $$ [HF11 HO]
  · isplitr; · iexact HE
    isplitl [HF11]; · iexact HF11
    iexact HO
  iintro ⟨Ho1, Hl11, Hv11, HO⟩
  try sl_exec
  ihave Hr11 := (r_merge11 c (A X 1 t (rgt c))) $$ [Hl11 Hm11]
  · isplitl [Hl11]; · iexact Hl11
    iexact Hm11
  rw [dif_neg hc4]
  try sl_exec
  simp only [Prog.bind, Prog.pure_eq_ret]
  rw [wp_ret]
  imodintro
  iapply HK
  isplitl [Hz]; · iexact Hz
  isplitl [Ho0]; · iexact Ho0
  isplitl [Ho1]; · iexact Ho1
  isplitl [Hv00]; · iexact Hv00
  isplitl [Hv10]; · iexact Hv10
  isplitl [Hv01]; · iexact Hv01
  isplitl [Hv11]; · iexact Hv11
  isplitl [Ss00 Sv00 Sk00 Haf00 Hr00]
  · isplitl [Ss00]; · iexact Ss00
    isplitl [Sv00]; · iexact Sv00
    isplitl [Sk00]; · iexact Sk00
    isplitl [Haf00]; · iexact Haf00
    iexact Hr00
  isplitl [Ss10 Sv10 Sk10 Haf10 Hr10]
  · isplitl [Ss10]; · iexact Ss10
    isplitl [Sv10]; · iexact Sv10
    isplitl [Sk10]; · iexact Sk10
    isplitl [Haf10]; · iexact Haf10
    iexact Hr10
  isplitl [Ss01 Sv01 Sk01 Haf01 Hr01]
  · isplitl [Ss01]; · iexact Ss01
    isplitl [Sv01]; · iexact Sv01
    isplitl [Sk01]; · iexact Sk01
    isplitl [Haf01]; · iexact Haf01
    iexact Hr01
  isplitl [Ss11 Sv11 Sk11 Haf11 Hr11]
  · isplitl [Ss11]; · iexact Ss11
    isplitl [Sv11]; · iexact Sv11
    isplitl [Sk11]; · iexact Sk11
    isplitl [Haf11]; · iexact Haf11
    iexact Hr11
  iexact HO

end Cert.Proof.KernelIdeal
-- ==== Proof.KernelIdealLoops.lean ====
/- The two loops of the kernel, by their invariants. -/
module

public import proofs.«01_k».proof.Proof.KernelIdealGather

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)

variable {F : FTy → Type} [FloatOps F]

local notation "𝕄" => MT nD τ sig ℕ (Elt F) ℕ UU ℕ

variable (X : Shards F) (κ : GSem nD τ sig → ℕ)

/-- What the last `n` paying trips consume. -/
def fuel (c : Dev nD) : ℕ → sProp 𝕄
  | 0 => iprop(emp)
  | n + 1 => iprop((tb00 (F := F) c (60 - n) ∗ tb10 (F := F) c (60 - n) ∗ tb01 (F := F) c (60 - n) ∗ tb11 (F := F) c (60 - n)) ∗ fuel c n)
theorem fuel_at (c : Dev nD) (k n m : ℕ) (hm : m = n + 1) (hk : 60 - n = k) : fuel (F := F) c m = iprop((tb00 (F := F) c k ∗ tb10 (F := F) c k ∗ tb01 (F := F) c k ∗ tb11 (F := F) c k) ∗ fuel c n) := by
  subst hm; subst hk; rfl
theorem due_at (c : Dev nD) (k n m : ℕ) (hm : m = n + 1) (hk : 60 - n = k) : due c m = blk0 c k (blk1 c k (due c n)) := by
  subst hm; subst hk; rfl

/-- The largest magnitude on device `c` after `k` trips of the gathering loop. -/
def MM (c : Dev nD) : ℕ → Elt F .f32
  | 0 => k0_pay18 (A X 0 31 c) (A X 1 31 c)
  | k + 1 => stepM (MM c k) (A X 0 (31 + k) (lft c)) (A X 1 (31 + k) (rgt c))

/-- Half `d` of the first `n` chunks that reach device `c` is in the result. -/
def Out (d : Fin 2) (c : Dev nD) (n : ℕ) (g : Vec F S4096x8192 .f32) : Prop :=
  ∀ t, t < n → ∀ x, g (opos d (back d (rank c) (31 + t)) x) = A X d (31 + t) c x

theorem back_32 (d : Fin 2) (r : Fin 32) (k : ℕ) (hk : k < 31) : back d r (31 + (k + 1)) = back d r k := by
  have h : ∀ k : Fin 31, Fin.ofNat 32 (31 + (k.val + 1)) = Fin.ofNat 32 k.val := by decide
  unfold back; rw [h ⟨k, hk⟩]
theorem back_ne (d : Fin 2) (r : Fin 32) (k t : ℕ) (hk : k < 31) (ht : t < k + 1) : back d r (31 + t) ≠ back d r k := by
  have h : ∀ k : Fin 31, ∀ t : Fin 31, t.val < k.val + 1 → ∀ d : Fin 2, ∀ r : Fin 32, back d r (31 + t.val) ≠ back d r k.val := by decide +kernel
  exact h ⟨k, hk⟩ ⟨t, by omega⟩ ht d r

theorem out_first0 (c : Dev nD) (g : Vec F S4096x8192 .f32) : Out X 0 c 1 (wh0 (back 0 (rank c) 31) g (A X 0 31 c)) := by
  intro t ht x
  obtain rfl : t = 0 := by omega
  exact wh_in0 _ _ _ x
theorem out_next0 (c : Dev nD) (k : ℕ) (hk : k < 31) (g : Vec F S4096x8192 .f32) (h : Out X 0 c (k + 1) g) :
    Out X 0 c (k + 2) (wr01 (back 0 (rank c) k) (wr00 (back 0 (rank c) k) g (A X 0 (31 + k) (lft c))) (A X 0 (31 + k) (lft c))) := by
  intro t ht x
  by_cases e : t = k + 1
  · subst e
    have hx : (x 1).val < 4096 := (x 1).isLt
    have hv : A X 0 (31 + (k + 1)) c = A X 0 (31 + k) (lft c) := A_pass X 0 (t := 31 + k) (by omega) c
    rw [back_32 0 (rank c) k hk, hv]
    by_cases h2 : (x 1).val < 2048
    · rw [wr_out01 _ _ _ _ x (Or.inr (by omega)), wr_in00 _ _ _ x (by omega) (by omega)]
    · rw [wr_in01 _ _ _ x (by omega) (by omega)]
  · have hn := back_ne 0 (rank c) k t hk (by omega)
    rw [wr_out01 _ _ _ _ x (Or.inl hn), wr_out00 _ _ _ _ x (Or.inl hn)]
    exact h t (by omega) x

theorem out_first1 (c : Dev nD) (g : Vec F S4096x8192 .f32) : Out X 1 c 1 (wh1 (back 1 (rank c) 31) g (A X 1 31 c)) := by
  intro t ht x
  obtain rfl : t = 0 := by omega
  exact wh_in1 _ _ _ x
theorem out_next1 (c : Dev nD) (k : ℕ) (hk : k < 31) (g : Vec F S4096x8192 .f32) (h : Out X 1 c (k + 1) g) :
    Out X 1 c (k + 2) (wr11 (back 1 (rank c) k) (wr10 (back 1 (rank c) k) g (A X 1 (31 + k) (rgt c))) (A X 1 (31 + k) (rgt c))) := by
  intro t ht x
  by_cases e : t = k + 1
  · subst e
    have hx : (x 1).val < 4096 := (x 1).isLt
    have hv : A X 1 (31 + (k + 1)) c = A X 1 (31 + k) (rgt c) := A_pass X 1 (t := 31 + k) (by omega) c
    rw [back_32 1 (rank c) k hk, hv]
    by_cases h2 : (x 1).val < 2048
    · rw [wr_out11 _ _ _ _ x (Or.inr (by omega)), wr_in10 _ _ _ x (by omega) (by omega)]
    · rw [wr_in11 _ _ _ x (by omega) (by omega)]
  · have hn := back_ne 1 (rank c) k t hk (by omega)
    rw [wr_out11 _ _ _ _ x (Or.inl hn), wr_out10 _ _ _ _ x (Or.inl hn)]
    exact h t (by omega) x

/-- Before trip `k` of the reducing loop. -/
def RI (c : Dev nD) (k : ℕ) : sProp 𝕄 :=
  iprop(xPts c (X.x c) ∗ wPts c (X.w c) ∗ (∃ f, lPts0 (F := F) c f) ∗ (∃ f, lPts1 (F := F) c f) ∗ st00 c k ∗ st10 c k ∗ st01 c k ∗ st11 c k ∗ fuel c (61 - k) ∗ owesE c (due c (61 - k)))
/-- After the reducing loop. -/
def RE (c : Dev nD) : sProp 𝕄 :=
  iprop(xPts c (X.x c) ∗ wPts c (X.w c) ∗ (∃ f, lPts0 (F := F) c f) ∗ (∃ f, lPts1 (F := F) c f) ∗ mid00 X c 30 ∗ mid10 X c 30 ∗ mid01 X c 30 ∗ mid11 X c 30 ∗ fuel c 30 ∗ owesE c (due c 30 + tallyAt (recvC11 (lft c)) (4 * (30 + 1) + 4) N + tallyAt (recvC01 (rgt c)) (4 * (30 + 1) + 4) N + tallyAt (recvC10 (lft c)) (4 * (30 + 1) + 2) N + tallyAt (recvC00 (rgt c)) (4 * (30 + 1) + 2) N))

theorem red_step (c : Dev nD) (k : Fin k0_t1_loop.trips) :
    iprop(env X κ ∗ (if k.val < 31 then RI X c k.val else RE X c)) ⊢ wp frame (wpE (defs₀ (F := F)) 𝒱₀ (c : Thread nD τ) none) Set.univ (body1 c k ()) fun _ => iprop(env X κ ∗ (if k.val + 1 < 31 then RI X c (k.val + 1) else RE X c)) := by
  have hlt : k.val < 31 := lt_of_lt_of_eq k.isLt trips1
  rw [if_pos hlt]
  by_cases hk : k.val < 30
  · rw [if_pos (show k.val + 1 < 31 by omega)]
    unfold RI
    rw [fuel_at c k.val (60 - k.val) (61 - k.val) (by omega) (by omega), due_at c k.val (60 - k.val) (61 - k.val) (by omega) (by omega), show 61 - (k.val + 1) = 60 - k.val by omega]
    iintro ⟨#HE, Hx, Hw, Hl0, Hl1, H00, H10, H01, H11, ⟨⟨B00, B10, B01, B11⟩, HF⟩, HO⟩
    iapply (rs_trip X κ c k hk (due c (60 - k.val)) (ab_due c _ _ (by omega) (by omega))) $$ [Hx Hw Hl0 Hl1 H00 H10 H01 H11 B00 B10 B01 B11 HO]
    · isplitr; · iexact HE
      isplitl [Hx]; · iexact Hx
      isplitl [Hw]; · iexact Hw
      isplitl [Hl0]; · iexact Hl0
      isplitl [Hl1]; · iexact Hl1
      isplitl [H00]; · iexact H00
      isplitl [H10]; · iexact H10
      isplitl [H01]; · iexact H01
      isplitl [H11]; · iexact H11
      isplitl [B00]; · iexact B00
      isplitl [B10]; · iexact B10
      isplitl [B01]; · iexact B01
      isplitl [B11]; · iexact B11
      iexact HO
    iintro ⟨Hx, Hw, Hl0, Hl1, H00, H10, H01, H11, HO⟩
    isplitr; · iexact HE
    isplitl [Hx]; · iexact Hx
    isplitl [Hw]; · iexact Hw
    isplitl [Hl0]; · iexact Hl0
    isplitl [Hl1]; · iexact Hl1
    isplitl [H00]; · iexact H00
    isplitl [H10]; · iexact H10
    isplitl [H01]; · iexact H01
    isplitl [H11]; · iexact H11
    isplitl [HF]; · iexact HF
    iexact HO
  · have hk : k.val = 30 := by omega
    rw [if_neg (show ¬ k.val + 1 < 31 by omega)]
    unfold RI RE
    rw [fuel_at c k.val 30 (61 - k.val) (by omega) (by omega), due_at c k.val 30 (61 - k.val) (by omega) (by omega)]
    have ha : blk0 c k.val (blk1 c k.val (due c 30)) = due c 30 + tallyAt (recvC11 (lft c)) (4 * (30 + 1) + 4) N + tallyAt (recvC01 (rgt c)) (4 * (30 + 1) + 4) N + tallyAt (recvC10 (lft c)) (4 * (30 + 1) + 2) N + tallyAt (recvC00 (rgt c)) (4 * (30 + 1) + 2) N + tallyAt (credC11 (rgt c)) (4 * (k.val) + 7) 1 + tallyAt (credC01 (lft c)) (4 * (k.val) + 7) 1 + tallyAt (credC10 (rgt c)) (4 * (k.val) + 5) 1 + tallyAt (credC00 (lft c)) (4 * (k.val) + 5) 1 := by
      rw [hk]; unfold blk0 blk1; ac_rfl
    rw [ha]
    iintro ⟨#HE, Hx, Hw, Hl0, Hl1, H00, H10, H01, H11, ⟨⟨B00, B10, B01, B11⟩, HF⟩, HO⟩
    iapply (rs_last X κ c k hk (due c 30) (ab_due c _ _ (by omega) (by omega))) $$ [Hx Hw Hl0 Hl1 H00 H10 H01 H11 B00 B10 B01 B11 HO]
    · isplitr; · iexact HE
      isplitl [Hx]; · iexact Hx
      isplitl [Hw]; · iexact Hw
      isplitl [Hl0]; · iexact Hl0
      isplitl [Hl1]; · iexact Hl1
      isplitl [H00]; · iexact H00
      isplitl [H10]; · iexact H10
      isplitl [H01]; · iexact H01
      isplitl [H11]; · iexact H11
      isplitl [B00]; · iexact B00
      isplitl [B10]; · iexact B10
      isplitl [B01]; · iexact B01
      isplitl [B11]; · iexact B11
      iexact HO
    rw [hk]
    iintro ⟨Hx, Hw, Hl0, Hl1, H00, H10, H01, H11, HO⟩
    isplitr; · iexact HE
    isplitl [Hx]; · iexact Hx
    isplitl [Hw]; · iexact Hw
    isplitl [Hl0]; · iexact Hl0
    isplitl [Hl1]; · iexact Hl1
    isplitl [H00]; · iexact H00
    isplitl [H10]; · iexact H10
    isplitl [H01]; · iexact H01
    isplitl [H11]; · iexact H11
    isplitl [HF]; · iexact HF
    iexact HO

/-- The reducing loop. -/
theorem reduce_loop (c : Dev nD) {Q : Unit → sProp 𝕄} :
    iprop(env X κ ∗ RI X c 0) ⊢ iprop((RE X c -∗ Q ()) -∗ wp frame (wpE (defs₀ (F := F)) 𝒱₀ (c : Thread nD τ) none) Set.univ (Scf.Loop.for k0_t1_loop k0_t1_ok ⟨⟩ (body1 c)) Q) := by
  iintro ⟨#HE, HI⟩ HK
  iapply (Scf.wp_for frame (wpE (defs₀ (F := F)) 𝒱₀ (c : Thread nD τ) none) Set.univ k0_t1_loop.lb k0_t1_loop.ub k0_t1_loop.st k0_t1_ok ⟨⟩ (body1 c)
    (fun k _ => iprop(env X κ ∗ (if k < 31 then RI X c k else RE X c))) (fun k _ => red_step X κ c k))
  isplitl [HI]
  · isplitr; · iexact HE
    iapply (Entails.of_eq (if_pos (show (0 : ℕ) < 31 by decide)).symm)
    iexact HI
  iintro %a ⟨-, HI⟩
  iapply HK
  iapply (Entails.of_eq (if_neg (show ¬ k0_t1_loop.trips < 31 by rw [trips1]; decide)))
  iexact HI

/-- Device `c`'s largest magnitude, the two halves of the result and the semaphores of its copies, before trip `k` of the gathering loop. -/
def kept (c : Dev nD) (k : ℕ) : sProp 𝕄 :=
  iprop(zPts c (fun _ => MM X c k) ∗ (∃ g, ⌜Out X 0 c (k + 1) g⌝ ∗ oPts 0 c g) ∗ (∃ g, ⌜Out X 1 c (k + 1) g⌝ ∗ oPts 1 c g) ∗ semVal ((c : Thread nD τ), .dma stS00) 0 ∗ semVal ((c : Thread nD τ), .dma stS10) 0 ∗ semVal ((c : Thread nD τ), .dma stS01) 0 ∗ semVal ((c : Thread nD τ), .dma stS11) 0)
/-- Before trip `k` of the gathering loop. -/
def GI (c : Dev nD) (k : ℕ) : sProp 𝕄 :=
  iprop(kept X c k ∗ gt00 X c (31 + k) ∗ gt10 X c (31 + k) ∗ gt01 X c (31 + k) ∗ gt11 X c (31 + k) ∗ fuel c (30 - k) ∗ (cred (tallyAt (recvC00 c) (4 * 61 + 2) N) ∗ cred (tallyAt (recvC10 c) (4 * 61 + 2) N) ∗ cred (tallyAt (recvC01 c) (4 * 61 + 4) N) ∗ cred (tallyAt (recvC11 c) (4 * 61 + 4) N)) ∗ owesE c (due c (30 - k)))
/-- After the gathering loop. -/
def GE (c : Dev nD) : sProp 𝕄 :=
  iprop(kept X c 31 ∗ en00 X c 61 ∗ en10 X c 61 ∗ en01 X c 61 ∗ en11 X c 61 ∗ owesE c 0)

theorem gat_step (c : Dev nD) (k : Fin k0_t2_loop.trips) :
    iprop(env X κ ∗ (if k.val < 31 then GI X c k.val else GE X c)) ⊢ wp frame (wpE (defs₀ (F := F)) 𝒱₀ (c : Thread nD τ) none) Set.univ (body2 c k ()) fun _ => iprop(env X κ ∗ (if k.val + 1 < 31 then GI X c (k.val + 1) else GE X c)) := by
  have hlt : k.val < 31 := lt_of_lt_of_eq k.isLt trips2
  rw [if_pos hlt]
  by_cases hk : k.val < 30
  · rw [if_pos (show k.val + 1 < 31 by omega)]
    unfold GI kept
    rw [fuel_at c (31 + k.val) (29 - k.val) (30 - k.val) (by omega) (by omega), due_at c (31 + k.val) (29 - k.val) (30 - k.val) (by omega) (by omega), show 30 - (k.val + 1) = 29 - k.val by omega]
    iintro ⟨#HE, ⟨Hz, ⟨%g0, %h0, Ho0⟩, ⟨%g1, %h1, Ho1⟩, Hv00, Hv10, Hv01, Hv11⟩, H00, H10, H01, H11, ⟨⟨B00, B10, B01, B11⟩, HF⟩, HL, HO⟩
    iapply (ag_trip X κ c k hk (31 + k.val) rfl (MM X c k.val) g0 g1 (due c (29 - k.val)) (ab_due c _ _ (by omega) (by omega))) $$ [Hz Ho0 Ho1 Hv00 Hv10 Hv01 Hv11 H00 H10 H01 H11 B00 B10 B01 B11 HO]
    · isplitr; · iexact HE
      isplitl [Hz]; · iexact Hz
      isplitl [Ho0]; · iexact Ho0
      isplitl [Ho1]; · iexact Ho1
      isplitl [Hv00]; · iexact Hv00
      isplitl [Hv10]; · iexact Hv10
      isplitl [Hv01]; · iexact Hv01
      isplitl [Hv11]; · iexact Hv11
      isplitl [H00]; · iexact H00
      isplitl [H10]; · iexact H10
      isplitl [H01]; · iexact H01
      isplitl [H11]; · iexact H11
      isplitl [B00]; · iexact B00
      isplitl [B10]; · iexact B10
      isplitl [B01]; · iexact B01
      isplitl [B11]; · iexact B11
      iexact HO
    iintro ⟨Hz, Ho0, Ho1, Hv00, Hv10, Hv01, Hv11, H00, H10, H01, H11, HO⟩
    isplitr; · iexact HE
    isplitl [Hz Ho0 Ho1 Hv00 Hv10 Hv01 Hv11]
    · isplitl [Hz]; · iexact Hz
      isplitl [Ho0]
      · iexists _; isplitr; · ipureintro; exact out_next0 X c k.val hlt g0 h0
        iexact Ho0
      isplitl [Ho1]
      · iexists _; isplitr; · ipureintro; exact out_next1 X c k.val hlt g1 h1
        iexact Ho1
      isplitl [Hv00]; · iexact Hv00
      isplitl [Hv10]; · iexact Hv10
      isplitl [Hv01]; · iexact Hv01
      iexact Hv11
    isplitl [H00]; · iexact H00
    isplitl [H10]; · iexact H10
    isplitl [H01]; · iexact H01
    isplitl [H11]; · iexact H11
    isplitl [HF]; · iexact HF
    isplitl [HL]; · iexact HL
    iexact HO
  · have hk : k.val = 30 := by omega
    rw [if_neg (show ¬ k.val + 1 < 31 by omega)]
    unfold GI GE kept
    rw [hk]
    iintro ⟨#HE, ⟨Hz, ⟨%g0, %h0, Ho0⟩, ⟨%g1, %h1, Ho1⟩, Hv00, Hv10, Hv01, Hv11⟩, H00, H10, H01, H11, HF, ⟨B00, B10, B01, B11⟩, HO⟩
    iapply (ag_last X κ c k hk 61 (by omega) (MM X c 30) g0 g1 0 (ab_zero _)) $$ [Hz Ho0 Ho1 Hv00 Hv10 Hv01 Hv11 H00 H10 H01 H11 B00 B10 B01 B11 HO]
    · isplitr; · iexact HE
      isplitl [Hz]; · iexact Hz
      isplitl [Ho0]; · iexact Ho0
      isplitl [Ho1]; · iexact Ho1
      isplitl [Hv00]; · iexact Hv00
      isplitl [Hv10]; · iexact Hv10
      isplitl [Hv01]; · iexact Hv01
      isplitl [Hv11]; · iexact Hv11
      isplitl [H00]; · iexact H00
      isplitl [H10]; · iexact H10
      isplitl [H01]; · iexact H01
      isplitl [H11]; · iexact H11
      isplitl [B00]; · iexact B00
      isplitl [B10]; · iexact B10
      isplitl [B01]; · iexact B01
      isplitl [B11]; · iexact B11
      iexact HO
    rw [hk]
    iintro ⟨Hz, Ho0, Ho1, Hv00, Hv10, Hv01, Hv11, H00, H10, H01, H11, HO⟩
    isplitr; · iexact HE
    isplitl [Hz Ho0 Ho1 Hv00 Hv10 Hv01 Hv11]
    · isplitl [Hz]; · iexact Hz
      isplitl [Ho0]
      · iexists _; isplitr; · ipureintro; exact out_next0 X c 30 (by omega) g0 h0
        iexact Ho0
      isplitl [Ho1]
      · iexists _; isplitr; · ipureintro; exact out_next1 X c 30 (by omega) g1 h1
        iexact Ho1
      isplitl [Hv00]; · iexact Hv00
      isplitl [Hv10]; · iexact Hv10
      isplitl [Hv01]; · iexact Hv01
      iexact Hv11
    isplitl [H00]; · iexact H00
    isplitl [H10]; · iexact H10
    isplitl [H01]; · iexact H01
    isplitl [H11]; · iexact H11
    iexact HO

/-- The gathering loop. -/
theorem gather_loop (c : Dev nD) {Q : Unit → sProp 𝕄} :
    iprop(env X κ ∗ GI X c 0) ⊢ iprop((GE X c -∗ Q ()) -∗ wp frame (wpE (defs₀ (F := F)) 𝒱₀ (c : Thread nD τ) none) Set.univ (Scf.Loop.for k0_t2_loop k0_t2_ok ⟨⟩ (body2 c)) Q) := by
  iintro ⟨#HE, HI⟩ HK
  iapply (Scf.wp_for frame (wpE (defs₀ (F := F)) 𝒱₀ (c : Thread nD τ) none) Set.univ k0_t2_loop.lb k0_t2_loop.ub k0_t2_loop.st k0_t2_ok ⟨⟩ (body2 c)
    (fun k _ => iprop(env X κ ∗ (if k < 31 then GI X c k else GE X c))) (fun k _ => gat_step X κ c k))
  isplitl [HI]
  · isplitr; · iexact HE
    iapply (Entails.of_eq (if_pos (show (0 : ℕ) < 31 by decide)).symm)
    iexact HI
  iintro %a ⟨-, HI⟩
  iapply HK
  iapply (Entails.of_eq (if_neg (show ¬ k0_t2_loop.trips < 31 by rw [trips2]; decide)))
  iexact HI

end Cert.Proof.KernelIdeal
-- ==== Proof.KernelIdealTop.lean ====
/- The kernel's body on one device: the barrier, the first sends, the two loops and the first copies, and the closing of its cells. -/
module

public import proofs.«01_k».proof.Proof.KernelIdealLoops

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)

variable {F : FTy → Type} [FloatOps F]

local notation "𝕄" => MT nD τ sig ℕ (Elt F) ℕ UU ℕ

variable (X : Shards F) (κ : GSem nD τ sig → ℕ)

/-- The words the kernel reads first: its place and its neighbours. -/
def metaV (c : Dev nD) : Vec F S3 .i32 := fun j => match (j 0).val with | 0 => wd (rank c) | 1 => wd (lft c) | _ => wd (rgt c)
def mPts (c : Dev nD) (f : Vec F S3 .i32) : sProp 𝕄 := mM.view.loc (c : Thread nD τ) ↦{fullShare} (f : Buf (Elt F) (mM.view.loc (c : Thread nD τ)))

theorem load_m0 (c : Dev nD) {α : Type} {Q : α → sProp 𝕄} {hb : ∀ a, (![0] : Fin 1 → ℕ) a + S1.size a ≤ S3.size a}
    {hl : (mM : Memref sig .tc .smem S3 .i32).view.LoadsAt (Rect.unit (s := S3) ![0] S1.size hb).toLoadRect} {k : Vec F S1 .i32 → Prog (TpuEff nD τ sig (Elt F) Λ₀ .tc) α} :
    mPts (F := F) c (metaV c) ⊢ iprop((mPts (F := F) c (metaV c) -∗ wp frame (wpE (defs₀ (F := F)) 𝒱₀ (c : Thread nD τ) none) Set.univ (k (fun _ => wd (rank c))) Q)
      -∗ wp frame (wpE (defs₀ (F := F)) 𝒱₀ (c : Thread nD τ) none) Set.univ (.op (.load mM (Rect.unit (s := S3) ![0] S1.size hb).toLoadRect hl) k) Q) :=
  load_any c mM (Rect.unit (s := S3) ![0] S1.size hb) (fun _ => wd (rank c)) (funext fun j => by
    have hj : (j 0).val = 0 := Nat.lt_one_iff.mp (j 0).isLt
    have e : ((Rect.unit (s := S3) ![0] S1.size hb).idx j 0).val = 0 := by
      show 0 + 1 * (j 0).val = 0
      rw [hj]
    show metaV (F := F) c ((Rect.unit (s := S3) ![0] S1.size hb).idx j) = wd (rank c)
    unfold metaV
    rw [e]; rfl) (Finset.subset_univ _)

theorem load_m1 (c : Dev nD) {α : Type} {Q : α → sProp 𝕄} {hb : ∀ a, (![1] : Fin 1 → ℕ) a + S1.size a ≤ S3.size a}
    {hl : (mM : Memref sig .tc .smem S3 .i32).view.LoadsAt (Rect.unit (s := S3) ![1] S1.size hb).toLoadRect} {k : Vec F S1 .i32 → Prog (TpuEff nD τ sig (Elt F) Λ₀ .tc) α} :
    mPts (F := F) c (metaV c) ⊢ iprop((mPts (F := F) c (metaV c) -∗ wp frame (wpE (defs₀ (F := F)) 𝒱₀ (c : Thread nD τ) none) Set.univ (k (fun _ => wd (lft c))) Q)
      -∗ wp frame (wpE (defs₀ (F := F)) 𝒱₀ (c : Thread nD τ) none) Set.univ (.op (.load mM (Rect.unit (s := S3) ![1] S1.size hb).toLoadRect hl) k) Q) :=
  load_any c mM (Rect.unit (s := S3) ![1] S1.size hb) (fun _ => wd (lft c)) (funext fun j => by
    have hj : (j 0).val = 0 := Nat.lt_one_iff.mp (j 0).isLt
    have e : ((Rect.unit (s := S3) ![1] S1.size hb).idx j 0).val = 1 := by
      show 1 + 1 * (j 0).val = 1
      rw [hj]
    show metaV (F := F) c ((Rect.unit (s := S3) ![1] S1.size hb).idx j) = wd (lft c)
    unfold metaV
    rw [e]; rfl) (Finset.subset_univ _)

theorem load_m2 (c : Dev nD) {α : Type} {Q : α → sProp 𝕄} {hb : ∀ a, (![2] : Fin 1 → ℕ) a + S1.size a ≤ S3.size a}
    {hl : (mM : Memref sig .tc .smem S3 .i32).view.LoadsAt (Rect.unit (s := S3) ![2] S1.size hb).toLoadRect} {k : Vec F S1 .i32 → Prog (TpuEff nD τ sig (Elt F) Λ₀ .tc) α} :
    mPts (F := F) c (metaV c) ⊢ iprop((mPts (F := F) c (metaV c) -∗ wp frame (wpE (defs₀ (F := F)) 𝒱₀ (c : Thread nD τ) none) Set.univ (k (fun _ => wd (rgt c))) Q)
      -∗ wp frame (wpE (defs₀ (F := F)) 𝒱₀ (c : Thread nD τ) none) Set.univ (.op (.load mM (Rect.unit (s := S3) ![2] S1.size hb).toLoadRect hl) k) Q) :=
  load_any c mM (Rect.unit (s := S3) ![2] S1.size hb) (fun _ => wd (rgt c)) (funext fun j => by
    have hj : (j 0).val = 0 := Nat.lt_one_iff.mp (j 0).isLt
    have e : ((Rect.unit (s := S3) ![2] S1.size hb).idx j 0).val = 2 := by
      show 2 + 1 * (j 0).val = 2
      rw [hj]
    show metaV (F := F) c ((Rect.unit (s := S3) ![2] S1.size hb).idx j) = wd (rgt c)
    unfold metaV
    rw [e]; rfl) (Finset.subset_univ _)

/-- The barrier's signal to the neighbour that sends in direction 0: this device's landing buffer is handed over. -/
theorem signal_barT (c : Dev nD) (n : Dev nD) (hn : n = lft c) (O : CellTallies nD τ sig ℕ) {α : Type} {Q : α → sProp 𝕄} {k : PUnit → Prog (TpuEff nD τ sig (Elt F) Λ₀ .tc) α} (m : Int) (hm : m = ((1 : ℕ) : Int))
    (f g : Vec F S128x4096 .f32) :
    iprop(env X κ ∗ rPts00 c f ∗ rPts01 c g ∗ reached ER (recvC00 c) 0 ∗ reached ER (recvC01 c) 0 ∗ reached ER (barC (lft c)) 0 ∗ dutyTok ER (barC (lft c)) 0 true
        ∗ owesE c (O + tallyAt (barC (lft c)) 1 1))
      ⊢ iprop((owesE c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS m) k) Q) := by
  subst hn
  subst hm
  unfold owesE
  iintro ⟨#HE, H0, H1, Hv0, Hv1, Hb, Ht, ⟨%W, HO⟩⟩ Hk
  iapply (Rounds.wp_signal 𝒱₀ ER (Rd X) (c : Thread nD τ) none (dst := (lft c : Thread nD τ)) (κ := κ (barC (lft c))) (r := 0) (d := true)
      (by rw [duties_bar X (lft c)]; exact Finset.mem_univ _) (amount_bar X (lft c) 0 true) 1 O
      rfl (hr := Topo.routes_tc _ _)) $$ [HO H0 H1 Hv0 Hv1 Hb Ht]
  · isplitr; · iapply (env_bar X κ (lft c)); iexact HE
    isplitl [HO]; · iexact HO
    isplitl [Ht]; · iexact Ht
    isplitl [H0 H1 Hv0 Hv1]
    · rw [payload_barT]; unfold bPayT; rw [rgt_lft]
      isplitl [H0 Hv0]
      · isplitl [H0]; · iexists f; iexact H0
        iexact Hv0
      isplitl [H1]; · iexists g; iexact H1
      iexact Hv1
    iexact Hb
  iintro HO
  iapply Hk
  iexists W; iexact HO

/-- The barrier's signal to the neighbour that sends in direction 1: this device's landing buffer is handed over. -/
theorem signal_barF (c : Dev nD) (n : Dev nD) (hn : n = rgt c) (O : CellTallies nD τ sig ℕ) {α : Type} {Q : α → sProp 𝕄} {k : PUnit → Prog (TpuEff nD τ sig (Elt F) Λ₀ .tc) α} (m : Int) (hm : m = ((1 : ℕ) : Int))
    (f g : Vec F S128x4096 .f32) :
    iprop(env X κ ∗ rPts10 c f ∗ rPts11 c g ∗ reached ER (recvC10 c) 0 ∗ reached ER (recvC11 c) 0 ∗ reached ER (barC (rgt c)) 0 ∗ dutyTok ER (barC (rgt c)) 0 false
        ∗ owesE c (O + tallyAt (barC (rgt c)) 1 1))
      ⊢ iprop((owesE c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS m) k) Q) := by
  subst hn
  subst hm
  unfold owesE
  iintro ⟨#HE, H0, H1, Hv0, Hv1, Hb, Ht, ⟨%W, HO⟩⟩ Hk
  iapply (Rounds.wp_signal 𝒱₀ ER (Rd X) (c : Thread nD τ) none (dst := (rgt c : Thread nD τ)) (κ := κ (barC (rgt c))) (r := 0) (d := false)
      (by rw [duties_bar X (rgt c)]; exact Finset.mem_univ _) (amount_bar X (rgt c) 0 false) 1 O
      rfl (hr := Topo.routes_tc _ _)) $$ [HO H0 H1 Hv0 Hv1 Hb Ht]
  · isplitr; · iapply (env_bar X κ (rgt c)); iexact HE
    isplitl [HO]; · iexact HO
    isplitl [Ht]; · iexact Ht
    isplitl [H0 H1 Hv0 Hv1]
    · rw [payload_barF]; unfold bPayF; rw [lft_rgt]
      isplitl [H0 Hv0]
      · isplitl [H0]; · iexists f; iexact H0
        iexact Hv0
      isplitl [H1]; · iexists g; iexact H1
      iexact Hv1
    iexact Hb
  iintro HO
  iapply Hk
  iexists W; iexact HO

theorem bar_rest (c : Dev nD) : (bigSep ((Rd X).duties (barC c) 0 \ ∅) fun d => (Rd X).payload (barC c) 0 d) = iprop(bPayT (F := F) c ∗ bPayF c) := by
  rw [Finset.sdiff_empty, duties_bar, show (Finset.univ : Finset Bool) = {true, false} from by decide, bigSep_insert (by decide), bigSep_singleton, payload_barT, payload_barF]
  rfl
/-- The barrier's wait: both neighbours' landing buffers may be written. -/
theorem wait_bar (c : Dev nD) (O : CellTallies nD τ sig ℕ) {α : Type} {Q : α → sProp 𝕄} {k : PUnit → Prog (TpuEff nD τ sig (Elt F) Λ₀ .tc) α} (hA : Ab 1 O) (m : Int) (hm : m = ((2 : ℕ) : Int)) :
    iprop(env X κ ∗ cred (tallyAt (barC c) 1 2) ∗ owesE c O ∗ atPos ER (barC c) 0 ∅ 0)
      ⊢ iprop(((owesE c O ∗ atPos ER (barC c) 1 ∅ 0 ∗ bPayT (F := F) c ∗ bPayF c) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS m) k) Q) := by
  subst hm
  unfold owesE
  iintro ⟨#HE, Hc, ⟨%W, HO⟩, Hat⟩ Hk
  iapply (Rounds.wp_wait_rest_token 𝒱₀ ER (Rd X) (c : Thread nD τ) none (κ := κ (barC c))
      (wpE_semWait_eq 𝒱₀ (c : Thread nD τ) none Set.univ) (Set.mem_univ _) 1 (O := O) (W := W) (R := 0) (m := 0) (T := ∅)
      (by rw [Nat.zero_add, expect_bar X c])) $$ [Hc HO Hat]
  · isplitr; · iapply (env_bar X κ c); iexact HE
    isplitl [Hc]; · iexact Hc
    isplitl [HO]; · iexact HO
    isplitr; · iapply (env_mayWait X κ c (.reg barS) (i := 1) (show 1 < 256 by decide) hA); iexact HE
    iexact Hat
  iintro ⟨HO, Hat, -, Hpay⟩
  iapply Hk
  isplitl [HO]; · iexists _; iexact HO
  isplitl [Hat]; · iexact Hat
  iapply (Entails.of_eq (bar_rest X c))
  iexact Hpay

theorem a_open0 (c : Dev nD) : aW0 fullShare c (part X 0 c (rank c)) ⊢ iprop(aPts00 (shr 0) c (A X 0 0 c) ∗ aPts01 (shr 0) c (A X 0 0 c)) := by
  rw [shr_full (t := 0) (by decide)]
  exact (a_halves0 fullShare c (A X 0 0 c)).1

theorem a_open1 (c : Dev nD) : aW1 fullShare c (part X 1 c (rank c)) ⊢ iprop(aPts10 (shr 0) c (A X 1 0 c) ∗ aPts11 (shr 0) c (A X 1 0 c)) := by
  rw [shr_full (t := 0) (by decide)]
  exact (a_halves1 fullShare c (A X 1 0 c)).1

/-- Direction 0, quarter 0: the three cells open at round 0, and the tokens of the first send. -/
def fresh00 (c : Dev nD) : sProp 𝕄 := iprop((atPos ER (sendC00 c) 0 ∅ 0 ∗ atPos ER (recvC00 c) 0 ∅ 0 ∗ atPos ER (credC00 c) 0 ∅ 0 ∗ reached ER (sendC00 c) 0 ∗ reached ER (recvC00 c) 0 ∗ reached ER (credC00 c) 0) ∗ dutyTok ER (recvC00 (rgt c)) 0 false ∗ dutyTok ER (sendC00 c) 0 false)

/-- Direction 1, quarter 0: the three cells open at round 0, and the tokens of the first send. -/
def fresh10 (c : Dev nD) : sProp 𝕄 := iprop((atPos ER (sendC10 c) 0 ∅ 0 ∗ atPos ER (recvC10 c) 0 ∅ 0 ∗ atPos ER (credC10 c) 0 ∅ 0 ∗ reached ER (sendC10 c) 0 ∗ reached ER (recvC10 c) 0 ∗ reached ER (credC10 c) 0) ∗ dutyTok ER (recvC10 (lft c)) 0 false ∗ dutyTok ER (sendC10 c) 0 false)

/-- Direction 0, quarter 1: the three cells open at round 0, and the tokens of the first send. -/
def fresh01 (c : Dev nD) : sProp 𝕄 := iprop((atPos ER (sendC01 c) 0 ∅ 0 ∗ atPos ER (recvC01 c) 0 ∅ 0 ∗ atPos ER (credC01 c) 0 ∅ 0 ∗ reached ER (sendC01 c) 0 ∗ reached ER (recvC01 c) 0 ∗ reached ER (credC01 c) 0) ∗ dutyTok ER (recvC01 (rgt c)) 0 false ∗ dutyTok ER (sendC01 c) 0 false)

/-- Direction 1, quarter 1: the three cells open at round 0, and the tokens of the first send. -/
def fresh11 (c : Dev nD) : sProp 𝕄 := iprop((atPos ER (sendC11 c) 0 ∅ 0 ∗ atPos ER (recvC11 c) 0 ∅ 0 ∗ atPos ER (credC11 c) 0 ∅ 0 ∗ reached ER (sendC11 c) 0 ∗ reached ER (recvC11 c) 0 ∗ reached ER (credC11 c) 0) ∗ dutyTok ER (recvC11 (lft c)) 0 false ∗ dutyTok ER (sendC11 c) 0 false)

/-- The barrier's part of what a device starts with. -/
def meet (c : Dev nD) : sProp 𝕄 := iprop(reached ER (barC (lft c)) 0 ∗ reached ER (barC (rgt c)) 0 ∗ dutyTok ER (barC (lft c)) 0 true ∗ dutyTok ER (barC (rgt c)) 0 false ∗ atPos ER (barC c) 0 ∅ 0 ∗ cred (tallyAt (barC c) 1 2))
/-- The last arrivals' credits. -/
def lasts (c : Dev nD) : sProp 𝕄 := iprop(cred (tallyAt (recvC00 c) (4 * 61 + 2) N) ∗ cred (tallyAt (recvC10 c) (4 * 61 + 2) N) ∗ cred (tallyAt (recvC01 c) (4 * 61 + 4) N) ∗ cred (tallyAt (recvC11 c) (4 * 61 + 4) N))
/-- All a device owes at the start. -/
def dues (c : Dev nD) : CellTallies nD τ sig ℕ := due c 61 + tallyAt (recvC11 (lft c)) (4 * (0) + 4) N + tallyAt (recvC01 (rgt c)) (4 * (0) + 4) N + tallyAt (recvC10 (lft c)) (4 * (0) + 2) N + tallyAt (recvC00 (rgt c)) (4 * (0) + 2) N + tallyAt (barC (rgt c)) 1 1 + tallyAt (barC (lft c)) 1 1
/-- What the body starts with on device `c`. -/
def Start (c : Dev nD) : sProp 𝕄 :=
  iprop(mPts (F := F) c (metaV c) ∗ xPts c (X.x c) ∗ wPts c (X.w c) ∗ (∃ f, zPts (F := F) c f) ∗ (∃ f, lPts0 (F := F) c f) ∗ (∃ f, lPts1 (F := F) c f) ∗ (∃ f, aW0 (F := F) fullShare c f) ∗ (∃ f, aW1 (F := F) fullShare c f) ∗ (∃ f, rW0 (F := F) c f) ∗ (∃ f, rW1 (F := F) c f) ∗ (∃ g, oPts (F := F) 0 c g) ∗ (∃ g, oPts (F := F) 1 c g) ∗ (semVal ((c : Thread nD τ), .dma stS00) 0 ∗ semVal ((c : Thread nD τ), .dma stS10) 0 ∗ semVal ((c : Thread nD τ), .dma stS01) 0 ∗ semVal ((c : Thread nD τ), .dma stS11) 0) ∗ fresh00 (F := F) c ∗ fresh10 (F := F) c ∗ fresh01 (F := F) c ∗ fresh11 (F := F) c ∗ meet (F := F) c ∗ fuel (F := F) c 61 ∗ lasts (F := F) c ∗ owesE c (dues c))
/-- What the body ends with on device `c`, its cells still open. -/
def Finish (c : Dev nD) : sProp 𝕄 :=
  iprop(mPts (F := F) c (metaV c) ∗ xPts c (X.x c) ∗ wPts c (X.w c) ∗ (∃ f, lPts0 (F := F) c f) ∗ (∃ f, lPts1 (F := F) c f) ∗ atPos ER (barC c) 1 ∅ 0 ∗ GE X c)

attribute [local irreducible] due fuel

set_option maxHeartbeats 8000000 in
/-- The words are read, the barrier is passed, and direction 0's first partial product is stored. -/
theorem run10 (c : Dev nD) {Q : _ → sProp 𝕄} :
    iprop(env X κ ∗ mPts (F := F) c (metaV c) ∗ xPts c (X.x c) ∗ wPts c (X.w c) ∗ (∃ f, aW0 (F := F) fullShare c f) ∗ (∃ f, aW1 (F := F) fullShare c f) ∗ (∃ f, rW0 (F := F) c f) ∗ (∃ f, rW1 (F := F) c f) ∗ (reached ER (recvC00 c) 0 ∗ reached ER (recvC10 c) 0 ∗ reached ER (recvC01 c) 0 ∗ reached ER (recvC11 c) 0) ∗ (reached ER (barC (lft c)) 0 ∗ reached ER (barC (rgt c)) 0 ∗ dutyTok ER (barC (lft c)) 0 true ∗ dutyTok ER (barC (rgt c)) 0 false ∗ atPos ER (barC c) 0 ∅ 0 ∗ cred (tallyAt (barC c) 1 2)) ∗ owesE c (due c 61 + tallyAt (recvC11 (lft c)) (4 * (0) + 4) N + tallyAt (recvC01 (rgt c)) (4 * (0) + 4) N + tallyAt (recvC10 (lft c)) (4 * (0) + 2) N + tallyAt (recvC00 (rgt c)) (4 * (0) + 2) N + tallyAt (barC (rgt c)) 1 1 + tallyAt (barC (lft c)) 1 1)) ⊢ iprop(((mPts (F := F) c (metaV c) ∗ xPts c (X.x c) ∗ wPts c (X.w c) ∗ aW0 fullShare c (part X 0 c (rank c)) ∗ (∃ f, aW1 (F := F) fullShare c f) ∗ (((∃ f, rPts00 (F := F) (rgt c) f) ∗ reached ER (recvC00 (rgt c)) 0) ∗ ((∃ f, rPts10 (F := F) (lft c) f) ∗ reached ER (recvC10 (lft c)) 0) ∗ ((∃ f, rPts01 (F := F) (rgt c) f) ∗ reached ER (recvC01 (rgt c)) 0) ∗ ((∃ f, rPts11 (F := F) (lft c) f) ∗ reached ER (recvC11 (lft c)) 0)) ∗ atPos ER (barC c) 1 ∅ 0 ∗ owesE c (due c 61 + tallyAt (recvC11 (lft c)) (4 * (0) + 4) N + tallyAt (recvC01 (rgt c)) (4 * (0) + 4) N + tallyAt (recvC10 (lft c)) (4 * (0) + 2) N + tallyAt (recvC00 (rgt c)) (4 * (0) + 2) N)) -∗ Q ⟨BitVec.ofNat 32 (rank c).val, chk3_wd _, BitVec.ofNat 32 (lft c).val, chk1_wd _, BitVec.ofNat 32 (rgt c).val, chk2_wd _, k0_pay17 (chunkX (X.x c) (rank c)) (halfW (X.w c) 1)⟩) -∗ wp frame (wpE (defs₀ (F := F)) 𝒱₀ (c : Thread nD τ) none) Set.univ (k0_part10 mM (Memref.isWhole_whole _) xM (Memref.isWhole_whole _) wM (Memref.isWhole_whole _) oM (Memref.isWhole_whole _) zM (Memref.isWhole_whole _) aM0 (Memref.isWhole_whole _) rM0 (Memref.isWhole_whole _) lM0 (Memref.isWhole_whole _) aM1 (Memref.isWhole_whole _) rM1 (Memref.isWhole_whole _) lM1 (Memref.isWhole_whole _) cc0_scratch6 cc0_scratch7 cc0_scratch8 cc0_scratch9 cc0_scratch10 cc0_scratch11 cc0_scratch12 cc0_scratch13 cc0_scratch14 cc0_scratch15) Q) := by
  rw [k0_part10_eq_skeleton]
  unfold k0_part10_skel
  have hO := ab_due c 61 4 (by omega) (by omega)
  iintro ⟨#HE, Hmt, Hx, Hw, ⟨%a0, Hw0⟩, Hw1, ⟨%r0, Hr0⟩, ⟨%r1, Hr1⟩, ⟨#Ro00, #Ro10, #Ro01, #Ro11⟩, ⟨#RbL, #RbR, TbT, TbF, Sb, Bb⟩, HO⟩ HK
  icases Hw1 with ⟨%a1, Hw1⟩
  ihave Hq0 := (r_halves0 c r0) $$ [Hr0]
  · iexact Hr0
  icases Hq0 with ⟨Hr00, Hr01⟩
  ihave Hq1 := (r_halves1 c r1) $$ [Hr1]
  · iexact Hr1
  icases Hq1 with ⟨Hr10, Hr11⟩
  try sl_exec
  iapply (load_m0 c) $$ [Hmt]
  · iexact Hmt
  iintro Hmt
  try sl_exec
  iapply (wp_assume 𝒱₀ (c : Thread nD τ) none Set.univ (chk3_wd (rank c)))
  try sl_exec
  iapply (load_m1 c) $$ [Hmt]
  · iexact Hmt
  iintro Hmt
  try sl_exec
  iapply (wp_assume 𝒱₀ (c : Thread nD τ) none Set.univ (chk1_wd (lft c)))
  try sl_exec
  iapply (load_m2 c) $$ [Hmt]
  · iexact Hmt
  iintro Hmt
  try sl_exec
  iapply (wp_assume 𝒱₀ (c : Thread nD τ) none Set.univ (chk2_wd (rgt c)))
  try sl_exec
  iapply (signal_barT X κ c _ (dev_wd _ _) (due c 61 + tallyAt (recvC11 (lft c)) (4 * (0) + 4) N + tallyAt (recvC01 (rgt c)) (4 * (0) + 4) N + tallyAt (recvC10 (lft c)) (4 * (0) + 2) N + tallyAt (recvC00 (rgt c)) (4 * (0) + 2) N + tallyAt (barC (rgt c)) 1 1) _ rfl r0 r0) $$ [Hr00 Hr01 TbT HO]
  · isplitr; · iexact HE
    isplitl [Hr00]; · iexact Hr00
    isplitl [Hr01]; · iexact Hr01
    isplitr; · iexact Ro00
    isplitr; · iexact Ro01
    isplitr; · iexact RbL
    isplitl [TbT]; · iexact TbT
    iexact HO
  iintro HO
  try sl_exec
  iapply (signal_barF X κ c _ (dev2_wd _ _) (due c 61 + tallyAt (recvC11 (lft c)) (4 * (0) + 4) N + tallyAt (recvC01 (rgt c)) (4 * (0) + 4) N + tallyAt (recvC10 (lft c)) (4 * (0) + 2) N + tallyAt (recvC00 (rgt c)) (4 * (0) + 2) N) _ rfl r1 r1) $$ [Hr10 Hr11 TbF HO]
  · isplitr; · iexact HE
    isplitl [Hr10]; · iexact Hr10
    isplitl [Hr11]; · iexact Hr11
    isplitr; · iexact Ro10
    isplitr; · iexact Ro11
    isplitr; · iexact RbR
    isplitl [TbF]; · iexact TbF
    iexact HO
  iintro HO
  try sl_exec
  have hA1 : Ab (1) (due c 61 + tallyAt (recvC11 (lft c)) (4 * (0) + 4) N + tallyAt (recvC01 (rgt c)) (4 * (0) + 4) N + tallyAt (recvC10 (lft c)) (4 * (0) + 2) N + tallyAt (recvC00 (rgt c)) (4 * (0) + 2) N) := by
    repeat' first | exact ab_mono hO (by omega) | apply ab_add | (apply ab_tally <;> omega)
  iapply (wait_bar X κ c (due c 61 + tallyAt (recvC11 (lft c)) (4 * (0) + 4) N + tallyAt (recvC01 (rgt c)) (4 * (0) + 4) N + tallyAt (recvC10 (lft c)) (4 * (0) + 2) N + tallyAt (recvC00 (rgt c)) (4 * (0) + 2) N) hA1 _ rfl) $$ [Bb HO Sb]
  · isplitr; · iexact HE
    isplitl [Bb]; · iexact Bb
    isplitl [HO]; · iexact HO
    iexact Sb
  iintro ⟨HO, Sb, HbT, HbF⟩
  unfold bPayT bPayF
  icases HbT with ⟨Hx00, Hx01⟩
  icases HbF with ⟨Hx10, Hx11⟩
  try sl_exec
  iapply (load_x c (rank c) _ (off1_wd (rank c))) $$ [Hx]
  · iexact Hx
  iintro Hx
  try sl_exec
  iapply (load_w0 c _) $$ [Hw]
  · iexact Hw
  iintro Hw
  try sl_exec
  iapply (load_aw0 c _ _) $$ [Hw0]
  · iexact Hw0
  iintro Hw0
  try sl_exec
  iapply (store_aw0 c _ (w := part X 0 c (rank c))) $$ [Hw0]
  · iexact Hw0
  iintro Hw0
  try sl_exec
  iapply (load_x c (rank c) _ (off1_wd (rank c))) $$ [Hx]
  · iexact Hx
  iintro Hx
  try sl_exec
  iapply (load_w1 c _) $$ [Hw]
  · iexact Hw
  iintro Hw
  try sl_exec
  iapply (load_aw1 c _ _) $$ [Hw1]
  · iexact Hw1
  iintro Hw1
  try sl_exec
  simp only [Prog.bind, Prog.pure_eq_ret]
  rw [wp_ret]
  imodintro
  iapply HK
  isplitl [Hmt]; · iexact Hmt
  isplitl [Hx]; · iexact Hx
  isplitl [Hw]; · iexact Hw
  isplitl [Hw0]; · iexact Hw0
  isplitl [Hw1]; · iexists _; iexact Hw1
  isplitl [Hx00 Hx10 Hx01 Hx11]
  · isplitl [Hx00]; · iexact Hx00
    isplitl [Hx10]; · iexact Hx10
    isplitl [Hx01]; · iexact Hx01
    iexact Hx11
  isplitl [Sb]; · iexact Sb
  iexact HO

set_option maxHeartbeats 8000000 in
/-- The words are read, the barrier is passed, and direction 0's first partial product is stored. The words are named. -/
theorem run10w (c : Dev nD) {Q : _ → sProp 𝕄} :
    iprop(env X κ ∗ mPts (F := F) c (metaV c) ∗ xPts c (X.x c) ∗ wPts c (X.w c) ∗ (∃ f, aW0 (F := F) fullShare c f) ∗ (∃ f, aW1 (F := F) fullShare c f) ∗ (∃ f, rW0 (F := F) c f) ∗ (∃ f, rW1 (F := F) c f) ∗ (reached ER (recvC00 c) 0 ∗ reached ER (recvC10 c) 0 ∗ reached ER (recvC01 c) 0 ∗ reached ER (recvC11 c) 0) ∗ (reached ER (barC (lft c)) 0 ∗ reached ER (barC (rgt c)) 0 ∗ dutyTok ER (barC (lft c)) 0 true ∗ dutyTok ER (barC (rgt c)) 0 false ∗ atPos ER (barC c) 0 ∅ 0 ∗ cred (tallyAt (barC c) 1 2)) ∗ owesE c (due c 61 + tallyAt (recvC11 (lft c)) (4 * (0) + 4) N + tallyAt (recvC01 (rgt c)) (4 * (0) + 4) N + tallyAt (recvC10 (lft c)) (4 * (0) + 2) N + tallyAt (recvC00 (rgt c)) (4 * (0) + 2) N + tallyAt (barC (rgt c)) 1 1 + tallyAt (barC (lft c)) 1 1)) ⊢ iprop(((mPts (F := F) c (metaV c) ∗ xPts c (X.x c) ∗ wPts c (X.w c) ∗ aW0 fullShare c (part X 0 c (rank c)) ∗ (∃ f, aW1 (F := F) fullShare c f) ∗ (((∃ f, rPts00 (F := F) (rgt c) f) ∗ reached ER (recvC00 (rgt c)) 0) ∗ ((∃ f, rPts10 (F := F) (lft c) f) ∗ reached ER (recvC10 (lft c)) 0) ∗ ((∃ f, rPts01 (F := F) (rgt c) f) ∗ reached ER (recvC01 (rgt c)) 0) ∗ ((∃ f, rPts11 (F := F) (lft c) f) ∗ reached ER (recvC11 (lft c)) 0)) ∗ atPos ER (barC c) 1 ∅ 0 ∗ owesE c (due c 61 + tallyAt (recvC11 (lft c)) (4 * (0) + 4) N + tallyAt (recvC01 (rgt c)) (4 * (0) + 4) N + tallyAt (recvC10 (lft c)) (4 * (0) + 2) N + tallyAt (recvC00 (rgt c)) (4 * (0) + 2) N)) -∗ Q ⟨wd (rank c), chk3_wd _, wd (lft c), chk1_wd _, wd (rgt c), chk2_wd _, part X 1 c (rank c)⟩) -∗ wp frame (wpE (defs₀ (F := F)) 𝒱₀ (c : Thread nD τ) none) Set.univ (k0_part10 mM (Memref.isWhole_whole _) xM (Memref.isWhole_whole _) wM (Memref.isWhole_whole _) oM (Memref.isWhole_whole _) zM (Memref.isWhole_whole _) aM0 (Memref.isWhole_whole _) rM0 (Memref.isWhole_whole _) lM0 (Memref.isWhole_whole _) aM1 (Memref.isWhole_whole _) rM1 (Memref.isWhole_whole _) lM1 (Memref.isWhole_whole _) cc0_scratch6 cc0_scratch7 cc0_scratch8 cc0_scratch9 cc0_scratch10 cc0_scratch11 cc0_scratch12 cc0_scratch13 cc0_scratch14 cc0_scratch15) Q) := by
  exact run10 X κ c

set_option maxHeartbeats 8000000 in
/-- Direction 1's first partial product is stored, and the first three quarters are sent. -/
theorem run11 (c : Dev nD) {Q : _ → sProp 𝕄} :
    iprop(env X κ ∗ aW0 fullShare c (part X 0 c (rank c)) ∗ (∃ f, aW1 (F := F) fullShare c f) ∗ (reached ER (sendC00 c) 0 ∗ reached ER (credC00 c) 0 ∗ dutyTok ER (recvC00 (rgt c)) 0 false ∗ dutyTok ER (sendC00 c) 0 false ∗ (∃ f, rPts00 (F := F) (rgt c) f) ∗ reached ER (recvC00 (rgt c)) 0) ∗ (reached ER (sendC10 c) 0 ∗ reached ER (credC10 c) 0 ∗ dutyTok ER (recvC10 (lft c)) 0 false ∗ dutyTok ER (sendC10 c) 0 false ∗ (∃ f, rPts10 (F := F) (lft c) f) ∗ reached ER (recvC10 (lft c)) 0) ∗ (reached ER (sendC01 c) 0 ∗ reached ER (credC01 c) 0 ∗ dutyTok ER (recvC01 (rgt c)) 0 false ∗ dutyTok ER (sendC01 c) 0 false ∗ (∃ f, rPts01 (F := F) (rgt c) f) ∗ reached ER (recvC01 (rgt c)) 0) ∗ owesE c (due c 61 + tallyAt (recvC11 (lft c)) (4 * (0) + 4) N + tallyAt (recvC01 (rgt c)) (4 * (0) + 4) N + tallyAt (recvC10 (lft c)) (4 * (0) + 2) N + tallyAt (recvC00 (rgt c)) (4 * (0) + 2) N)) ⊢ iprop(((aPts11 (shr 0) c (A X 1 0 c) ∗ cred (tallyAt (sendC00 c) 0 N) ∗ cred (tallyAt (sendC10 c) 0 N) ∗ cred (tallyAt (sendC01 c) 0 N) ∗ owesE c (due c 61 + tallyAt (recvC11 (lft c)) (4 * (0) + 4) N)) -∗ Q ⟨⟩) -∗ wp frame (wpE (defs₀ (F := F)) 𝒱₀ (c : Thread nD τ) none) Set.univ (k0_part11 mM (Memref.isWhole_whole _) xM (Memref.isWhole_whole _) wM (Memref.isWhole_whole _) oM (Memref.isWhole_whole _) zM (Memref.isWhole_whole _) aM0 (Memref.isWhole_whole _) rM0 (Memref.isWhole_whole _) lM0 (Memref.isWhole_whole _) aM1 (Memref.isWhole_whole _) rM1 (Memref.isWhole_whole _) lM1 (Memref.isWhole_whole _) cc0_scratch6 cc0_scratch7 cc0_scratch8 cc0_scratch9 cc0_scratch10 cc0_scratch11 cc0_scratch12 cc0_scratch13 cc0_scratch14 cc0_scratch15 (wd (lft c)) (chk1_wd _) (wd (rgt c)) (chk2_wd _) (part X 1 c (rank c))) Q) := by
  rw [k0_part11_eq_skeleton]
  unfold k0_part11_skel
  iintro ⟨#HE, Hw0, ⟨%a1, Hw1⟩, ⟨#Rs00, #Rkk00, Tv00, Ts00, Hx00, #Rvx00⟩, ⟨#Rs10, #Rkk10, Tv10, Ts10, Hx10, #Rvx10⟩, ⟨#Rs01, #Rkk01, Tv01, Ts01, Hx01, #Rvx01⟩, HO⟩ HK
  try sl_exec
  iapply (store_aw1 c _ (w := part X 1 c (rank c))) $$ [Hw1]
  · iexact Hw1
  iintro Hw1
  try sl_exec
  ihave Hqa := (a_open0 X c) $$ [Hw0]
  · iexact Hw0
  icases Hqa with ⟨Ha00, Ha01⟩
  ihave Hqb := (a_open1 X c) $$ [Hw1]
  · iexact Hw1
  icases Hqb with ⟨Ha10, Ha11⟩
  iapply (send00 X κ c (0) _ (dev3_wd _ _) (by omega) (due c 61 + tallyAt (recvC11 (lft c)) (4 * (0) + 4) N + tallyAt (recvC01 (rgt c)) (4 * (0) + 4) N + tallyAt (recvC10 (lft c)) (4 * (0) + 2) N)) $$ [Ha00 Hx00 Ts00 Tv00 HO]
  · isplitr; · iexact HE
    isplitl [Ha00]; · iexact Ha00
    isplitl [Hx00]; · iexact Hx00
    isplitr; · iexact Rvx00
    isplitr; · iexact Rs00
    isplitr; · iexact Rkk00
    isplitl [Ts00]; · iexact Ts00
    isplitl [Tv00]; · iexact Tv00
    iexact HO
  iintro ⟨Sc00, HO⟩
  try sl_exec
  iapply (send10 X κ c (0) _ (dev4_wd _ _) (by omega) (due c 61 + tallyAt (recvC11 (lft c)) (4 * (0) + 4) N + tallyAt (recvC01 (rgt c)) (4 * (0) + 4) N)) $$ [Ha10 Hx10 Ts10 Tv10 HO]
  · isplitr; · iexact HE
    isplitl [Ha10]; · iexact Ha10
    isplitl [Hx10]; · iexact Hx10
    isplitr; · iexact Rvx10
    isplitr; · iexact Rs10
    isplitr; · iexact Rkk10
    isplitl [Ts10]; · iexact Ts10
    isplitl [Tv10]; · iexact Tv10
    iexact HO
  iintro ⟨Sc10, HO⟩
  try sl_exec
  iapply (send01 X κ c (0) _ (dev5_wd _ _) (by omega) (due c 61 + tallyAt (recvC11 (lft c)) (4 * (0) + 4) N)) $$ [Ha01 Hx01 Ts01 Tv01 HO]
  · isplitr; · iexact HE
    isplitl [Ha01]; · iexact Ha01
    isplitl [Hx01]; · iexact Hx01
    isplitr; · iexact Rvx01
    isplitr; · iexact Rs01
    isplitr; · iexact Rkk01
    isplitl [Ts01]; · iexact Ts01
    isplitl [Tv01]; · iexact Tv01
    iexact HO
  iintro ⟨Sc01, HO⟩
  try sl_exec
  simp only [Prog.bind, Prog.pure_eq_ret]
  rw [wp_ret]
  imodintro
  iapply HK
  isplitl [Ha11]; · iexact Ha11
  isplitl [Sc00]; · iexact Sc00
  isplitl [Sc10]; · iexact Sc10
  isplitl [Sc01]; · iexact Sc01
  iexact HO

/-- Direction 0, quarter 1 with its credit of round 30 taken: what its send of round 31 needs. -/
def H01 (c : Dev nD) : sProp 𝕄 :=
  iprop(atPos ER (sendC01 c) 31 ∅ 0 ∗ atPos ER (recvC01 c) 31 ∅ 0 ∗ atPos ER (credC01 c) 31 ∅ 0 ∗ aPts01 fullShare c (A X 0 31 c) ∗ reached ER (sendC01 c) 31
    ∗ dutyTok ER (recvC01 (rgt c)) 31 false ∗ dutyTok ER (sendC01 c) 31 false ∗ reached ER (credC01 c) 31 ∗ (∃ f, rPts01 (F := F) (rgt c) f) ∗ reached ER (recvC01 (rgt c)) 31)
/-- What the stretch with the reducing loop starts with. -/
def R12 (c : Dev nD) : sProp 𝕄 :=
  iprop(xPts c (X.x c) ∗ wPts c (X.w c) ∗ (∃ f, lPts0 (F := F) c f) ∗ (∃ f, lPts1 (F := F) c f) ∗ (atPos ER (sendC00 c) 0 ∅ 0 ∗ atPos ER (recvC00 c) 0 ∅ 0 ∗ atPos ER (credC00 c) 0 ∅ 0) ∗ (atPos ER (sendC10 c) 0 ∅ 0 ∗ atPos ER (recvC10 c) 0 ∅ 0 ∗ atPos ER (credC10 c) 0 ∅ 0) ∗ (atPos ER (sendC01 c) 0 ∅ 0 ∗ atPos ER (recvC01 c) 0 ∅ 0 ∗ atPos ER (credC01 c) 0 ∅ 0) ∗ (atPos ER (sendC11 c) 0 ∅ 0 ∗ atPos ER (recvC11 c) 0 ∅ 0 ∗ atPos ER (credC11 c) 0 ∅ 0)
    ∗ cred (tallyAt (sendC00 c) 0 N) ∗ cred (tallyAt (sendC10 c) 0 N) ∗ cred (tallyAt (sendC01 c) 0 N) ∗ aPts11 (shr 0) c (A X 1 0 c) ∗ (reached ER (sendC11 c) 0 ∗ reached ER (credC11 c) 0 ∗ dutyTok ER (recvC11 (lft c)) 0 false ∗ dutyTok ER (sendC11 c) 0 false ∗ (∃ f, rPts11 (F := F) (lft c) f) ∗ reached ER (recvC11 (lft c)) 0) ∗ fuel (F := F) c 61 ∗ owesE c (due c 61 + tallyAt (recvC11 (lft c)) (4 * (0) + 4) N))

set_option maxHeartbeats 8000000 in
/-- The fourth quarter is sent, the reducing loop runs, and the finished sums start on their way. -/
theorem run12 (c : Dev nD) {Q : _ → sProp 𝕄} :
    iprop(env X κ ∗ R12 X c) ⊢ iprop(((xPts c (X.x c) ∗ wPts c (X.w c) ∗ (∃ f, lPts0 (F := F) c f) ∗ (∃ f, lPts1 (F := F) c f) ∗ gt00 X c 31 ∗ gt10 X c 31 ∗ H01 X c ∗ mid11 X c 30 ∗ fuel (F := F) c 30 ∗ owesE c (due c 30 + tallyAt (recvC11 (lft c)) (4 * (30 + 1) + 4) N + tallyAt (recvC01 (rgt c)) (4 * (30 + 1) + 4) N)) -∗ Q ⟨⟩) -∗ wp frame (wpE (defs₀ (F := F)) 𝒱₀ (c : Thread nD τ) none) Set.univ (k0_part12 mM (Memref.isWhole_whole _) xM (Memref.isWhole_whole _) wM (Memref.isWhole_whole _) oM (Memref.isWhole_whole _) zM (Memref.isWhole_whole _) aM0 (Memref.isWhole_whole _) rM0 (Memref.isWhole_whole _) lM0 (Memref.isWhole_whole _) aM1 (Memref.isWhole_whole _) rM1 (Memref.isWhole_whole _) lM1 (Memref.isWhole_whole _) cc0_scratch6 cc0_scratch7 cc0_scratch8 cc0_scratch9 cc0_scratch10 cc0_scratch11 cc0_scratch12 cc0_scratch13 cc0_scratch14 cc0_scratch15 (wd (rank c)) (chk3_wd _) (wd (lft c)) (chk1_wd _) (wd (rgt c)) (chk2_wd _)) Q) := by
  rw [k0_part12_eq_skeleton]
  unfold k0_part12_skel
  unfold R12
  iintro ⟨#HE, Hx, Hw, Hl0, Hl1, ⟨Ss00, Sv00, Sk00⟩, ⟨Ss10, Sv10, Sk10⟩, ⟨Ss01, Sv01, Sk01⟩, ⟨Ss11, Sv11, Sk11⟩, Sc00, Sc10, Sc01, Ha11, ⟨#Rs11, #Rkk11, Tv11, Ts11, Hx11, #Rvx11⟩, HF, HO⟩ HK
  try sl_exec
  iapply (send11 X κ c (0) _ (dev6_wd _ _) (by omega) (due c 61)) $$ [Ha11 Hx11 Ts11 Tv11 HO]
  · isplitr; · iexact HE
    isplitl [Ha11]; · iexact Ha11
    isplitl [Hx11]; · iexact Hx11
    isplitr; · iexact Rvx11
    isplitr; · iexact Rs11
    isplitr; · iexact Rkk11
    isplitl [Ts11]; · iexact Ts11
    isplitl [Tv11]; · iexact Tv11
    iexact HO
  iintro ⟨Sc11, HO⟩
  try sl_exec
  rw [wp_bind]
  iapply (reduce_loop X κ c) $$ [Hx Hw Hl0 Hl1 Ss00 Sv00 Sk00 Sc00 Ss10 Sv10 Sk10 Sc10 Ss01 Sv01 Sk01 Sc01 Ss11 Sv11 Sk11 Sc11 HF HO]
  · isplitr; · iexact HE
    unfold RI st00 st10 st01 st11
    isplitl [Hx]; · iexact Hx
    isplitl [Hw]; · iexact Hw
    isplitl [Hl0]; · iexact Hl0
    isplitl [Hl1]; · iexact Hl1
    isplitl [Ss00 Sv00 Sk00 Sc00]
    · isplitl [Ss00]; · iexact Ss00
      isplitl [Sv00]; · iexact Sv00
      isplitl [Sk00]; · iexact Sk00
      iexact Sc00
    isplitl [Ss10 Sv10 Sk10 Sc10]
    · isplitl [Ss10]; · iexact Ss10
      isplitl [Sv10]; · iexact Sv10
      isplitl [Sk10]; · iexact Sk10
      iexact Sc10
    isplitl [Ss01 Sv01 Sk01 Sc01]
    · isplitl [Ss01]; · iexact Ss01
      isplitl [Sv01]; · iexact Sv01
      isplitl [Sk01]; · iexact Sk01
      iexact Sc01
    isplitl [Ss11 Sv11 Sk11 Sc11]
    · isplitl [Ss11]; · iexact Ss11
      isplitl [Sv11]; · iexact Sv11
      isplitl [Sk11]; · iexact Sk11
      iexact Sc11
    isplitl [HF]; · iexact HF
    iexact HO
  unfold RE mid00 mid10 mid01 mid11
  iintro ⟨Hx, Hw, Hl0, Hl1, ⟨Ss00, Sv00, Sk00, Haf00, #Rs00, Bk00, Tv00, Ts00⟩, ⟨Ss10, Sv10, Sk10, Haf10, #Rs10, Bk10, Tv10, Ts10⟩, ⟨Ss01, Sv01, Sk01, Haf01, #Rs01, Bk01, Tv01, Ts01⟩, ⟨Ss11, Sv11, Sk11, Haf11, #Rs11, Bk11, Tv11, Ts11⟩, HF, HO⟩
  try sl_exec
  have hO := ab_due c 30 128 (by omega) (by omega)
  have hA1 : Ab (4 * (30) + 5) (due c 30 + tallyAt (recvC11 (lft c)) (4 * (30 + 1) + 4) N + tallyAt (recvC01 (rgt c)) (4 * (30 + 1) + 4) N + tallyAt (recvC10 (lft c)) (4 * (30 + 1) + 2) N + tallyAt (recvC00 (rgt c)) (4 * (30 + 1) + 2) N) := by
    repeat' first | exact ab_mono hO (by omega) | apply ab_add | (apply ab_tally <;> omega)
  iapply (wait_cred00 X κ c (30) (by omega) (due c 30 + tallyAt (recvC11 (lft c)) (4 * (30 + 1) + 4) N + tallyAt (recvC01 (rgt c)) (4 * (30 + 1) + 4) N + tallyAt (recvC10 (lft c)) (4 * (30 + 1) + 2) N + tallyAt (recvC00 (rgt c)) (4 * (30 + 1) + 2) N) hA1 _ rfl) $$ [Bk00 HO Sk00]
  · isplitr; · iexact HE
    isplitl [Bk00]; · iexact Bk00
    isplitl [HO]; · iexact HO
    iexact Sk00
  iintro ⟨HO, Sk00, #Rkk00, Hx00, #Rvx00⟩
  try sl_exec
  ihave Hal00 := (a_lend00 c (30 + 1) (by omega) (A X 0 (30 + 1) c)) $$ [Haf00]
  · iexact Haf00
  icases Hal00 with ⟨Ha00, Hk00⟩
  iapply (send00 X κ c (30 + 1) _ (dev15_wd _ _) (by omega) (due c 30 + tallyAt (recvC11 (lft c)) (4 * (30 + 1) + 4) N + tallyAt (recvC01 (rgt c)) (4 * (30 + 1) + 4) N + tallyAt (recvC10 (lft c)) (4 * (30 + 1) + 2) N)) $$ [Ha00 Hx00 Ts00 Tv00 HO]
  · isplitr; · iexact HE
    isplitl [Ha00]; · iexact Ha00
    isplitl [Hx00]; · iexact Hx00
    isplitr; · iexact Rvx00
    isplitr; · iexact Rs00
    isplitr; · iexact Rkk00
    isplitl [Ts00]; · iexact Ts00
    isplitl [Tv00]; · iexact Tv00
    iexact HO
  iintro ⟨Sc00, HO⟩
  try sl_exec
  have hA2 : Ab (4 * (30) + 5) (due c 30 + tallyAt (recvC11 (lft c)) (4 * (30 + 1) + 4) N + tallyAt (recvC01 (rgt c)) (4 * (30 + 1) + 4) N + tallyAt (recvC10 (lft c)) (4 * (30 + 1) + 2) N) := by
    repeat' first | exact ab_mono hO (by omega) | apply ab_add | (apply ab_tally <;> omega)
  iapply (wait_cred10 X κ c (30) (by omega) (due c 30 + tallyAt (recvC11 (lft c)) (4 * (30 + 1) + 4) N + tallyAt (recvC01 (rgt c)) (4 * (30 + 1) + 4) N + tallyAt (recvC10 (lft c)) (4 * (30 + 1) + 2) N) hA2 _ rfl) $$ [Bk10 HO Sk10]
  · isplitr; · iexact HE
    isplitl [Bk10]; · iexact Bk10
    isplitl [HO]; · iexact HO
    iexact Sk10
  iintro ⟨HO, Sk10, #Rkk10, Hx10, #Rvx10⟩
  try sl_exec
  ihave Hal10 := (a_lend10 c (30 + 1) (by omega) (A X 1 (30 + 1) c)) $$ [Haf10]
  · iexact Haf10
  icases Hal10 with ⟨Ha10, Hk10⟩
  iapply (send10 X κ c (30 + 1) _ (dev16_wd _ _) (by omega) (due c 30 + tallyAt (recvC11 (lft c)) (4 * (30 + 1) + 4) N + tallyAt (recvC01 (rgt c)) (4 * (30 + 1) + 4) N)) $$ [Ha10 Hx10 Ts10 Tv10 HO]
  · isplitr; · iexact HE
    isplitl [Ha10]; · iexact Ha10
    isplitl [Hx10]; · iexact Hx10
    isplitr; · iexact Rvx10
    isplitr; · iexact Rs10
    isplitr; · iexact Rkk10
    isplitl [Ts10]; · iexact Ts10
    isplitl [Tv10]; · iexact Tv10
    iexact HO
  iintro ⟨Sc10, HO⟩
  try sl_exec
  have hA3 : Ab (4 * (30) + 7) (due c 30 + tallyAt (recvC11 (lft c)) (4 * (30 + 1) + 4) N + tallyAt (recvC01 (rgt c)) (4 * (30 + 1) + 4) N) := by
    repeat' first | exact ab_mono hO (by omega) | apply ab_add | (apply ab_tally <;> omega)
  iapply (wait_cred01 X κ c (30) (by omega) (due c 30 + tallyAt (recvC11 (lft c)) (4 * (30 + 1) + 4) N + tallyAt (recvC01 (rgt c)) (4 * (30 + 1) + 4) N) hA3 _ rfl) $$ [Bk01 HO Sk01]
  · isplitr; · iexact HE
    isplitl [Bk01]; · iexact Bk01
    isplitl [HO]; · iexact HO
    iexact Sk01
  iintro ⟨HO, Sk01, #Rkk01, Hx01, #Rvx01⟩
  try sl_exec
  simp only [Prog.bind, Prog.pure_eq_ret]
  rw [wp_ret]
  imodintro
  iapply HK
  isplitl [Hx]; · iexact Hx
  isplitl [Hw]; · iexact Hw
  isplitl [Hl0]; · iexact Hl0
  isplitl [Hl1]; · iexact Hl1
  isplitl [Ss00 Sv00 Sk00 Sc00 Hk00]
  · unfold gt00 st00
    isplitl [Ss00 Sv00 Sk00 Sc00]
    · isplitl [Ss00]; · iexact Ss00
      isplitl [Sv00]; · iexact Sv00
      isplitl [Sk00]; · iexact Sk00
      iexact Sc00
    iexact Hk00
  isplitl [Ss10 Sv10 Sk10 Sc10 Hk10]
  · unfold gt10 st10
    isplitl [Ss10 Sv10 Sk10 Sc10]
    · isplitl [Ss10]; · iexact Ss10
      isplitl [Sv10]; · iexact Sv10
      isplitl [Sk10]; · iexact Sk10
      iexact Sc10
    iexact Hk10
  isplitl [Ss01 Sv01 Sk01 Haf01 Tv01 Ts01 Hx01]
  · unfold H01
    isplitl [Ss01]; · iexact Ss01
    isplitl [Sv01]; · iexact Sv01
    isplitl [Sk01]; · iexact Sk01
    isplitl [Haf01]; · iexact Haf01
    isplitr; · iexact Rs01
    isplitl [Tv01]; · iexact Tv01
    isplitl [Ts01]; · iexact Ts01
    isplitr; · iexact Rkk01
    isplitl [Hx01]; · iexact Hx01
    iexact Rvx01
  isplitl [Ss11 Sv11 Sk11 Haf11 Bk11 Tv11 Ts11]
  · skip
    isplitl [Ss11]; · iexact Ss11
    isplitl [Sv11]; · iexact Sv11
    isplitl [Sk11]; · iexact Sk11
    isplitl [Haf11]; · iexact Haf11
    isplitr; · iexact Rs11
    isplitl [Bk11]; · iexact Bk11
    isplitl [Tv11]; · iexact Tv11
    iexact Ts11
  isplitl [HF]; · iexact HF
  iexact HO

set_option maxHeartbeats 8000000 in
/-- The last two of the finished sums start on their way, and the largest magnitude of the chunk at hand is stored. -/
theorem run13 (c : Dev nD) {Q : _ → sProp 𝕄} :
    iprop(env X κ ∗ (∃ f, zPts (F := F) c f) ∗ gt00 X c 31 ∗ gt10 X c 31 ∗ H01 X c ∗ mid11 X c 30 ∗ owesE c (due c 30 + tallyAt (recvC11 (lft c)) (4 * (30 + 1) + 4) N + tallyAt (recvC01 (rgt c)) (4 * (30 + 1) + 4) N)) ⊢ iprop(((zPts c (fun _ => MM X c 0) ∗ aW0 (fullShare : PosShare TreeShare).right c (A X 0 31 c) ∗ aW1 (fullShare : PosShare TreeShare).right c (A X 1 31 c) ∗ st00 (F := F) c 31 ∗ st10 (F := F) c 31 ∗ st01 (F := F) c 31 ∗ st11 (F := F) c 31 ∗ owesE c (due c 30)) -∗ Q ⟨Scalar.addi (wd (rank c)) 1#32, 32#32⟩) -∗ wp frame (wpE (defs₀ (F := F)) 𝒱₀ (c : Thread nD τ) none) Set.univ (k0_part13 mM (Memref.isWhole_whole _) xM (Memref.isWhole_whole _) wM (Memref.isWhole_whole _) oM (Memref.isWhole_whole _) zM (Memref.isWhole_whole _) aM0 (Memref.isWhole_whole _) rM0 (Memref.isWhole_whole _) lM0 (Memref.isWhole_whole _) aM1 (Memref.isWhole_whole _) rM1 (Memref.isWhole_whole _) lM1 (Memref.isWhole_whole _) cc0_scratch6 cc0_scratch7 cc0_scratch8 cc0_scratch9 cc0_scratch10 cc0_scratch11 cc0_scratch12 cc0_scratch13 cc0_scratch14 cc0_scratch15 (wd (rank c)) (wd (lft c)) (chk1_wd _) (wd (rgt c)) (chk2_wd _)) Q) := by
  rw [k0_part13_eq_skeleton]
  unfold k0_part13_skel gt00 gt10 H01 mid11
  have hO := ab_due c 30 128 (by omega) (by omega)
  iintro ⟨#HE, ⟨%z, Hz⟩, ⟨S00, Hk00⟩, ⟨S10, Hk10⟩, ⟨Ss01, Sv01, Sk01, Haf01, #Rs01, Tv01, Ts01, #Rkk01, Hx01, #Rvx01⟩, ⟨Ss11, Sv11, Sk11, Haf11, #Rs11, Bk11, Tv11, Ts11⟩, HO⟩ HK
  try sl_exec
  ihave Hal01 := (a_lend01 c (30 + 1) (by omega) (A X 0 (30 + 1) c)) $$ [Haf01]
  · iexact Haf01
  icases Hal01 with ⟨Ha01, Hk01⟩
  iapply (send01 X κ c (30 + 1) _ (dev17_wd _ _) (by omega) (due c 30 + tallyAt (recvC11 (lft c)) (4 * (30 + 1) + 4) N)) $$ [Ha01 Hx01 Ts01 Tv01 HO]
  · isplitr; · iexact HE
    isplitl [Ha01]; · iexact Ha01
    isplitl [Hx01]; · iexact Hx01
    isplitr; · iexact Rvx01
    isplitr; · iexact Rs01
    isplitr; · iexact Rkk01
    isplitl [Ts01]; · iexact Ts01
    isplitl [Tv01]; · iexact Tv01
    iexact HO
  iintro ⟨Sc01, HO⟩
  try sl_exec
  have hA1 : Ab (4 * (30) + 7) (due c 30 + tallyAt (recvC11 (lft c)) (4 * (30 + 1) + 4) N) := by
    repeat' first | exact ab_mono hO (by omega) | apply ab_add | (apply ab_tally <;> omega)
  iapply (wait_cred11 X κ c (30) (by omega) (due c 30 + tallyAt (recvC11 (lft c)) (4 * (30 + 1) + 4) N) hA1 _ rfl) $$ [Bk11 HO Sk11]
  · isplitr; · iexact HE
    isplitl [Bk11]; · iexact Bk11
    isplitl [HO]; · iexact HO
    iexact Sk11
  iintro ⟨HO, Sk11, #Rkk11, Hx11, #Rvx11⟩
  try sl_exec
  ihave Hal11 := (a_lend11 c (30 + 1) (by omega) (A X 1 (30 + 1) c)) $$ [Haf11]
  · iexact Haf11
  icases Hal11 with ⟨Ha11, Hk11⟩
  iapply (send11 X κ c (30 + 1) _ (dev18_wd _ _) (by omega) (due c 30)) $$ [Ha11 Hx11 Ts11 Tv11 HO]
  · isplitr; · iexact HE
    isplitl [Ha11]; · iexact Ha11
    isplitl [Hx11]; · iexact Hx11
    isplitr; · iexact Rvx11
    isplitr; · iexact Rs11
    isplitr; · iexact Rkk11
    isplitl [Ts11]; · iexact Ts11
    isplitl [Tv11]; · iexact Tv11
    iexact HO
  iintro ⟨Sc11, HO⟩
  try sl_exec
  ihave Hw0 := ((a_halves0 (fullShare : PosShare TreeShare).right c (A X 0 31 c)).2) $$ [Hk00 Hk01]
  · isplitl [Hk00]; · iexact Hk00
    iexact Hk01
  iapply (load_aw0 c _ _) $$ [Hw0]
  · iexact Hw0
  iintro Hw0
  try sl_exec
  ihave Hw1 := ((a_halves1 (fullShare : PosShare TreeShare).right c (A X 1 31 c)).2) $$ [Hk10 Hk11]
  · isplitl [Hk10]; · iexact Hk10
    iexact Hk11
  iapply (load_aw1 c _ _) $$ [Hw1]
  · iexact Hw1
  iintro Hw1
  try sl_exec
  iapply (load_z c z) $$ [Hz]
  · iexact Hz
  iintro Hz
  try sl_exec
  iapply (store_z c _ (w := fun _ => MM X c 0)) $$ [Hz]
  · iexact Hz
  iintro Hz
  try sl_exec
  simp only [Prog.bind, Prog.pure_eq_ret]
  rw [wp_ret]
  imodintro
  iapply HK
  isplitl [Hz]; · iexact Hz
  isplitl [Hw0]; · iexact Hw0
  isplitl [Hw1]; · iexact Hw1
  isplitl [S00]; · iexact S00
  isplitl [S10]; · iexact S10
  isplitl [Ss01 Sv01 Sk01 Sc01]
  · unfold st01
    isplitl [Ss01]; · iexact Ss01
    isplitl [Sv01]; · iexact Sv01
    isplitl [Sk01]; · iexact Sk01
    iexact Sc01
  isplitl [Ss11 Sv11 Sk11 Sc11]
  · unfold st11
    isplitl [Ss11]; · iexact Ss11
    isplitl [Sv11]; · iexact Sv11
    isplitl [Sk11]; · iexact Sk11
    iexact Sc11
  iexact HO

set_option maxHeartbeats 8000000 in
/-- The whole body of the kernel on device `c`. -/
theorem body_run (c : Dev nD) {Q : PUnit → sProp 𝕄} :
    iprop(env X κ ∗ Start X c) ⊢ iprop((Finish X c -∗ |={Set.univ}=> Q ⟨⟩) -∗ wp frame (wpE (defs₀ (F := F)) 𝒱₀ (c : Thread nD τ) none) Set.univ (cc0_body mM (Memref.isWhole_whole _) xM (Memref.isWhole_whole _) wM (Memref.isWhole_whole _) oM (Memref.isWhole_whole _) zM (Memref.isWhole_whole _) aM0 (Memref.isWhole_whole _) rM0 (Memref.isWhole_whole _) lM0 (Memref.isWhole_whole _) aM1 (Memref.isWhole_whole _) rM1 (Memref.isWhole_whole _) lM1 (Memref.isWhole_whole _) cc0_scratch6 cc0_scratch7 cc0_scratch8 cc0_scratch9 cc0_scratch10 cc0_scratch11 cc0_scratch12 cc0_scratch13 cc0_scratch14 cc0_scratch15) Q) := by
  rw [cc0_body_eq_skeleton]
  unfold cc0_body_skel
  have hO := ab_due c 30 128 (by omega) (by omega)
  unfold Start Finish fresh00 fresh10 fresh01 fresh11 meet dues
  iintro ⟨#HE, Hmt, Hx, Hw, Hz, Hl0, Hl1, Hw0, Hw1, Hr0, Hr1, ⟨%g0, Ho0⟩, ⟨%g1, Ho1⟩, ⟨Hv00, Hv10, Hv01, Hv11⟩, ⟨⟨Ss00, Sv00, Sk00, #Rs00, #Ro00, #Rkk00⟩, Tv00, Ts00⟩, ⟨⟨Ss10, Sv10, Sk10, #Rs10, #Ro10, #Rkk10⟩, Tv10, Ts10⟩, ⟨⟨Ss01, Sv01, Sk01, #Rs01, #Ro01, #Rkk01⟩, Tv01, Ts01⟩, ⟨⟨Ss11, Sv11, Sk11, #Rs11, #Ro11, #Rkk11⟩, Tv11, Ts11⟩, HM, HF, HL, HO⟩ HK
  rw [wp_bind]
  iapply (run10w X κ c) $$ [Hmt Hx Hw Hw0 Hw1 Hr0 Hr1 HM HO]
  · isplitr; · iexact HE
    isplitl [Hmt]; · iexact Hmt
    isplitl [Hx]; · iexact Hx
    isplitl [Hw]; · iexact Hw
    isplitl [Hw0]; · iexact Hw0
    isplitl [Hw1]; · iexact Hw1
    isplitl [Hr0]; · iexact Hr0
    isplitl [Hr1]; · iexact Hr1
    isplitr
    · isplitr; · iexact Ro00
      isplitr; · iexact Ro10
      isplitr; · iexact Ro01
      iexact Ro11
    isplitl [HM]; · iexact HM
    iexact HO
  iintro ⟨Hmt, Hx, Hw, Hw0, Hw1, ⟨⟨Hx00, #Rvx00⟩, ⟨Hx10, #Rvx10⟩, ⟨Hx01, #Rvx01⟩, ⟨Hx11, #Rvx11⟩⟩, Sb, HO⟩
  try dsimp only
  rw [wp_bind]
  iapply (run11 X κ c) $$ [Hw0 Hw1 Tv00 Ts00 Hx00 Tv10 Ts10 Hx10 Tv01 Ts01 Hx01 HO]
  · isplitr; · iexact HE
    isplitl [Hw0]; · iexact Hw0
    isplitl [Hw1]; · iexact Hw1
    isplitl [Tv00 Ts00 Hx00]
    · skip
      isplitr; · iexact Rs00
      isplitr; · iexact Rkk00
      isplitl [Tv00]; · iexact Tv00
      isplitl [Ts00]; · iexact Ts00
      isplitl [Hx00]; · iexact Hx00
      iexact Rvx00
    isplitl [Tv10 Ts10 Hx10]
    · skip
      isplitr; · iexact Rs10
      isplitr; · iexact Rkk10
      isplitl [Tv10]; · iexact Tv10
      isplitl [Ts10]; · iexact Ts10
      isplitl [Hx10]; · iexact Hx10
      iexact Rvx10
    isplitl [Tv01 Ts01 Hx01]
    · skip
      isplitr; · iexact Rs01
      isplitr; · iexact Rkk01
      isplitl [Tv01]; · iexact Tv01
      isplitl [Ts01]; · iexact Ts01
      isplitl [Hx01]; · iexact Hx01
      iexact Rvx01
    iexact HO
  iintro ⟨Ha11, Sc00, Sc10, Sc01, HO⟩
  try dsimp only
  rw [wp_bind]
  iapply (run12 X κ c) $$ [Hx Hw Hl0 Hl1 Ss00 Sv00 Sk00 Ss10 Sv10 Sk10 Ss01 Sv01 Sk01 Ss11 Sv11 Sk11 Sc00 Sc10 Sc01 Ha11 Tv11 Ts11 Hx11 HF HO]
  · isplitr; · iexact HE
    unfold R12
    isplitl [Hx]; · iexact Hx
    isplitl [Hw]; · iexact Hw
    isplitl [Hl0]; · iexact Hl0
    isplitl [Hl1]; · iexact Hl1
    isplitl [Ss00 Sv00 Sk00]
    · skip
      isplitl [Ss00]; · iexact Ss00
      isplitl [Sv00]; · iexact Sv00
      iexact Sk00
    isplitl [Ss10 Sv10 Sk10]
    · skip
      isplitl [Ss10]; · iexact Ss10
      isplitl [Sv10]; · iexact Sv10
      iexact Sk10
    isplitl [Ss01 Sv01 Sk01]
    · skip
      isplitl [Ss01]; · iexact Ss01
      isplitl [Sv01]; · iexact Sv01
      iexact Sk01
    isplitl [Ss11 Sv11 Sk11]
    · skip
      isplitl [Ss11]; · iexact Ss11
      isplitl [Sv11]; · iexact Sv11
      iexact Sk11
    isplitl [Sc00]; · iexact Sc00
    isplitl [Sc10]; · iexact Sc10
    isplitl [Sc01]; · iexact Sc01
    isplitl [Ha11]; · iexact Ha11
    isplitl [Tv11 Ts11 Hx11]
    · skip
      isplitr; · iexact Rs11
      isplitr; · iexact Rkk11
      isplitl [Tv11]; · iexact Tv11
      isplitl [Ts11]; · iexact Ts11
      isplitl [Hx11]; · iexact Hx11
      iexact Rvx11
    isplitl [HF]; · iexact HF
    iexact HO
  iintro ⟨Hx, Hw, Hl0, Hl1, G00, G10, G01, G11, HF, HO⟩
  try dsimp only
  rw [wp_bind]
  iapply (run13 X κ c) $$ [Hz G00 G10 G01 G11 HO]
  · isplitr; · iexact HE
    isplitl [Hz]; · iexact Hz
    isplitl [G00]; · iexact G00
    isplitl [G10]; · iexact G10
    isplitl [G01]; · iexact G01
    isplitl [G11]; · iexact G11
    iexact HO
  iintro ⟨Hz, Hw0, Hw1, S00, S10, S01, S11, HO⟩
  try dsimp only
  try sl_exec
  iapply (copyW0 c (back 0 (rank c) 31) g0 (A X 0 31 c) (off3_wd (rank c))) $$ [Hw0 Ho0 Hv00]
  · isplitl [Hw0]; · iexact Hw0
    isplitl [Ho0]; · iexact Ho0
    iexact Hv00
  iintro HF0
  try sl_exec
  iapply (copyW1 c (back 1 (rank c) 31) g1 (A X 1 31 c) (off4_wd (rank c))) $$ [Hw1 Ho1 Hv10]
  · isplitl [Hw1]; · iexact Hw1
    isplitl [Ho1]; · iexact Ho1
    iexact Hv10
  iintro HF1
  try sl_exec
  have hA1 : Ab (0) (due c 30) := by
    repeat' first | exact ab_mono hO (by omega) | apply ab_add | (apply ab_tally <;> omega)
  iapply (landed_copyW0 X κ c (back 0 (rank c) 31) g0 (A X 0 31 c) (off3_wd (rank c)) (due c 30) hA1) $$ [HF0 HO]
  · isplitr; · iexact HE
    isplitl [HF0]; · iexact HF0
    iexact HO
  iintro ⟨Ho0, Hw0, Hv00, HO⟩
  try sl_exec
  have hA2 : Ab (0) (due c 30) := by
    repeat' first | exact ab_mono hO (by omega) | apply ab_add | (apply ab_tally <;> omega)
  iapply (landed_copyW1 X κ c (back 1 (rank c) 31) g1 (A X 1 31 c) (off4_wd (rank c)) (due c 30) hA2) $$ [HF1 HO]
  · isplitr; · iexact HE
    isplitl [HF1]; · iexact HF1
    iexact HO
  iintro ⟨Ho1, Hw1, Hv10, HO⟩
  try sl_exec
  ihave Hs0 := ((a_halves0 (fullShare : PosShare TreeShare).right c (A X 0 31 c)).1) $$ [Hw0]
  · iexact Hw0
  icases Hs0 with ⟨Hk00, Hk01⟩
  ihave Hs1 := ((a_halves1 (fullShare : PosShare TreeShare).right c (A X 1 31 c)).1) $$ [Hw1]
  · iexact Hw1
  icases Hs1 with ⟨Hk10, Hk11⟩
  simp only [Prog.bind]
  rw [wp_bind]
  iapply (gather_loop X κ c) $$ [Hz Ho0 Ho1 Hv00 Hv10 Hv01 Hv11 S00 Hk00 S10 Hk10 S01 Hk01 S11 Hk11 HF HL HO]
  · isplitr; · iexact HE
    unfold GI kept gt00 gt10 gt01 gt11
    isplitl [Hz Ho0 Ho1 Hv00 Hv10 Hv01 Hv11]
    · isplitl [Hz]; · iexact Hz
      isplitl [Ho0]
      · iexists _; isplitr; · ipureintro; exact out_first0 X c g0
        iexact Ho0
      isplitl [Ho1]
      · iexists _; isplitr; · ipureintro; exact out_first1 X c g1
        iexact Ho1
      isplitl [Hv00]; · iexact Hv00
      isplitl [Hv10]; · iexact Hv10
      isplitl [Hv01]; · iexact Hv01
      iexact Hv11
    isplitl [S00 Hk00]
    · isplitl [S00]; · iexact S00
      iexact Hk00
    isplitl [S10 Hk10]
    · isplitl [S10]; · iexact S10
      iexact Hk10
    isplitl [S01 Hk01]
    · isplitl [S01]; · iexact S01
      iexact Hk01
    isplitl [S11 Hk11]
    · isplitl [S11]; · iexact S11
      iexact Hk11
    isplitl [HF]; · iexact HF
    isplitl [HL]; · unfold lasts; iexact HL
    iexact HO
  iintro HG
  try sl_exec
  try simp only [Prog.bind, Prog.pure_eq_ret]
  rw [wp_ret]
  iapply HK
  isplitl [Hmt]; · iexact Hmt
  isplitl [Hx]; · iexact Hx
  isplitl [Hw]; · iexact Hw
  isplitl [Hl0]; · iexact Hl0
  isplitl [Hl1]; · iexact Hl1
  isplitl [Sb]; · iexact Sb
  iexact HG

/-- Direction 0, quarter 0: the three cells closed, their semaphores back at zero. -/
theorem shut00 (c : Dev nD) :
    iprop(env X κ ∗ atPos ER (sendC00 c) 62 ∅ 0 ∗ atPos ER (recvC00 c) 62 ∅ 0 ∗ atPos ER (credC00 c) 61 ∅ 0) ⊢ (|={Set.univ}=> iprop(semVal (sendC00 c) 0 ∗ semVal (recvC00 c) 0 ∗ semVal (credC00 c) 0) : sProp 𝕄) := by
  iintro ⟨#HE, Hs, Hv, Hk⟩
  imod (Rounds.cell_close ER (Rd X) (g := sendC00 c) (Set.mem_univ (κ (sendC00 c))) id (later_send00 X c)) $$ [Hs] with Zs
  · isplitr; · iapply (env_send00 X κ c); iexact HE
    iexact Hs
  imod (Rounds.cell_close ER (Rd X) (g := recvC00 c) (Set.mem_univ (κ (recvC00 c))) id (later_recv00 X c)) $$ [Hv] with Zv
  · isplitr; · iapply (env_recv00 X κ c); iexact HE
    iexact Hv
  imod (Rounds.cell_close ER (Rd X) (g := credC00 c) (Set.mem_univ (κ (credC00 c))) id (later_cred00 X c)) $$ [Hk] with Zk
  · isplitr; · iapply (env_cred00 X κ c); iexact HE
    iexact Hk
  imodintro
  isplitl [Zs]; · iexact Zs
  isplitl [Zv]; · iexact Zv
  iexact Zk

/-- Direction 1, quarter 0: the three cells closed, their semaphores back at zero. -/
theorem shut10 (c : Dev nD) :
    iprop(env X κ ∗ atPos ER (sendC10 c) 62 ∅ 0 ∗ atPos ER (recvC10 c) 62 ∅ 0 ∗ atPos ER (credC10 c) 61 ∅ 0) ⊢ (|={Set.univ}=> iprop(semVal (sendC10 c) 0 ∗ semVal (recvC10 c) 0 ∗ semVal (credC10 c) 0) : sProp 𝕄) := by
  iintro ⟨#HE, Hs, Hv, Hk⟩
  imod (Rounds.cell_close ER (Rd X) (g := sendC10 c) (Set.mem_univ (κ (sendC10 c))) id (later_send10 X c)) $$ [Hs] with Zs
  · isplitr; · iapply (env_send10 X κ c); iexact HE
    iexact Hs
  imod (Rounds.cell_close ER (Rd X) (g := recvC10 c) (Set.mem_univ (κ (recvC10 c))) id (later_recv10 X c)) $$ [Hv] with Zv
  · isplitr; · iapply (env_recv10 X κ c); iexact HE
    iexact Hv
  imod (Rounds.cell_close ER (Rd X) (g := credC10 c) (Set.mem_univ (κ (credC10 c))) id (later_cred10 X c)) $$ [Hk] with Zk
  · isplitr; · iapply (env_cred10 X κ c); iexact HE
    iexact Hk
  imodintro
  isplitl [Zs]; · iexact Zs
  isplitl [Zv]; · iexact Zv
  iexact Zk

/-- Direction 0, quarter 1: the three cells closed, their semaphores back at zero. -/
theorem shut01 (c : Dev nD) :
    iprop(env X κ ∗ atPos ER (sendC01 c) 62 ∅ 0 ∗ atPos ER (recvC01 c) 62 ∅ 0 ∗ atPos ER (credC01 c) 61 ∅ 0) ⊢ (|={Set.univ}=> iprop(semVal (sendC01 c) 0 ∗ semVal (recvC01 c) 0 ∗ semVal (credC01 c) 0) : sProp 𝕄) := by
  iintro ⟨#HE, Hs, Hv, Hk⟩
  imod (Rounds.cell_close ER (Rd X) (g := sendC01 c) (Set.mem_univ (κ (sendC01 c))) id (later_send01 X c)) $$ [Hs] with Zs
  · isplitr; · iapply (env_send01 X κ c); iexact HE
    iexact Hs
  imod (Rounds.cell_close ER (Rd X) (g := recvC01 c) (Set.mem_univ (κ (recvC01 c))) id (later_recv01 X c)) $$ [Hv] with Zv
  · isplitr; · iapply (env_recv01 X κ c); iexact HE
    iexact Hv
  imod (Rounds.cell_close ER (Rd X) (g := credC01 c) (Set.mem_univ (κ (credC01 c))) id (later_cred01 X c)) $$ [Hk] with Zk
  · isplitr; · iapply (env_cred01 X κ c); iexact HE
    iexact Hk
  imodintro
  isplitl [Zs]; · iexact Zs
  isplitl [Zv]; · iexact Zv
  iexact Zk

/-- Direction 1, quarter 1: the three cells closed, their semaphores back at zero. -/
theorem shut11 (c : Dev nD) :
    iprop(env X κ ∗ atPos ER (sendC11 c) 62 ∅ 0 ∗ atPos ER (recvC11 c) 62 ∅ 0 ∗ atPos ER (credC11 c) 61 ∅ 0) ⊢ (|={Set.univ}=> iprop(semVal (sendC11 c) 0 ∗ semVal (recvC11 c) 0 ∗ semVal (credC11 c) 0) : sProp 𝕄) := by
  iintro ⟨#HE, Hs, Hv, Hk⟩
  imod (Rounds.cell_close ER (Rd X) (g := sendC11 c) (Set.mem_univ (κ (sendC11 c))) id (later_send11 X c)) $$ [Hs] with Zs
  · isplitr; · iapply (env_send11 X κ c); iexact HE
    iexact Hs
  imod (Rounds.cell_close ER (Rd X) (g := recvC11 c) (Set.mem_univ (κ (recvC11 c))) id (later_recv11 X c)) $$ [Hv] with Zv
  · isplitr; · iapply (env_recv11 X κ c); iexact HE
    iexact Hv
  imod (Rounds.cell_close ER (Rd X) (g := credC11 c) (Set.mem_univ (κ (credC11 c))) id (later_cred11 X c)) $$ [Hk] with Zk
  · isplitr; · iapply (env_cred11 X κ c); iexact HE
    iexact Hk
  imodintro
  isplitl [Zs]; · iexact Zs
  isplitl [Zv]; · iexact Zv
  iexact Zk

/-- What the region ends with on device `c`: the values, the scratch, every semaphore at zero. -/
def Done (c : Dev nD) : sProp 𝕄 :=
  iprop(mPts (F := F) c (metaV c) ∗ xPts c (X.x c) ∗ wPts c (X.w c) ∗ zPts c (fun _ => MM X c 31) ∗ (∃ g, ⌜Out X 0 c 32 g⌝ ∗ oPts 0 c g) ∗ (∃ g, ⌜Out X 1 c 32 g⌝ ∗ oPts 1 c g)
    ∗ ((∃ f, lPts0 (F := F) c f) ∗ (∃ f, lPts1 (F := F) c f) ∗ (∃ f, aW0 (F := F) fullShare c f) ∗ (∃ f, aW1 (F := F) fullShare c f) ∗ (∃ f, rW0 (F := F) c f) ∗ (∃ f, rW1 (F := F) c f))
    ∗ (semVal ((c : Thread nD τ), .dma stS00) 0 ∗ semVal ((c : Thread nD τ), .dma stS10) 0 ∗ semVal ((c : Thread nD τ), .dma stS01) 0 ∗ semVal ((c : Thread nD τ), .dma stS11) 0) ∗ (semVal (sendC00 c) 0 ∗ semVal (recvC00 c) 0 ∗ semVal (credC00 c) 0) ∗ (semVal (sendC10 c) 0 ∗ semVal (recvC10 c) 0 ∗ semVal (credC10 c) 0) ∗ (semVal (sendC01 c) 0 ∗ semVal (recvC01 c) 0 ∗ semVal (credC01 c) 0) ∗ (semVal (sendC11 c) 0 ∗ semVal (recvC11 c) 0 ∗ semVal (credC11 c) 0) ∗ semVal (barC c) 0 ∗ owesE c 0)

theorem finish_done (c : Dev nD) : iprop(env X κ ∗ Finish X c) ⊢ (|={Set.univ}=> Done X c : sProp 𝕄) := by
  unfold Finish GE kept en00 en10 en01 en11 Done
  iintro ⟨#HE, Hmt, Hx, Hw, Hl0, Hl1, Sb, ⟨Hz, Ho0, Ho1, Hv00, Hv10, Hv01, Hv11⟩, ⟨Ss00, Sv00, Sk00, Ha00, Hr00⟩, ⟨Ss10, Sv10, Sk10, Ha10, Hr10⟩, ⟨Ss01, Sv01, Sk01, Ha01, Hr01⟩, ⟨Ss11, Sv11, Sk11, Ha11, Hr11⟩, HO⟩
  imod (shut00 X κ c) $$ [Ss00 Sv00 Sk00] with Z00
  · isplitr; · iexact HE
    isplitl [Ss00]; · iexact Ss00
    isplitl [Sv00]; · iexact Sv00
    iexact Sk00
  imod (shut10 X κ c) $$ [Ss10 Sv10 Sk10] with Z10
  · isplitr; · iexact HE
    isplitl [Ss10]; · iexact Ss10
    isplitl [Sv10]; · iexact Sv10
    iexact Sk10
  imod (shut01 X κ c) $$ [Ss01 Sv01 Sk01] with Z01
  · isplitr; · iexact HE
    isplitl [Ss01]; · iexact Ss01
    isplitl [Sv01]; · iexact Sv01
    iexact Sk01
  imod (shut11 X κ c) $$ [Ss11 Sv11 Sk11] with Z11
  · isplitr; · iexact HE
    isplitl [Ss11]; · iexact Ss11
    isplitl [Sv11]; · iexact Sv11
    iexact Sk11
  imod (Rounds.cell_close ER (Rd X) (g := barC c) (Set.mem_univ (κ (barC c))) id (later_bar X c)) $$ [Sb] with Zb
  · isplitr; · iapply (env_bar X κ c); iexact HE
    iexact Sb
  imodintro
  isplitl [Hmt]; · iexact Hmt
  isplitl [Hx]; · iexact Hx
  isplitl [Hw]; · iexact Hw
  isplitl [Hz]; · iexact Hz
  isplitl [Ho0]; · iexact Ho0
  isplitl [Ho1]; · iexact Ho1
  isplitl [Hl0 Hl1 Ha00 Ha10 Ha01 Ha11 Hr00 Hr10 Hr01 Hr11]
  · isplitl [Hl0]; · iexact Hl0
    isplitl [Hl1]; · iexact Hl1
    isplitl [Ha00 Ha01]
    · iapply (a_whole0 c _ _)
      isplitl [Ha00]; · iexact Ha00
      iexact Ha01
    isplitl [Ha10 Ha11]
    · iapply (a_whole1 c _ _)
      isplitl [Ha10]; · iexact Ha10
      iexact Ha11
    isplitl [Hr00 Hr01]
    · iapply (r_whole0 c _ _)
      isplitl [Hr00]; · iexact Hr00
      iexact Hr01
    iapply (r_whole1 c _ _)
    isplitl [Hr10]; · iexact Hr10
    iexact Hr11
  isplitl [Hv00 Hv10 Hv01 Hv11]
  · isplitl [Hv00]; · iexact Hv00
    isplitl [Hv10]; · iexact Hv10
    isplitl [Hv01]; · iexact Hv01
    iexact Hv11
  isplitl [Z00]; · iexact Z00
  isplitl [Z10]; · iexact Z10
  isplitl [Z01]; · iexact Z01
  isplitl [Z11]; · iexact Z11
  isplitl [Zb]; · iexact Zb
  iexact HO

end Cert.Proof.KernelIdeal
-- ==== Proof.KernelIdealFund.lean ====
/- What the launch deals to a device, credits and tokens, regrouped round by round into what the kernel's body starts with. -/
module

public import proofs.«01_k».proof.Proof.KernelIdealTop

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)

variable {F : FTy → Type} [FloatOps F]

local notation "𝕄" => MT nD τ sig ℕ (Elt F) ℕ UU ℕ

/-! ## The launch credits -/

/-- Credits of round `t`'s arrivals at device `c`, and of its grants. -/
def Rv (c : Dev nD) (t : ℕ) : sProp 𝕄 := iprop(cred (tallyAt (recvC00 c) (4 * (t) + 2) N) ∗ cred (tallyAt (recvC10 c) (4 * (t) + 2) N) ∗ cred (tallyAt (recvC01 c) (4 * (t) + 4) N) ∗ cred (tallyAt (recvC11 c) (4 * (t) + 4) N))
@[inherit_doc Rv] def Cr (c : Dev nD) (t : ℕ) : sProp 𝕄 := iprop(cred (tallyAt (credC00 c) (4 * (t) + 5) 1) ∗ cred (tallyAt (credC10 c) (4 * (t) + 5) 1) ∗ cred (tallyAt (credC01 c) (4 * (t) + 7) 1) ∗ cred (tallyAt (credC11 c) (4 * (t) + 7) 1))
/-- Tokens of round `t`'s transfers by device `c`, and of its grants. -/
def TR (c : Dev nD) (t : ℕ) : sProp 𝕄 := iprop((dutyTok ER (recvC00 (rgt c)) (t) false ∗ dutyTok ER (recvC10 (lft c)) (t) false ∗ dutyTok ER (recvC01 (rgt c)) (t) false ∗ dutyTok ER (recvC11 (lft c)) (t) false) ∗ dutyTok ER (sendC00 c) (t) false ∗ dutyTok ER (sendC10 c) (t) false ∗ dutyTok ER (sendC01 c) (t) false ∗ dutyTok ER (sendC11 c) (t) false)
@[inherit_doc TR] def TC (c : Dev nD) (t : ℕ) : sProp 𝕄 := iprop(dutyTok ER (credC00 (lft c)) (t) false ∗ dutyTok ER (credC10 (rgt c)) (t) false ∗ dutyTok ER (credC01 (lft c)) (t) false ∗ dutyTok ER (credC11 (rgt c)) (t) false)
/-- With `n` trips left: the grants of each trip beside the transfers of the next round. -/
def chain (R C : ℕ → sProp 𝕄) : ℕ → sProp 𝕄
  | 0 => iprop(emp)
  | n + 1 => iprop((C (60 - n) ∗ R (61 - n)) ∗ chain R C n)

theorem sum_at (σ : Dev nD ≃ Dev nD) (sm : SemLoc sig) (i n : ℕ) :
    (∑ d : Dev nD, (tallyAt (((σ d : Thread nD τ), sm) : GSem nD τ sig) i n : CellTallies nD τ sig ℕ)) = ∑ d : Dev nD, tallyAt (((d : Thread nD τ), sm) : GSem nD τ sig) i n :=
  Fintype.sum_equiv σ _ _ fun _ => rfl
theorem tally_dev (sm : SemLoc sig) (i n : ℕ) (d : Dev nD) (g : GSem nD τ sig)
    (hg : (tallyAt (((d : Thread nD τ), sm) : GSem nD τ sig) i n : CellTallies nD τ sig ℕ) g ≠ 0) : g.1 = (d : Thread nD τ) := by
  obtain ⟨k, hk⟩ := DFunLike.ne_iff.mp hg
  have h := Pipeline.tallyAt_pos (Nat.pos_of_ne_zero hk)
  rw [h.1]
/-- What the devices owe at one semaphore of a neighbour is each device's credit at its own. -/
theorem cred_at (σ : Dev nD ≃ Dev nD) (sm : SemLoc sig) (i n : ℕ) (c : Dev nD) :
    (Pipeline.launchCred (fun d => tallyAt (((σ d : Thread nD τ), sm) : GSem nD τ sig) i n) c : sProp 𝕄) = cred (tallyAt (((c : Thread nD τ), sm) : GSem nD τ sig) i n) := by
  have h := Pipeline.launchCred_of_sum (Val := Elt F) (Name := ℕ) (U := UU) (Lvl := ℕ) _ _ (sum_at σ sm i n) (tally_dev sm i n) c
  exact h
theorem cred_rgt (sm : SemLoc sig) (i n : ℕ) (c : Dev nD) :
    (Pipeline.launchCred (fun d => tallyAt (((rgt d : Thread nD τ), sm) : GSem nD τ sig) i n) c : sProp 𝕄) = cred (tallyAt (((c : Thread nD τ), sm) : GSem nD τ sig) i n) := cred_at ring sm i n c
theorem cred_lft (sm : SemLoc sig) (i n : ℕ) (c : Dev nD) :
    (Pipeline.launchCred (fun d => tallyAt (((lft d : Thread nD τ), sm) : GSem nD τ sig) i n) c : sProp 𝕄) = cred (tallyAt (((c : Thread nD τ), sm) : GSem nD τ sig) i n) := cred_at ring.symm sm i n c

attribute [local irreducible] due in
theorem lc_step (c : Dev nD) (n : ℕ) : (Pipeline.launchCred (fun d => due d n + tallyAt (recvC11 (lft d)) (4 * ((60 - n) + 1) + 4) N + tallyAt (recvC01 (rgt d)) (4 * ((60 - n) + 1) + 4) N + tallyAt (credC11 (rgt d)) (4 * ((60 - n)) + 7) 1 + tallyAt (credC01 (lft d)) (4 * ((60 - n)) + 7) 1 + tallyAt (recvC10 (lft d)) (4 * ((60 - n) + 1) + 2) N + tallyAt (recvC00 (rgt d)) (4 * ((60 - n) + 1) + 2) N + tallyAt (credC10 (rgt d)) (4 * ((60 - n)) + 5) 1 + tallyAt (credC00 (lft d)) (4 * ((60 - n)) + 5) 1) c : sProp 𝕄)
    = iprop(((((((((Pipeline.launchCred (fun d => due d n) c ∗ cred (tallyAt (recvC11 c) (4 * ((60 - n) + 1) + 4) N)) ∗ cred (tallyAt (recvC01 c) (4 * ((60 - n) + 1) + 4) N)) ∗ cred (tallyAt (credC11 c) (4 * ((60 - n)) + 7) 1)) ∗ cred (tallyAt (credC01 c) (4 * ((60 - n)) + 7) 1)) ∗ cred (tallyAt (recvC10 c) (4 * ((60 - n) + 1) + 2) N)) ∗ cred (tallyAt (recvC00 c) (4 * ((60 - n) + 1) + 2) N)) ∗ cred (tallyAt (credC10 c) (4 * ((60 - n)) + 5) 1)) ∗ cred (tallyAt (credC00 c) (4 * ((60 - n)) + 5) 1))) := by
  rw [Pipeline.launchCred_add (fun d => due d n + tallyAt (recvC11 (lft d)) (4 * ((60 - n) + 1) + 4) N + tallyAt (recvC01 (rgt d)) (4 * ((60 - n) + 1) + 4) N + tallyAt (credC11 (rgt d)) (4 * ((60 - n)) + 7) 1 + tallyAt (credC01 (lft d)) (4 * ((60 - n)) + 7) 1 + tallyAt (recvC10 (lft d)) (4 * ((60 - n) + 1) + 2) N + tallyAt (recvC00 (rgt d)) (4 * ((60 - n) + 1) + 2) N + tallyAt (credC10 (rgt d)) (4 * ((60 - n)) + 5) 1) (fun d => tallyAt (credC00 (lft d)) (4 * ((60 - n)) + 5) 1),
    Pipeline.launchCred_add (fun d => due d n + tallyAt (recvC11 (lft d)) (4 * ((60 - n) + 1) + 4) N + tallyAt (recvC01 (rgt d)) (4 * ((60 - n) + 1) + 4) N + tallyAt (credC11 (rgt d)) (4 * ((60 - n)) + 7) 1 + tallyAt (credC01 (lft d)) (4 * ((60 - n)) + 7) 1 + tallyAt (recvC10 (lft d)) (4 * ((60 - n) + 1) + 2) N + tallyAt (recvC00 (rgt d)) (4 * ((60 - n) + 1) + 2) N) (fun d => tallyAt (credC10 (rgt d)) (4 * ((60 - n)) + 5) 1),
    Pipeline.launchCred_add (fun d => due d n + tallyAt (recvC11 (lft d)) (4 * ((60 - n) + 1) + 4) N + tallyAt (recvC01 (rgt d)) (4 * ((60 - n) + 1) + 4) N + tallyAt (credC11 (rgt d)) (4 * ((60 - n)) + 7) 1 + tallyAt (credC01 (lft d)) (4 * ((60 - n)) + 7) 1 + tallyAt (recvC10 (lft d)) (4 * ((60 - n) + 1) + 2) N) (fun d => tallyAt (recvC00 (rgt d)) (4 * ((60 - n) + 1) + 2) N),
    Pipeline.launchCred_add (fun d => due d n + tallyAt (recvC11 (lft d)) (4 * ((60 - n) + 1) + 4) N + tallyAt (recvC01 (rgt d)) (4 * ((60 - n) + 1) + 4) N + tallyAt (credC11 (rgt d)) (4 * ((60 - n)) + 7) 1 + tallyAt (credC01 (lft d)) (4 * ((60 - n)) + 7) 1) (fun d => tallyAt (recvC10 (lft d)) (4 * ((60 - n) + 1) + 2) N),
    Pipeline.launchCred_add (fun d => due d n + tallyAt (recvC11 (lft d)) (4 * ((60 - n) + 1) + 4) N + tallyAt (recvC01 (rgt d)) (4 * ((60 - n) + 1) + 4) N + tallyAt (credC11 (rgt d)) (4 * ((60 - n)) + 7) 1) (fun d => tallyAt (credC01 (lft d)) (4 * ((60 - n)) + 7) 1),
    Pipeline.launchCred_add (fun d => due d n + tallyAt (recvC11 (lft d)) (4 * ((60 - n) + 1) + 4) N + tallyAt (recvC01 (rgt d)) (4 * ((60 - n) + 1) + 4) N) (fun d => tallyAt (credC11 (rgt d)) (4 * ((60 - n)) + 7) 1),
    Pipeline.launchCred_add (fun d => due d n + tallyAt (recvC11 (lft d)) (4 * ((60 - n) + 1) + 4) N) (fun d => tallyAt (recvC01 (rgt d)) (4 * ((60 - n) + 1) + 4) N),
    Pipeline.launchCred_add (fun d => due d n) (fun d => tallyAt (recvC11 (lft d)) (4 * ((60 - n) + 1) + 4) N),
    cred_lft,
    cred_rgt,
    cred_rgt,
    cred_lft,
    cred_lft,
    cred_rgt,
    cred_rgt,
    cred_lft]

theorem lc_due (c : Dev nD) : ∀ n, n ≤ 61 → (Pipeline.launchCred (fun d => due d n) c : sProp 𝕄) ⊢ chain (Rv c) (Cr c) n
  | 0, _ => by
    show (Pipeline.launchCred (fun _ => 0) c : sProp 𝕄) ⊢ iprop(emp)
    exact Entails.of_eq (Pipeline.launchCred_zero c)
  | n + 1, hn => by
    have ih := lc_due c n (by omega)
    show (Pipeline.launchCred (fun d => due d n + tallyAt (recvC11 (lft d)) (4 * ((60 - n) + 1) + 4) N + tallyAt (recvC01 (rgt d)) (4 * ((60 - n) + 1) + 4) N + tallyAt (credC11 (rgt d)) (4 * ((60 - n)) + 7) 1 + tallyAt (credC01 (lft d)) (4 * ((60 - n)) + 7) 1 + tallyAt (recvC10 (lft d)) (4 * ((60 - n) + 1) + 2) N + tallyAt (recvC00 (rgt d)) (4 * ((60 - n) + 1) + 2) N + tallyAt (credC10 (rgt d)) (4 * ((60 - n)) + 5) 1 + tallyAt (credC00 (lft d)) (4 * ((60 - n)) + 5) 1) c : sProp 𝕄) ⊢ iprop((Cr c (60 - n) ∗ Rv c (61 - n)) ∗ chain (Rv c) (Cr c) n)
    rw [lc_step, show 61 - n = 60 - n + 1 by omega]
    unfold Rv Cr
    iintro ⟨⟨⟨⟨⟨⟨⟨⟨H, R11⟩, R01⟩, K11⟩, K01⟩, R10⟩, R00⟩, K10⟩, K00⟩
    isplitr [H]
    · isplitl [K00 K10 K01 K11]
      · isplitl [K00]; · iexact K00
        isplitl [K10]; · iexact K10
        isplitl [K01]; · iexact K01
        iexact K11
      isplitl [R00]; · iexact R00
      isplitl [R10]; · iexact R10
      isplitl [R01]; · iexact R01
      iexact R11
    iapply ih
    iexact H

attribute [local irreducible] due in
theorem lc_dues_eq (c : Dev nD) : (Pipeline.launchCred dues c : sProp 𝕄)
    = iprop(((((((Pipeline.launchCred (fun d => due d 61) c ∗ cred (tallyAt (recvC11 c) (4 * (0) + 4) N)) ∗ cred (tallyAt (recvC01 c) (4 * (0) + 4) N)) ∗ cred (tallyAt (recvC10 c) (4 * (0) + 2) N)) ∗ cred (tallyAt (recvC00 c) (4 * (0) + 2) N)) ∗ cred (tallyAt (barC c) 1 1)) ∗ cred (tallyAt (barC c) 1 1))) := by
  show (Pipeline.launchCred (fun d => due d 61 + tallyAt (recvC11 (lft d)) (4 * (0) + 4) N + tallyAt (recvC01 (rgt d)) (4 * (0) + 4) N + tallyAt (recvC10 (lft d)) (4 * (0) + 2) N + tallyAt (recvC00 (rgt d)) (4 * (0) + 2) N + tallyAt (barC (rgt d)) 1 1 + tallyAt (barC (lft d)) 1 1) c : sProp 𝕄) = _
  rw [Pipeline.launchCred_add (fun d => due d 61 + tallyAt (recvC11 (lft d)) (4 * (0) + 4) N + tallyAt (recvC01 (rgt d)) (4 * (0) + 4) N + tallyAt (recvC10 (lft d)) (4 * (0) + 2) N + tallyAt (recvC00 (rgt d)) (4 * (0) + 2) N + tallyAt (barC (rgt d)) 1 1) (fun d => tallyAt (barC (lft d)) 1 1),
    Pipeline.launchCred_add (fun d => due d 61 + tallyAt (recvC11 (lft d)) (4 * (0) + 4) N + tallyAt (recvC01 (rgt d)) (4 * (0) + 4) N + tallyAt (recvC10 (lft d)) (4 * (0) + 2) N + tallyAt (recvC00 (rgt d)) (4 * (0) + 2) N) (fun d => tallyAt (barC (rgt d)) 1 1),
    Pipeline.launchCred_add (fun d => due d 61 + tallyAt (recvC11 (lft d)) (4 * (0) + 4) N + tallyAt (recvC01 (rgt d)) (4 * (0) + 4) N + tallyAt (recvC10 (lft d)) (4 * (0) + 2) N) (fun d => tallyAt (recvC00 (rgt d)) (4 * (0) + 2) N),
    Pipeline.launchCred_add (fun d => due d 61 + tallyAt (recvC11 (lft d)) (4 * (0) + 4) N + tallyAt (recvC01 (rgt d)) (4 * (0) + 4) N) (fun d => tallyAt (recvC10 (lft d)) (4 * (0) + 2) N),
    Pipeline.launchCred_add (fun d => due d 61 + tallyAt (recvC11 (lft d)) (4 * (0) + 4) N) (fun d => tallyAt (recvC01 (rgt d)) (4 * (0) + 4) N),
    Pipeline.launchCred_add (fun d => due d 61) (fun d => tallyAt (recvC11 (lft d)) (4 * (0) + 4) N),
    cred_lft,
    cred_rgt,
    cred_rgt,
    cred_lft,
    cred_rgt,
    cred_lft]
attribute [local irreducible] due in
/-- A device's launch credit. -/
theorem lc_dues (c : Dev nD) : (Pipeline.launchCred dues c : sProp 𝕄) ⊢ iprop(cred (tallyAt (barC c) 1 2) ∗ Rv c 0 ∗ chain (Rv c) (Cr c) 61) := by
  rw [lc_dues_eq, show (tallyAt (barC c) 1 2 : CellTallies nD τ sig ℕ) = tallyAt (barC c) 1 1 + tallyAt (barC c) 1 1 from (tallyAt_add (barC c) 1 1 1).symm]
  have hd := lc_due (F := F) c 61 le_rfl
  unfold Rv
  iintro ⟨⟨⟨⟨⟨⟨H, R11⟩, R01⟩, R10⟩, R00⟩, B1⟩, B2⟩
  isplitl [B1 B2]
  · iapply (cred_add _ _).2
    isplitl [B1] <;> iassumption
  isplitr [H]
  · isplitl [R00]; · iexact R00
    isplitl [R10]; · iexact R10
    isplitl [R01]; · iexact R01
    iexact R11
  iapply hd
  iexact H

/-! ## The tokens -/

theorem ring_num (c : Dev nD) (t : ℕ) (h : t < 61) :
    (bigSep (ringNums t) fun i => dutyTok ER (((payee c i : Thread nD τ), ringSems i) : GSem nD τ sig) t false : sProp 𝕄) ⊢ iprop(TR c t ∗ TC c t) := by
  unfold ringNums
  rw [if_pos h, bigSep_univ_eq_bigSepL [0, 1, 2, 3, 4, 5, 6, 7, 8, 9, 10, 11] (by decide) (by decide)]
  show iprop(dutyTok ER (sendC00 c) t false ∗ dutyTok ER (sendC01 c) t false ∗ dutyTok ER (sendC10 c) t false ∗ dutyTok ER (sendC11 c) t false ∗ dutyTok ER (recvC00 (rgt c)) t false ∗ dutyTok ER (recvC01 (rgt c)) t false ∗ dutyTok ER (recvC10 (lft c)) t false ∗ dutyTok ER (recvC11 (lft c)) t false ∗ dutyTok ER (credC00 (lft c)) t false ∗ dutyTok ER (credC01 (lft c)) t false ∗ dutyTok ER (credC10 (rgt c)) t false ∗ dutyTok ER (credC11 (rgt c)) t false) ⊢ _
  unfold TR TC
  iintro ⟨S00, S01, S10, S11, R00, R01, R10, R11, K00, K01, K10, K11⟩
  isplitr [K00 K01 K10 K11]
  · isplitl [R00 R01 R10 R11]
    · isplitl [R00]; · iexact R00
      isplitl [R10]; · iexact R10
      isplitl [R01]; · iexact R01
      iexact R11
    isplitl [S00]; · iexact S00
    isplitl [S10]; · iexact S10
    isplitl [S01]; · iexact S01
    iexact S11
  isplitl [K00]; · iexact K00
  isplitl [K10]; · iexact K10
  isplitl [K01]; · iexact K01
  iexact K11
theorem ring_last (c : Dev nD) :
    (bigSep (ringNums 61) fun i => dutyTok ER (((payee c i : Thread nD τ), ringSems i) : GSem nD τ sig) 61 false : sProp 𝕄) ⊢ TR c 61 := by
  rw [show ringNums 61 = [0, 1, 2, 3, 4, 5, 6, 7].toFinset by decide, bigSep_eq_bigSepL _ (by decide)]
  show iprop(dutyTok ER (sendC00 c) 61 false ∗ dutyTok ER (sendC01 c) 61 false ∗ dutyTok ER (sendC10 c) 61 false ∗ dutyTok ER (sendC11 c) 61 false ∗ dutyTok ER (recvC00 (rgt c)) 61 false ∗ dutyTok ER (recvC01 (rgt c)) 61 false ∗ dutyTok ER (recvC10 (lft c)) 61 false ∗ dutyTok ER (recvC11 (lft c)) 61 false) ⊢ _
  unfold TR
  iintro ⟨S00, S01, S10, S11, R00, R01, R10, R11⟩
  isplitl [R00 R01 R10 R11]
  · isplitl [R00]; · iexact R00
    isplitl [R10]; · iexact R10
    isplitl [R01]; · iexact R01
    iexact R11
  isplitl [S00]; · iexact S00
  isplitl [S10]; · iexact S10
  isplitl [S01]; · iexact S01
  iexact S11

/-- A device's tokens on the ring from round `61 - n` on. -/
theorem ring_from (c : Dev nD) : ∀ n, n ≤ 61 →
    (bigSep (Finset.Ico (61 - n) 62) fun t => bigSep (ringNums t) fun i => dutyTok ER (((payee c i : Thread nD τ), ringSems i) : GSem nD τ sig) t false : sProp 𝕄)
      ⊢ iprop(TR c (61 - n) ∗ chain (TR c) (TC c) n)
  | 0, _ => by
    rw [show Finset.Ico (61 - 0) 62 = {61} by decide, bigSep_singleton]
    show _ ⊢ iprop(TR c 61 ∗ emp)
    iintro H
    isplitl [H]; · iapply (ring_last (F := F) c); iexact H
    iempintro
  | n + 1, hn => by
    have ih := ring_from c n (by omega)
    rw [show Finset.Ico (61 - (n + 1)) 62 = insert (60 - n) (Finset.Ico (61 - n) 62) by
        ext k; simp only [Finset.mem_Ico, Finset.mem_insert]; omega,
      bigSep_insert (by simp only [Finset.mem_Ico]; omega), show 61 - (n + 1) = 60 - n by omega]
    show iprop((bigSep (ringNums (60 - n)) fun i => dutyTok ER (((payee c i : Thread nD τ), ringSems i) : GSem nD τ sig) (60 - n) false)
        ∗ bigSep (Finset.Ico (61 - n) 62) fun t => bigSep (ringNums t) fun i => dutyTok ER (((payee c i : Thread nD τ), ringSems i) : GSem nD τ sig) t false)
      ⊢ iprop(TR c (60 - n) ∗ ((TC c (60 - n) ∗ TR c (61 - n)) ∗ chain (TR c) (TC c) n))
    iintro ⟨H, Hr⟩
    ihave H' := (ring_num (F := F) c (60 - n) (by omega)) $$ H
    icases H' with ⟨HR, HC⟩
    ihave Hr' := ih $$ Hr
    icases Hr' with ⟨HR', Hc⟩
    isplitl [HR]; · iexact HR
    isplitr [Hc]
    · isplitl [HC] <;> iassumption
    iexact Hc

/-- A device's tokens, round by round. -/
theorem toks_of (c : Dev nD) : (bigSep (fam.toks c 0) (fun x => dutyTok ER x.1 x.2.1 x.2.2) : sProp 𝕄)
    ⊢ iprop((dutyTok ER (barC (lft c)) 0 true ∗ dutyTok ER (barC (rgt c)) 0 false) ∗ TR c 0 ∗ chain (TR c) (TC c) 61) := by
  have hb : (bigSep (barToks c) (fun x => dutyTok ER x.1 x.2.1 x.2.2) : sProp 𝕄) = iprop(dutyTok ER (barC (lft c)) 0 true ∗ dutyTok ER (barC (rgt c)) 0 false) := by
    unfold barToks
    rw [bigSep_insert (fun h => Bool.noConfusion (show true = false from congrArg (fun x : GSem nD τ sig × ℕ × Bool => x.2.2) (Finset.mem_singleton.mp h))), bigSep_singleton]
    rfl
  have hd : Disjoint (ringToks c) (barToks c) := Finset.disjoint_left.mpr fun x hx hx' => by
    obtain ⟨p, -, rfl⟩ := Finset.mem_map.mp hx
    refine ringSems_bar p.1 ?_
    rcases Finset.mem_insert.mp hx' with h | h
    · exact congrArg (fun x : GSem nD τ sig × ℕ × Bool => x.1.2) h
    · exact congrArg (fun x : GSem nD τ sig × ℕ × Bool => x.1.2) (Finset.mem_singleton.mp h)
  have hr : (bigSep (ringToks c) (fun x => dutyTok ER x.1 x.2.1 x.2.2) : sProp 𝕄)
      = bigSep (Finset.Ico (61 - 61) 62) fun t => bigSep (ringNums t) fun i => dutyTok ER (((payee c i : Thread nD τ), ringSems i) : GSem nD τ sig) t false := by
    unfold ringToks
    rw [bigSep_map, bigSep_biUnion_eq _ _ _ (fun t _ t' _ hne => Finset.disjoint_left.mpr fun p hp hp' => by
      rw [Finset.mem_product, Finset.mem_singleton] at hp hp'
      exact hne (hp.2.symm.trans hp'.2)), show Finset.Ico (61 - 61) 62 = Finset.range 62 by decide]
    refine bigSep_congr fun t _ => ?_
    rw [Finset.product_singleton, bigSep_map]
    rfl
  rw [show fam.toks c 0 = ringToks c ∪ barToks c from rfl, bigSep_union hd, hb, hr]
  have h := ring_from (F := F) c 61 le_rfl
  show iprop((bigSep (Finset.Ico (61 - 61) 62) fun t => bigSep (ringNums t) fun i => dutyTok ER (((payee c i : Thread nD τ), ringSems i) : GSem nD τ sig) t false)
      ∗ dutyTok ER (barC (lft c)) 0 true ∗ dutyTok ER (barC (rgt c)) 0 false) ⊢ _
  iintro ⟨Hr, Hb⟩
  isplitl [Hb]; · iexact Hb
  iapply h
  iexact Hr

/-! ## The rounds' credits and tokens together -/

/-- One trip's credits and tokens, quarter by quarter. -/
theorem trip_of (c : Dev nD) (t t' : ℕ) (h : t' = t + 1) : iprop(Rv (F := F) c t ∗ Cr c t ∗ TC c t ∗ TR c t') ⊢ iprop(tb00 (F := F) c t ∗ tb10 (F := F) c t ∗ tb01 (F := F) c t ∗ tb11 (F := F) c t) := by
  subst h
  unfold Rv Cr TC TR tb00 tb10 tb01 tb11
  iintro ⟨⟨R00, R10, R01, R11⟩, ⟨C00, C10, C01, C11⟩, ⟨T00, T10, T01, T11⟩, ⟨V00, V10, V01, V11⟩, ⟨S00, S10, S01, S11⟩⟩
  isplitl [R00 C00 T00 V00 S00]
  · isplitl [R00]; · iexact R00
    isplitl [C00]; · iexact C00
    isplitl [T00]; · iexact T00
    isplitl [V00]; · iexact V00
    iexact S00
  isplitl [R10 C10 T10 V10 S10]
  · isplitl [R10]; · iexact R10
    isplitl [C10]; · iexact C10
    isplitl [T10]; · iexact T10
    isplitl [V10]; · iexact V10
    iexact S10
  isplitl [R01 C01 T01 V01 S01]
  · isplitl [R01]; · iexact R01
    isplitl [C01]; · iexact C01
    isplitl [T01]; · iexact T01
    isplitl [V01]; · iexact V01
    iexact S01
  isplitl [R11]; · iexact R11
  isplitl [C11]; · iexact C11
  isplitl [T11]; · iexact T11
  isplitl [V11]; · iexact V11
  iexact S11

/-- Credits and tokens of `n` trips, trip by trip; the last round's arrivals are left. -/
theorem fuel_of (c : Dev nD) : ∀ n, n ≤ 61 → iprop(Rv (F := F) c (61 - n) ∗ chain (Rv c) (Cr c) n ∗ chain (TR c) (TC c) n) ⊢ iprop(fuel (F := F) c n ∗ Rv c 61)
  | 0, _ => by
    show iprop(Rv (F := F) c 61 ∗ emp ∗ emp) ⊢ iprop(emp ∗ Rv c 61)
    iintro ⟨H, -, -⟩
    isplitr; · iempintro
    iexact H
  | n + 1, hn => by
    have ih := fuel_of c n (by omega)
    rw [show 61 - (n + 1) = 60 - n by omega]
    show iprop(Rv (F := F) c (60 - n) ∗ ((Cr c (60 - n) ∗ Rv c (61 - n)) ∗ chain (Rv c) (Cr c) n) ∗ ((TC c (60 - n) ∗ TR c (61 - n)) ∗ chain (TR c) (TC c) n))
      ⊢ iprop(((tb00 (F := F) c (60 - n) ∗ tb10 (F := F) c (60 - n) ∗ tb01 (F := F) c (60 - n) ∗ tb11 (F := F) c (60 - n)) ∗ fuel c n) ∗ Rv c 61)
    iintro ⟨H, ⟨⟨HC, HR⟩, Hc⟩, ⟨HT, HS⟩, Ht⟩
    ihave Hf := ih $$ [HR Hc Ht]
    · isplitl [HR]; · iexact HR
      isplitl [Hc] <;> iassumption
    icases Hf with ⟨Hf, HL⟩
    isplitr [HL]
    · isplitr [Hf]
      · iapply (trip_of (F := F) c (60 - n) (61 - n) (by omega))
        isplitl [H]; · iexact H
        isplitl [HC]; · iexact HC
        isplitl [HT]; · iexact HT
        iexact HS
      iexact Hf
    iexact HL

/-! ## The kernel's own counters -/

/-- The kernel's own semaphores: the ring's, and those of the copies to the result. -/
def osem : Fin 16 → SemLoc sig
  | 0 => .dma sendS00 | 1 => .dma sendS01 | 2 => .dma sendS10 | 3 => .dma sendS11
  | 4 => .dma recvS00 | 5 => .dma recvS01 | 6 => .dma recvS10 | 7 => .dma recvS11
  | 8 => .reg credS00 | 9 => .reg credS01 | 10 => .reg credS10 | 11 => .reg credS11
  | 12 => .dma stS00 | 13 => .dma stS10 | 14 => .dma stS01 | _ => .dma stS11
theorem ownSemFacts : Pipeline.OwnSemFacts spec0 osem := by decide
/-- The counters at zero, those of the copies first. -/
def zeros (c : Dev nD) : sProp 𝕄 :=
  iprop((semVal ((c : Thread nD τ), .dma stS00) 0 ∗ semVal ((c : Thread nD τ), .dma stS10) 0 ∗ semVal ((c : Thread nD τ), .dma stS01) 0 ∗ semVal ((c : Thread nD τ), .dma stS11) 0) ∗ (semVal (sendC00 c) 0 ∗ semVal (recvC00 c) 0 ∗ semVal (credC00 c) 0) ∗ (semVal (sendC10 c) 0 ∗ semVal (recvC10 c) 0 ∗ semVal (credC10 c) 0) ∗ (semVal (sendC01 c) 0 ∗ semVal (recvC01 c) 0 ∗ semVal (credC01 c) 0) ∗ (semVal (sendC11 c) 0 ∗ semVal (recvC11 c) 0 ∗ semVal (credC11 c) 0))
theorem own_eq (c : Dev nD) : (Pipeline.ownSems0 (Ix := ℕ) (Name := ℕ) (U := UU) (Lvl := ℕ) (Val := Elt F) (τ := τ) osem c : sProp 𝕄)
    = iprop(semVal (sendC00 c) 0 ∗ semVal (sendC01 c) 0 ∗ semVal (sendC10 c) 0 ∗ semVal (sendC11 c) 0 ∗ semVal (recvC00 c) 0 ∗ semVal (recvC01 c) 0 ∗ semVal (recvC10 c) 0 ∗ semVal (recvC11 c) 0 ∗ semVal (credC00 c) 0 ∗ semVal (credC01 c) 0 ∗ semVal (credC10 c) 0 ∗ semVal (credC11 c) 0 ∗ semVal ((c : Thread nD τ), .dma stS00) 0 ∗ semVal ((c : Thread nD τ), .dma stS10) 0 ∗ semVal ((c : Thread nD τ), .dma stS01) 0 ∗ semVal ((c : Thread nD τ), .dma stS11) 0) :=
  Pipeline.ownSems0_eq_of_list c osem [0, 1, 2, 3, 4, 5, 6, 7, 8, 9, 10, 11, 12, 13, 14, 15] (by decide) (by decide)

theorem own_zeros (c : Dev nD) : (Pipeline.ownSems0 (Ix := ℕ) (Name := ℕ) (U := UU) (Lvl := ℕ) (Val := Elt F) (τ := τ) osem c : sProp 𝕄) ⊢ zeros c := by
  rw [own_eq]
  unfold zeros
  iintro ⟨Zs00, Zs01, Zs10, Zs11, Zv00, Zv01, Zv10, Zv11, Zk00, Zk01, Zk10, Zk11, Zt00, Zt10, Zt01, Zt11⟩
  isplitl [Zt00 Zt10 Zt01 Zt11]
  · isplitl [Zt00]; · iexact Zt00
    isplitl [Zt10]; · iexact Zt10
    isplitl [Zt01]; · iexact Zt01
    iexact Zt11
  isplitl [Zs00 Zv00 Zk00]
  · isplitl [Zs00]; · iexact Zs00
    isplitl [Zv00]; · iexact Zv00
    iexact Zk00
  isplitl [Zs10 Zv10 Zk10]
  · isplitl [Zs10]; · iexact Zs10
    isplitl [Zv10]; · iexact Zv10
    iexact Zk10
  isplitl [Zs01 Zv01 Zk01]
  · isplitl [Zs01]; · iexact Zs01
    isplitl [Zv01]; · iexact Zv01
    iexact Zk01
  isplitl [Zs11]; · iexact Zs11
  isplitl [Zv11]; · iexact Zv11
  iexact Zk11

theorem zeros_own (c : Dev nD) : (zeros c : sProp 𝕄) ⊢ Pipeline.ownSems0 (Ix := ℕ) (Name := ℕ) (U := UU) (Lvl := ℕ) (Val := Elt F) (τ := τ) osem c := by
  rw [own_eq]
  unfold zeros
  iintro ⟨⟨Zt00, Zt10, Zt01, Zt11⟩, ⟨Zs00, Zv00, Zk00⟩, ⟨Zs10, Zv10, Zk10⟩, ⟨Zs01, Zv01, Zk01⟩, ⟨Zs11, Zv11, Zk11⟩⟩
  isplitl [Zs00]; · iexact Zs00
  isplitl [Zs01]; · iexact Zs01
  isplitl [Zs10]; · iexact Zs10
  isplitl [Zs11]; · iexact Zs11
  isplitl [Zv00]; · iexact Zv00
  isplitl [Zv01]; · iexact Zv01
  isplitl [Zv10]; · iexact Zv10
  isplitl [Zv11]; · iexact Zv11
  isplitl [Zk00]; · iexact Zk00
  isplitl [Zk01]; · iexact Zk01
  isplitl [Zk10]; · iexact Zk10
  isplitl [Zk11]; · iexact Zk11
  isplitl [Zt00]; · iexact Zt00
  isplitl [Zt10]; · iexact Zt10
  isplitl [Zt01]; · iexact Zt01
  iexact Zt11

/-- The three cells of a quarter opened. -/
theorem open00 (X : Shards F) (κ : GSem nD τ sig → ℕ) (c : Dev nD) :
    iprop(env X κ ∗ (openTok ER (sendC00 c) ∗ openTok ER (recvC00 c) ∗ openTok ER (credC00 c)) ∗ semVal (sendC00 c) 0 ∗ semVal (recvC00 c) 0 ∗ semVal (credC00 c) 0)
      ⊢ (|={Set.univ}=> iprop(atPos ER (sendC00 c) 0 ∅ 0 ∗ atPos ER (recvC00 c) 0 ∅ 0 ∗ atPos ER (credC00 c) 0 ∅ 0 ∗ reached ER (sendC00 c) 0 ∗ reached ER (recvC00 c) 0 ∗ reached ER (credC00 c) 0) : sProp 𝕄) := by
  iintro ⟨#HE, ⟨Os, Ov, Ok⟩, Zs, Zv, Zk⟩
  ihave Is := (env_send00 X κ c) $$ HE
  ihave Iv := (env_recv00 X κ c) $$ HE
  ihave Ik := (env_cred00 X κ c) $$ HE
  imod (Rounds.cell_open ER (Rd X) (g := sendC00 c) (Set.mem_univ (κ (sendC00 c)))) $$ [Is Os Zs] with ⟨As, #Rs⟩
  · isplitl [Is]; · iexact Is
    isplitl [Os] <;> iassumption
  imod (Rounds.cell_open ER (Rd X) (g := recvC00 c) (Set.mem_univ (κ (recvC00 c)))) $$ [Iv Ov Zv] with ⟨Av, #Rv⟩
  · isplitl [Iv]; · iexact Iv
    isplitl [Ov] <;> iassumption
  imod (Rounds.cell_open ER (Rd X) (g := credC00 c) (Set.mem_univ (κ (credC00 c)))) $$ [Ik Ok Zk] with ⟨Ak, #Rk⟩
  · isplitl [Ik]; · iexact Ik
    isplitl [Ok] <;> iassumption
  imodintro
  isplitl [As]; · iexact As
  isplitl [Av]; · iexact Av
  isplitl [Ak]; · iexact Ak
  isplitr; · iexact Rs
  isplitr; · iexact Rv
  iexact Rk

/-- The three cells of a quarter opened. -/
theorem open10 (X : Shards F) (κ : GSem nD τ sig → ℕ) (c : Dev nD) :
    iprop(env X κ ∗ (openTok ER (sendC10 c) ∗ openTok ER (recvC10 c) ∗ openTok ER (credC10 c)) ∗ semVal (sendC10 c) 0 ∗ semVal (recvC10 c) 0 ∗ semVal (credC10 c) 0)
      ⊢ (|={Set.univ}=> iprop(atPos ER (sendC10 c) 0 ∅ 0 ∗ atPos ER (recvC10 c) 0 ∅ 0 ∗ atPos ER (credC10 c) 0 ∅ 0 ∗ reached ER (sendC10 c) 0 ∗ reached ER (recvC10 c) 0 ∗ reached ER (credC10 c) 0) : sProp 𝕄) := by
  iintro ⟨#HE, ⟨Os, Ov, Ok⟩, Zs, Zv, Zk⟩
  ihave Is := (env_send10 X κ c) $$ HE
  ihave Iv := (env_recv10 X κ c) $$ HE
  ihave Ik := (env_cred10 X κ c) $$ HE
  imod (Rounds.cell_open ER (Rd X) (g := sendC10 c) (Set.mem_univ (κ (sendC10 c)))) $$ [Is Os Zs] with ⟨As, #Rs⟩
  · isplitl [Is]; · iexact Is
    isplitl [Os] <;> iassumption
  imod (Rounds.cell_open ER (Rd X) (g := recvC10 c) (Set.mem_univ (κ (recvC10 c)))) $$ [Iv Ov Zv] with ⟨Av, #Rv⟩
  · isplitl [Iv]; · iexact Iv
    isplitl [Ov] <;> iassumption
  imod (Rounds.cell_open ER (Rd X) (g := credC10 c) (Set.mem_univ (κ (credC10 c)))) $$ [Ik Ok Zk] with ⟨Ak, #Rk⟩
  · isplitl [Ik]; · iexact Ik
    isplitl [Ok] <;> iassumption
  imodintro
  isplitl [As]; · iexact As
  isplitl [Av]; · iexact Av
  isplitl [Ak]; · iexact Ak
  isplitr; · iexact Rs
  isplitr; · iexact Rv
  iexact Rk

/-- The three cells of a quarter opened. -/
theorem open01 (X : Shards F) (κ : GSem nD τ sig → ℕ) (c : Dev nD) :
    iprop(env X κ ∗ (openTok ER (sendC01 c) ∗ openTok ER (recvC01 c) ∗ openTok ER (credC01 c)) ∗ semVal (sendC01 c) 0 ∗ semVal (recvC01 c) 0 ∗ semVal (credC01 c) 0)
      ⊢ (|={Set.univ}=> iprop(atPos ER (sendC01 c) 0 ∅ 0 ∗ atPos ER (recvC01 c) 0 ∅ 0 ∗ atPos ER (credC01 c) 0 ∅ 0 ∗ reached ER (sendC01 c) 0 ∗ reached ER (recvC01 c) 0 ∗ reached ER (credC01 c) 0) : sProp 𝕄) := by
  iintro ⟨#HE, ⟨Os, Ov, Ok⟩, Zs, Zv, Zk⟩
  ihave Is := (env_send01 X κ c) $$ HE
  ihave Iv := (env_recv01 X κ c) $$ HE
  ihave Ik := (env_cred01 X κ c) $$ HE
  imod (Rounds.cell_open ER (Rd X) (g := sendC01 c) (Set.mem_univ (κ (sendC01 c)))) $$ [Is Os Zs] with ⟨As, #Rs⟩
  · isplitl [Is]; · iexact Is
    isplitl [Os] <;> iassumption
  imod (Rounds.cell_open ER (Rd X) (g := recvC01 c) (Set.mem_univ (κ (recvC01 c)))) $$ [Iv Ov Zv] with ⟨Av, #Rv⟩
  · isplitl [Iv]; · iexact Iv
    isplitl [Ov] <;> iassumption
  imod (Rounds.cell_open ER (Rd X) (g := credC01 c) (Set.mem_univ (κ (credC01 c)))) $$ [Ik Ok Zk] with ⟨Ak, #Rk⟩
  · isplitl [Ik]; · iexact Ik
    isplitl [Ok] <;> iassumption
  imodintro
  isplitl [As]; · iexact As
  isplitl [Av]; · iexact Av
  isplitl [Ak]; · iexact Ak
  isplitr; · iexact Rs
  isplitr; · iexact Rv
  iexact Rk

/-- The three cells of a quarter opened. -/
theorem open11 (X : Shards F) (κ : GSem nD τ sig → ℕ) (c : Dev nD) :
    iprop(env X κ ∗ (openTok ER (sendC11 c) ∗ openTok ER (recvC11 c) ∗ openTok ER (credC11 c)) ∗ semVal (sendC11 c) 0 ∗ semVal (recvC11 c) 0 ∗ semVal (credC11 c) 0)
      ⊢ (|={Set.univ}=> iprop(atPos ER (sendC11 c) 0 ∅ 0 ∗ atPos ER (recvC11 c) 0 ∅ 0 ∗ atPos ER (credC11 c) 0 ∅ 0 ∗ reached ER (sendC11 c) 0 ∗ reached ER (recvC11 c) 0 ∗ reached ER (credC11 c) 0) : sProp 𝕄) := by
  iintro ⟨#HE, ⟨Os, Ov, Ok⟩, Zs, Zv, Zk⟩
  ihave Is := (env_send11 X κ c) $$ HE
  ihave Iv := (env_recv11 X κ c) $$ HE
  ihave Ik := (env_cred11 X κ c) $$ HE
  imod (Rounds.cell_open ER (Rd X) (g := sendC11 c) (Set.mem_univ (κ (sendC11 c)))) $$ [Is Os Zs] with ⟨As, #Rs⟩
  · isplitl [Is]; · iexact Is
    isplitl [Os] <;> iassumption
  imod (Rounds.cell_open ER (Rd X) (g := recvC11 c) (Set.mem_univ (κ (recvC11 c)))) $$ [Iv Ov Zv] with ⟨Av, #Rv⟩
  · isplitl [Iv]; · iexact Iv
    isplitl [Ov] <;> iassumption
  imod (Rounds.cell_open ER (Rd X) (g := credC11 c) (Set.mem_univ (κ (credC11 c)))) $$ [Ik Ok Zk] with ⟨Ak, #Rk⟩
  · isplitl [Ik]; · iexact Ik
    isplitl [Ok] <;> iassumption
  imodintro
  isplitl [As]; · iexact As
  isplitl [Av]; · iexact Av
  isplitl [Ak]; · iexact Ak
  isplitr; · iexact Rs
  isplitr; · iexact Rv
  iexact Rk

theorem opens_eq (c : Dev nD) : (bigSep (fam.dorm 0) (fun sm => openTok ER ((c : Thread nD τ), sm)) : sProp 𝕄)
    = iprop(openTok ER (sendC00 c) ∗ openTok ER (sendC01 c) ∗ openTok ER (sendC10 c) ∗ openTok ER (sendC11 c) ∗ openTok ER (recvC00 c) ∗ openTok ER (recvC01 c) ∗ openTok ER (recvC10 c) ∗ openTok ER (recvC11 c) ∗ openTok ER (credC00 c) ∗ openTok ER (credC01 c) ∗ openTok ER (credC10 c) ∗ openTok ER (credC11 c)) := by
  rw [show fam.dorm 0 = Finset.univ.map ⟨ringSems, ringSems_inj⟩ from rfl, bigSep_map, bigSep_univ_eq_bigSepL [0, 1, 2, 3, 4, 5, 6, 7, 8, 9, 10, 11] (by decide) (by decide)]
  rfl

/-- A device's neighbours. -/
def nbs (c : Dev nD) : Finset (Dev nD) := {lft c, rgt c}
/-- What the launch leaves with a device for the kernel. -/
def Tk (X : Shards F) (c : Dev nD) : sProp 𝕄 := iprop(fam.launched ER (Rd X) nbs c ∗ Pipeline.launchCred dues c)
/-- The protocol's part of what the body starts with. -/
def Xk (X : Shards F) (c : Dev nD) : sProp 𝕄 :=
  iprop(∃ κ, env X κ ∗ (semVal ((c : Thread nD τ), .dma stS00) 0 ∗ semVal ((c : Thread nD τ), .dma stS10) 0 ∗ semVal ((c : Thread nD τ), .dma stS01) 0 ∗ semVal ((c : Thread nD τ), .dma stS11) 0)
    ∗ fresh00 (F := F) c ∗ fresh10 (F := F) c ∗ fresh01 (F := F) c ∗ fresh11 (F := F) c ∗ meet (F := F) c ∗ fuel (F := F) c 61 ∗ lasts (F := F) c)

attribute [local irreducible] due fuel chain in
set_option maxHeartbeats 2000000 in
/-- Entering the kernel: its cells are opened, what the launch dealt is regrouped. -/
theorem opened (X : Shards F) (c : Dev nD) :
    iprop(Tk X c ∗ Pipeline.ownSems0 (Ix := ℕ) (Name := ℕ) (U := UU) (Lvl := ℕ) (Val := Elt F) (τ := τ) osem c ∗ levAts (L NN) lv) ⊢ (|={Set.univ}=> Xk X c : sProp 𝕄) := by
  have hrl : (bigSep (nbs c) fun n => reached ER (barC n) 0 : sProp 𝕄) ⊢ reached ER (barC (lft c)) 0 := bigSep_elim (Finset.mem_insert_self _ _)
  have hrr : (bigSep (nbs c) fun n => reached ER (barC n) 0 : sProp 𝕄) ⊢ reached ER (barC (rgt c)) 0 := bigSep_elim (Finset.mem_insert_of_mem (Finset.mem_singleton_self _))
  have hone : (bigSep Finset.univ fun j => fam.rides ER (Rd X) c j) = fam.rides ER (Rd X) c 0 := bigSep_univ_eq_bigSepL [0] (by decide) (by decide) _
  unfold Tk TalkSites.Fam.launched
  rw [hone]
  unfold TalkSites.Fam.barPos TalkSites.Fam.rides
  rw [opens_eq]
  iintro ⟨⟨⟨⟨⟨%κ, #HI⟩, Ab, #Hn⟩, -, ⟨Os00, Os01, Os10, Os11, Ov00, Ov01, Ov10, Ov11, Ok00, Ok01, Ok10, Ok11⟩, Htok⟩, Hc⟩, Hz, #Hl⟩
  ihave Hz' := (own_zeros (F := F) c) $$ Hz
  unfold zeros
  icases Hz' with ⟨Zt, Z00, Z10, Z01, Z11⟩
  ihave Hcc := (lc_dues (F := F) c) $$ Hc
  icases Hcc with ⟨Cb, Cr0, Cch⟩
  ihave Ht := (toks_of (F := F) c) $$ Htok
  icases Ht with ⟨⟨Tl, Tr⟩, T0, Tch⟩
  ihave Hf := (fuel_of (F := F) c 61 le_rfl) $$ [Cr0 Cch Tch]
  · isplitl [Cr0]; · iexact Cr0
    isplitl [Cch] <;> iassumption
  icases Hf with ⟨Hf, HL⟩
  ihave HE := (show iprop(fam.cellInvs ER (Rd X) κ ∗ levAts (L NN) lv) ⊢ env X κ from BI.Entails.refl _) $$ []
  · isplitr; · iexact HI
    iexact Hl
  icases HE with #HE
  imod (open00 X κ c) $$ [Os00 Ov00 Ok00 Z00] with F00
  · isplitr; · iexact HE
    isplitr [Z00]
    · isplitl [Os00]; · iexact Os00
      isplitl [Ov00] <;> iassumption
    iexact Z00
  imod (open10 X κ c) $$ [Os10 Ov10 Ok10 Z10] with F10
  · isplitr; · iexact HE
    isplitr [Z10]
    · isplitl [Os10]; · iexact Os10
      isplitl [Ov10] <;> iassumption
    iexact Z10
  imod (open01 X κ c) $$ [Os01 Ov01 Ok01 Z01] with F01
  · isplitr; · iexact HE
    isplitr [Z01]
    · isplitl [Os01]; · iexact Os01
      isplitl [Ov01] <;> iassumption
    iexact Z01
  imod (open11 X κ c) $$ [Os11 Ov11 Ok11 Z11] with F11
  · isplitr; · iexact HE
    isplitr [Z11]
    · isplitl [Os11]; · iexact Os11
      isplitl [Ov11] <;> iassumption
    iexact Z11
  imodintro
  unfold Xk TR
  icases T0 with ⟨⟨V00, V10, V01, V11⟩, S00, S10, S01, S11⟩
  iexists κ
  isplitr; · iexact HE
  isplitl [Zt]; · iexact Zt
  isplitl [F00 V00 S00]
  · unfold fresh00
    isplitl [F00]; · iexact F00
    isplitl [V00] <;> iassumption
  isplitl [F10 V10 S10]
  · unfold fresh10
    isplitl [F10]; · iexact F10
    isplitl [V10] <;> iassumption
  isplitl [F01 V01 S01]
  · unfold fresh01
    isplitl [F01]; · iexact F01
    isplitl [V01] <;> iassumption
  isplitl [F11 V11 S11]
  · unfold fresh11
    isplitl [F11]; · iexact F11
    isplitl [V11] <;> iassumption
  isplitl [Ab Tl Tr Cb]
  · unfold meet
    isplitr; · iapply hrl; iexact Hn
    isplitr; · iapply hrr; iexact Hn
    isplitl [Tl]; · iexact Tl
    isplitl [Tr]; · iexact Tr
    isplitl [Ab]; · iexact Ab
    iexact Cb
  isplitl [Hf]; · iexact Hf
  unfold lasts Rv
  iexact HL

end Cert.Proof.KernelIdeal
-- ==== Proof.KernelIdealHost.lean ====
/- The three words the host hands the kernel: the device's place on the ring and its two neighbours. -/
module

public import proofs.«01_k».proof.Proof.KernelIdealTop
public import proofs.«01_k».proof.Proof.Gen.KernelIdeal.Regions
public import Idealize.ShloMosaic.Lib.StableHlo.ReadAt

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)

variable {F : FTy → Type} [FloatOps F]

local notation "𝕄" => MT nD τ sig ℕ (Elt F) ℕ UU ℕ

variable (m : (ℓ : Loc nD τ sig) → Buf (Elt F) ℓ)

/-! ## The three words -/

/-- A word below 32, or with 32 added when negative, as the host's indexing reads it. -/
def wrap (b : BitVec 32) : BitVec 32 := Scalar.select (IntOp.cmpi .slt b 0#32) (IntOp.addi b 32#32) b
theorem self_word : ∀ c : Dev nD, wrap (IntOp.remui .host (IntOp.divui .host (Dev.word c) 1#32) 32#32) = wd c := by decide +kernel
theorem before_word : ∀ c : Dev nD, wrap (IntOp.remsi .host (IntOp.subi (IntOp.addi (wd c) 32#32) 1#32) 32#32) = wd (c - 1) := by decide +kernel
theorem after_word : ∀ c : Dev nD, wrap (IntOp.remsi .host (IntOp.addi (wd c) 1#32) 32#32) = wd (c + 1) := by decide +kernel
theorem table_rank : ∀ (c : Dev nD) (j : S1.Idx), Host.dynamicSlice S1 (fun i => lit1 (S32.rowMajor i)) (fun _ => (wd c).toInt) sliceFits_S32_S1 j = wd (rank c) := by decide +kernel
theorem table_lft : ∀ (c : Dev nD) (j : S1.Idx), Host.dynamicSlice S1 (fun i => lit0 (S32.rowMajor i)) (fun _ => (wd (rank c - 1)).toInt) sliceFits_S32_S1 j = wd (lft c) := by decide +kernel
theorem table_rgt : ∀ (c : Dev nD) (j : S1.Idx), Host.dynamicSlice S1 (fun i => lit0 (S32.rowMajor i)) (fun _ => (wd (rank c + 1)).toInt) sliceFits_S32_S1 j = wd (rgt c) := by decide +kernel

/-- The device's own number as the host reads it. -/
theorem host_self (c : Dev nD) : (StableHlo.upto (hostOps0 c) (V0 m c) 13 (Proc.devRef .tc main_v7) : Vec F S_ .i32) = fun _ => wd c := by
  after_reads_simp
  exact funext fun _ => self_word c
theorem at_one (f : Fin 1 → ℤ) (v : ℤ) (h : f 0 = v) : f = fun _ => v := funext fun k => by rw [Subsingleton.elim k 0, h]
/-- Its place on the ring. -/
theorem host_rank (c : Dev nD) : (StableHlo.upto (hostOps0 c) (V0 m c) 15 (Proc.devRef .tc main_v9) : Vec F S_ .i32) = fun _ => wd (rank c) := by
  after_reads_simp
  funext i
  refine Eq.trans (congrArg (fun f : Fin 1 → ℤ => shapeCast S_ (Host.dynamicSlice S1 (fun i => lit1 (S32.rowMajor i)) f sliceFits_S32_S1) shapeCasts_S1_S_ i)
    (at_one _ (wd c).toInt (congrArg (fun f : Vec F S_ .i32 => BitVec.toInt (f (Shape.Idx.first h_S_))) (host_self m c)))) ?_
  exact table_rank c _
theorem host_before (c : Dev nD) : (StableHlo.upto (hostOps0 c) (V0 m c) 26 (Proc.devRef .tc main_v15) : Vec F S_ .i32) = fun _ => wd (rank c - 1) := by
  after_reads_simp
  refine Eq.trans (congrArg (fun f : Vec F S_ .i32 => (select (cmpi .slt (Host.remsi (subi (addi f (constantI S_ 32 32#32)) (constantI S_ 32 1#32)) (constantI S_ 32 32#32)) (constantI S_ 32 0#32))
    (addi (Host.remsi (subi (addi f (constantI S_ 32 32#32)) (constantI S_ 32 1#32)) (constantI S_ 32 32#32)) (constantI S_ 32 32#32))
    (Host.remsi (subi (addi f (constantI S_ 32 32#32)) (constantI S_ 32 1#32)) (constantI S_ 32 32#32)) : Vec F S_ .i32)) (?_ : _ = fun _ => wd (rank c))) ?_
  · have h := host_rank m c; revert h; after_reads_simp; exact id
  exact funext fun _ => before_word (rank c)
theorem host_after (c : Dev nD) : (StableHlo.upto (hostOps0 c) (V0 m c) 37 (Proc.devRef .tc main_v22) : Vec F S_ .i32) = fun _ => wd (rank c + 1) := by
  after_reads_simp
  refine Eq.trans (congrArg (fun f : Vec F S_ .i32 => (select (cmpi .slt (Host.remsi (addi f (constantI S_ 32 1#32)) (constantI S_ 32 32#32)) (constantI S_ 32 0#32))
    (addi (Host.remsi (addi f (constantI S_ 32 1#32)) (constantI S_ 32 32#32)) (constantI S_ 32 32#32))
    (Host.remsi (addi f (constantI S_ 32 1#32)) (constantI S_ 32 32#32)) : Vec F S_ .i32)) (?_ : _ = fun _ => wd (rank c))) ?_
  · have h := host_rank m c; revert h; after_reads_simp; exact id
  exact funext fun _ => after_word (rank c)
theorem host_25 (c : Dev nD) : (StableHlo.upto (hostOps0 c) (V0 m c) 42 (Proc.devRef .tc main_v25) : Vec F S1 .i32) = fun _ => wd (rank c) := by
  after_reads_simp
  refine Eq.trans (congrArg (fun f : Vec F S_ .i32 => (broadcastInDim S1 ![] bcast_S_S1 f : Vec F S1 .i32)) (?_ : _ = fun _ => wd (rank c))) ?_
  · have h := host_rank m c; revert h; after_reads_simp; exact id
  rfl
theorem host_26 (c : Dev nD) : (StableHlo.upto (hostOps0 c) (V0 m c) 42 (Proc.devRef .tc main_v26) : Vec F S1 .i32) = fun _ => wd (lft c) := by
  after_reads_simp
  refine Eq.trans (congrArg (fun f : Fin 1 → ℤ => (broadcastInDim S1 ![] bcast_S_S1 (shapeCast S_ (Host.dynamicSlice S1 (fun i => lit0 (S32.rowMajor i)) f sliceFits_S32_S1) shapeCasts_S1_S_) : Vec F S1 .i32))
    (at_one _ (wd (rank c - 1)).toInt (congrArg (fun f : Vec F S_ .i32 => BitVec.toInt (f (Shape.Idx.first h_S_))) (host_before m c)))) ?_
  exact funext fun _ => table_lft c _
theorem host_27 (c : Dev nD) : (StableHlo.upto (hostOps0 c) (V0 m c) 42 (Proc.devRef .tc main_v27) : Vec F S1 .i32) = fun _ => wd (rgt c) := by
  after_reads_simp
  refine Eq.trans (congrArg (fun f : Fin 1 → ℤ => (broadcastInDim S1 ![] bcast_S_S1 (shapeCast S_ (Host.dynamicSlice S1 (fun i => lit0 (S32.rowMajor i)) f sliceFits_S32_S1) shapeCasts_S1_S_) : Vec F S1 .i32))
    (at_one _ (wd (rank c + 1)).toInt (congrArg (fun f : Vec F S_ .i32 => BitVec.toInt (f (Shape.Idx.first h_S_))) (host_after m c)))) ?_
  exact funext fun _ => table_rgt c _
theorem three : ∀ (a b d : BitVec 32) (j : S3.Idx), concatenate S3 0 [⟨S1, fun _ => a⟩, ⟨S1, fun _ => b⟩, ⟨S1, fun _ => d⟩] concatenates_S1_S1_S1_S3_d0 j
    = (match (j 0).val with | 0 => a | 1 => b | _ => d : BitVec 32) := by
  intro a b d j
  have e : ∀ a : Fin S3.rank, 3 = S3.size a := by decide
  obtain ⟨k, rfl⟩ : ∃ k : Fin 3, j = (fun a => Fin.cast (e a) k) := ⟨Fin.cast (e 0).symm (j 0), funext fun a => by
    obtain rfl : a = 0 := Fin.ext (Nat.lt_one_iff.mp a.isLt)
    rfl⟩
  fin_cases k <;> rfl
/-- The words the kernel is called with. -/
theorem v1_meta (c : Dev nD) : (V1 m c (Proc.devRef .tc main_v28) : Vec F S3 .i32) = metaV c := by
  show (StableHlo.after (hostOps0 c) (V0 m c) (Proc.devRef .tc main_v28) : Vec F S3 .i32) = metaV c
  after_reads_simp
  refine Eq.trans (congrArg₂ (fun f g : Vec F S1 .i32 => (concatenate S3 0 [⟨S1, f⟩, ⟨S1, g⟩, ⟨S1, (StableHlo.upto (hostOps0 c) (V0 m c) 42 (Proc.devRef .tc main_v27) : Vec F S1 .i32)⟩] concatenates_S1_S1_S1_S3_d0 : Vec F S3 .i32)) (host_25 m c) (host_26 m c)) ?_
  refine Eq.trans (congrArg (fun f : Vec F S1 .i32 => (concatenate S3 0 [⟨S1, fun _ => wd (rank c)⟩, ⟨S1, fun _ => wd (lft c)⟩, ⟨S1, f⟩] concatenates_S1_S1_S1_S3_d0 : Vec F S3 .i32)) (host_27 m c)) ?_
  exact funext fun j => three _ _ _ j

end Cert.Proof.KernelIdeal
-- ==== Proof.KernelIdealDat.lean ====
/- What the kernel's one grid point does on a device: the values before and after it, and the body's run between them. -/
module

public import proofs.«01_k».proof.Proof.KernelIdealFund
public import proofs.«01_k».proof.Proof.KernelIdealHost
public import proofs.«01_k».proof.Proof.Gen.KernelIdeal.Regions
public import proofs.«01_k».proof.Proof.Gen.KernelIdeal.Points
public import proofs.«01_k».proof.Proof.Gen.KernelIdeal.Launch

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)

variable {F : FTy → Type} [FloatOps F]

local notation "𝕄" => MT nD τ sig ℕ (Elt F) ℕ UU ℕ

/-! ## The result array, put together from the chunks passed round -/

/-- The round at which chunk `k` of half `d` comes by the device at place `r`, counted from the first complete chunk. -/
def when (d : Fin 2) (r k : Fin 32) : Fin 32 := if d = 0 then r - k + 1 else k - r + 1

theorem back_when : ∀ (d : Fin 2) (r k : Fin 32), back d r (31 + (when d r k).val) = k := by decide +kernel

/-- The half, the chunk, and the place in the chunk of an entry of the result. -/
def halfOf (i : S4096x8192.Idx) : Fin 2 := ⟨(i 1).val / 4096, by have h : (i 1).val < 8192 := (i 1).isLt; omega⟩
@[inherit_doc halfOf] def chunkOf (i : S4096x8192.Idx) : Fin 32 := ⟨(i 0).val / 128, by have h : (i 0).val < 4096 := (i 0).isLt; omega⟩
@[inherit_doc halfOf] def placeOf (i : S4096x8192.Idx) : S128x4096.Idx := fun a =>
  match a with
  | 0 => (⟨(i 0).val % 128, Nat.mod_lt _ (by decide)⟩ : Fin 128)
  | 1 => (⟨(i 1).val % 4096, Nat.mod_lt _ (by decide)⟩ : Fin 4096)

theorem opos_of (i : S4096x8192.Idx) : opos (halfOf i) (chunkOf i) (placeOf i) = i := by
  funext a
  match a with
  | 0 => exact Fin.ext (by show 128 * ((i 0).val / 128) + (i 0).val % 128 = (i 0).val; omega)
  | 1 => exact Fin.ext (by show 4096 * ((i 1).val / 4096) + (i 1).val % 4096 = (i 1).val; omega)

/-- The raw result the kernel leaves on device `c`. -/
def res (X : Shards F) (c : Dev nD) : Vec F S4096x8192 .f32 := fun i =>
  A X (halfOf i) (31 + (when (halfOf i) (rank c) (chunkOf i)).val) c (placeOf i)

theorem out_res (X : Shards F) (d : Fin 2) (c : Dev nD) (g : Vec F S4096x8192 .f32) (h : Out X d c 32 g) (i : S4096x8192.Idx) (hi : i ∈ ocol d) : g i = res X c i := by
  have hd : halfOf i = d := Fin.ext (Finset.mem_filter.mp hi).2
  have e := h (when d (rank c) (chunkOf i)).val (when d (rank c) (chunkOf i)).isLt (placeOf i)
  rw [back_when] at e
  unfold res
  rw [hd, ← e]
  congr 1
  rw [← hd]
  exact (opos_of i).symm

theorem ocol_disj : Disjoint (ocol 0) (ocol 1) := by
  rw [Finset.disjoint_left]
  intro i h0 h1
  have e0 := (Finset.mem_filter.mp h0).2
  have e1 := (Finset.mem_filter.mp h1).2
  rw [e0] at e1
  exact absurd e1 (by decide)
theorem ocol_univ : ocol 0 ∪ ocol 1 = Finset.univ := by
  refine Finset.eq_univ_iff_forall.mpr fun i => Finset.mem_union.mpr ?_
  have h : (i 1).val < 8192 := (i 1).isLt
  rcases Nat.lt_or_ge (i 1).val 4096 with hh | hh
  · exact .inl (Finset.mem_filter.mpr ⟨Finset.mem_univ _, by show _ = 0; omega⟩)
  · exact .inr (Finset.mem_filter.mpr ⟨Finset.mem_univ _, by show _ = 1; omega⟩)

/-- The whole raw result at contents. -/
def oFull (c : Dev nD) (g : Vec F S4096x8192 .f32) : sProp 𝕄 :=
  oM.view.loc (c : Thread nD τ) ↦{fullShare} (g : Buf (Elt F) (oM.view.loc (c : Thread nD τ)))

theorem o_halves (c : Dev nD) (g : Vec F S4096x8192 .f32) : (oFull c g : sProp 𝕄) ⊣⊢ iprop(oPts 0 c g ∗ oPts 1 c g) := by
  have h := @pointsTo_union nD τ sig ℕ _ (Elt F) ℕ _ UU _ ℕ (oM.view.loc (c : Thread nD τ)) (ocol 0) (ocol 1) fullShare (g : Buf (Elt F) (oM.view.loc (c : Thread nD τ))) ocol_disj
  rw [ocol_univ] at h
  exact h

/-- The two halves at the values the rounds left are the whole result. -/
theorem o_res (X : Shards F) (c : Dev nD) (g0 g1 : Vec F S4096x8192 .f32) (h0 : Out X 0 c 32 g0) (h1 : Out X 1 c 32 g1) :
    iprop(oPts 0 c g0 ∗ oPts 1 c g1) ⊢ (oFull c (res X c) : sProp 𝕄) := by
  have e0 : (oPts 0 c g0 : sProp 𝕄) = oPts 0 c (res X c) := pointsTo_congr fun i hi => out_res X 0 c g0 h0 i hi
  have e1 : (oPts 1 c g1 : sProp 𝕄) = oPts 1 c (res X c) := pointsTo_congr fun i hi => out_res X 1 c g1 h1 i hi
  rw [e0, e1]
  exact (o_halves c (res X c)).2

/-! ## The proof data of the kernel's one point -/

variable (m : (ℓ : Loc nD τ sig) → Buf (Elt F) ℓ)

/-- The blocks of the two arguments on the devices. -/
def shards : Shards F := ⟨fun c => m ((c : Thread nD τ).loc main_arg0), fun c => m ((c : Thread nD τ).loc main_arg1)⟩

/-- The buffer of the raw result, which the kernel addresses itself. -/
def rawRefs : Finset (DevRef τ sig) := {Proc.devRef .tc main_v29_0}

/-- What the program holds of the raw result when it holds a valuation. -/
theorem raw_eq (c : Dev nD) (V : Valuation τ sig (Elt F)) :
    (StableHlo.held (c : Thread nD τ) rawRefs V : sProp 𝕄) = oFull c (V (Proc.devRef .tc main_v29_0)) := by
  unfold StableHlo.held rawRefs
  rw [BI.bigSep_singleton]
  rfl

/-- The values of the buffers after the kernel: the raw result and its largest magnitude. -/
def outs : Outs (F := F) := fun _ r c =>
  Function.update (Function.update (V1 m c) (Proc.devRef .tc main_v29_1) ((fun _ => MM (shards m) c 31 : Vec F S1 .f32))) (Proc.devRef .tc main_v29_0) (res (shards m) c) (Proc.devRef .tc r)

theorem outs_raw (c : Dev nD) : (outs m 2 main_v29_0 c : Vec F S4096x8192 .f32) = res (shards m) c := by
  unfold outs
  exact Function.update_self _ _ _
theorem outs_max (c : Dev nD) : (outs m 2 main_v29_1 c : Vec F S1 .f32) = fun _ => MM (shards m) c 31 := by
  unfold outs
  rw [Function.update_of_ne (by decide)]
  exact Function.update_self _ _ _
theorem v2_raw (c : Dev nD) : (V2 m (outs m) c (Proc.devRef .tc main_v29_0) : Vec F S4096x8192 .f32) = res (shards m) c := by
  unfold V2
  exact (Function.update_self _ _ _).trans (outs_raw m c)
theorem v2_max (c : Dev nD) : (V2 m (outs m) c (Proc.devRef .tc main_v29_1) : Vec F S1 .f32) = fun _ => MM (shards m) c 31 := by
  unfold V2
  rw [Function.update_of_ne (by decide)]
  exact (Function.update_self _ _ _).trans (outs_max m c)
theorem v1_x (c : Dev nD) : (V1 m c (Proc.devRef .tc main_arg0) : Vec F S4096x128 .f32) = (shards m).x c := V1_of m c main_arg0 (by decide)
theorem v1_w (c : Dev nD) : (V1 m c (Proc.devRef .tc main_arg1) : Vec F S128x8192 .f32) = (shards m).w c := V1_of m c main_arg1 (by decide)

/-- Before the kernel: the scratch, the register, the raw result's buffer, the protocol's part. -/
def Phi0 (c : Dev nD) : sProp 𝕄 :=
  iprop(Pipeline.scopedRest spec0 c ∗ (∃ r, prngReg c r) ∗ StableHlo.held (c : Thread nD τ) rawRefs (V1 m c) ∗ Xk (shards m) c)
/-- After it: the same, the raw result at its value, every counter at zero. -/
def Phi1 (c : Dev nD) : sProp 𝕄 :=
  iprop(Pipeline.scopedRest spec0 c ∗ (∃ r, prngReg c r) ∗ StableHlo.held (c : Thread nD τ) rawRefs (V2 m (outs m) c) ∗ Pipeline.ownSems0 osem c ∗ semVal (barC c) 0)

/-- The proof data. -/
def pdats (_ : Fin 1) (c : Dev nD) : Pipeline.Dat τ (Elt F) ℕ ℕ UU ℕ cfg0 c where
  A w := V1 m c (Proc.devRef .tc (Pipeline.arrRef spec0 w))
  after w _ := match w with
    | ⟨0, _⟩ => metaV c
    | ⟨1, _⟩ => (shards m).x c
    | ⟨2, _⟩ => (shards m).w c
    | ⟨3, _⟩ => ((fun _ => MM (shards m) c 31 : Vec F S1 .f32))
  Φ t := match t with
    | ⟨0, _⟩ => Phi0 m c
    | ⟨_ + 1, _⟩ => Phi1 m c
  q _ := fullShare
  owed t := match t with
    | ⟨0, _⟩ => dues c
    | ⟨_ + 1, _⟩ => 0

theorem share_eq (c : Dev nD) (w : Fin cfg0.W) : (pdats m 0 c).share w = fullShare := by unfold Pipeline.Dat.share; split <;> rfl

theorem whole_owns (c : Dev nD) (b : Ref sig .tc) (v : b.ty.Contents (Elt F)) :
    (owns (Ix := ℕ) (Name := ℕ) (U := UU) (Lvl := ℕ) (c : Thread nD τ) (Memref.whole b) fullShare v : sProp 𝕄)
      = iprop(∃ f : Buf (Elt F) ((c : Thread nD τ).loc b), ⌜f = v⌝ ∗ (((c : Thread nD τ).loc b) ↦{fullShare} f)) := by
  unfold owns; simp only [Memref.view_whole, View.read_whole, View.set_whole]

theorem read_meta (f : Vec F S3 .i32) : ((win0_0.blk t0_0).view.read (Elt F) f : Vec F S3 .i32) = f := by
  have hz : (fun a => (win0_0.index t0_0) a * main_v28.ty.shape.size a) = fun _ => 0 := funext fun a => by fin_cases a <;> decide
  exact Memref.read_access_unit_zero (Elt F) main_v28 hz (fun a => by fin_cases a <;> decide) f
theorem before_meta (c : Dev nD) (d) : ((pdats m 0 c).before (0 : Fin 4) t0_0 d : Vec F S3 .i32) = metaV c := by
  unfold Pipeline.Dat.before
  rw [if_pos (fetch0_0 t0_0)]
  exact (read_meta _).trans (v1_meta m c)

theorem read_x (f : Vec F S4096x128 .f32) : ((win0_1.blk t0_0).view.read (Elt F) f : Vec F S4096x128 .f32) = f := by
  have hz : (fun a => (win0_1.index t0_0) a * main_arg0.ty.shape.size a) = fun _ => 0 := funext fun a => by fin_cases a <;> decide
  exact Memref.read_access_unit_zero (Elt F) main_arg0 hz (fun a => by fin_cases a <;> decide) f
theorem before_x (c : Dev nD) (d) : ((pdats m 0 c).before (1 : Fin 4) t0_0 d : Vec F S4096x128 .f32) = (shards m).x c := by
  unfold Pipeline.Dat.before
  rw [if_pos (fetch0_1 t0_0)]
  exact (read_x _).trans (v1_x m c)

theorem read_w (f : Vec F S128x8192 .f32) : ((win0_2.blk t0_0).view.read (Elt F) f : Vec F S128x8192 .f32) = f := by
  have hz : (fun a => (win0_2.index t0_0) a * main_arg1.ty.shape.size a) = fun _ => 0 := funext fun a => by fin_cases a <;> decide
  exact Memref.read_access_unit_zero (Elt F) main_arg1 hz (fun a => by fin_cases a <;> decide) f
theorem before_w (c : Dev nD) (d) : ((pdats m 0 c).before (2 : Fin 4) t0_0 d : Vec F S128x8192 .f32) = (shards m).w c := by
  unfold Pipeline.Dat.before
  rw [if_pos (fetch0_2 t0_0)]
  exact (read_w _).trans (v1_w m c)

theorem pts_meta (c : Dev nD) (f : cc0_stg0_0.ty.Contents (Elt F)) : (((c : Thread nD τ).loc cc0_stg0_0) ↦{fullShare} (f : Buf (Elt F) ((c : Thread nD τ).loc cc0_stg0_0)) : sProp 𝕄) = mPts c f := rfl
theorem pts_x (c : Dev nD) (f : cc0_stg1_0.ty.Contents (Elt F)) : (((c : Thread nD τ).loc cc0_stg1_0) ↦{fullShare} (f : Buf (Elt F) ((c : Thread nD τ).loc cc0_stg1_0)) : sProp 𝕄) = xPts c f := rfl
theorem pts_w (c : Dev nD) (f : cc0_stg2_0.ty.Contents (Elt F)) : (((c : Thread nD τ).loc cc0_stg2_0) ↦{fullShare} (f : Buf (Elt F) ((c : Thread nD τ).loc cc0_stg2_0)) : sProp 𝕄) = wPts c f := rfl
theorem pts_z (c : Dev nD) (f : cc0_stg3_0.ty.Contents (Elt F)) : (((c : Thread nD τ).loc cc0_stg3_0) ↦{fullShare} (f : Buf (Elt F) ((c : Thread nD τ).loc cc0_stg3_0)) : sProp 𝕄) = zPts c f := rfl

/-- A staging buffer at contents. -/
abbrev stg (c : Dev nD) (b : Ref sig .tc) (v : b.ty.Contents (Elt F)) : sProp 𝕄 :=
  iprop(∃ f : Buf (Elt F) ((c : Thread nD τ).loc b), ⌜f = v⌝ ∗ (((c : Thread nD τ).loc b) ↦{fullShare} f))

/-- The body's precondition at the one point. -/
def bodyPre (c : Dev nD) : sProp 𝕄 :=
  iprop(Phi0 m c ∗ (pdats m 0 c).owesAt 0 t0_0.castSucc
    ∗ (∃ d, stg c cc0_stg0_0 ((pdats m 0 c).before (0 : Fin 4) t0_0 d))
    ∗ (∃ d, stg c cc0_stg1_0 ((pdats m 0 c).before (1 : Fin 4) t0_0 d))
    ∗ (∃ d, stg c cc0_stg2_0 ((pdats m 0 c).before (2 : Fin 4) t0_0 d))
    ∗ (∃ d, stg c cc0_stg3_0 ((pdats m 0 c).before (3 : Fin 4) t0_0 d)))
/-- Its postcondition. -/
def bodyPost (c : Dev nD) : sProp 𝕄 :=
  iprop(Phi1 m c ∗ (pdats m 0 c).owesAt 0 t0_0.succ ∗ stg c cc0_stg0_0 (metaV (F := F) c) ∗ stg c cc0_stg1_0 ((shards m).x c) ∗ stg c cc0_stg2_0 ((shards m).w c)
    ∗ stg c cc0_stg3_0 ((fun _ => MM (shards m) c 31 : Vec F S1 .f32)))

theorem owes_in (c : Dev nD) : ((pdats m 0 c).owesAt 0 t0_0.castSucc : sProp 𝕄) ⊢ owesE c (dues c) := by
  unfold Pipeline.Dat.owesAt Pipeline.owesWithin owesE
  rw [show (pdats m 0 c).owed t0_0.castSucc = dues c from rfl]
  iintro ⟨%W, -, HO⟩; iexists W; iexact HO
theorem owes_out (c : Dev nD) : owesE c 0 ⊢ ((pdats m 0 c).owesAt 0 t0_0.succ : sProp 𝕄) := by
  unfold Pipeline.Dat.owesAt Pipeline.owesWithin owesE
  rw [show (pdats m 0 c).owed t0_0.succ = 0 from rfl]
  iintro ⟨%W, HO⟩; iexists W
  isplitr; · ipureintro; exact fun _ _ => Or.inl trivial
  iexact HO

attribute [local irreducible] due fuel dues

/-- What the point starts with makes what the body starts with. -/
theorem start_of (c : Dev nD) : bodyPre m c ⊢ (iprop(∃ κ, env (shards m) κ ∗ Start (shards m) c ∗ ∃ r, prngReg c r) : sProp 𝕄) := by
  unfold bodyPre Phi0 Xk
  rw [scopedRest0_eq, raw_eq]
  iintro ⟨⟨⟨HA0, HR0, HL0, HA1, HR1, HL1⟩, Hp, Hraw, ⟨%κ, #HE, Hst, H0, H1, H2, H3, Hm, Hf, Hl⟩⟩, Ho, ⟨%d0, %f0, %e0, Ht⟩, ⟨%d1, %f1, %e1, Hx⟩, ⟨%d2, %f2, %e2, Hw⟩, ⟨%d3, %f3, %e3, Hz⟩⟩
  have h0 : f0 = metaV (F := F) c := e0.trans (before_meta m c d0)
  have h1 : f1 = (shards m).x c := e1.trans (before_x m c d1)
  have h2 : f2 = (shards m).w c := e2.trans (before_w m c d2)
  subst h0 h1 h2
  ihave HO := (owes_in m c) $$ Ho
  ihave Hraw' := (o_halves c (V1 m c (Proc.devRef .tc main_v29_0))).1 $$ Hraw
  icases Hraw' with ⟨Ho0, Ho1⟩
  iexists κ
  isplitr; · iexact HE
  isplitr [Hp]
  · unfold Start
    isplitl [Ht]; · iapply (Entails.of_eq (pts_meta c _)); iexact Ht
    isplitl [Hx]; · iapply (Entails.of_eq (pts_x c _)); iexact Hx
    isplitl [Hw]; · iapply (Entails.of_eq (pts_w c _)); iexact Hw
    isplitl [Hz]; · iexists f3; iapply (Entails.of_eq (pts_z c f3)); iexact Hz
    isplitl [HL0]; · iexact HL0
    isplitl [HL1]; · iexact HL1
    isplitl [HA0]; · iexact HA0
    isplitl [HA1]; · iexact HA1
    isplitl [HR0]; · iexact HR0
    isplitl [HR1]; · iexact HR1
    isplitl [Ho0]; · iexists _; iexact Ho0
    isplitl [Ho1]; · iexists _; iexact Ho1
    isplitl [Hst]; · iexact Hst
    isplitl [H0]; · iexact H0
    isplitl [H1]; · iexact H1
    isplitl [H2]; · iexact H2
    isplitl [H3]; · iexact H3
    isplitl [Hm]; · iexact Hm
    isplitl [Hf]; · iexact Hf
    isplitl [Hl]; · iexact Hl
    iexact HO
  iexact Hp

/-- What the body ends with makes what the point ends with. -/
theorem post_of (c : Dev nD) : iprop(Done (shards m) c ∗ ∃ r, prngReg c r) ⊢ (bodyPost m c : sProp 𝕄) := by
  unfold bodyPost Phi1 Done
  rw [scopedRest0_eq, raw_eq, v2_raw]
  iintro ⟨⟨Ht, Hx, Hw, Hz, ⟨%g0, %h0, Ho0⟩, ⟨%g1, %h1, Ho1⟩, ⟨HL0, HL1, HA0, HA1, HR0, HR1⟩, Hst, H0, H1, H2, H3, Hb, HO⟩, Hp⟩
  isplitr [HO Ht Hx Hw Hz]
  · isplitl [HL0 HL1 HA0 HA1 HR0 HR1]
    · isplitl [HA0]; · iexact HA0
      isplitl [HR0]; · iexact HR0
      isplitl [HL0]; · iexact HL0
      isplitl [HA1]; · iexact HA1
      isplitl [HR1]; · iexact HR1
      iexact HL1
    isplitl [Hp]; · iexact Hp
    isplitl [Ho0 Ho1]
    · iapply (o_res (shards m) c g0 g1 h0 h1)
      isplitl [Ho0]; · iexact Ho0
      iexact Ho1
    isplitr [Hb]
    · iapply (zeros_own c)
      unfold zeros
      isplitl [Hst]; · iexact Hst
      isplitl [H0]; · iexact H0
      isplitl [H1]; · iexact H1
      isplitl [H2]; · iexact H2
      iexact H3
    iexact Hb
  isplitl [HO]; · iapply (owes_out m c); iexact HO
  isplitl [Ht]
  · iexists _; isplitr; · (ipureintro; rfl)
    iapply (Entails.of_eq (pts_meta c _).symm); iexact Ht
  isplitl [Hx]
  · iexists _; isplitr; · (ipureintro; rfl)
    iapply (Entails.of_eq (pts_x c _).symm); iexact Hx
  isplitl [Hw]
  · iexists _; isplitr; · (ipureintro; rfl)
    iapply (Entails.of_eq (pts_w c _).symm); iexact Hw
  iexists _; isplitr; · (ipureintro; rfl)
  iapply (Entails.of_eq (pts_z c _).symm); iexact Hz

/-- The body from the point's precondition to its postcondition. -/
theorem sound_body (c : Dev nD) : bodyPre m c ⊢ wp frame (wpE (defs₀ (F := F)) 𝒱₀ (c : Thread nD τ) none) Set.univ (cc0_body mM (Memref.isWhole_whole _) xM (Memref.isWhole_whole _) wM (Memref.isWhole_whole _) oM (Memref.isWhole_whole _) zM (Memref.isWhole_whole _) aM0 (Memref.isWhole_whole _) rM0 (Memref.isWhole_whole _) lM0 (Memref.isWhole_whole _) aM1 (Memref.isWhole_whole _) rM1 (Memref.isWhole_whole _) lM1 (Memref.isWhole_whole _) cc0_scratch6 cc0_scratch7 cc0_scratch8 cc0_scratch9 cc0_scratch10 cc0_scratch11 cc0_scratch12 cc0_scratch13 cc0_scratch14 cc0_scratch15) (fun _ => bodyPost m c) := by
  refine (start_of m c).trans ?_
  iintro ⟨%κ, #HE, HS, Hp⟩
  iapply (body_run (shards m) κ c) $$ [HS]
  · isplitr; · iexact HE
    iexact HS
  iintro HF
  imod (finish_done (shards m) κ c) $$ [HF] with HD
  · isplitr; · iexact HE
    iexact HF
  imodintro
  iapply (post_of m c)
  isplitl [HD]; · iexact HD
  iexact Hp

set_option maxRecDepth 4000 in
/-- The body's obligation at every grid point. -/
theorem body_obligation (c : Dev nD) : Pipeline.BodyObligation (pdats m 0 c) (defs₀ (F := F)) 𝒱₀ 0 Set.univ := fun t => by
  obtain rfl : t = t0_0 := fin_N0 t
  rw [show (bigSep Finset.univ _ : sProp 𝕄) = _ from bigSep_W0 _, show (bigSep Finset.univ _ : sProp 𝕄) = _ from bigSep_W0 _]
  simp only [whole_owns]
  exact sound_body m c

end Cert.Proof.KernelIdeal
-- ==== Proof.KernelIdealRun.lean ====
/- The whole program on the mesh: the launch, the kernel as a region between the host's stretches, and the final memory. -/
module

public import proofs.«01_k».proof.Proof.KernelIdealDat

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)

variable {F : FTy → Type} [FloatOps F]

local notation "𝕄" => MT nD τ sig ℕ (Elt F) ℕ UU ℕ

variable (m : (ℓ : Loc nD τ sig) → Buf (Elt F) ℓ) (ρ : Dev nD → PrngReg)

attribute [local irreducible] due fuel dues

/-! ## The kernel as a region -/

/-- The buffers beside the windows' arrays. -/
def restRefs : Finset (DevRef τ sig) := Pipeline.ucRefs τ sig \ Pipeline.arrRefs (τ := τ) spec0

theorem raw_rest : rawRefs ⊆ restRefs := by
  unfold rawRefs
  exact Finset.singleton_subset_iff.mpr (Finset.mem_sdiff.mpr ⟨Finset.mem_filter.mpr ⟨StableHlo.devRef_mem_tcRefs main_v29_0, by decide⟩, by decide⟩)
theorem arr_sub : Pipeline.arrRefs (τ := τ) spec0 ⊆ Pipeline.ucRefs τ sig := fun b hb => by
  obtain ⟨r, hr, rfl⟩ := Finset.mem_map.mp hb
  obtain ⟨w, -, rfl⟩ := Finset.mem_image.mp hr
  exact Finset.mem_filter.mpr ⟨StableHlo.devRef_mem_tcRefs _, by fin_cases w <;> decide⟩

theorem v2_ne (c : Dev nD) (b : DevRef τ sig) (h1 : b ≠ Proc.devRef .tc main_v29_1) (h0 : b ≠ Proc.devRef .tc main_v29_0) : V2 m (outs m) c b = V1 m c b := by
  unfold V2
  rw [Function.update_of_ne h0, Function.update_of_ne h1]

theorem max_arr : Proc.devRef (τ := τ) (sig := sig) .tc main_v29_1 ∈ Pipeline.arrRefs (τ := τ) spec0 := by decide

theorem rest_same (c : Dev nD) (b : DevRef τ sig) (hb : b ∈ restRefs \ rawRefs) : V2 m (outs m) c b = V1 m c b := by
  obtain ⟨h, hr⟩ := Finset.mem_sdiff.mp hb
  obtain ⟨-, ha⟩ := Finset.mem_sdiff.mp h
  refine v2_ne m c b (fun e => ha ?_) (fun e => hr ?_)
  · rw [e]; exact max_arr
  · rw [e]; exact Finset.mem_singleton_self _

theorem arr_first (c : Dev nD) (w : Fin 4) : (pdats m 0 c).arrAt w 0 = V1 m c (Proc.devRef .tc (Pipeline.arrRef spec0 w)) := rfl

theorem write_max (f v : Vec F S1 .f32) : ((win0_3.blk t0_0).view.write (Elt F) f v Finset.univ : Vec F S1 .f32) = v := by
  have hz : (fun a => (win0_3.index t0_0) a * main_v29_1.ty.shape.size a) = fun _ => 0 := funext fun a => by fin_cases a <;> decide
  exact Memref.write_access_unit_zero_univ (Elt F) main_v29_1 hz (fun a => by fin_cases a <;> decide) f v

theorem arr_last (c : Dev nD) (w : Fin 4) : (pdats m 0 c).arrAt w cfg0.N = V2 m (outs m) c (Proc.devRef .tc (Pipeline.arrRef spec0 w)) := by
  match w with
  | 0 => exact ((pdats m 0 c).arrAt_in (0 : Fin 4) rfl _).trans (v2_ne m c (Proc.devRef .tc (Pipeline.arrRef spec0 0)) (by decide) (by decide)).symm
  | 1 => exact ((pdats m 0 c).arrAt_in (1 : Fin 4) rfl _).trans (v2_ne m c (Proc.devRef .tc (Pipeline.arrRef spec0 1)) (by decide) (by decide)).symm
  | 2 => exact ((pdats m 0 c).arrAt_in (2 : Fin 4) rfl _).trans (v2_ne m c (Proc.devRef .tc (Pipeline.arrRef spec0 2)) (by decide) (by decide)).symm
  | 3 =>
    have e : (pdats m 0 c).arrAt (3 : Fin 4) cfg0.N = (((win0_3.blk t0_0).view.write (Elt F) ((pdats m 0 c).arrAt (3 : Fin 4) 0 : Vec F S1 .f32) (fun _ => MM (shards m) c 31 : Vec F S1 .f32) Finset.univ : Vec F S1 .f32)) := by
      rw [show cfg0.N = t0_0.val + 1 from rfl, (pdats m 0 c).arrAt_succ (3 : Fin 4) t0_0, if_pos (flush0_3 t0_0)]
      rfl
    exact e.trans ((write_max _ _).trans (v2_max m c).symm)

/-- The dues are above the staging cells' level. -/
theorem cut_dues (c : Dev nD) (g : GSem nD τ sig) (i : ℕ) (h : 0 < dues c g i) : i ∈ L NN g ∧ 0 < lv g i := by
  have hb : Ab 0 (dues c) := by
    unfold dues
    exact ab_add (ab_add (ab_add (ab_add (ab_add (ab_add (ab_due c 61 0 (by omega) (by omega)) (ab_tally _ _ _ _ (by omega) (by omega))) (ab_tally _ _ _ _ (by omega) (by omega))) (ab_tally _ _ _ _ (by omega) (by omega))) (ab_tally _ _ _ _ (by omega) (by omega))) (ab_tally _ _ _ _ (by omega) (by omega))) (ab_tally _ _ _ _ (by omega) (by omega))
  exact hb g i h

/-- What the region leaves: the barrier's counter at zero. -/
def Yk (c : Dev nD) : sProp 𝕄 := semVal (barC c) 0

theorem hin0 (c : Dev nD) : iprop(Pipeline.scopedRest spec0 c ∗ (∃ r, prngReg c r) ∗ StableHlo.held (c.tc : Thread nD τ) rawRefs (V1 m c) ∗ Xk (shards m) c)
    ⊢ (pdats m 0 c).Φ 0 := Entails.refl _
theorem hout0 (c : Dev nD) : (pdats m 0 c).Φ (Fin.last cfg0.N)
    ⊢ iprop(Pipeline.scopedRest spec0 c ∗ (∃ r, prngReg c r) ∗ StableHlo.held (c.tc : Thread nD τ) rawRefs (V2 m (outs m) c) ∗ Pipeline.ownSems0 osem c ∗ Yk c) := Entails.refl _

set_option backward.isDefEq.respectTransparency.types false in
/-- The kernel as a region of the program. -/
def reg0 : Pipeline.RegionSeg (pcfgs (F := F)) adm (pdats m) 0 defs₀ 𝒱₀ (L NN) lv 0 :=
  Pipeline.RegionSeg.ofTalk (pcfgs (F := F)) adm (pdats m) 0 defs₀ 𝒱₀ (L NN) lv 0 osem ownSemFacts
    rawRefs restRefs raw_rest launch0.toP rfl (fun c => (body_obligation m c).loose)
    (fun _ => 0) dues (fun c => (zero_add _).symm) (fun _ => rfl) (fun _ => rfl) (fun c w => share_eq m c w)
    (V1 m) (V2 m (outs m)) (rest_same m)
    (Tk (shards m)) Yk (Xk (shards m)) Yk (opened (shards m)) (hin0 m) (hout0 m)
    (fun c => by iintro H; imodintro; iexact H)
    (fun _ => 0)
    ⟨fun c w s => SiteBlocks.mem_L c _ (by decide), fun c w s => Nat.le_refl _, fun c t g i h => by
      rcases t with ⟨_ | _, ht⟩
      · exact cut_dues c g i h
      · exact absurd h (Nat.lt_irrefl 0)⟩
    (fun _ => iprop(emp))
    (arr_first m) (arr_last m)

/-- What rides beside the buffers before the kernel and after it. -/
def Ride : Fin 2 → Dev nD → sProp 𝕄
  | 0 => fun c => iprop((∃ r, prngReg c r) ∗ Tk (shards m) c ∗ owesE c (dues c))
  | 1 => fun c => iprop(semVal (barC c) 0 ∗ owesE c 0)

theorem held_parts (c : Dev nD) (V : Valuation τ sig (Elt F)) : (StableHlo.held (c : Thread nD τ) (Pipeline.ucRefs τ sig) V : sProp 𝕄)
    = iprop(StableHlo.held (c : Thread nD τ) (Pipeline.arrRefs (τ := τ) spec0) V ∗ StableHlo.held (c : Thread nD τ) restRefs V) :=
  StableHlo.held_sub_split (c.tc : Thread nD τ) arr_sub V

theorem reg0_pre (c : Dev nD) : iprop(StableHlo.held (c : Thread nD τ) (Pipeline.ucRefs τ sig) (V1 m c) ∗ Ride m 0 c) ⊢ (reg0 m).pre c := by
  show _ ⊢ iprop(StableHlo.held (c.tc : Thread nD τ) (Pipeline.arrRefs (τ := τ) spec0) (V1 m c) ∗ (∃ r, prngReg c r)
    ∗ (StableHlo.held (c.tc : Thread nD τ) restRefs (V1 m c) ∗ emp) ∗ Tk (shards m) c ∗ ∃ Wd, owes (c : Thread nD τ) (0 + dues c) Wd)
  rw [held_parts, zero_add]
  unfold Ride owesE
  iintro ⟨⟨Ha, Hr⟩, Hp, HT, HO⟩
  isplitl [Ha]; · iexact Ha
  isplitl [Hp]; · iexact Hp
  isplitl [Hr]
  · isplitl [Hr]; · iexact Hr
    iempintro
  isplitl [HT]; · iexact HT
  iexact HO

theorem reg0_post (c : Dev nD) : (reg0 m).post c ⊢ iprop(StableHlo.held (c : Thread nD τ) (Pipeline.ucRefs τ sig) (V2 m (outs m) c) ∗ Ride m 1 c) := by
  show iprop(StableHlo.held (c.tc : Thread nD τ) (Pipeline.arrRefs (τ := τ) spec0) (V2 m (outs m) c) ∗ (∃ r, prngReg c r)
    ∗ (StableHlo.held (c.tc : Thread nD τ) restRefs (V2 m (outs m) c) ∗ emp) ∗ Yk c ∗ ∃ Wd, owes (c : Thread nD τ) (0 : CellTallies nD τ sig ℕ) Wd) ⊢ _
  rw [held_parts]
  unfold Ride Yk owesE
  iintro ⟨Ha, -, ⟨Hr, -⟩, Hb, HO⟩
  isplitl [Ha Hr]
  · isplitl [Ha]; · iexact Ha
    iexact Hr
  isplitl [Hb]; · iexact Hb
  iexact HO

/-! ## The launch -/

/-- A resource, all of it on one device. -/
def parked (P : sProp 𝕄) (c : Dev nD) : sProp 𝕄 := if c = 0 then P else iprop(emp)
theorem parked_all (P : sProp 𝕄) : bigSep Finset.univ (parked P) = P := by
  rw [bigSep_univ_at _ 0, bigSep_congr (s := Finset.univ.erase 0) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

/-- The protocol's launch element, and the whole one. -/
def uR : UB := launchOf fam.S fam.Sd fam.T
@[inherit_doc uR] def u₀ : UU := (initOf (Pipeline.cells cfgs cellOf_inj) (Pipeline.launchToks cfgs cellOf_inj), (uR, (1 : Counters)))

theorem u₀_parts : (ownU u₀ : sProp 𝕄) ⊢ iprop(BI.own (EP (initOf (Pipeline.cells cfgs cellOf_inj) (Pipeline.launchToks cfgs cellOf_inj))) ∗ BI.own (ER uR)) :=
  BI.own_op_elim ((uEmb (nD := nD) (sig := sig) (Ix := ℕ) (Val := Elt F) (Name := ℕ) (U := UU) (Lvl := ℕ)).toEmb.op_of_mem
    (Prod.mk_mem_op (URA.mem_op_one (initOf (Pipeline.cells cfgs cellOf_inj) (Pipeline.launchToks cfgs cellOf_inj))) (URA.mem_one_op (uR, (1 : Counters)))))

theorem sems_bar (c : Dev nD) : (unscopedSems0 c : sProp 𝕄) = semVal (barC c) 0 := by
  unfold unscopedSems0
  rw [show (Finset.univ.filter fun sm : SemLoc sig => ¬ sm.isScoped .tc) = {SemLoc.reg barS} from by decide, BI.bigSep_singleton]

/-- The protocol's tokens and positions, made of the barrier counters, the launch credit and the launch element. -/
theorem funded (X : Shards F) : iprop((bigSep Finset.univ fun c : Dev nD => iprop(semVal (barC c) 0 ∗ Pipeline.launchCred dues c)) ∗ BI.own (ER uR))
    ⊢ (|={Set.univ}=> bigSep Finset.univ fun c => iprop(Pipeline.launchCred dues c ∗ fam.launched ER (Rd X) nbs c) : sProp 𝕄) := by
  have h := TalkSites.pass dues (fam.funds ER (Rd X) (fun _ _ h => h) nbs (Es := Set.univ))
  have e : (fun d : Dev nD => (0 : CellTallies nD τ sig ℕ) + dues d) = dues := funext fun d => zero_add _
  rw [e] at h
  exact h

theorem launch (c : Dev nD) : iprop(unscopedSems0 c ∗ owes (c : Thread nD τ) (dues c) ∅ ∗ Pipeline.launchCred dues c ∗ prngReg c (ρ c) ∗ parked (BI.own (ER uR)) c)
    ⊢ (iprop((semVal (barC c) 0 ∗ Pipeline.launchCred dues c) ∗ ((∃ r, prngReg c r) ∗ owesE c (dues c)) ∗ parked (BI.own (ER uR)) c) : sProp 𝕄) := by
  rw [sems_bar]
  unfold owesE
  iintro ⟨Hb, HO, Hc, Hp, HG⟩
  isplitl [Hb Hc]
  · isplitl [Hb]; · iexact Hb
    iexact Hc
  isplitl [Hp HO]
  · isplitl [Hp]; · iexists _; iexact Hp
    iexists _; iexact HO
  iexact HG

theorem ride_of (c : Dev nD) : iprop((Pipeline.launchCred dues c ∗ fam.launched ER (Rd (shards m)) nbs c) ∗ ((∃ r, prngReg c r) ∗ owesE c (dues c))) ⊢ (Ride m 0 c : sProp 𝕄) := by
  unfold Ride Tk
  iintro ⟨⟨Hc, HL⟩, Hp, HO⟩
  isplitl [Hp]; · iexact Hp
  isplitl [Hc HL]
  · isplitl [HL]; · iexact HL
    iexact Hc
  iexact HO

theorem launch_split : (bigSep Finset.univ fun c : Dev nD => iprop((semVal (barC c) 0 ∗ Pipeline.launchCred dues c) ∗ ((∃ r, prngReg c r) ∗ owesE c (dues c)) ∗ parked (BI.own (ER uR)) c))
    ⊢ (iprop((bigSep Finset.univ fun c : Dev nD => iprop(semVal (barC c) 0 ∗ Pipeline.launchCred dues c)) ∗ (bigSep Finset.univ fun c : Dev nD => iprop((∃ r, prngReg c r) ∗ owesE c (dues c))) ∗ BI.own (ER uR)) : sProp 𝕄) := by
  have e1 := bigSep_sep' (Finset.univ : Finset (Dev nD)) (fun c : Dev nD => (iprop((∃ r, prngReg c r) ∗ owesE c (dues c)) : sProp 𝕄)) (parked (BI.own (ER uR)))
  rw [parked_all] at e1
  have e0 := bigSep_sep' (Finset.univ : Finset (Dev nD)) (fun c : Dev nD => (iprop(semVal (barC c) 0 ∗ Pipeline.launchCred dues c) : sProp 𝕄)) (fun c : Dev nD => (iprop(((∃ r, prngReg c r) ∗ owesE c (dues c)) ∗ parked (BI.own (ER uR)) c) : sProp 𝕄))
  rw [e1] at e0
  exact Entails.of_eq e0

theorem launch_join : iprop((bigSep Finset.univ fun c : Dev nD => iprop(semVal (barC c) 0 ∗ Pipeline.launchCred dues c)) ∗ (bigSep Finset.univ fun c : Dev nD => iprop((∃ r, prngReg c r) ∗ owesE c (dues c))) ∗ BI.own (ER uR))
    ⊢ (|={Set.univ}=> bigSep Finset.univ (Ride m 0) : sProp 𝕄) := by
  iintro ⟨Hs, Hp, Hu⟩
  imod (funded (shards m)) $$ [Hs Hu] with HT
  · isplitl [Hs]; · iexact Hs
    iexact Hu
  imodintro
  iapply (show iprop((bigSep Finset.univ fun c : Dev nD => iprop(Pipeline.launchCred dues c ∗ fam.launched ER (Rd (shards m)) nbs c)) ∗ (bigSep Finset.univ fun c : Dev nD => iprop((∃ r, prngReg c r) ∗ owesE c (dues c))))
      ⊢ (bigSep Finset.univ (Ride m 0) : sProp 𝕄) from by rw [← bigSep_sep']; exact bigSep_mono fun c _ => ride_of m c)
  isplitl [HT]; · iexact HT
  iexact Hp

/-- Every device's share of the launch becomes what rides beside its buffers. -/
theorem launch_all : (bigSep Finset.univ fun c : Dev nD => iprop(unscopedSems0 c ∗ owes (c : Thread nD τ) (dues c) ∅ ∗ Pipeline.launchCred dues c ∗ prngReg c (ρ c) ∗ parked (BI.own (ER uR)) c))
    ⊢ (|={Set.univ}=> bigSep Finset.univ (Ride m 0) : sProp 𝕄) :=
  ((bigSep_mono fun c _ => launch ρ c).trans launch_split).trans (launch_join m)

theorem L_of_ne (g : GSem nD τ sig) (h : g.1.2 ≠ .tc) : L NN g = ∅ := if_neg h
theorem unscoped_bar : ∀ sm : SemLoc sig, sm.isScoped .tc = false → sm = .reg barS := by decide

/-- What holds of device `c` at the end: its arguments unchanged, its result at the value the host computes, its barrier counter at zero. -/
def Ends (c : Dev nD) (s : MemSt nD τ sig (Elt F)) : Prop :=
  ((s.mem ((c.tc : Thread nD τ).loc main_arg0) = m ((c.tc : Thread nD τ).loc main_arg0) ∧ s.mem ((c.tc : Thread nD τ).loc main_arg1) = m ((c.tc : Thread nD τ).loc main_arg1))
    ∧ s.mem ((c.tc : Thread nD τ).loc main_v37) = V7 m (outs m) c (Proc.devRef .tc main_v37)) ∧ s.sem (barC c) = 0

set_option backward.isDefEq.respectTransparency.types false in
/-- Every run of the program on the mesh ends, with the arguments unchanged, every result at the computed value and every counter at zero. -/
theorem run_main : θ_run defs (onTc (τ := τ) (main (F := F))) ⟨m, fun _ => 0, ρ⟩ (fun r => (∀ c : Dev nD,
      (r.2.mem ((c.tc : Thread nD τ).loc main_arg0) = m ((c.tc : Thread nD τ).loc main_arg0) ∧ r.2.mem ((c.tc : Thread nD τ).loc main_arg1) = m ((c.tc : Thread nD τ).loc main_arg1))
      ∧ r.2.mem ((c.tc : Thread nD τ).loc main_v37) = V7 m (outs m) c (Proc.devRef .tc main_v37)) ∧ r.2.sem = fun _ => 0) := by
  refine Pipeline.θ_run_regions_kit_dev_sems (pcfgs (F := F)) adm (pdats m) 0 cellOf_inj EP defs₀ 𝒱₀ (L NN) lv m ρ main
    (segs m (outs m) 𝒱₀ (L NN) lv (Ride m) 0 (pdats m) (reg0 m))
    (fun c Q => by
      rewrite [main_chain c, Pipeline.Seg.run_eq_chain,
        show (segs m (outs m) 𝒱₀ (L NN) lv (Ride m) 0 (pdats m) (reg0 m) c).map Pipeline.Seg.prog = [
          StableHlo.seq (hostOps0 c),
          Prog.lift (.customCall (Pipeline.entry 0) ()),
          StableHlo.seq hostOps1,
          StableHlo.seq hostOps1_1,
          StableHlo.seq hostOps1_2,
          StableHlo.seq hostOps1_3,
          StableHlo.seq hostOps1_4 ] from rfl]
      dsimp (config := { failIfUnchanged := false }) only
      exact .rfl)
    (fun c => by simp only [segs, Pipeline.Seg.pipes_host, Pipeline.Seg.pipes_region, Pipeline.Seg.pipes_nil]; decide) dues L_of_ne (parked (BI.own (ER uR))) u₀
    (by
      iintro Hu
      ihave H := (u₀_parts (F := F)) $$ Hu
      icases H with ⟨HP, HX⟩
      imodintro
      isplitl [HP]; · iexact HP
      rw [parked_all]; iexact HX)
    (T₀ := fun c => iprop(StableHlo.held (c : Thread nD τ) (Pipeline.ucRefs τ sig) (V0 m c) ∗ Ride m 0 c))
    (Tₙ := fun c => iprop(StableHlo.held (c : Thread nD τ) (Pipeline.ucRefs τ sig) (V7 m (outs m) c) ∗ semVal (barC c) 0))
    (hch := fun c => ⟨.rfl, reg0_pre m c, reg0_post m c, .rfl, .rfl, .rfl, .rfl, by
      show iprop(StableHlo.held (c : Thread nD τ) (Pipeline.ucRefs τ sig) (V7 m (outs m) c) ∗ (semVal (barC c) 0 ∗ ∃ W, owes (c : Thread nD τ) (0 : CellTallies nD τ sig ℕ) W))
        ⊢ iprop((StableHlo.held (c : Thread nD τ) (Pipeline.ucRefs τ sig) (V7 m (outs m) c) ∗ semVal (barC c) 0) ∗ ∃ W, owes (c : Thread nD τ) (0 : CellTallies nD τ sig ℕ) W)
      iintro ⟨Hh, Hb, HO⟩
      isplitr [HO]
      · isplitl [Hh]; · iexact Hh
        iexact Hb
      iexact HO⟩)
    (hinit := ?_) (QY := Ends m)
    (hfin := fun c s' => ?_)
    (hQ := fun s h hs => ⟨fun c => (h c).1, sem_eq_zero hs fun c sm hsm => by
      obtain rfl := unscoped_bar sm hsm
      exact (h c).2⟩)
  · have hsplit : (bigSep Finset.univ fun c : Dev nD => iprop(unscopedBufs c (fun b => m ((c.tc : Thread nD τ).loc b)) ∗ unscopedSems0 c
          ∗ owes (c.tc : Thread nD τ) (dues c) ∅ ∗ Pipeline.launchCred dues c ∗ prngReg c (ρ c) ∗ parked (BI.own (ER uR)) c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (dues c) ∅ ∗ Pipeline.launchCred dues c ∗ prngReg c (ρ c) ∗ parked (BI.own (ER uR)) c))
            : sProp 𝕄) := by
      rw [← bigSep_sep']
      exact bigSep_mono fun c _ => by rw [← Pipeline.unscopedBufs_held (Ix := ℕ) (Name := ℕ) (U := UU) (Lvl := ℕ) c (V0 m c)]; exact BI.Entails.refl _
    iintro ⟨H, -⟩
    ihave H' := hsplit $$ H
    icases H' with ⟨Hh, Hr⟩
    imod (launch_all m ρ) $$ Hr with HE
    imodintro
    rw [bigSep_sep']
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (V7 m (outs m) c) s') $$ [Hh HSI]
    · isplitl [Hh]; · iexact Hh
      iexact HSI
    icases Hr with ⟨%h, HSI⟩
    imodintro
    isplitr
    · ipureintro
      exact ⟨⟨⟨(h (Proc.devRef .tc main_arg0) (Finset.mem_filter.mpr ⟨StableHlo.devRef_mem_tcRefs main_arg0, by decide⟩)).trans (V7_main_arg0 m (outs m) c),
        (h (Proc.devRef .tc main_arg1) (Finset.mem_filter.mpr ⟨StableHlo.devRef_mem_tcRefs main_arg1, by decide⟩)).trans (V7_main_arg1 m (outs m) c)⟩,
        h (Proc.devRef .tc main_v37) (Finset.mem_filter.mpr ⟨StableHlo.devRef_mem_tcRefs main_v37, by decide⟩)⟩, by simpa using hb⟩
    · iexact HSI

end Cert.Proof.KernelIdeal
-- ==== Proof.Frames.lean ====
/- The printed kernel and its reading at the idealized instance are one program: every definition of the one is the other's. -/
module

public import proofs.«01_k».proof.Defs
public import proofs.«01_k».proof.Proof.Gen.Kernel.Launch
public import proofs.«01_k».proof.Proof.KernelIdealRun
public import proofs.«01_k».proof.Proof.Gen.ReferenceIdeal.Run

@[expose] public section

set_option maxHeartbeats 0

noncomputable section

namespace Cert.Proof.Frames

open Idealize.ShloMosaic Idealize.ShloMosaic.TcCoe

section Same
variable [Cert.Kernel.Facts] [Cert.KernelIdeal.Facts] {F : FTy → Type} [FloatOps F]

theorem body_eq : Cert.Kernel.cc0_body (F := F) = Cert.KernelIdeal.cc0_body (F := F) := rfl
/-- At every label the two body tables hold the same program. -/
theorem defs0_at : (l : Cert.Kernel.Λ₀.Label) → (a : Cert.Kernel.Λ₀.Args l) → Cert.Kernel.defs₀ (F := F) .tc l a = Cert.KernelIdeal.defs₀ (F := F) .tc l a
  | ⟨0, _⟩, (t, s) => rfl
  | ⟨_ + 1, h⟩, _ => absurd h (Nat.not_lt.2 (Nat.le_add_left _ _))
theorem defs0_eq : Cert.Kernel.defs₀ (F := F) = Cert.KernelIdeal.defs₀ (F := F) := by
  funext p
  match p with
  | .tc => funext l a; exact defs0_at l a
  | .scScalar _ => rfl
  | .scVector _ _ => rfl
/-- The two programs have one body table, -/
theorem defs_eq : Cert.Kernel.defs (F := F) = Cert.KernelIdeal.defs (F := F) := by
  unfold Cert.Kernel.defs Cert.KernelIdeal.defs
  rw [defs0_eq]
  rfl
end Same

variable {F : FTy → Type} [FloatOps F]

theorem host0_eq (c : Dev Cert.Kernel.nD) : Cert.Kernel.Gen.hostOps0 (F := F) c = Cert.KernelIdeal.Gen.hostOps0 (F := F) c := rfl
theorem host1_eq : Cert.Kernel.Gen.hostOps1 (F := F) = Cert.KernelIdeal.Gen.hostOps1 (F := F) := rfl
theorem host2_eq : Cert.Kernel.Gen.hostOps1_1 (F := F) = Cert.KernelIdeal.Gen.hostOps1_1 (F := F) := rfl
theorem host3_eq : Cert.Kernel.Gen.hostOps1_2 (F := F) = Cert.KernelIdeal.Gen.hostOps1_2 (F := F) := rfl
theorem host4_eq : Cert.Kernel.Gen.hostOps1_3 (F := F) = Cert.KernelIdeal.Gen.hostOps1_3 (F := F) := rfl
theorem host5_eq : Cert.Kernel.Gen.hostOps1_4 (F := F) = Cert.KernelIdeal.Gen.hostOps1_4 (F := F) := rfl
/-- and one main program, stretch by stretch. -/
theorem main_eq : Cert.Kernel.main (F := F) = Cert.KernelIdeal.main (F := F) := by
  funext c
  refine (Cert.Kernel.Gen.main_chain (F := F) c).trans (Eq.trans ?_ (Cert.KernelIdeal.Gen.main_chain (F := F) c).symm)
  rw [host0_eq, host1_eq, host2_eq, host3_eq, host4_eq, host5_eq]

/-- A run of the idealized reading, its arguments unchanged and every counter at zero, at any float instance. -/
theorem run_same (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun r h => ⟨fun c => (h.1 c).1, h.2⟩) (Cert.Proof.KernelIdeal.run_main m g)

/-- The kernel's frame. -/
theorem frame_kernel : Cert.quiescent_Kernel (hKernel := Cert.Kernel.Gen.facts) := fun m g _ => by
  rw [main_eq, defs_eq]
  exact run_same (F := Bits) m g

/-- The idealized reading's frame. -/
theorem frame_ideal : Cert.quiescent_KernelIdeal (hKernelIdeal := Cert.KernelIdeal.Gen.facts) := fun m g _ => run_same (F := Ideal) m g

/-- The reference's frame: straight-line host code that declares no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

end Cert.Proof.Frames

end
-- ==== Proof.KernelIdealValue.lean ====
/- The value of the kernel over the extended reals: each entry of the raw result is the sum over all the devices of
   their partial products, and the largest magnitude is the largest over all the entries. -/
module

public import proofs.«01_k».proof.Proof.KernelIdealDat
public import Idealize.ShloMosaic.Lib.MatmulPlain
public import Idealize.ShloMosaic.Lib.KernelVsHost
public import Idealize.ShloMosaic.Lib.Pipeline.Value
public import Idealize.ShloMosaic.Lib.Pipeline.ValueKit.Tiles

@[expose] public section

noncomputable section

namespace Cert.Proof.KernelIdeal

open Cert.KernelIdeal Cert.KernelIdeal.Gen
open Idealize.ShloMosaic Idealize.ShloMosaic.TcCoe

open scoped BigOperators

/-! ## Partial products -/

variable (X : Shards Ideal)

/-- Device `c`'s share of entry `q` of the product: its columns of `x` against its rows of `w`. -/
def share (c : Dev nD) (q : S4096x8192.Idx) : EReal := ∑ k : Fin 128, (X.x c (ValueIdx.ix2 (q 0) k) : EReal) * X.w c (ValueIdx.ix2 k (q 1))

/-- Entry `q` of the product: the sum over the devices. -/
def total (q : S4096x8192.Idx) : EReal := ∑ c : Dev nD, share X c q

/-- A partial product read at a place is the device's share of the entry at that place. -/
theorem part_at (d : Fin 2) (c : Dev nD) (i : Fin 32) (p : S128x4096.Idx) : (part X d c i p : EReal) = share X c (opos d i p) := by
  unfold part k0_pay1
  simp only [shapeCast_self]
  rw [ValueIdx.eq_ix2 p]
  refine (Ideal.matmul_plain_apply (M := 128) (K := 128) (N := 4096) none (chunkX (X.x c) i) (halfW (X.w c) d) (constant S128x4096 .f32 0x00000000#32) (p 0) (p 1)).trans ?_
  rw [show (constant (F := Ideal) S128x4096 .f32 0x00000000#32 (ValueIdx.ix2 (p 0) (p 1)) : EReal) = 0 from Ideal.ofBits_zero_f32, zero_add]
  unfold share chunkX halfW
  refine Finset.sum_congr rfl fun k _ => ?_
  refine congrArg₂ (fun a b : EReal => a * b) (congrArg (X.x c) (funext fun a => Fin.ext ((Rect.idx_unit_val _ _ _ _ a).trans ?_))) (congrArg (X.w c) (funext fun a => Fin.ext ((Rect.idx_unit_val _ _ _ _ a).trans ?_)))
  · match a with
    | ⟨0, _⟩ => rfl
    | ⟨1, _⟩ => exact Nat.zero_add _
  · match a with
    | ⟨0, _⟩ => exact Nat.zero_add _
    | ⟨1, _⟩ => rfl

/-! ## Sums round the ring -/

theorem ofNat_succ (k : ℕ) : Fin.ofNat 32 (k + 1) = Fin.ofNat 32 k + 1 :=
  Fin.ext (by show (k + 1) % 32 = (k % 32 + 1) % 32; omega)

/-- One place further back from the sender is one more step back from the receiver. -/
theorem back_src (d : Fin 2) (c : Dev nD) (k : ℕ) : back d (rank (src d c)) k = back d (rank c) (k + 1) := by
  unfold back src
  by_cases h : d = 0
  · simp only [if_pos h]
    rw [ofNat_succ, show rank (lft c) = rank c - 1 from rank_perm _]
    abel
  · simp only [if_neg h]
    rw [ofNat_succ, show rank (rgt c) = rank c + 1 from rank_perm _]
    abel

/-- In the reducing rounds a device sends the shares of the devices so far on the way. -/
theorem A_shares (d : Fin 2) (p : S128x4096.Idx) : ∀ (t : ℕ), t ≤ 31 → ∀ (c : Dev nD),
    (A X d t c p : EReal) = ∑ k ∈ Finset.range (t + 1), share X (perm (back d (rank c) k)) (opos d (back d (rank c) t) p)
  | 0, _, c => by
    rw [Finset.sum_range_one, show back d (rank c) 0 = rank c by unfold back; split <;> simp, perm_rank]
    exact part_at X d c (rank c) p
  | t + 1, ht, c => by
    unfold A
    rw [if_pos (by omega)]
    refine (congrArg₂ (fun a b : EReal => a + b) (A_shares d p t (by omega) (src d c)) (part_at X d c (back d (rank c) (t + 1)) p)).trans ?_
    rw [Finset.sum_range_succ' _ (t + 1)]
    simp only [back_src]
    rw [show back d (rank c) 0 = rank c by unfold back; split <;> simp, perm_rank]

/-- The devices met going back along the ring are all the devices. -/
theorem sum_ring (d : Fin 2) (r : Fin 32) (f : Fin 32 → EReal) : ∑ k ∈ Finset.range 32, f (perm (back d r k)) = ∑ c : Fin 32, f c := by
  rw [← Fin.sum_univ_eq_sum_range (fun k => f (perm (back d r k)))]
  have e : ∀ k : Fin 32, Fin.ofNat 32 k.val = k := fun k => Fin.ext (Nat.mod_eq_of_lt k.isLt)
  unfold back
  simp only [e]
  have hp : ∑ k : Fin 32, f (perm k) = ∑ c : Fin 32, f c :=
    Equiv.sum_comp (⟨perm, rank, rank_perm, perm_rank⟩ : Fin 32 ≃ Fin 32) f
  by_cases h : d = 0
  · simp only [if_pos h]
    exact (Equiv.sum_comp (Equiv.subLeft r) fun k => f (perm k)).trans hp
  · simp only [if_neg h]
    exact (Equiv.sum_comp (Equiv.addLeft r) fun k => f (perm k)).trans hp

/-- From round 31 on a device sends whole entries of the product. -/
theorem A_total (d : Fin 2) (p : S128x4096.Idx) : ∀ (s : ℕ) (c : Dev nD), (A X d (31 + s) c p : EReal) = total X (opos d (back d (rank c) (31 + s)) p)
  | 0, c => (A_shares X d p 31 (le_refl _) c).trans (sum_ring d (rank c) fun c' => share X c' (opos d (back d (rank c) 31) p))
  | s + 1, c => by
    show (A X d ((31 + s) + 1) c p : EReal) = total X (opos d (back d (rank c) ((31 + s) + 1)) p)
    unfold A
    rw [if_neg (by omega), A_total d p s (src d c), back_src]

/-- Every entry of the raw result is the entry of the product. -/
theorem res_total (c : Dev nD) (i : S4096x8192.Idx) : (res X c i : EReal) = total X i := by
  unfold res
  rw [A_total, back_when, opos_of]

/-! ## The largest magnitude -/

/-- Every entry's magnitude is at most `z`. -/
def Below {s : Shape} (v : s.Idx → EReal) (z : EReal) : Prop := ∀ p, max (v p) (-v p) ≤ z

theorem neg_inf : (FloatOps.ofBits (F := Ideal) .f32 0xFF800000#32 : EReal) = ⊥ := by
  show (Ideal.ofBits .f32 0xFF800000#32 : EReal) = ⊥
  simp [Ideal.ofBits, Ideal.ieee]

/-- A shape cast keeps the values: those of the cast are bounded when those of the vector are. -/
theorem cast_le {s t : Shape} (v : s.Idx → EReal) (h : s.ShapeCasts t) (z : EReal) : (∀ i, shapeCast t v h i ≤ z) ↔ ∀ p, v p ≤ z :=
  ⟨fun H p => by have := H ((Shape.reshapeEquiv h).symm p); unfold shapeCast at this; rwa [Equiv.apply_symm_apply] at this, fun H i => H _⟩

/-- A maximum over all the axes is at most `z` just when every entry is. -/
theorem red_le {s t : Shape} {axes : List (Fin s.rank)} (v : FVec Ideal s .f32) (h : s.Reduces axes t) (hφ) (hacc) (j : t.Idx) (ht : ∀ b, t.size b = 1) (z : EReal) :
    ((multiReduction .maximumf axes t v 0xFF800000#32 h hφ hacc j : Ideal .f32) : EReal) ≤ z ↔ ∀ p, (v p : EReal) ≤ z := by
  rw [multiReduction_maximumf_eq_fold v _ h hφ hacc j]
  change Finset.fold (max : EReal → EReal → EReal) (FloatOps.ofBits (F := Ideal) .f32 0xFF800000#32 : EReal) (v : s.Idx → EReal) _ ≤ z ↔ _
  rw [Finset.fold_max_le, neg_inf]
  refine ⟨fun H p => H.2 p (Finset.mem_filter.mpr ⟨Finset.mem_univ _, funext fun b => Fin.ext ?_⟩), fun H => ⟨bot_le, fun p _ => H p⟩⟩
  have h1 := (h.drop p b).isLt; have h2 := (j b).isLt; have h3 := ht b
  omega

/-- The largest magnitude of a quarter, at most `z` just when every entry's is. -/
theorem pay9_le (M : Elt Ideal .f32) (v : Vec Ideal S128x2048 .f32) (z : EReal) : (k0_pay9 M v : EReal) ≤ z ↔ (M : EReal) ≤ z ∧ Below v z := by
  unfold k0_pay9
  refine (max_le_iff (α := EReal)).trans (and_congr_right fun _ => ?_)
  refine (red_le _ _ (.inl rfl) rfl _ (by decide) z).trans ((cast_le _ _ z).trans ?_)
  exact Iff.rfl
theorem pay11_le (M : Elt Ideal .f32) (v : Vec Ideal S128x2048 .f32) (z : EReal) : (k0_pay11 M v : EReal) ≤ z ↔ (M : EReal) ≤ z ∧ Below v z := pay9_le M v z
theorem pay13_le (M : Elt Ideal .f32) (v : Vec Ideal S128x2048 .f32) (z : EReal) : (k0_pay13 M v : EReal) ≤ z ↔ (M : EReal) ≤ z ∧ Below v z := pay9_le M v z
theorem pay15_le (M : Elt Ideal .f32) (v : Vec Ideal S128x2048 .f32) (z : EReal) : (k0_pay15 M v : EReal) ≤ z ↔ (M : EReal) ≤ z ∧ Below v z := pay9_le M v z
/-- The largest magnitude of a half, at most `z` just when every entry's is. -/
theorem half_le (f : Vec Ideal S128x4096 .f32) (z : EReal) :
    (extractAt ![0, 0, 0] (shapeCast S1x1x1 (multiReduction (F := Ideal) .maximumf [1, 2] S1 (shapeCast S1x128x4096 (absf f) shapeCasts_S128x4096_S1x128x4096) 0xFF800000#32 reduces_S1x128x4096_S1 (.inl rfl) rfl) shapeCasts_S1_S1x1x1) inpos_S1x1x1_p0_0_0 : EReal) ≤ z ↔ Below (s := S128x4096) f z := by
  unfold extractAt
  rw [show ∀ (v : S1.Idx → EReal) i, shapeCast S1x1x1 v shapeCasts_S1_S1x1x1 i = v (Shape.reshapeEquiv shapeCasts_S1_S1x1x1 i) from fun _ _ => rfl]
  rw [red_le (s := S1x128x4096) (t := S1) _ reduces_S1x128x4096_S1 (.inl rfl) rfl _ (by decide) z]
  exact cast_le (s := S128x4096) (t := S1x128x4096) (absf f : FVec Ideal S128x4096 .f32) shapeCasts_S128x4096_S1x128x4096 z
theorem smax_le (a b : Ideal .f32) (z : EReal) : ((Scalar.maximumf a b : Ideal .f32) : EReal) ≤ z ↔ (a : EReal) ≤ z ∧ (b : EReal) ≤ z := max_le_iff (α := EReal)
theorem pay18_le (f g : Vec Ideal S128x4096 .f32) (z : EReal) : (k0_pay18 f g : EReal) ≤ z ↔ Below (s := S128x4096) f z ∧ Below (s := S128x4096) g z := by
  rw [← half_le f, ← half_le g]
  unfold k0_pay18
  exact smax_le _ _ z

/-- The two quarters of a half are the half. -/
theorem below_quarters (f : Vec Ideal S128x4096 .f32) (z : EReal) : Below (qv 0 f) z ∧ Below (qv 1 f) z ↔ Below (s := S128x4096) f z := by
  refine ⟨fun ⟨h0, h1⟩ p => ?_, fun h => ⟨fun j => h _, fun j => h _⟩⟩
  have hp1 : (p 1).val < 4096 := (p 1).isLt
  by_cases hp : (p 1).val < 2048
  · have := h0 (ValueIdx.ix2 (n0 := 128) (n1 := 2048) (p 0) ⟨(p 1).val, hp⟩)
    have e : (Rect.unit (s := S128x4096) ![0, 2048 * (0 : Fin 2).val] S128x2048.size (quarter_inb 0)).idx (ValueIdx.ix2 (n0 := 128) (n1 := 2048) (p 0) ⟨(p 1).val, hp⟩) = p := by
      refine funext fun a => Fin.ext ((Rect.idx_unit_val _ _ _ _ a).trans ?_)
      match a with
      | ⟨0, _⟩ => exact Nat.zero_add _
      | ⟨1, _⟩ => exact (by omega : 2048 * 0 + (p 1).val = (p 1).val)
    unfold qv at this
    rwa [e] at this
  · have := h1 (ValueIdx.ix2 (n0 := 128) (n1 := 2048) (p 0) ⟨(p 1).val - 2048, by omega⟩)
    have e : (Rect.unit (s := S128x4096) ![0, 2048 * (1 : Fin 2).val] S128x2048.size (quarter_inb 1)).idx (ValueIdx.ix2 (n0 := 128) (n1 := 2048) (p 0) ⟨(p 1).val - 2048, by omega⟩) = p := by
      refine funext fun a => Fin.ext ((Rect.idx_unit_val _ _ _ _ a).trans ?_)
      match a with
      | ⟨0, _⟩ => exact Nat.zero_add _
      | ⟨1, _⟩ => exact (by omega : 2048 * 1 + ((p 1).val - 2048) = (p 1).val)
    unfold qv at this
    rwa [e] at this

theorem step_le (M : Elt Ideal .f32) (f g : Vec Ideal S128x4096 .f32) (z : EReal) : (stepM M f g : EReal) ≤ z ↔ (M : EReal) ≤ z ∧ Below (s := S128x4096) f z ∧ Below (s := S128x4096) g z := by
  unfold stepM
  rw [pay15_le, pay13_le, pay11_le, pay9_le, ← below_quarters f, ← below_quarters g]
  tauto

/-- The largest magnitude after `k` trips is the largest over the chunks that have arrived. -/
theorem MM_le (c : Dev nD) (z : EReal) : ∀ k : ℕ, (MM X c k : EReal) ≤ z ↔ ∀ t ≤ k, ∀ d : Fin 2, Below (s := S128x4096) (A X d (31 + t) c) z
  | 0 => by
    unfold MM
    rw [pay18_le]
    refine ⟨fun h t ht d => ?_, fun h => ⟨h 0 (le_refl _) 0, h 0 (le_refl _) 1⟩⟩
    obtain rfl : t = 0 := by omega
    match d with
    | 0 => exact h.1
    | 1 => exact h.2
  | k + 1 => by
    have e0 : A X 0 (31 + (k + 1)) c = A X 0 (31 + k) (lft c) := by
      show A X 0 ((31 + k) + 1) c = _
      rw [A, if_neg (by omega)]; rfl
    have e1 : A X 1 (31 + (k + 1)) c = A X 1 (31 + k) (rgt c) := by
      show A X 1 ((31 + k) + 1) c = _
      rw [A, if_neg (by omega)]; rfl
    unfold MM
    rw [step_le, MM_le c z k, ← e0, ← e1]
    refine ⟨fun h t ht d => ?_, fun h => ⟨fun t ht => h t (by omega), h _ (le_refl _) 0, h _ (le_refl _) 1⟩⟩
    by_cases e : t ≤ k
    · exact h.1 t e d
    · obtain rfl : t = k + 1 := by omega
      match d with
      | 0 => exact h.2.1
      | 1 => exact h.2.2

/-- The kernel's largest magnitude is the largest over the entries of the product. -/
theorem MM_total (c : Dev nD) (z : EReal) : (MM X c 31 : EReal) ≤ z ↔ Below (total X) z := by
  rw [MM_le]
  constructor
  · intro h i
    have := h (when (halfOf i) (rank c) (chunkOf i)).val (by have := (when (halfOf i) (rank c) (chunkOf i)).isLt; omega) (halfOf i) (placeOf i)
    rwa [A_total, back_when, opos_of] at this
  · intro h t _ d p
    rw [A_total]
    exact h _

end Cert.Proof.KernelIdeal
-- ==== Proof.Algebraic.lean ====
/- The kernel over the extended reals computes what the reference computes: the quantised product of the whole arrays. -/
module

public import proofs.«01_k».proof.Defs
public import proofs.«01_k».proof.Proof.KernelIdealValue
public import proofs.«01_k».proof.Proof.KernelIdealRun
public import proofs.«01_k».proof.Proof.Gen.ReferenceIdeal.Run
public import Idealize.ShloMosaic.Lib.StableHlo.ReadAt

@[expose] public section

noncomputable section

namespace Cert.Proof.KernelIdeal

open Cert.KernelIdeal Cert.KernelIdeal.Gen
open Idealize.ShloMosaic Idealize.ShloMosaic.TcCoe
open scoped BigOperators

/-! ## The host's part after the kernel -/

section Tail
variable {F : FTy → Type} [FloatOps F]

/-- The quantised product, from the product and its largest magnitude. -/
def quant (y : FVec F S4096x8192 .f32) (a : FVec F S_ .f32) : FVec F S4096x8192 .f32 :=
  mulf (minimumf (broadcastInDim S4096x8192 ![] bcast_S_S4096x8192 (id (constant S_ .f32 0x42FE0000#32)))
    (maximumf (broadcastInDim S4096x8192 ![] bcast_S_S4096x8192 (id (constant S_ .f32 0xC2FE0000#32)))
      (Host.roundeven (Host.divf y (broadcastInDim S4096x8192 ![] bcast_S_S4096x8192 (Host.divf a (constant S_ .f32 0x42FE0000#32)))))))
    (broadcastInDim S4096x8192 ![] bcast_S_S4096x8192 (Host.divf a (constant S_ .f32 0x42FE0000#32)))

/-- After the kernel the host quantises the raw result with the largest magnitude the kernel leaves. -/
theorem tail_quant (V : Valuation τ sig (Elt F)) :
    (StableHlo.after hostOps1_4 (StableHlo.after hostOps1_3 (StableHlo.after hostOps1_2 (StableHlo.after hostOps1_1 (StableHlo.after hostOps1 V)))) (Proc.devRef .tc main_v37) : Vec F S4096x8192 .f32)
      = quant (V (Proc.devRef .tc main_v29_0)) (shapeCast S_ (V (Proc.devRef .tc main_v29_1) : Vec F S1 .f32) shapeCasts_S1_S_) := by
  unfold quant
  simp only [hostOps1_3, hostOps1_1, StableHlo.TRef.binary, StableHlo.TRef.unary, StableHlo.TRef.toBuf, StableHlo.TRef.ofBuf, cast_eq]
  after_reads_simp
  rfl
end Tail

/-! ## The reference's product and its largest magnitude -/

variable (m : (ℓ : Loc nD τ sig) → Buf (Elt Ideal) ℓ)
variable (x : Cert.ReferenceIdeal.S4096x4096.Idx → EReal) (w : Cert.ReferenceIdeal.S4096x8192.Idx → EReal)

/-- An entry of the whole product is the sum over the devices of their shares of it. -/
theorem dot_total (X : Shards Ideal)
    (hx : ∀ c, X.x c = Layout.block ⟨2, ![4096, 128]⟩ ⟨2, ![4096, 4096]⟩ 1 32 c x)
    (hw : ∀ c, X.w c = Layout.block ⟨2, ![128, 8192]⟩ ⟨2, ![4096, 8192]⟩ 0 32 c w) (i : S4096x8192.Idx) :
    (Host.dotGeneral (F := Ideal) (φ₁ := .f32) (φ₂ := .f32) Cert.ReferenceIdeal.dot_S4096x4096_S4096x8192_S4096x8192_1_0_0_1_n_n none x w i : EReal) = total X i := by
  rw [← matmul_zero_eq_dotGeneral, ValueIdx.eq_ix2 i]
  refine (Ideal.matmul_plain_apply (M := 4096) (K := 4096) (N := 8192) none x w (constant _ .f32 0x00000000#32) (i 0) (i 1)).trans ?_
  rw [show (constant (F := Ideal) (⟨2, ![4096, 8192]⟩ : Shape) .f32 0x00000000#32 (ValueIdx.ix2 (i 0) (i 1)) : EReal) = 0 from Ideal.ofBits_zero_f32, zero_add]
  unfold total share
  rw [← Fintype.sum_prod_type' (fun (c : Fin 32) (k : Fin 128) => (X.x c (ValueIdx.ix2 (i 0) k) : EReal) * X.w c (ValueIdx.ix2 k (i 1)))]
  refine (Equiv.sum_comp (finProdFinEquiv (m := 32) (n := 128)) fun K : Fin 4096 => x (ValueIdx.ix2 (i 0) K) * w (ValueIdx.ix2 K (i 1))).symm.trans ?_
  refine Finset.sum_congr rfl fun ck _ => ?_
  rw [hx, hw]
  refine congrArg₂ (fun a b : EReal => a * b) (congrArg x (funext fun a => Fin.ext ?_)) (congrArg w (funext fun a => Fin.ext ?_))
  · match a with
    | ⟨0, _⟩ => rfl
    | ⟨1, _⟩ => exact (by omega : ck.2.val + 128 * ck.1.val = ck.1.val * 128 + ck.2.val)
  · match a with
    | ⟨0, _⟩ => exact (by omega : ck.2.val + 128 * ck.1.val = ck.1.val * 128 + ck.2.val)
    | ⟨1, _⟩ => rfl

/-- The host's maximum over a whole array is at most `z` just when every entry is. -/
theorem host_max_le {s t u : Shape} {axes : List (Fin s.rank)} (v : FVec Ideal s .f32) (b : FVec Ideal u .f32) (hb : ∀ i, (b i : EReal) = ⊥) (h : s.ReducesTo axes t) (hu : 0 < u.numel)
    (j : t.Idx) (ht : ∀ b, t.size b = 1) (z : EReal) :
    (Host.reduce (FloatOps.maximumf (F := Ideal) (φ := .f32)) v b h hu j : EReal) ≤ z ↔ ∀ p, (v p : EReal) ≤ z := by
  rw [Host.reduce_eq_fold]
  change Finset.fold (max : EReal → EReal → EReal) (b (Shape.Idx.first hu) : EReal) (v : s.Idx → EReal) _ ≤ z ↔ _
  rw [Finset.fold_max_le, hb]
  refine ⟨fun H p => H.2 p (Finset.mem_filter.mpr ⟨Finset.mem_univ _, funext fun b => Fin.ext ?_⟩), fun H => ⟨bot_le, fun p _ => H p⟩⟩
  have h1 := (h.drop p b).isLt; have h2 := (j b).isLt; have h3 := ht b
  omega

/-- The kernel's largest magnitude is the largest magnitude of the whole product. -/
theorem amax_total (X : Shards Ideal) (c : Dev nD) (y : FVec Ideal Cert.ReferenceIdeal.S4096x8192 .f32) (hy : ∀ i, (y i : EReal) = total X i) :
    Host.reduce (FloatOps.maximumf (F := Ideal) (φ := .f32)) (Host.absf y) (constant Cert.ReferenceIdeal.S_ .f32 0xFF800000#32) Cert.ReferenceIdeal.Gen.reducesTo_S4096x8192_S_d0_1 Cert.ReferenceIdeal.Gen.h_S_
      = fun _ => MM X c 31 := by
  funext j
  refine eq_of_forall_ge_iff (α := EReal) fun z => ?_
  rw [MM_total]
  refine (host_max_le _ _ (fun _ => neg_inf) _ _ j (fun b => b.elim0) z).trans (forall_congr' fun p => ?_)
  rw [← hy p]
  exact Iff.rfl

/-- From memories where each device holds its blocks of the reference's arrays, both programs run, and every device
    ends with the whole of the reference's result. -/
theorem algebraic : Cert.algebraic_KernelIdeal_ReferenceIdeal (hKernelIdeal := Cert.KernelIdeal.Gen.facts) (hReferenceIdeal := Cert.ReferenceIdeal.Gen.facts) := by
  intro m g m' g' _ hB
  have hy : ∀ i, (Host.dotGeneral (F := Ideal) (φ₁ := .f32) (φ₂ := .f32) Cert.ReferenceIdeal.dot_S4096x4096_S4096x8192_S4096x8192_1_0_0_1_n_n none
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) i : EReal) = total (shards m) i :=
    dot_total _ _ (shards m) (fun c => (hB c).1) (fun c => (hB c).2)
  refine ⟨_, (θ_run Cert.KernelIdeal.defs _ _).mono (fun r h c => ⟨(h.1 c).2.trans ?_, (h.1 c).1⟩) (run_main m g),
    (θ_run Cert.ReferenceIdeal.defs _ _).mono (fun r h => h 0) (Cert.ReferenceIdeal.Value.run (F := Ideal) m' g')⟩
  refine (tail_quant (V2 m (outs m) c)).trans ?_
  rw [v2_raw, v2_max, show res (shards m) c = _ from funext fun i => (res_total (shards m) c i).trans (hy i).symm]
  rw [amax_total (shards m) c _ hy]
  rfl

end Cert.Proof.KernelIdeal
-- ==== Proof.lean ====
/- The certificate's proof: the claims, assembled. -/
module

public import proofs.«01_k».proof.Defs
public import proofs.«01_k».proof.Proof.Gen.ReferenceIdeal
public import proofs.«01_k».proof.Proof.Gen.ReferenceIdeal.Run
public import proofs.«01_k».proof.Proof.Frames
public import proofs.«01_k».proof.Proof.Algebraic

@[expose] public section

noncomputable section

namespace Cert.Proof

/-- The claims together: the three frames, that the idealized reading changes no operation, and that every device ends
    with the reference's whole result. -/
theorem claim : Cert.Claim := ⟨Cert.Kernel.Gen.facts, Cert.KernelIdeal.Gen.facts, Cert.ReferenceIdeal.Gen.facts, Cert.Proof.Frames.frame_kernel, Cert.Proof.Frames.frame_ideal,
  Cert.Proof.Frames.frame_reference, trivial, Cert.Proof.KernelIdeal.algebraic⟩

end Cert.Proof

end
